-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v5) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_v44) = v1 c
          ∧ r.2.mem ((c.tc : Thread Cert.Reference8Ideal.nD Cert.Reference8Ideal.τ).loc Cert.Reference8Ideal.main_v28) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)) (v2 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_v6) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_v23) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)) (v3 : (c : Dev Cert.Kernel10Ideal.nD) → Buf (Elt Ideal) ((c.tc : Thread Cert.Kernel10Ideal.nD Cert.Kernel10Ideal.τ).loc Cert.Kernel10Ideal.main_v2_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_v2_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_v9) = v2 c
          ∧ r.2.mem ((c.tc : Thread Cert.Reference10Ideal.nD Cert.Reference10Ideal.τ).loc Cert.Reference10Ideal.main_v15) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)) (v3 : (c : Dev Cert.Kernel11Ideal.nD) → Buf (Elt Ideal) ((c.tc : Thread Cert.Kernel11Ideal.nD Cert.Kernel11Ideal.τ).loc Cert.Kernel11Ideal.main_v2_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_v2_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v28) = v1 c
          ∧ r.2.mem ((c.tc : Thread Cert.Reference11Ideal.nD Cert.Reference11Ideal.τ).loc Cert.Reference11Ideal.main_v9) = v2 c
          ∧ r.2.mem ((c.tc : Thread Cert.Reference11Ideal.nD Cert.Reference11Ideal.τ).loc Cert.Reference11Ideal.main_v15) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)) (v3 : (c : Dev Cert.Kernel12Ideal.nD) → Buf (Elt Ideal) ((c.tc : Thread Cert.Kernel12Ideal.nD Cert.Kernel12Ideal.τ).loc Cert.Kernel12Ideal.main_v2_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_v2_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v28) = v1 c
          ∧ r.2.mem ((c.tc : Thread Cert.Reference12Ideal.nD Cert.Reference12Ideal.τ).loc Cert.Reference12Ideal.main_v9) = v2 c
          ∧ r.2.mem ((c.tc : Thread Cert.Reference12Ideal.nD Cert.Reference12Ideal.τ).loc Cert.Reference12Ideal.main_v15) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)) (v3 : (c : Dev Cert.Kernel13Ideal.nD) → Buf (Elt Ideal) ((c.tc : Thread Cert.Kernel13Ideal.nD Cert.Kernel13Ideal.τ).loc Cert.Kernel13Ideal.main_v2_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_v2_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_v15) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4096x5632 : Shape := ⟨2, ![4096, 5632]⟩
abbrev S3x5632 : Shape := ⟨2, ![3, 5632]⟩
abbrev S2816x1024 : Shape := ⟨2, ![2816, 1024]⟩
abbrev S4096x1024 : Shape := ⟨2, ![4096, 1024]⟩
abbrev S8x128 : Shape := ⟨2, ![8, 128]⟩
abbrev S_ : Shape := ⟨0, ![]⟩
abbrev S1 : Shape := ⟨1, ![1]⟩
abbrev S4 : Shape := ⟨1, ![4]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v3 : IVec S_ 1) (main_v7 : IVec S_ 1) (main_v11 : IVec S_ 1) (main_v15 : IVec S_ 1) : IVec S4 1 :=
  let main_v16 : IVec S1 1 := broadcastInDim S1 ![] bcast_S_S1 main_v3
  let main_v17 : IVec S1 1 := broadcastInDim S1 ![] bcast_S_S1 main_v7
  let main_v18 : IVec S1 1 := broadcastInDim S1 ![] bcast_S_S1 main_v11
  let main_v19 : IVec S1 1 := broadcastInDim S1 ![] bcast_S_S1 main_v15
  let main_v20 : IVec S4 1 := concatenate S4 0 [⟨S1, main_v16⟩, ⟨S1, main_v17⟩, ⟨S1, main_v18⟩, ⟨S1, main_v19⟩] concatenates_S1_S1_S1_S1_S4_d0
  main_v20

def fn {F : FTy → Type} [FloatOps F] (main_arg0 : FVec F S4096x5632 .f32) (main_arg1 : FVec F S3x5632 .f32) (main_arg2 : FVec F S2816x1024 .f32) (main_arg3 : FVec F S4096x1024 .f32) (main_arg4 : FVec F S8x128 .f32) : IVec S4 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_v3 main_v7 main_v11 main_v15
-- ==== Kernel.lean ====
abbrev S4096x5632 : Shape := ⟨2, ![4096, 5632]⟩
abbrev S3x5632 : Shape := ⟨2, ![3, 5632]⟩
abbrev S2816x1024 : Shape := ⟨2, ![2816, 1024]⟩
abbrev S4096x1024 : Shape := ⟨2, ![4096, 1024]⟩
abbrev S8x128 : Shape := ⟨2, ![8, 128]⟩
abbrev S1x5632 : Shape := ⟨2, ![1, 5632]⟩
abbrev S5632 : Shape := ⟨1, ![5632]⟩
abbrev S_ : Shape := ⟨0, ![]⟩
abbrev S2x5632 : Shape := ⟨2, ![2, 5632]⟩
abbrev S4094x5632 : Shape := ⟨2, ![4094, 5632]⟩
abbrev S4095x5632 : Shape := ⟨2, ![4095, 5632]⟩
abbrev S4096x2816 : Shape := ⟨2, ![4096, 2816]⟩
abbrev S2x4096x2816 : Shape := ⟨3, ![2, 4096, 2816]⟩
abbrev S3x2816 : Shape := ⟨2, ![3, 2816]⟩
abbrev S512x1024 : Shape := ⟨2, ![512, 1024]⟩
abbrev S512x1408 : Shape := ⟨2, ![512, 1408]⟩
abbrev S3x1408 : Shape := ⟨2, ![3, 1408]⟩
abbrev S1408x1024 : Shape := ⟨2, ![1408, 1024]⟩
abbrev S2x512x1408 : Shape := ⟨3, ![2, 512, 1408]⟩
abbrev S520x1408 : Shape := ⟨2, ![520, 1408]⟩
abbrev S24x1408 : Shape := ⟨2, ![24, 1408]⟩
abbrev S8x1408 : Shape := ⟨2, ![8, 1408]⟩
abbrev S1x1408 : Shape := ⟨2, ![1, 1408]⟩
abbrev S64x1408 : Shape := ⟨2, ![64, 1408]⟩
abbrev S64x128 : Shape := ⟨2, ![64, 128]⟩
abbrev S1x512x1408 : Shape := ⟨3, ![1, 512, 1408]⟩
abbrev S1x64x128 : Shape := ⟨3, ![1, 64, 128]⟩
abbrev S1408 : Shape := ⟨1, ![1408]⟩

abbrev nBuf : Space → Nat
  | .hbm => 40
  | .vmem => 29
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S2816x1024, .f32⟩
  | .hbm, ⟨3, _⟩ => ⟨S4096x1024, .f32⟩
  | .hbm, ⟨4, _⟩ => ⟨S8x128, .f32⟩
  | .hbm, ⟨5, _⟩ => ⟨S4096x5632, .bf16⟩
  | .hbm, ⟨6, _⟩ => ⟨S4096x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S_, .f32⟩
  | .hbm, ⟨11, _⟩ => ⟨S2x5632, .f32⟩
  | .hbm, ⟨12, _⟩ => ⟨S4094x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S_, .f32⟩
  | .hbm, ⟨20, _⟩ => ⟨S1x5632, .f32⟩
  | .hbm, ⟨21, _⟩ => ⟨S4095x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .bf16⟩
  | .hbm, ⟨33, _⟩ => ⟨S4096x2816, .bf16⟩
  | .hbm, ⟨34, _⟩ => ⟨S4096x2816, .bf16⟩
  | .hbm, ⟨35, _⟩ => ⟨S4096x1024, .bf16⟩
  | .hbm, ⟨36, _⟩ => ⟨S2816x1024, .bf16⟩
  | .hbm, ⟨37, _⟩ => ⟨S2x4096x2816, .bf16⟩
  | .hbm, ⟨38, _⟩ => ⟨S3x2816, .f32⟩
  | .hbm, ⟨39, _⟩ => ⟨S3x2816, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S3x1408, .f32⟩
  | .local _ .vmem, ⟨11, _⟩ => ⟨S3x1408, .f32⟩
  | .local _ .vmem, ⟨12, _⟩ => ⟨S3x1408, .f32⟩
  | .local _ .vmem, ⟨13, _⟩ => ⟨S3x1408, .f32⟩
  | .local _ .vmem, ⟨14, _⟩ => ⟨S1408x1024, .bf16⟩
  | .local _ .vmem, ⟨15, _⟩ => ⟨S1408x1024, .bf16⟩
  | .local _ .vmem, ⟨16, _⟩ => ⟨S2x512x1408, .bf16⟩
  | .local _ .vmem, ⟨17, _⟩ => ⟨S2x512x1408, .bf16⟩
  | .local _ .vmem, ⟨18, _⟩ => ⟨S3x1408, .f32⟩
  | .local _ .vmem, ⟨19, _⟩ => ⟨S3x1408, .f32⟩
  | .local _ .vmem, ⟨20, _⟩ => ⟨S3x1408, .f32⟩
  | .local _ .vmem, ⟨21, _⟩ => ⟨S3x1408, .f32⟩
  | .local _ .vmem, ⟨22, _⟩ => ⟨S512x1408, .f32⟩
  | .local _ .vmem, ⟨23, _⟩ => ⟨S520x1408, .f32⟩
  | .local _ .vmem, ⟨24, _⟩ => ⟨S520x1408, .f32⟩
  | .local _ .vmem, ⟨25, _⟩ => ⟨S24x1408, .f32⟩
  | .local _ .vmem, ⟨26, _⟩ => ⟨S24x1408, .f32⟩
  | .local _ .vmem, ⟨27, _⟩ => ⟨S24x1408, .f32⟩
  | .local _ .vmem, ⟨28, _⟩ => ⟨S24x1408, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_26 : BitVec 32 := 0#32
  let c8_i32 : BitVec 32 := 8#32
  let v47 : BitVec 32 := Scalar.addi c0_i32_26 c8_i32
  let c1_i32 : BitVec 32 := 1#32
  ⟨c0_i32_26, v47, c1_i32⟩
def k0_mult1 (k0_t1 : Fin k0_t1_loop.trips) : BitVec 32 :=
  let c0_i32_26 : BitVec 32 := 0#32
  let c1_i32 : BitVec 32 := 1#32
  let arg21 : BitVec 32 := Scf.iv c0_i32_26 c1_i32 k0_t1
  let c64_i32 : BitVec 32 := 64#32
  let v61 : BitVec 32 := Scalar.muli arg21 c64_i32
  v61
def k0_off1 (k0_t1 : Fin k0_t1_loop.trips) : Fin 2 → Nat :=
  let c0_i32_26 : BitVec 32 := 0#32
  let c1_i32 : BitVec 32 := 1#32
  let arg21 : BitVec 32 := Scf.iv c0_i32_26 c1_i32 k0_t1
  let c64_i32 : BitVec 32 := 64#32
  let v61 : BitVec 32 := Scalar.muli arg21 c64_i32
  let v62 : BitVec 32 := v61
  let v63 : Index := Scalar.indexCast v62
  let c0_45 : Index := 0#32
  ![v63.toNat, 0]
def k0_off2 (k0_t1 : Fin k0_t1_loop.trips) : Fin 2 → Nat :=
  let c0_i32_26 : BitVec 32 := 0#32
  let c1_i32 : BitVec 32 := 1#32
  let arg21 : BitVec 32 := Scf.iv c0_i32_26 c1_i32 k0_t1
  let c64_i32 : BitVec 32 := 64#32
  let v61 : BitVec 32 := Scalar.muli arg21 c64_i32
  let v62 : BitVec 32 := v61
  let v88 : Index := Scalar.indexCast v62
  let c0_53 : Index := 0#32
  ![v88.toNat, 0]
@[reducible] def k0_t2_loop : Scf.Loop 32 :=
  let c0_i32_29 : BitVec 32 := 0#32
  let c11_i32 : BitVec 32 := 11#32
  let v48 : BitVec 32 := Scalar.addi c0_i32_29 c11_i32
  let c1_i32_30 : BitVec 32 := 1#32
  ⟨c0_i32_29, v48, c1_i32_30⟩
def k0_mult2 (k0_t2 : Fin k0_t2_loop.trips) : BitVec 32 :=
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  v61
def k0_off3 (k0_t2 : Fin k0_t2_loop.trips) : Fin 2 → Nat :=
  let c0_45 : Index := 0#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v63 : Index := Scalar.indexCast v62
  ![0, v63.toNat]
def k0_off4 (k0_t2 : Fin k0_t2_loop.trips) : Fin 2 → Nat :=
  let c2_46 : Index := 2#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v67 : Index := Scalar.indexCast v62
  ![2, v67.toNat]
def k0_off5 (k0_t2 : Fin k0_t2_loop.trips) : Fin 2 → Nat :=
  let c0_47 : Index := 0#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v69 : Index := Scalar.indexCast v62
  ![0, v69.toNat]
def k0_off6 (k0_t2 : Fin k0_t2_loop.trips) : Fin 2 → Nat :=
  let c1_48 : Index := 1#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v89 : Index := Scalar.indexCast v62
  ![1, v89.toNat]
def k0_off7 (k0_t2 : Fin k0_t2_loop.trips) : Fin 2 → Nat :=
  let c8_49 : Index := 8#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v91 : Index := Scalar.indexCast v62
  ![8, v91.toNat]
def k0_off8 (k0_t2 : Fin k0_t2_loop.trips) : Fin 2 → Nat :=
  let c0_50 : Index := 0#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v112 : Index := Scalar.indexCast v62
  ![0, v112.toNat]
def k0_off9 (k0_t2 : Fin k0_t2_loop.trips) : Fin 2 → Nat :=
  let c16_51 : Index := 16#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v114 : Index := Scalar.indexCast v62
  ![16, v114.toNat]
def k0_off10 (k0_t2 : Fin k0_t2_loop.trips) : Fin 3 → Nat :=
  let c0_i32_28 : BitVec 32 := 0#32
  let c0_i32_52 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v138 : Index := Scalar.indexCast v62
  ![0, 0, v138.toNat]
def k0_off11 (k0_t2 : Fin k0_t2_loop.trips) : Fin 2 → Nat :=
  let c64 : Index := 64#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v140 : Index := Scalar.indexCast v62
  ![64, v140.toNat]
def k0_off12 (k0_t2 : Fin k0_t2_loop.trips) : Fin 2 → Nat :=
  let c66 : Index := 66#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v144 : Index := Scalar.indexCast v62
  ![66, v144.toNat]
def k0_off13 (k0_t2 : Fin k0_t2_loop.trips) : Fin 2 → Nat :=
  let c65 : Index := 65#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v167 : Index := Scalar.indexCast v62
  ![65, v167.toNat]
def k0_off14 (k0_t2 : Fin k0_t2_loop.trips) : Fin 2 → Nat :=
  let c64_57 : Index := 64#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v191 : Index := Scalar.indexCast v62
  ![64, v191.toNat]
def k0_off15 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v218 : Index := Scalar.indexCast v62
  ![0, 64, v218.toNat]
def k0_off16 (k0_t2 : Fin k0_t2_loop.trips) : Fin 2 → Nat :=
  let c128 : Index := 128#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v220 : Index := Scalar.indexCast v62
  ![128, v220.toNat]
def k0_off17 (k0_t2 : Fin k0_t2_loop.trips) : Fin 2 → Nat :=
  let c130 : Index := 130#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v224 : Index := Scalar.indexCast v62
  ![130, v224.toNat]
def k0_off18 (k0_t2 : Fin k0_t2_loop.trips) : Fin 2 → Nat :=
  let c129 : Index := 129#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v247 : Index := Scalar.indexCast v62
  ![129, v247.toNat]
def k0_off19 (k0_t2 : Fin k0_t2_loop.trips) : Fin 2 → Nat :=
  let c128_64 : Index := 128#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v271 : Index := Scalar.indexCast v62
  ![128, v271.toNat]
def k0_off20 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v298 : Index := Scalar.indexCast v62
  ![0, 128, v298.toNat]
def k0_off21 (k0_t2 : Fin k0_t2_loop.trips) : Fin 2 → Nat :=
  let c192 : Index := 192#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v300 : Index := Scalar.indexCast v62
  ![192, v300.toNat]
def k0_off22 (k0_t2 : Fin k0_t2_loop.trips) : Fin 2 → Nat :=
  let c194 : Index := 194#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v304 : Index := Scalar.indexCast v62
  ![194, v304.toNat]
def k0_off23 (k0_t2 : Fin k0_t2_loop.trips) : Fin 2 → Nat :=
  let c193 : Index := 193#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v327 : Index := Scalar.indexCast v62
  ![193, v327.toNat]
def k0_off24 (k0_t2 : Fin k0_t2_loop.trips) : Fin 2 → Nat :=
  let c192_71 : Index := 192#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v351 : Index := Scalar.indexCast v62
  ![192, v351.toNat]
def k0_off25 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v378 : Index := Scalar.indexCast v62
  ![0, 192, v378.toNat]
def k0_off26 (k0_t2 : Fin k0_t2_loop.trips) : Fin 2 → Nat :=
  let c256 : Index := 256#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v380 : Index := Scalar.indexCast v62
  ![256, v380.toNat]
def k0_off27 (k0_t2 : Fin k0_t2_loop.trips) : Fin 2 → Nat :=
  let c258 : Index := 258#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v384 : Index := Scalar.indexCast v62
  ![258, v384.toNat]
def k0_off28 (k0_t2 : Fin k0_t2_loop.trips) : Fin 2 → Nat :=
  let c257 : Index := 257#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v407 : Index := Scalar.indexCast v62
  ![257, v407.toNat]
def k0_off29 (k0_t2 : Fin k0_t2_loop.trips) : Fin 2 → Nat :=
  let c256_78 : Index := 256#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v431 : Index := Scalar.indexCast v62
  ![256, v431.toNat]
def k0_off30 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v458 : Index := Scalar.indexCast v62
  ![0, 256, v458.toNat]
def k0_off31 (k0_t2 : Fin k0_t2_loop.trips) : Fin 2 → Nat :=
  let c320 : Index := 320#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v460 : Index := Scalar.indexCast v62
  ![320, v460.toNat]
def k0_off32 (k0_t2 : Fin k0_t2_loop.trips) : Fin 2 → Nat :=
  let c322 : Index := 322#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v464 : Index := Scalar.indexCast v62
  ![322, v464.toNat]
def k0_off33 (k0_t2 : Fin k0_t2_loop.trips) : Fin 2 → Nat :=
  let c321 : Index := 321#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v487 : Index := Scalar.indexCast v62
  ![321, v487.toNat]
def k0_off34 (k0_t2 : Fin k0_t2_loop.trips) : Fin 2 → Nat :=
  let c320_85 : Index := 320#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v511 : Index := Scalar.indexCast v62
  ![320, v511.toNat]
def k0_off35 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v538 : Index := Scalar.indexCast v62
  ![0, 320, v538.toNat]
def k0_off36 (k0_t2 : Fin k0_t2_loop.trips) : Fin 2 → Nat :=
  let c384 : Index := 384#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v540 : Index := Scalar.indexCast v62
  ![384, v540.toNat]
def k0_off37 (k0_t2 : Fin k0_t2_loop.trips) : Fin 2 → Nat :=
  let c386 : Index := 386#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v544 : Index := Scalar.indexCast v62
  ![386, v544.toNat]
def k0_off38 (k0_t2 : Fin k0_t2_loop.trips) : Fin 2 → Nat :=
  let c385 : Index := 385#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v567 : Index := Scalar.indexCast v62
  ![385, v567.toNat]
def k0_off39 (k0_t2 : Fin k0_t2_loop.trips) : Fin 2 → Nat :=
  let c384_92 : Index := 384#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v591 : Index := Scalar.indexCast v62
  ![384, v591.toNat]
def k0_off40 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v618 : Index := Scalar.indexCast v62
  ![0, 384, v618.toNat]
def k0_off41 (k0_t2 : Fin k0_t2_loop.trips) : Fin 2 → Nat :=
  let c448 : Index := 448#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v620 : Index := Scalar.indexCast v62
  ![448, v620.toNat]
def k0_off42 (k0_t2 : Fin k0_t2_loop.trips) : Fin 2 → Nat :=
  let c450 : Index := 450#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v624 : Index := Scalar.indexCast v62
  ![450, v624.toNat]
def k0_off43 (k0_t2 : Fin k0_t2_loop.trips) : Fin 2 → Nat :=
  let c449 : Index := 449#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v647 : Index := Scalar.indexCast v62
  ![449, v647.toNat]
def k0_off44 (k0_t2 : Fin k0_t2_loop.trips) : Fin 2 → Nat :=
  let c448_99 : Index := 448#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v671 : Index := Scalar.indexCast v62
  ![448, v671.toNat]
def k0_off45 (k0_t2 : Fin k0_t2_loop.trips) : Fin 3 → Nat :=
  let c0_i32_28 : BitVec 32 := 0#32
  let c0_i32_29 : BitVec 32 := 0#32
  let c1_i32_30 : BitVec 32 := 1#32
  let arg21 : BitVec 32 := Scf.iv c0_i32_29 c1_i32_30 k0_t2
  let c128_i32 : BitVec 32 := 128#32
  let v61 : BitVec 32 := Scalar.muli arg21 c128_i32
  let v62 : BitVec 32 := v61
  let v698 : Index := Scalar.indexCast v62
  ![0, 448, v698.toNat]
@[reducible] def k0_t3_loop : Scf.Loop 32 :=
  let c0_i32_33 : BitVec 32 := 0#32
  let c11_i32_34 : BitVec 32 := 11#32
  let v49 : BitVec 32 := Scalar.addi c0_i32_33 c11_i32_34
  let c1_i32_35 : BitVec 32 := 1#32
  ⟨c0_i32_33, v49, c1_i32_35⟩
def k0_mult3 (k0_t3 : Fin k0_t3_loop.trips) : BitVec 32 :=
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  v61
def k0_off46 (k0_t3 : Fin k0_t3_loop.trips) : Fin 2 → Nat :=
  let c0_45 : Index := 0#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v63 : Index := Scalar.indexCast v62
  ![0, v63.toNat]
def k0_off47 (k0_t3 : Fin k0_t3_loop.trips) : Fin 2 → Nat :=
  let c2_46 : Index := 2#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v67 : Index := Scalar.indexCast v62
  ![2, v67.toNat]
def k0_off48 (k0_t3 : Fin k0_t3_loop.trips) : Fin 2 → Nat :=
  let c0_47 : Index := 0#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v69 : Index := Scalar.indexCast v62
  ![0, v69.toNat]
def k0_off49 (k0_t3 : Fin k0_t3_loop.trips) : Fin 2 → Nat :=
  let c1_48 : Index := 1#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v89 : Index := Scalar.indexCast v62
  ![1, v89.toNat]
def k0_off50 (k0_t3 : Fin k0_t3_loop.trips) : Fin 2 → Nat :=
  let c8_49 : Index := 8#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v91 : Index := Scalar.indexCast v62
  ![8, v91.toNat]
def k0_off51 (k0_t3 : Fin k0_t3_loop.trips) : Fin 2 → Nat :=
  let c0_50 : Index := 0#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v112 : Index := Scalar.indexCast v62
  ![0, v112.toNat]
def k0_off52 (k0_t3 : Fin k0_t3_loop.trips) : Fin 2 → Nat :=
  let c16_51 : Index := 16#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v114 : Index := Scalar.indexCast v62
  ![16, v114.toNat]
def k0_off53 (k0_t3 : Fin k0_t3_loop.trips) : Fin 3 → Nat :=
  let c1_i32_32 : BitVec 32 := 1#32
  let c0_i32_52 : BitVec 32 := 0#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v138 : Index := Scalar.indexCast v62
  ![1, 0, v138.toNat]
def k0_off54 (k0_t3 : Fin k0_t3_loop.trips) : Fin 2 → Nat :=
  let c64 : Index := 64#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v140 : Index := Scalar.indexCast v62
  ![64, v140.toNat]
def k0_off55 (k0_t3 : Fin k0_t3_loop.trips) : Fin 2 → Nat :=
  let c66 : Index := 66#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v144 : Index := Scalar.indexCast v62
  ![66, v144.toNat]
def k0_off56 (k0_t3 : Fin k0_t3_loop.trips) : Fin 2 → Nat :=
  let c65 : Index := 65#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v167 : Index := Scalar.indexCast v62
  ![65, v167.toNat]
def k0_off57 (k0_t3 : Fin k0_t3_loop.trips) : Fin 2 → Nat :=
  let c64_57 : Index := 64#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v191 : Index := Scalar.indexCast v62
  ![64, v191.toNat]
def k0_off58 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v218 : Index := Scalar.indexCast v62
  ![1, 64, v218.toNat]
def k0_off59 (k0_t3 : Fin k0_t3_loop.trips) : Fin 2 → Nat :=
  let c128 : Index := 128#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v220 : Index := Scalar.indexCast v62
  ![128, v220.toNat]
def k0_off60 (k0_t3 : Fin k0_t3_loop.trips) : Fin 2 → Nat :=
  let c130 : Index := 130#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v224 : Index := Scalar.indexCast v62
  ![130, v224.toNat]
def k0_off61 (k0_t3 : Fin k0_t3_loop.trips) : Fin 2 → Nat :=
  let c129 : Index := 129#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v247 : Index := Scalar.indexCast v62
  ![129, v247.toNat]
def k0_off62 (k0_t3 : Fin k0_t3_loop.trips) : Fin 2 → Nat :=
  let c128_64 : Index := 128#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v271 : Index := Scalar.indexCast v62
  ![128, v271.toNat]
def k0_off63 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v298 : Index := Scalar.indexCast v62
  ![1, 128, v298.toNat]
def k0_off64 (k0_t3 : Fin k0_t3_loop.trips) : Fin 2 → Nat :=
  let c192 : Index := 192#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v300 : Index := Scalar.indexCast v62
  ![192, v300.toNat]
def k0_off65 (k0_t3 : Fin k0_t3_loop.trips) : Fin 2 → Nat :=
  let c194 : Index := 194#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v304 : Index := Scalar.indexCast v62
  ![194, v304.toNat]
def k0_off66 (k0_t3 : Fin k0_t3_loop.trips) : Fin 2 → Nat :=
  let c193 : Index := 193#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v327 : Index := Scalar.indexCast v62
  ![193, v327.toNat]
def k0_off67 (k0_t3 : Fin k0_t3_loop.trips) : Fin 2 → Nat :=
  let c192_71 : Index := 192#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v351 : Index := Scalar.indexCast v62
  ![192, v351.toNat]
def k0_off68 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v378 : Index := Scalar.indexCast v62
  ![1, 192, v378.toNat]
def k0_off69 (k0_t3 : Fin k0_t3_loop.trips) : Fin 2 → Nat :=
  let c256 : Index := 256#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v380 : Index := Scalar.indexCast v62
  ![256, v380.toNat]
def k0_off70 (k0_t3 : Fin k0_t3_loop.trips) : Fin 2 → Nat :=
  let c258 : Index := 258#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v384 : Index := Scalar.indexCast v62
  ![258, v384.toNat]
def k0_off71 (k0_t3 : Fin k0_t3_loop.trips) : Fin 2 → Nat :=
  let c257 : Index := 257#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v407 : Index := Scalar.indexCast v62
  ![257, v407.toNat]
def k0_off72 (k0_t3 : Fin k0_t3_loop.trips) : Fin 2 → Nat :=
  let c256_78 : Index := 256#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v431 : Index := Scalar.indexCast v62
  ![256, v431.toNat]
def k0_off73 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v458 : Index := Scalar.indexCast v62
  ![1, 256, v458.toNat]
def k0_off74 (k0_t3 : Fin k0_t3_loop.trips) : Fin 2 → Nat :=
  let c320 : Index := 320#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v460 : Index := Scalar.indexCast v62
  ![320, v460.toNat]
def k0_off75 (k0_t3 : Fin k0_t3_loop.trips) : Fin 2 → Nat :=
  let c322 : Index := 322#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v464 : Index := Scalar.indexCast v62
  ![322, v464.toNat]
def k0_off76 (k0_t3 : Fin k0_t3_loop.trips) : Fin 2 → Nat :=
  let c321 : Index := 321#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v487 : Index := Scalar.indexCast v62
  ![321, v487.toNat]
def k0_off77 (k0_t3 : Fin k0_t3_loop.trips) : Fin 2 → Nat :=
  let c320_85 : Index := 320#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v511 : Index := Scalar.indexCast v62
  ![320, v511.toNat]
def k0_off78 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v538 : Index := Scalar.indexCast v62
  ![1, 320, v538.toNat]
def k0_off79 (k0_t3 : Fin k0_t3_loop.trips) : Fin 2 → Nat :=
  let c384 : Index := 384#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v540 : Index := Scalar.indexCast v62
  ![384, v540.toNat]
def k0_off80 (k0_t3 : Fin k0_t3_loop.trips) : Fin 2 → Nat :=
  let c386 : Index := 386#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v544 : Index := Scalar.indexCast v62
  ![386, v544.toNat]
def k0_off81 (k0_t3 : Fin k0_t3_loop.trips) : Fin 2 → Nat :=
  let c385 : Index := 385#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v567 : Index := Scalar.indexCast v62
  ![385, v567.toNat]
def k0_off82 (k0_t3 : Fin k0_t3_loop.trips) : Fin 2 → Nat :=
  let c384_92 : Index := 384#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v591 : Index := Scalar.indexCast v62
  ![384, v591.toNat]
def k0_off83 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v618 : Index := Scalar.indexCast v62
  ![1, 384, v618.toNat]
def k0_off84 (k0_t3 : Fin k0_t3_loop.trips) : Fin 2 → Nat :=
  let c448 : Index := 448#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v620 : Index := Scalar.indexCast v62
  ![448, v620.toNat]
def k0_off85 (k0_t3 : Fin k0_t3_loop.trips) : Fin 2 → Nat :=
  let c450 : Index := 450#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v624 : Index := Scalar.indexCast v62
  ![450, v624.toNat]
def k0_off86 (k0_t3 : Fin k0_t3_loop.trips) : Fin 2 → Nat :=
  let c449 : Index := 449#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v647 : Index := Scalar.indexCast v62
  ![449, v647.toNat]
def k0_off87 (k0_t3 : Fin k0_t3_loop.trips) : Fin 2 → Nat :=
  let c448_99 : Index := 448#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v671 : Index := Scalar.indexCast v62
  ![448, v671.toNat]
def k0_off88 (k0_t3 : Fin k0_t3_loop.trips) : Fin 3 → Nat :=
  let c1_i32_32 : BitVec 32 := 1#32
  let c0_i32_33 : BitVec 32 := 0#32
  let c1_i32_35 : BitVec 32 := 1#32
  let arg21 : BitVec 32 := Scf.iv c0_i32_33 c1_i32_35 k0_t3
  let c128_i32 : BitVec 32 := 128#32
  let v61 : BitVec 32 := Scalar.muli arg21 c128_i32
  let v62 : BitVec 32 := v61
  let v698 : Index := Scalar.indexCast v62
  ![1, 448, v698.toNat]
def k0_cond2 (i : grid0.Coords) : BitVec 1 :=
  let arg1 : BitVec 32 := BitVec.ofNat 32 (i 1).val
  let c7_i32 : BitVec 32 := 7#32
  let v58 : BitVec 1 := Scalar.cmpi .eq arg1 c7_i32
  let v59 : BitVec 32 := Scalar.extui v58
  let c0_i32_44 : BitVec 32 := 0#32
  let v60 : BitVec 1 := Scalar.cmpi .ne v59 c0_i32_44
  v60

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let v1 : BitVec 32 := Scalar.addi arg0 c2_i32
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4096x5632 : Shape := ⟨2, ![4096, 5632]⟩
abbrev S3x5632 : Shape := ⟨2, ![3, 5632]⟩
abbrev S2816x1024 : Shape := ⟨2, ![2816, 1024]⟩
abbrev S4096x1024 : Shape := ⟨2, ![4096, 1024]⟩
abbrev S8x128 : Shape := ⟨2, ![8, 128]⟩
abbrev S1x5632 : Shape := ⟨2, ![1, 5632]⟩
abbrev S5632 : Shape := ⟨1, ![5632]⟩
abbrev S_ : Shape := ⟨0, ![]⟩
abbrev S2x5632 : Shape := ⟨2, ![2, 5632]⟩
abbrev S4094x5632 : Shape := ⟨2, ![4094, 5632]⟩
abbrev S4095x5632 : Shape := ⟨2, ![4095, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S3x2816 : Shape := ⟨2, ![3, 2816]⟩

abbrev nBuf : Space → Nat
  | .hbm => 112
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S2816x1024, .f32⟩
  | .hbm, ⟨3, _⟩ => ⟨S4096x1024, .f32⟩
  | .hbm, ⟨4, _⟩ => ⟨S8x128, .f32⟩
  | .hbm, ⟨5, _⟩ => ⟨S1x5632, .f32⟩
  | .hbm, ⟨6, _⟩ => ⟨S5632, .f32⟩
  | .hbm, ⟨7, _⟩ => ⟨S1x5632, .f32⟩
  | .hbm, ⟨8, _⟩ => ⟨S_, .f32⟩
  | .hbm, ⟨9, _⟩ => ⟨S2x5632, .f32⟩
  | .hbm, ⟨10, _⟩ => ⟨S4094x5632, .f32⟩
  | .hbm, ⟨11, _⟩ => ⟨S4096x5632, .f32⟩
  | .hbm, ⟨12, _⟩ => ⟨S_, .f32⟩
  | .hbm, ⟨13, _⟩ => ⟨S2x5632, .f32⟩
  | .hbm, ⟨14, _⟩ => ⟨S4096x5632, .f32⟩
  | .hbm, ⟨15, _⟩ => ⟨S4096x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S_, .f32⟩
  | .hbm, ⟨20, _⟩ => ⟨S1x5632, .f32⟩
  | .hbm, ⟨21, _⟩ => ⟨S4095x5632, .f32⟩
  | .hbm, ⟨22, _⟩ => ⟨S4096x5632, .f32⟩
  | .hbm, ⟨23, _⟩ => ⟨S_, .f32⟩
  | .hbm, ⟨24, _⟩ => ⟨S1x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x1024, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x5632, .f32⟩
  | .hbm, ⟨59, _⟩ => ⟨S4096x5632, .f32⟩
  | .hbm, ⟨60, _⟩ => ⟨S4096x5632, .f32⟩
  | .hbm, ⟨61, _⟩ => ⟨S4096x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S_, .f32⟩
  | .hbm, ⟨69, _⟩ => ⟨S3x5632, .f32⟩
  | .hbm, ⟨70, _⟩ => ⟨S4096x5632, .f32⟩
  | .hbm, ⟨71, _⟩ => ⟨S4096x5632, .f32⟩
  | .hbm, ⟨72, _⟩ => ⟨S4096x5632, .f32⟩
  | .hbm, ⟨73, _⟩ => ⟨S_, .f32⟩
  | .hbm, ⟨74, _⟩ => ⟨S5632, .f32⟩
  | .hbm, ⟨75, _⟩ => ⟨S1x5632, .f32⟩
  | .hbm, ⟨76, _⟩ => ⟨S1x5632, .f32⟩
  | .hbm, ⟨77, _⟩ => ⟨S4095x5632, .f32⟩
  | .hbm, ⟨78, _⟩ => ⟨S_, .f32⟩
  | .hbm, ⟨79, _⟩ => ⟨S4096x5632, .f32⟩
  | .hbm, ⟨80, _⟩ => ⟨S4096x5632, .f32⟩
  | .hbm, ⟨81, _⟩ => ⟨S_, .f32⟩
  | .hbm, ⟨82, _⟩ => ⟨S5632, .f32⟩
  | .hbm, ⟨83, _⟩ => ⟨S1x5632, .f32⟩
  | .hbm, ⟨84, _⟩ => ⟨S_, .f32⟩
  | .hbm, ⟨85, _⟩ => ⟨S3x5632, .f32⟩
  | .hbm, ⟨86, _⟩ => ⟨S3x5632, .f32⟩
  | .hbm, ⟨87, _⟩ => ⟨S4096x5632, .f32⟩
  | .hbm, ⟨88, _⟩ => ⟨S4096x5632, .f32⟩
  | .hbm, ⟨89, _⟩ => ⟨S4096x5632, .f32⟩
  | .hbm, ⟨90, _⟩ => ⟨S_, .f32⟩
  | .hbm, ⟨91, _⟩ => ⟨S5632, .f32⟩
  | .hbm, ⟨92, _⟩ => ⟨S1x5632, .f32⟩
  | .hbm, ⟨93, _⟩ => ⟨S2x5632, .f32⟩
  | .hbm, ⟨94, _⟩ => ⟨S4094x5632, .f32⟩
  | .hbm, ⟨95, _⟩ => ⟨S_, .f32⟩
  | .hbm, ⟨96, _⟩ => ⟨S4096x5632, .f32⟩
  | .hbm, ⟨97, _⟩ => ⟨S4096x5632, .f32⟩
  | .hbm, ⟨98, _⟩ => ⟨S_, .f32⟩
  | .hbm, ⟨99, _⟩ => ⟨S5632, .f32⟩
  | .hbm, ⟨100, _⟩ => ⟨S1x5632, .f32⟩
  | .hbm, ⟨101, _⟩ => ⟨S_, .f32⟩
  | .hbm, ⟨102, _⟩ => ⟨S3x5632, .f32⟩
  | .hbm, ⟨103, _⟩ => ⟨S3x5632, .f32⟩
  | .hbm, ⟨104, _⟩ => ⟨S4096x2816, .f32⟩
  | .hbm, ⟨105, _⟩ => ⟨S4096x2816, .f32⟩
  | .hbm, ⟨106, _⟩ => ⟨S1x4096x2816, .f32⟩
  | .hbm, ⟨107, _⟩ => ⟨S1x4096x2816, .f32⟩
  | .hbm, ⟨108, _⟩ => ⟨S2x4096x2816, .f32⟩
  | .hbm, ⟨109, _⟩ => ⟨S2x4096x2816, .bf16⟩
  | .hbm, ⟨110, _⟩ => ⟨S3x2816, .f32⟩
  | .hbm, ⟨111, _⟩ => ⟨S3x2816, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v27_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v27_1 : Ref sig .tc := ⟨.hbm, 47, rfl⟩
abbrev main_v27_0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_3 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩

abbrev nD : Nat := 1
abbrev τ : Topo := Topo.v7x

variable {F : FTy → Type} [FloatOps F]
-- ==== Kernel2.lean ====
abbrev S2x4096x2816 : Shape := ⟨3, ![2, 4096, 2816]⟩
abbrev S4096x1024 : Shape := ⟨2, ![4096, 1024]⟩
abbrev S5632x1024 : Shape := ⟨2, ![5632, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x2816, .f32⟩
  | .hbm, ⟨1, _⟩ => ⟨S4096x1024, .f32⟩
  | .hbm, ⟨2, _⟩ => ⟨S2x4096x2816, .bf16⟩
  | .hbm, ⟨3, _⟩ => ⟨S4096x1024, .bf16⟩
  | .hbm, ⟨4, _⟩ => ⟨S5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2x4096x2816 : Shape := ⟨3, ![2, 4096, 2816]⟩
abbrev S4096x1024 : Shape := ⟨2, ![4096, 1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S4096x1024, .f32⟩
  | .hbm, ⟨2, _⟩ => ⟨S1x4096x2816, .f32⟩
  | .hbm, ⟨3, _⟩ => ⟨S4096x2816, .f32⟩
  | .hbm, ⟨4, _⟩ => ⟨S1x4096x2816, .f32⟩
  | .hbm, ⟨5, _⟩ => ⟨S4096x2816, .f32⟩
  | .hbm, ⟨6, _⟩ => ⟨S4096x5632, .f32⟩
  | .hbm, ⟨7, _⟩ => ⟨S_, .f32⟩
  | .hbm, ⟨8, _⟩ => ⟨S1024x5632, .f32⟩
  | .hbm, ⟨9, _⟩ => ⟨S4096x5632, .f32⟩
  | .hbm, ⟨10, _⟩ => ⟨S5632x1024, .f32⟩
  | .hbm, ⟨11, _⟩ => ⟨S1024x5632, .f32⟩
  | .hbm, ⟨12, _⟩ => ⟨S5632x1024, .f32⟩
  | .hbm, ⟨13, _⟩ => ⟨S5632x1024, .bf16⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S1x4096x2816 : Shape := ⟨3, ![1, 4096, 2816]⟩
abbrev S2816x1024 : Shape := ⟨2, ![2816, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S1x4096x2816, .bf16⟩
  | .hbm, ⟨4, _⟩ => ⟨S4096x1024, .bf16⟩
  | .hbm, ⟨5, _⟩ => ⟨S2816x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x1024 : Shape := ⟨2, ![4096, 1024]⟩
abbrev S1x4096x1024 : Shape := ⟨3, ![1, 4096, 1024]⟩
abbrev S1024x1024 : Shape := ⟨2, ![1024, 1024]⟩
abbrev S1x2048x512 : Shape := ⟨3, ![1, 2048, 512]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x4096x1024, .bf16⟩
  | .hbm, ⟨4, _⟩ => ⟨S4096x1024, .bf16⟩
  | .hbm, ⟨5, _⟩ => ⟨S1024x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x2560 : Shape := ⟨2, ![4096, 2560]⟩
abbrev S4096x1024 : Shape := ⟨2, ![4096, 1024]⟩
abbrev S1x4096x2560 : Shape := ⟨3, ![1, 4096, 2560]⟩
abbrev S2560x1024 : Shape := ⟨2, ![2560, 1024]⟩
abbrev S1x4096x512 : Shape := ⟨3, ![1, 4096, 512]⟩
abbrev S512x1024 : Shape := ⟨2, ![512, 1024]⟩
abbrev S4096x512 : Shape := ⟨2, ![4096, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x2560, .f32⟩
  | .hbm, ⟨1, _⟩ => ⟨S4096x1024, .f32⟩
  | .hbm, ⟨2, _⟩ => ⟨S4096x2560, .bf16⟩
  | .hbm, ⟨3, _⟩ => ⟨S1x4096x2560, .bf16⟩
  | .hbm, ⟨4, _⟩ => ⟨S4096x1024, .bf16⟩
  | .hbm, ⟨5, _⟩ => ⟨S2560x1024, .bf16⟩
  | .local _ .vmem, ⟨0, _⟩ => ⟨S1x4096x512, .bf16⟩
  | .local _ .vmem, ⟨1, _⟩ => ⟨S1x4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2560 : Shape := ⟨2, ![4096, 2560]⟩
abbrev S4096x1024 : Shape := ⟨2, ![4096, 1024]⟩
abbrev S_ : Shape := ⟨0, ![]⟩
abbrev S1024x2560 : Shape := ⟨2, ![1024, 2560]⟩
abbrev S2560x1024 : Shape := ⟨2, ![2560, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S4096x1024, .f32⟩
  | .hbm, ⟨2, _⟩ => ⟨S_, .f32⟩
  | .hbm, ⟨3, _⟩ => ⟨S1024x2560, .f32⟩
  | .hbm, ⟨4, _⟩ => ⟨S4096x2560, .f32⟩
  | .hbm, ⟨5, _⟩ => ⟨S2560x1024, .f32⟩
  | .hbm, ⟨6, _⟩ => ⟨S1024x2560, .f32⟩
  | .hbm, ⟨7, _⟩ => ⟨S2560x1024, .f32⟩
  | .hbm, ⟨8, _⟩ => ⟨S2560x1024, .bf16⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S5632x1024 : Shape := ⟨2, ![5632, 1024]⟩
abbrev S4096x5632 : Shape := ⟨2, ![4096, 5632]⟩
abbrev S512x1024 : Shape := ⟨2, ![512, 1024]⟩
abbrev S512x5632 : Shape := ⟨2, ![512, 5632]⟩
abbrev S128x1024 : Shape := ⟨2, ![128, 1024]⟩
abbrev S128 : Shape := ⟨1, ![128]⟩
abbrev S128x1 : Shape := ⟨2, ![128, 1]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S5632x1024, .f32⟩
  | .hbm, ⟨5, _⟩ => ⟨S5632x1024, .bf16⟩
  | .hbm, ⟨6, _⟩ => ⟨S4096x5632, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x5632, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x2560 : Shape := ⟨2, ![1024, 2560]⟩
abbrev S2560 : Shape := ⟨1, ![2560]⟩
abbrev S8x128 : Shape := ⟨2, ![8, 128]⟩
abbrev S1x1024 : Shape := ⟨2, ![1, 1024]⟩
abbrev S2560x1024 : Shape := ⟨2, ![2560, 1024]⟩
abbrev S1x2560 : Shape := ⟨2, ![1, 2560]⟩
abbrev S4096x2560 : Shape := ⟨2, ![4096, 2560]⟩
abbrev S512x1024 : Shape := ⟨2, ![512, 1024]⟩
abbrev S512x2560 : Shape := ⟨2, ![512, 2560]⟩
abbrev S128x1024 : Shape := ⟨2, ![128, 1024]⟩
abbrev S128 : Shape := ⟨1, ![128]⟩
abbrev S128x1 : Shape := ⟨2, ![128, 1]⟩
abbrev S512x512 : Shape := ⟨2, ![512, 512]⟩
abbrev S1x512 : Shape := ⟨2, ![1, 512]⟩

abbrev nBuf : Space → Nat
  | .hbm => 11
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S2560, .f32⟩
  | .hbm, ⟨4, _⟩ => ⟨S8x128, .f32⟩
  | .hbm, ⟨5, _⟩ => ⟨S1x1024, .f32⟩
  | .hbm, ⟨6, _⟩ => ⟨S2560x1024, .f32⟩
  | .hbm, ⟨7, _⟩ => ⟨S2560x1024, .bf16⟩
  | .hbm, ⟨8, _⟩ => ⟨S1x2560, .f32⟩
  | .hbm, ⟨9, _⟩ => ⟨S4096x2560, .bf16⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2560x1024, .bf16⟩
  | .local _ .vmem, ⟨4, _⟩ => ⟨S1x2560, .f32⟩
  | .local _ .vmem, ⟨5, _⟩ => ⟨S512x2560, .bf16⟩
  | .local _ .vmem, ⟨6, _⟩ => ⟨S512x2560, .bf16⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x1024 : Shape := ⟨2, ![4096, 1024]⟩
abbrev S1024 : Shape := ⟨1, ![1024]⟩
abbrev S1024x2560 : Shape := ⟨2, ![1024, 2560]⟩
abbrev S2560 : Shape := ⟨1, ![2560]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩
abbrev S1x2560 : Shape := ⟨2, ![1, 2560]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2560, .f32⟩
  | .hbm, ⟨3, _⟩ => ⟨S2560, .f32⟩
  | .hbm, ⟨4, _⟩ => ⟨S8x128, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2560, .f32⟩
  | .hbm, ⟨22, _⟩ => ⟨S1x2560, .f32⟩
  | .hbm, ⟨23, _⟩ => ⟨S4096x2560, .f32⟩
  | .hbm, ⟨24, _⟩ => ⟨S4096x2560, .f32⟩
  | .hbm, ⟨25, _⟩ => ⟨S4096x2560, .bf16⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel8.lean ====
abbrev S2x4096x2816 : Shape := ⟨3, ![2, 4096, 2816]⟩
abbrev S1024x5632 : Shape := ⟨2, ![1024, 5632]⟩
abbrev S4096x1024 : Shape := ⟨2, ![4096, 1024]⟩
abbrev S1024 : Shape := ⟨1, ![1024]⟩
abbrev S8x128 : Shape := ⟨2, ![8, 128]⟩
abbrev S5632x1024 : Shape := ⟨2, ![5632, 1024]⟩
abbrev S1x1024 : Shape := ⟨2, ![1, 1024]⟩
abbrev S8x1024 : Shape := ⟨2, ![8, 1024]⟩
abbrev S1x512x2816 : Shape := ⟨3, ![1, 512, 2816]⟩
abbrev S2816x1024 : Shape := ⟨2, ![2816, 1024]⟩
abbrev S512x1024 : Shape := ⟨2, ![512, 1024]⟩
abbrev S1x256x2816 : Shape := ⟨3, ![1, 256, 2816]⟩
abbrev S256x2816 : Shape := ⟨2, ![256, 2816]⟩
abbrev S256x1024 : Shape := ⟨2, ![256, 1024]⟩
abbrev S128x1024 : Shape := ⟨2, ![128, 1024]⟩
abbrev S128 : Shape := ⟨1, ![128]⟩
abbrev S128x1 : Shape := ⟨2, ![128, 1]⟩
abbrev S_ : Shape := ⟨0, ![]⟩

abbrev nBuf : Space → Nat
  | .hbm => 15
  | .vmem => 17
  | .smem => 0
  | _ => 0

abbrev bufTy : (tb : Table) → Fin (tcTables nBuf tb) → BufTy
  | .hbm, ⟨0, _⟩ => ⟨S2x4096x2816, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S8x128, .f32⟩
  | .hbm, ⟨6, _⟩ => ⟨S2x4096x2816, .bf16⟩
  | .hbm, ⟨7, _⟩ => ⟨S5632x1024, .f32⟩
  | .hbm, ⟨8, _⟩ => ⟨S5632x1024, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S8x1024, .f32⟩
  | .hbm, ⟨13, _⟩ => ⟨S_, .f32⟩
  | .hbm, ⟨14, _⟩ => ⟨S1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | .local _ .vmem, ⟨16, _⟩ => ⟨S512x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_cst : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S2x4096x2816 : Shape := ⟨3, ![2, 4096, 2816]⟩
abbrev S1024x5632 : Shape := ⟨2, ![1024, 5632]⟩
abbrev S4096x1024 : Shape := ⟨2, ![4096, 1024]⟩
abbrev S1024 : Shape := ⟨1, ![1024]⟩
abbrev S8x128 : Shape := ⟨2, ![8, 128]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S8x128, .f32⟩
  | .hbm, ⟨6, _⟩ => ⟨S1x4096x2816, .f32⟩
  | .hbm, ⟨7, _⟩ => ⟨S4096x2816, .f32⟩
  | .hbm, ⟨8, _⟩ => ⟨S1x4096x2816, .f32⟩
  | .hbm, ⟨9, _⟩ => ⟨S4096x2816, .f32⟩
  | .hbm, ⟨10, _⟩ => ⟨S4096x5632, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x5632, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel9.lean ====
abbrev S4096x2560 : Shape := ⟨2, ![4096, 2560]⟩
abbrev S1024x2560 : Shape := ⟨2, ![1024, 2560]⟩
abbrev S4096x1024 : Shape := ⟨2, ![4096, 1024]⟩
abbrev S1024 : Shape := ⟨1, ![1024]⟩
abbrev S8x128 : Shape := ⟨2, ![8, 128]⟩
abbrev S1x4096x2560 : Shape := ⟨3, ![1, 4096, 2560]⟩
abbrev S2560x1024 : Shape := ⟨2, ![2560, 1024]⟩
abbrev S1x1024 : Shape := ⟨2, ![1, 1024]⟩
abbrev S8x1024 : Shape := ⟨2, ![8, 1024]⟩
abbrev S1x512x2560 : Shape := ⟨3, ![1, 512, 2560]⟩
abbrev S512x1024 : Shape := ⟨2, ![512, 1024]⟩
abbrev S1x256x2560 : Shape := ⟨3, ![1, 256, 2560]⟩
abbrev S256x2560 : Shape := ⟨2, ![256, 2560]⟩
abbrev S256x1024 : Shape := ⟨2, ![256, 1024]⟩
abbrev S128x1024 : Shape := ⟨2, ![128, 1024]⟩
abbrev S128 : Shape := ⟨1, ![128]⟩
abbrev S128x1 : Shape := ⟨2, ![128, 1]⟩
abbrev S_ : Shape := ⟨0, ![]⟩

abbrev nBuf : Space → Nat
  | .hbm => 16
  | .vmem => 14
  | .smem => 0
  | _ => 0

abbrev bufTy : (tb : Table) → Fin (tcTables nBuf tb) → BufTy
  | .hbm, ⟨0, _⟩ => ⟨S4096x2560, .f32⟩
  | .hbm, ⟨1, _⟩ => ⟨S1024x2560, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S8x128, .f32⟩
  | .hbm, ⟨6, _⟩ => ⟨S4096x2560, .bf16⟩
  | .hbm, ⟨7, _⟩ => ⟨S1x4096x2560, .bf16⟩
  | .hbm, ⟨8, _⟩ => ⟨S2560x1024, .f32⟩
  | .hbm, ⟨9, _⟩ => ⟨S2560x1024, .bf16⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S8x1024, .f32⟩
  | .hbm, ⟨14, _⟩ => ⟨S_, .f32⟩
  | .hbm, ⟨15, _⟩ => ⟨S1024, .f32⟩
  | .local _ .vmem, ⟨0, _⟩ => ⟨S1x512x2560, .bf16⟩
  | .local _ .vmem, ⟨1, _⟩ => ⟨S1x512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S512x1024, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_cst : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S4096x2560 : Shape := ⟨2, ![4096, 2560]⟩
abbrev S1024x2560 : Shape := ⟨2, ![1024, 2560]⟩
abbrev S4096x1024 : Shape := ⟨2, ![4096, 1024]⟩
abbrev S1024 : Shape := ⟨1, ![1024]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S1024x2560, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S8x128, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2560, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel10.lean ====
abbrev S4x704x1024 : Shape := ⟨3, ![4, 704, 1024]⟩
abbrev S2x704x1024 : Shape := ⟨3, ![2, 704, 1024]⟩
abbrev S8x128 : Shape := ⟨2, ![8, 128]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 12
  | .vmem => 18
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S8x128, .f32⟩
  | .hbm, ⟨6, _⟩ => ⟨S4x704x1024, .bf16⟩
  | .hbm, ⟨7, _⟩ => ⟨S4x704x1024, .bf16⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S4x352x1024, .bf16⟩
  | .local _ .vmem, ⟨3, _⟩ => ⟨S4x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S4x704x1024 : Shape := ⟨3, ![4, 704, 1024]⟩
abbrev S2x704x1024 : Shape := ⟨3, ![2, 704, 1024]⟩
abbrev S8x128 : Shape := ⟨2, ![8, 128]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S8x128, .f32⟩
  | .hbm, ⟨6, _⟩ => ⟨S_, .f32⟩
  | .hbm, ⟨7, _⟩ => ⟨S704x1024, .f32⟩
  | .hbm, ⟨8, _⟩ => ⟨S_, .f32⟩
  | .hbm, ⟨9, _⟩ => ⟨S704x1024, .f32⟩
  | .hbm, ⟨10, _⟩ => ⟨S1x704x1024, .f32⟩
  | .hbm, ⟨11, _⟩ => ⟨S1x704x1024, .f32⟩
  | .hbm, ⟨12, _⟩ => ⟨S2x704x1024, .f32⟩
  | .hbm, ⟨13, _⟩ => ⟨S_, .f32⟩
  | .hbm, ⟨14, _⟩ => ⟨S2x704x1024, .f32⟩
  | .hbm, ⟨15, _⟩ => ⟨S2x704x1024, .f32⟩
  | .hbm, ⟨16, _⟩ => ⟨S_, .f32⟩
  | .hbm, ⟨17, _⟩ => ⟨S2x704x1024, .f32⟩
  | .hbm, ⟨18, _⟩ => ⟨S2x704x1024, .f32⟩
  | .hbm, ⟨19, _⟩ => ⟨S2x704x1024, .f32⟩
  | .hbm, ⟨20, _⟩ => ⟨S_, .f32⟩
  | .hbm, ⟨21, _⟩ => ⟨S2x704x1024, .f32⟩
  | .hbm, ⟨22, _⟩ => ⟨S2x704x1024, .f32⟩
  | .hbm, ⟨23, _⟩ => ⟨S2x704x1024, .f32⟩
  | .hbm, ⟨24, _⟩ => ⟨S_, .f32⟩
  | .hbm, ⟨25, _⟩ => ⟨S2x704x1024, .f32⟩
  | .hbm, ⟨26, _⟩ => ⟨S2x704x1024, .f32⟩
  | .hbm, ⟨27, _⟩ => ⟨S2x704x1024, .f32⟩
  | .hbm, ⟨28, _⟩ => ⟨S_, .f32⟩
  | .hbm, ⟨29, _⟩ => ⟨S2x704x1024, .f32⟩
  | .hbm, ⟨30, _⟩ => ⟨S2x704x1024, .f32⟩
  | .hbm, ⟨31, _⟩ => ⟨S_, .f32⟩
  | .hbm, ⟨32, _⟩ => ⟨S2x704x1024, .f32⟩
  | .hbm, ⟨33, _⟩ => ⟨S2x704x1024, .f32⟩
  | .hbm, ⟨34, _⟩ => ⟨S2x704x1024, .f32⟩
  | .hbm, ⟨35, _⟩ => ⟨S_, .f32⟩
  | .hbm, ⟨36, _⟩ => ⟨S2x704x1024, .f32⟩
  | .hbm, ⟨37, _⟩ => ⟨S2x704x1024, .f32⟩
  | .hbm, ⟨38, _⟩ => ⟨S2x704x1024, .f32⟩
  | .hbm, ⟨39, _⟩ => ⟨S_, .f32⟩
  | .hbm, ⟨40, _⟩ => ⟨S2x704x1024, .f32⟩
  | .hbm, ⟨41, _⟩ => ⟨S2x704x1024, .f32⟩
  | .hbm, ⟨42, _⟩ => ⟨S2x704x1024, .f32⟩
  | .hbm, ⟨43, _⟩ => ⟨S_, .f32⟩
  | .hbm, ⟨44, _⟩ => ⟨S2x704x1024, .f32⟩
  | .hbm, ⟨45, _⟩ => ⟨S2x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel11.lean ====
abbrev S4x352x1024 : Shape := ⟨3, ![4, 352, 1024]⟩
abbrev S2x352x1024 : Shape := ⟨3, ![2, 352, 1024]⟩
abbrev S8x128 : Shape := ⟨2, ![8, 128]⟩
abbrev S1x352x1024 : Shape := ⟨3, ![1, 352, 1024]⟩
abbrev S352x1024 : Shape := ⟨2, ![352, 1024]⟩

abbrev nBuf : Space → Nat
  | .hbm => 12
  | .vmem => 18
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x128, .f32⟩
  | .hbm, ⟨6, _⟩ => ⟨S4x352x1024, .bf16⟩
  | .hbm, ⟨7, _⟩ => ⟨S4x352x1024, .bf16⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S2x352x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S4x352x1024, .bf16⟩
  | .local _ .vmem, ⟨3, _⟩ => ⟨S4x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S4x352x1024 : Shape := ⟨3, ![4, 352, 1024]⟩
abbrev S2x352x1024 : Shape := ⟨3, ![2, 352, 1024]⟩
abbrev S8x128 : Shape := ⟨2, ![8, 128]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x128, .f32⟩
  | .hbm, ⟨6, _⟩ => ⟨S_, .f32⟩
  | .hbm, ⟨7, _⟩ => ⟨S352x1024, .f32⟩
  | .hbm, ⟨8, _⟩ => ⟨S_, .f32⟩
  | .hbm, ⟨9, _⟩ => ⟨S352x1024, .f32⟩
  | .hbm, ⟨10, _⟩ => ⟨S1x352x1024, .f32⟩
  | .hbm, ⟨11, _⟩ => ⟨S1x352x1024, .f32⟩
  | .hbm, ⟨12, _⟩ => ⟨S2x352x1024, .f32⟩
  | .hbm, ⟨13, _⟩ => ⟨S_, .f32⟩
  | .hbm, ⟨14, _⟩ => ⟨S2x352x1024, .f32⟩
  | .hbm, ⟨15, _⟩ => ⟨S2x352x1024, .f32⟩
  | .hbm, ⟨16, _⟩ => ⟨S_, .f32⟩
  | .hbm, ⟨17, _⟩ => ⟨S2x352x1024, .f32⟩
  | .hbm, ⟨18, _⟩ => ⟨S2x352x1024, .f32⟩
  | .hbm, ⟨19, _⟩ => ⟨S2x352x1024, .f32⟩
  | .hbm, ⟨20, _⟩ => ⟨S_, .f32⟩
  | .hbm, ⟨21, _⟩ => ⟨S2x352x1024, .f32⟩
  | .hbm, ⟨22, _⟩ => ⟨S2x352x1024, .f32⟩
  | .hbm, ⟨23, _⟩ => ⟨S2x352x1024, .f32⟩
  | .hbm, ⟨24, _⟩ => ⟨S_, .f32⟩
  | .hbm, ⟨25, _⟩ => ⟨S2x352x1024, .f32⟩
  | .hbm, ⟨26, _⟩ => ⟨S2x352x1024, .f32⟩
  | .hbm, ⟨27, _⟩ => ⟨S2x352x1024, .f32⟩
  | .hbm, ⟨28, _⟩ => ⟨S_, .f32⟩
  | .hbm, ⟨29, _⟩ => ⟨S2x352x1024, .f32⟩
  | .hbm, ⟨30, _⟩ => ⟨S2x352x1024, .f32⟩
  | .hbm, ⟨31, _⟩ => ⟨S_, .f32⟩
  | .hbm, ⟨32, _⟩ => ⟨S2x352x1024, .f32⟩
  | .hbm, ⟨33, _⟩ => ⟨S2x352x1024, .f32⟩
  | .hbm, ⟨34, _⟩ => ⟨S2x352x1024, .f32⟩
  | .hbm, ⟨35, _⟩ => ⟨S_, .f32⟩
  | .hbm, ⟨36, _⟩ => ⟨S2x352x1024, .f32⟩
  | .hbm, ⟨37, _⟩ => ⟨S2x352x1024, .f32⟩
  | .hbm, ⟨38, _⟩ => ⟨S2x352x1024, .f32⟩
  | .hbm, ⟨39, _⟩ => ⟨S_, .f32⟩
  | .hbm, ⟨40, _⟩ => ⟨S2x352x1024, .f32⟩
  | .hbm, ⟨41, _⟩ => ⟨S2x352x1024, .f32⟩
  | .hbm, ⟨42, _⟩ => ⟨S2x352x1024, .f32⟩
  | .hbm, ⟨43, _⟩ => ⟨S_, .f32⟩
  | .hbm, ⟨44, _⟩ => ⟨S2x352x1024, .f32⟩
  | .hbm, ⟨45, _⟩ => ⟨S2x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel12.lean ====
abbrev S4x320x1024 : Shape := ⟨3, ![4, 320, 1024]⟩
abbrev S2x320x1024 : Shape := ⟨3, ![2, 320, 1024]⟩
abbrev S8x128 : Shape := ⟨2, ![8, 128]⟩
abbrev S1x320x1024 : Shape := ⟨3, ![1, 320, 1024]⟩
abbrev S320x1024 : Shape := ⟨2, ![320, 1024]⟩

abbrev nBuf : Space → Nat
  | .hbm => 12
  | .vmem => 18
  | .smem => 0
  | _ => 0

abbrev bufTy : (tb : Table) → Fin (tcTables nBuf tb) → BufTy
  | .hbm, ⟨0, _⟩ => ⟨S4x320x1024, .f32⟩
  | .hbm, ⟨1, _⟩ => ⟨S4x320x1024, .f32⟩
  | .hbm, ⟨2, _⟩ => ⟨S2x320x1024, .f32⟩
  | .hbm, ⟨3, _⟩ => ⟨S2x320x1024, .f32⟩
  | .hbm, ⟨4, _⟩ => ⟨S2x320x1024, .f32⟩
  | .hbm, ⟨5, _⟩ => ⟨S8x128, .f32⟩
  | .hbm, ⟨6, _⟩ => ⟨S4x320x1024, .bf16⟩
  | .hbm, ⟨7, _⟩ => ⟨S4x320x1024, .bf16⟩
  | .hbm, ⟨8, _⟩ => ⟨S2x320x1024, .f32⟩
  | .hbm, ⟨9, _⟩ => ⟨S2x320x1024, .f32⟩
  | .hbm, ⟨10, _⟩ => ⟨S2x320x1024, .f32⟩
  | .hbm, ⟨11, _⟩ => ⟨S2x320x1024, .f32⟩
  | .local _ .vmem, ⟨0, _⟩ => ⟨S4x320x1024, .bf16⟩
  | .local _ .vmem, ⟨1, _⟩ => ⟨S4x320x1024, .bf16⟩
  | .local _ .vmem, ⟨2, _⟩ => ⟨S4x320x1024, .bf16⟩
  | .local _ .vmem, ⟨3, _⟩ => ⟨S4x320x1024, .bf16⟩
  | .local _ .vmem, ⟨4, _⟩ => ⟨S1x320x1024, .f32⟩
  | .local _ .vmem, ⟨5, _⟩ => ⟨S1x320x1024, .f32⟩
  | .local _ .vmem, ⟨6, _⟩ => ⟨S1x320x1024, .f32⟩
  | .local _ .vmem, ⟨7, _⟩ => ⟨S1x320x1024, .f32⟩
  | .local _ .vmem, ⟨8, _⟩ => ⟨S1x320x1024, .f32⟩
  | .local _ .vmem, ⟨9, _⟩ => ⟨S1x320x1024, .f32⟩
  | .local _ .vmem, ⟨10, _⟩ => ⟨S1x320x1024, .f32⟩
  | .local _ .vmem, ⟨11, _⟩ => ⟨S1x320x1024, .f32⟩
  | .local _ .vmem, ⟨12, _⟩ => ⟨S1x320x1024, .f32⟩
  | .local _ .vmem, ⟨13, _⟩ => ⟨S1x320x1024, .f32⟩
  | .local _ .vmem, ⟨14, _⟩ => ⟨S1x320x1024, .f32⟩
  | .local _ .vmem, ⟨15, _⟩ => ⟨S1x320x1024, .f32⟩
  | .local _ .vmem, ⟨16, _⟩ => ⟨S1x320x1024, .f32⟩
  | .local _ .vmem, ⟨17, _⟩ => ⟨S1x320x1024, .f32⟩
  | _, _ => ⟨S4x320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x320x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x320x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S4x320x1024 : Shape := ⟨3, ![4, 320, 1024]⟩
abbrev S2x320x1024 : Shape := ⟨3, ![2, 320, 1024]⟩
abbrev S8x128 : Shape := ⟨2, ![8, 128]⟩
abbrev S_ : Shape := ⟨0, ![]⟩
abbrev S320x1024 : Shape := ⟨2, ![320, 1024]⟩
abbrev S1x320x1024 : Shape := ⟨3, ![1, 320, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x320x1024, .f32⟩
  | .hbm, ⟨1, _⟩ => ⟨S4x320x1024, .f32⟩
  | .hbm, ⟨2, _⟩ => ⟨S2x320x1024, .f32⟩
  | .hbm, ⟨3, _⟩ => ⟨S2x320x1024, .f32⟩
  | .hbm, ⟨4, _⟩ => ⟨S2x320x1024, .f32⟩
  | .hbm, ⟨5, _⟩ => ⟨S8x128, .f32⟩
  | .hbm, ⟨6, _⟩ => ⟨S_, .f32⟩
  | .hbm, ⟨7, _⟩ => ⟨S320x1024, .f32⟩
  | .hbm, ⟨8, _⟩ => ⟨S_, .f32⟩
  | .hbm, ⟨9, _⟩ => ⟨S320x1024, .f32⟩
  | .hbm, ⟨10, _⟩ => ⟨S1x320x1024, .f32⟩
  | .hbm, ⟨11, _⟩ => ⟨S1x320x1024, .f32⟩
  | .hbm, ⟨12, _⟩ => ⟨S2x320x1024, .f32⟩
  | .hbm, ⟨13, _⟩ => ⟨S_, .f32⟩
  | .hbm, ⟨14, _⟩ => ⟨S2x320x1024, .f32⟩
  | .hbm, ⟨15, _⟩ => ⟨S2x320x1024, .f32⟩
  | .hbm, ⟨16, _⟩ => ⟨S_, .f32⟩
  | .hbm, ⟨17, _⟩ => ⟨S2x320x1024, .f32⟩
  | .hbm, ⟨18, _⟩ => ⟨S2x320x1024, .f32⟩
  | .hbm, ⟨19, _⟩ => ⟨S2x320x1024, .f32⟩
  | .hbm, ⟨20, _⟩ => ⟨S_, .f32⟩
  | .hbm, ⟨21, _⟩ => ⟨S2x320x1024, .f32⟩
  | .hbm, ⟨22, _⟩ => ⟨S2x320x1024, .f32⟩
  | .hbm, ⟨23, _⟩ => ⟨S2x320x1024, .f32⟩
  | .hbm, ⟨24, _⟩ => ⟨S_, .f32⟩
  | .hbm, ⟨25, _⟩ => ⟨S2x320x1024, .f32⟩
  | .hbm, ⟨26, _⟩ => ⟨S2x320x1024, .f32⟩
  | .hbm, ⟨27, _⟩ => ⟨S2x320x1024, .f32⟩
  | .hbm, ⟨28, _⟩ => ⟨S_, .f32⟩
  | .hbm, ⟨29, _⟩ => ⟨S2x320x1024, .f32⟩
  | .hbm, ⟨30, _⟩ => ⟨S2x320x1024, .f32⟩
  | .hbm, ⟨31, _⟩ => ⟨S_, .f32⟩
  | .hbm, ⟨32, _⟩ => ⟨S2x320x1024, .f32⟩
  | .hbm, ⟨33, _⟩ => ⟨S2x320x1024, .f32⟩
  | .hbm, ⟨34, _⟩ => ⟨S2x320x1024, .f32⟩
  | .hbm, ⟨35, _⟩ => ⟨S_, .f32⟩
  | .hbm, ⟨36, _⟩ => ⟨S2x320x1024, .f32⟩
  | .hbm, ⟨37, _⟩ => ⟨S2x320x1024, .f32⟩
  | .hbm, ⟨38, _⟩ => ⟨S2x320x1024, .f32⟩
  | .hbm, ⟨39, _⟩ => ⟨S_, .f32⟩
  | .hbm, ⟨40, _⟩ => ⟨S2x320x1024, .f32⟩
  | .hbm, ⟨41, _⟩ => ⟨S2x320x1024, .f32⟩
  | .hbm, ⟨42, _⟩ => ⟨S2x320x1024, .f32⟩
  | .hbm, ⟨43, _⟩ => ⟨S_, .f32⟩
  | .hbm, ⟨44, _⟩ => ⟨S2x320x1024, .f32⟩
  | .hbm, ⟨45, _⟩ => ⟨S2x320x1024, .f32⟩
  | _, _ => ⟨S4x320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel13.lean ====
abbrev S4x128x1024 : Shape := ⟨3, ![4, 128, 1024]⟩
abbrev S2x128x1024 : Shape := ⟨3, ![2, 128, 1024]⟩
abbrev S8x128 : Shape := ⟨2, ![8, 128]⟩
abbrev S1x128x1024 : Shape := ⟨3, ![1, 128, 1024]⟩
abbrev S128x1024 : Shape := ⟨2, ![128, 1024]⟩

abbrev nBuf : Space → Nat
  | .hbm => 12
  | .vmem => 18
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128, .f32⟩
  | .hbm, ⟨6, _⟩ => ⟨S4x128x1024, .bf16⟩
  | .hbm, ⟨7, _⟩ => ⟨S4x128x1024, .bf16⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S4x128x1024, .bf16⟩
  | .local _ .vmem, ⟨3, _⟩ => ⟨S4x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S4x128x1024 : Shape := ⟨3, ![4, 128, 1024]⟩
abbrev S2x128x1024 : Shape := ⟨3, ![2, 128, 1024]⟩
abbrev S8x128 : Shape := ⟨2, ![8, 128]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128, .f32⟩
  | .hbm, ⟨6, _⟩ => ⟨S_, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S1x128x1024, .f32⟩
  | .hbm, ⟨11, _⟩ => ⟨S1x128x1024, .f32⟩
  | .hbm, ⟨12, _⟩ => ⟨S2x128x1024, .f32⟩
  | .hbm, ⟨13, _⟩ => ⟨S_, .f32⟩
  | .hbm, ⟨14, _⟩ => ⟨S2x128x1024, .f32⟩
  | .hbm, ⟨15, _⟩ => ⟨S2x128x1024, .f32⟩
  | .hbm, ⟨16, _⟩ => ⟨S_, .f32⟩
  | .hbm, ⟨17, _⟩ => ⟨S2x128x1024, .f32⟩
  | .hbm, ⟨18, _⟩ => ⟨S2x128x1024, .f32⟩
  | .hbm, ⟨19, _⟩ => ⟨S2x128x1024, .f32⟩
  | .hbm, ⟨20, _⟩ => ⟨S_, .f32⟩
  | .hbm, ⟨21, _⟩ => ⟨S2x128x1024, .f32⟩
  | .hbm, ⟨22, _⟩ => ⟨S2x128x1024, .f32⟩
  | .hbm, ⟨23, _⟩ => ⟨S2x128x1024, .f32⟩
  | .hbm, ⟨24, _⟩ => ⟨S_, .f32⟩
  | .hbm, ⟨25, _⟩ => ⟨S2x128x1024, .f32⟩
  | .hbm, ⟨26, _⟩ => ⟨S2x128x1024, .f32⟩
  | .hbm, ⟨27, _⟩ => ⟨S2x128x1024, .f32⟩
  | .hbm, ⟨28, _⟩ => ⟨S_, .f32⟩
  | .hbm, ⟨29, _⟩ => ⟨S2x128x1024, .f32⟩
  | .hbm, ⟨30, _⟩ => ⟨S2x128x1024, .f32⟩
  | .hbm, ⟨31, _⟩ => ⟨S_, .f32⟩
  | .hbm, ⟨32, _⟩ => ⟨S2x128x1024, .f32⟩
  | .hbm, ⟨33, _⟩ => ⟨S2x128x1024, .f32⟩
  | .hbm, ⟨34, _⟩ => ⟨S2x128x1024, .f32⟩
  | .hbm, ⟨35, _⟩ => ⟨S_, .f32⟩
  | .hbm, ⟨36, _⟩ => ⟨S2x128x1024, .f32⟩
  | .hbm, ⟨37, _⟩ => ⟨S2x128x1024, .f32⟩
  | .hbm, ⟨38, _⟩ => ⟨S2x128x1024, .f32⟩
  | .hbm, ⟨39, _⟩ => ⟨S_, .f32⟩
  | .hbm, ⟨40, _⟩ => ⟨S2x128x1024, .f32⟩
  | .hbm, ⟨41, _⟩ => ⟨S2x128x1024, .f32⟩
  | .hbm, ⟨42, _⟩ => ⟨S2x128x1024, .f32⟩
  | .hbm, ⟨43, _⟩ => ⟨S_, .f32⟩
  | .hbm, ⟨44, _⟩ => ⟨S2x128x1024, .f32⟩
  | .hbm, ⟨45, _⟩ => ⟨S2x128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel14.lean ====
abbrev S4x62x64 : Shape := ⟨3, ![4, 62, 64]⟩
abbrev S1x62x64 : Shape := ⟨3, ![1, 62, 64]⟩
abbrev S8x128 : Shape := ⟨2, ![8, 128]⟩
abbrev S62x64 : Shape := ⟨2, ![62, 64]⟩

abbrev nBuf : Space → Nat
  | .hbm => 10
  | .vmem => 8
  | .smem => 0
  | _ => 0

abbrev bufTy : (tb : Table) → Fin (tcTables nBuf tb) → BufTy
  | .hbm, ⟨0, _⟩ => ⟨S4x62x64, .f32⟩
  | .hbm, ⟨1, _⟩ => ⟨S1x62x64, .f32⟩
  | .hbm, ⟨2, _⟩ => ⟨S1x62x64, .f32⟩
  | .hbm, ⟨3, _⟩ => ⟨S1x62x64, .f32⟩
  | .hbm, ⟨4, _⟩ => ⟨S8x128, .f32⟩
  | .hbm, ⟨5, _⟩ => ⟨S4x62x64, .bf16⟩
  | .hbm, ⟨6, _⟩ => ⟨S1x62x64, .f32⟩
  | .hbm, ⟨7, _⟩ => ⟨S1x62x64, .f32⟩
  | .hbm, ⟨8, _⟩ => ⟨S1x62x64, .f32⟩
  | .hbm, ⟨9, _⟩ => ⟨S1x62x64, .f32⟩
  | .local _ .vmem, ⟨0, _⟩ => ⟨S4x62x64, .bf16⟩
  | .local _ .vmem, ⟨1, _⟩ => ⟨S1x62x64, .f32⟩
  | .local _ .vmem, ⟨2, _⟩ => ⟨S1x62x64, .f32⟩
  | .local _ .vmem, ⟨3, _⟩ => ⟨S1x62x64, .f32⟩
  | .local _ .vmem, ⟨4, _⟩ => ⟨S1x62x64, .f32⟩
  | .local _ .vmem, ⟨5, _⟩ => ⟨S1x62x64, .f32⟩
  | .local _ .vmem, ⟨6, _⟩ => ⟨S1x62x64, .f32⟩
  | .local _ .vmem, ⟨7, _⟩ => ⟨S1x62x64, .f32⟩
  | _, _ => ⟨S4x62x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x62x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x62x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x62x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x62x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x62x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x62x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x62x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x62x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference14Ideal.lean ====
abbrev S4x62x64 : Shape := ⟨3, ![4, 62, 64]⟩
abbrev S1x62x64 : Shape := ⟨3, ![1, 62, 64]⟩
abbrev S8x128 : Shape := ⟨2, ![8, 128]⟩
abbrev S_ : Shape := ⟨0, ![]⟩
abbrev S62x64 : Shape := ⟨2, ![62, 64]⟩

abbrev nBuf : Space → Nat
  | .hbm => 41
  | .vmem => 0
  | .smem => 0
  | _ => 0

abbrev bufTy : (tb : Table) → Fin (tcTables nBuf tb) → BufTy
  | .hbm, ⟨0, _⟩ => ⟨S4x62x64, .f32⟩
  | .hbm, ⟨1, _⟩ => ⟨S1x62x64, .f32⟩
  | .hbm, ⟨2, _⟩ => ⟨S1x62x64, .f32⟩
  | .hbm, ⟨3, _⟩ => ⟨S1x62x64, .f32⟩
  | .hbm, ⟨4, _⟩ => ⟨S8x128, .f32⟩
  | .hbm, ⟨5, _⟩ => ⟨S_, .f32⟩
  | .hbm, ⟨6, _⟩ => ⟨S62x64, .f32⟩
  | .hbm, ⟨7, _⟩ => ⟨S1x62x64, .f32⟩
  | .hbm, ⟨8, _⟩ => ⟨S_, .f32⟩
  | .hbm, ⟨9, _⟩ => ⟨S1x62x64, .f32⟩
  | .hbm, ⟨10, _⟩ => ⟨S1x62x64, .f32⟩
  | .hbm, ⟨11, _⟩ => ⟨S_, .f32⟩
  | .hbm, ⟨12, _⟩ => ⟨S1x62x64, .f32⟩
  | .hbm, ⟨13, _⟩ => ⟨S1x62x64, .f32⟩
  | .hbm, ⟨14, _⟩ => ⟨S1x62x64, .f32⟩
  | .hbm, ⟨15, _⟩ => ⟨S_, .f32⟩
  | .hbm, ⟨16, _⟩ => ⟨S1x62x64, .f32⟩
  | .hbm, ⟨17, _⟩ => ⟨S1x62x64, .f32⟩
  | .hbm, ⟨18, _⟩ => ⟨S1x62x64, .f32⟩
  | .hbm, ⟨19, _⟩ => ⟨S_, .f32⟩
  | .hbm, ⟨20, _⟩ => ⟨S1x62x64, .f32⟩
  | .hbm, ⟨21, _⟩ => ⟨S1x62x64, .f32⟩
  | .hbm, ⟨22, _⟩ => ⟨S1x62x64, .f32⟩
  | .hbm, ⟨23, _⟩ => ⟨S_, .f32⟩
  | .hbm, ⟨24, _⟩ => ⟨S1x62x64, .f32⟩
  | .hbm, ⟨25, _⟩ => ⟨S1x62x64, .f32⟩
  | .hbm, ⟨26, _⟩ => ⟨S_, .f32⟩
  | .hbm, ⟨27, _⟩ => ⟨S1x62x64, .f32⟩
  | .hbm, ⟨28, _⟩ => ⟨S1x62x64, .f32⟩
  | .hbm, ⟨29, _⟩ => ⟨S1x62x64, .f32⟩
  | .hbm, ⟨30, _⟩ => ⟨S_, .f32⟩
  | .hbm, ⟨31, _⟩ => ⟨S1x62x64, .f32⟩
  | .hbm, ⟨32, _⟩ => ⟨S1x62x64, .f32⟩
  | .hbm, ⟨33, _⟩ => ⟨S1x62x64, .f32⟩
  | .hbm, ⟨34, _⟩ => ⟨S_, .f32⟩
  | .hbm, ⟨35, _⟩ => ⟨S1x62x64, .f32⟩
  | .hbm, ⟨36, _⟩ => ⟨S1x62x64, .f32⟩
  | .hbm, ⟨37, _⟩ => ⟨S1x62x64, .f32⟩
  | .hbm, ⟨38, _⟩ => ⟨S_, .f32⟩
  | .hbm, ⟨39, _⟩ => ⟨S1x62x64, .f32⟩
  | .hbm, ⟨40, _⟩ => ⟨S1x62x64, .f32⟩
  | _, _ => ⟨S4x62x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel15.lean ====
abbrev S4x6x64 : Shape := ⟨3, ![4, 6, 64]⟩
abbrev S1x6x64 : Shape := ⟨3, ![1, 6, 64]⟩
abbrev S8x128 : Shape := ⟨2, ![8, 128]⟩
abbrev S6x64 : Shape := ⟨2, ![6, 64]⟩

abbrev nBuf : Space → Nat
  | .hbm => 10
  | .vmem => 8
  | .smem => 0
  | _ => 0

abbrev bufTy : (tb : Table) → Fin (tcTables nBuf tb) → BufTy
  | .hbm, ⟨0, _⟩ => ⟨S4x6x64, .f32⟩
  | .hbm, ⟨1, _⟩ => ⟨S1x6x64, .f32⟩
  | .hbm, ⟨2, _⟩ => ⟨S1x6x64, .f32⟩
  | .hbm, ⟨3, _⟩ => ⟨S1x6x64, .f32⟩
  | .hbm, ⟨4, _⟩ => ⟨S8x128, .f32⟩
  | .hbm, ⟨5, _⟩ => ⟨S4x6x64, .bf16⟩
  | .hbm, ⟨6, _⟩ => ⟨S1x6x64, .f32⟩
  | .hbm, ⟨7, _⟩ => ⟨S1x6x64, .f32⟩
  | .hbm, ⟨8, _⟩ => ⟨S1x6x64, .f32⟩
  | .hbm, ⟨9, _⟩ => ⟨S1x6x64, .f32⟩
  | .local _ .vmem, ⟨0, _⟩ => ⟨S4x6x64, .bf16⟩
  | .local _ .vmem, ⟨1, _⟩ => ⟨S1x6x64, .f32⟩
  | .local _ .vmem, ⟨2, _⟩ => ⟨S1x6x64, .f32⟩
  | .local _ .vmem, ⟨3, _⟩ => ⟨S1x6x64, .f32⟩
  | .local _ .vmem, ⟨4, _⟩ => ⟨S1x6x64, .f32⟩
  | .local _ .vmem, ⟨5, _⟩ => ⟨S1x6x64, .f32⟩
  | .local _ .vmem, ⟨6, _⟩ => ⟨S1x6x64, .f32⟩
  | .local _ .vmem, ⟨7, _⟩ => ⟨S1x6x64, .f32⟩
  | _, _ => ⟨S4x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x6x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x6x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x6x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x6x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference15Ideal.lean ====
abbrev S4x6x64 : Shape := ⟨3, ![4, 6, 64]⟩
abbrev S1x6x64 : Shape := ⟨3, ![1, 6, 64]⟩
abbrev S8x128 : Shape := ⟨2, ![8, 128]⟩
abbrev S_ : Shape := ⟨0, ![]⟩
abbrev S6x64 : Shape := ⟨2, ![6, 64]⟩

abbrev nBuf : Space → Nat
  | .hbm => 41
  | .vmem => 0
  | .smem => 0
  | _ => 0

abbrev bufTy : (tb : Table) → Fin (tcTables nBuf tb) → BufTy
  | .hbm, ⟨0, _⟩ => ⟨S4x6x64, .f32⟩
  | .hbm, ⟨1, _⟩ => ⟨S1x6x64, .f32⟩
  | .hbm, ⟨2, _⟩ => ⟨S1x6x64, .f32⟩
  | .hbm, ⟨3, _⟩ => ⟨S1x6x64, .f32⟩
  | .hbm, ⟨4, _⟩ => ⟨S8x128, .f32⟩
  | .hbm, ⟨5, _⟩ => ⟨S_, .f32⟩
  | .hbm, ⟨6, _⟩ => ⟨S6x64, .f32⟩
  | .hbm, ⟨7, _⟩ => ⟨S1x6x64, .f32⟩
  | .hbm, ⟨8, _⟩ => ⟨S_, .f32⟩
  | .hbm, ⟨9, _⟩ => ⟨S1x6x64, .f32⟩
  | .hbm, ⟨10, _⟩ => ⟨S1x6x64, .f32⟩
  | .hbm, ⟨11, _⟩ => ⟨S_, .f32⟩
  | .hbm, ⟨12, _⟩ => ⟨S1x6x64, .f32⟩
  | .hbm, ⟨13, _⟩ => ⟨S1x6x64, .f32⟩
  | .hbm, ⟨14, _⟩ => ⟨S1x6x64, .f32⟩
  | .hbm, ⟨15, _⟩ => ⟨S_, .f32⟩
  | .hbm, ⟨16, _⟩ => ⟨S1x6x64, .f32⟩
  | .hbm, ⟨17, _⟩ => ⟨S1x6x64, .f32⟩
  | .hbm, ⟨18, _⟩ => ⟨S1x6x64, .f32⟩
  | .hbm, ⟨19, _⟩ => ⟨S_, .f32⟩
  | .hbm, ⟨20, _⟩ => ⟨S1x6x64, .f32⟩
  | .hbm, ⟨21, _⟩ => ⟨S1x6x64, .f32⟩
  | .hbm, ⟨22, _⟩ => ⟨S1x6x64, .f32⟩
  | .hbm, ⟨23, _⟩ => ⟨S_, .f32⟩
  | .hbm, ⟨24, _⟩ => ⟨S1x6x64, .f32⟩
  | .hbm, ⟨25, _⟩ => ⟨S1x6x64, .f32⟩
  | .hbm, ⟨26, _⟩ => ⟨S_, .f32⟩
  | .hbm, ⟨27, _⟩ => ⟨S1x6x64, .f32⟩
  | .hbm, ⟨28, _⟩ => ⟨S1x6x64, .f32⟩
  | .hbm, ⟨29, _⟩ => ⟨S1x6x64, .f32⟩
  | .hbm, ⟨30, _⟩ => ⟨S_, .f32⟩
  | .hbm, ⟨31, _⟩ => ⟨S1x6x64, .f32⟩
  | .hbm, ⟨32, _⟩ => ⟨S1x6x64, .f32⟩
  | .hbm, ⟨33, _⟩ => ⟨S1x6x64, .f32⟩
  | .hbm, ⟨34, _⟩ => ⟨S_, .f32⟩
  | .hbm, ⟨35, _⟩ => ⟨S1x6x64, .f32⟩
  | .hbm, ⟨36, _⟩ => ⟨S1x6x64, .f32⟩
  | .hbm, ⟨37, _⟩ => ⟨S1x6x64, .f32⟩
  | .hbm, ⟨38, _⟩ => ⟨S_, .f32⟩
  | .hbm, ⟨39, _⟩ => ⟨S1x6x64, .f32⟩
  | .hbm, ⟨40, _⟩ => ⟨S1x6x64, .f32⟩
  | _, _ => ⟨S4x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel16.lean ====
abbrev S4x6x704 : Shape := ⟨3, ![4, 6, 704]⟩
abbrev S1x6x704 : Shape := ⟨3, ![1, 6, 704]⟩
abbrev S8x128 : Shape := ⟨2, ![8, 128]⟩
abbrev S6x704 : Shape := ⟨2, ![6, 704]⟩

abbrev nBuf : Space → Nat
  | .hbm => 10
  | .vmem => 8
  | .smem => 0
  | _ => 0

abbrev bufTy : (tb : Table) → Fin (tcTables nBuf tb) → BufTy
  | .hbm, ⟨0, _⟩ => ⟨S4x6x704, .f32⟩
  | .hbm, ⟨1, _⟩ => ⟨S1x6x704, .f32⟩
  | .hbm, ⟨2, _⟩ => ⟨S1x6x704, .f32⟩
  | .hbm, ⟨3, _⟩ => ⟨S1x6x704, .f32⟩
  | .hbm, ⟨4, _⟩ => ⟨S8x128, .f32⟩
  | .hbm, ⟨5, _⟩ => ⟨S4x6x704, .bf16⟩
  | .hbm, ⟨6, _⟩ => ⟨S1x6x704, .f32⟩
  | .hbm, ⟨7, _⟩ => ⟨S1x6x704, .f32⟩
  | .hbm, ⟨8, _⟩ => ⟨S1x6x704, .f32⟩
  | .hbm, ⟨9, _⟩ => ⟨S1x6x704, .f32⟩
  | .local _ .vmem, ⟨0, _⟩ => ⟨S4x6x704, .bf16⟩
  | .local _ .vmem, ⟨1, _⟩ => ⟨S1x6x704, .f32⟩
  | .local _ .vmem, ⟨2, _⟩ => ⟨S1x6x704, .f32⟩
  | .local _ .vmem, ⟨3, _⟩ => ⟨S1x6x704, .f32⟩
  | .local _ .vmem, ⟨4, _⟩ => ⟨S1x6x704, .f32⟩
  | .local _ .vmem, ⟨5, _⟩ => ⟨S1x6x704, .f32⟩
  | .local _ .vmem, ⟨6, _⟩ => ⟨S1x6x704, .f32⟩
  | .local _ .vmem, ⟨7, _⟩ => ⟨S1x6x704, .f32⟩
  | _, _ => ⟨S4x6x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x6x704 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x6x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x6x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference16Ideal.lean ====
abbrev S4x6x704 : Shape := ⟨3, ![4, 6, 704]⟩
abbrev S1x6x704 : Shape := ⟨3, ![1, 6, 704]⟩
abbrev S8x128 : Shape := ⟨2, ![8, 128]⟩
abbrev S_ : Shape := ⟨0, ![]⟩
abbrev S6x704 : Shape := ⟨2, ![6, 704]⟩

abbrev nBuf : Space → Nat
  | .hbm => 41
  | .vmem => 0
  | .smem => 0
  | _ => 0

abbrev bufTy : (tb : Table) → Fin (tcTables nBuf tb) → BufTy
  | .hbm, ⟨0, _⟩ => ⟨S4x6x704, .f32⟩
  | .hbm, ⟨1, _⟩ => ⟨S1x6x704, .f32⟩
  | .hbm, ⟨2, _⟩ => ⟨S1x6x704, .f32⟩
  | .hbm, ⟨3, _⟩ => ⟨S1x6x704, .f32⟩
  | .hbm, ⟨4, _⟩ => ⟨S8x128, .f32⟩
  | .hbm, ⟨5, _⟩ => ⟨S_, .f32⟩
  | .hbm, ⟨6, _⟩ => ⟨S6x704, .f32⟩
  | .hbm, ⟨7, _⟩ => ⟨S1x6x704, .f32⟩
  | .hbm, ⟨8, _⟩ => ⟨S_, .f32⟩
  | .hbm, ⟨9, _⟩ => ⟨S1x6x704, .f32⟩
  | .hbm, ⟨10, _⟩ => ⟨S1x6x704, .f32⟩
  | .hbm, ⟨11, _⟩ => ⟨S_, .f32⟩
  | .hbm, ⟨12, _⟩ => ⟨S1x6x704, .f32⟩
  | .hbm, ⟨13, _⟩ => ⟨S1x6x704, .f32⟩
  | .hbm, ⟨14, _⟩ => ⟨S1x6x704, .f32⟩
  | .hbm, ⟨15, _⟩ => ⟨S_, .f32⟩
  | .hbm, ⟨16, _⟩ => ⟨S1x6x704, .f32⟩
  | .hbm, ⟨17, _⟩ => ⟨S1x6x704, .f32⟩
  | .hbm, ⟨18, _⟩ => ⟨S1x6x704, .f32⟩
  | .hbm, ⟨19, _⟩ => ⟨S_, .f32⟩
  | .hbm, ⟨20, _⟩ => ⟨S1x6x704, .f32⟩
  | .hbm, ⟨21, _⟩ => ⟨S1x6x704, .f32⟩
  | .hbm, ⟨22, _⟩ => ⟨S1x6x704, .f32⟩
  | .hbm, ⟨23, _⟩ => ⟨S_, .f32⟩
  | .hbm, ⟨24, _⟩ => ⟨S1x6x704, .f32⟩
  | .hbm, ⟨25, _⟩ => ⟨S1x6x704, .f32⟩
  | .hbm, ⟨26, _⟩ => ⟨S_, .f32⟩
  | .hbm, ⟨27, _⟩ => ⟨S1x6x704, .f32⟩
  | .hbm, ⟨28, _⟩ => ⟨S1x6x704, .f32⟩
  | .hbm, ⟨29, _⟩ => ⟨S1x6x704, .f32⟩
  | .hbm, ⟨30, _⟩ => ⟨S_, .f32⟩
  | .hbm, ⟨31, _⟩ => ⟨S1x6x704, .f32⟩
  | .hbm, ⟨32, _⟩ => ⟨S1x6x704, .f32⟩
  | .hbm, ⟨33, _⟩ => ⟨S1x6x704, .f32⟩
  | .hbm, ⟨34, _⟩ => ⟨S_, .f32⟩
  | .hbm, ⟨35, _⟩ => ⟨S1x6x704, .f32⟩
  | .hbm, ⟨36, _⟩ => ⟨S1x6x704, .f32⟩
  | .hbm, ⟨37, _⟩ => ⟨S1x6x704, .f32⟩
  | .hbm, ⟨38, _⟩ => ⟨S_, .f32⟩
  | .hbm, ⟨39, _⟩ => ⟨S1x6x704, .f32⟩
  | .hbm, ⟨40, _⟩ => ⟨S1x6x704, .f32⟩
  | _, _ => ⟨S4x6x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Proof.Sem.lean ====
/-
  What one grid point of the gated convolution's backward pass computes, element by element, over any float values.

  The kernel keeps whole blocks in scratch memory and fills them strip by strip. Here the finished strips are read as plain
  functions of a row and a column, so that the loops below can be stated without their tiling.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.ValueKit
public import Idealize.ShloMosaic.Lib.WritesUnit

@[expose] public section

noncomputable section

namespace Cert.KernelIdeal.Ffn

open Idealize.ShloMosaic Idealize.ShloMosaic.TcCoe
open Cert.KernelIdeal Cert.KernelIdeal.Gen

/-! ## Blocks as functions of a row and a column -/

/-- A block read at a row and a column, both taken modulo the block's extents so that the reading is total. -/
def rd {R C : ℕ} {α : Type} [NeZero R] [NeZero C] (X : (⟨2, ![R, C]⟩ : Shape).Idx → α) (r l : ℕ) : α :=
  X (ix2 ⟨r % R, Nat.mod_lt _ (Nat.pos_of_neZero R)⟩ ⟨l % C, Nat.mod_lt _ (Nat.pos_of_neZero C)⟩)

/-- At a row and a column inside the block the reading is the block's element there. -/
theorem rd_eq {R C : ℕ} {α : Type} [NeZero R] [NeZero C] (X : (⟨2, ![R, C]⟩ : Shape).Idx → α)
    (y : (⟨2, ![R, C]⟩ : Shape).Idx) {r l : ℕ} (h0 : (y 0).val = r) (h1 : (y 1).val = l) : rd X r l = X y := by
  subst h0 h1
  have b0 : (y 0).val < R := (y 0).isLt
  have b1 : (y 1).val < C := (y 1).isLt
  unfold rd
  congr 1
  refine (eq_ix2 y).symm ▸ ?_
  congr 1 <;> exact Fin.ext (Nat.mod_eq_of_lt (by assumption))

variable {F : FTy → Type} [FloatOps F]

/-! ## One element -/

/-- One half and one, at the kernel's short float format. -/
abbrev half : F .bf16 := Scalar.ofBits .bf16 0x3F00#16
abbrev one : F .bf16 := Scalar.ofBits .bf16 0x3F80#16

/-- The logistic function as the kernel computes it, through the hyperbolic tangent. -/
def sgE (g : F .bf16) : F .bf16 :=
  FloatOps.addf (FloatOps.mulf half (FloatOps.tanh (FloatOps.mulf half g))) half

/-- The short float word of a long one, and the long one of a short one. -/
abbrev sh (x : F .f32) : F .bf16 := FloatOps.truncf .bf16 bitsLt_bf16_f32 x
abbrev lg (x : F .bf16) : F .f32 := FloatOps.extf .f32 bitsLt_bf16_f32 x

/-- The gate half's gradient before its convolution is undone. -/
def dgE (g : F .bf16) (d : F .f32) (cv : F .bf16) : F .f32 :=
  lg (FloatOps.mulf (FloatOps.mulf (sh d) cv)
    (FloatOps.mulf (sgE g) (FloatOps.addf one (FloatOps.mulf g (FloatOps.subf one (sgE g))))))

/-- The value half's gradient before its convolution is undone. -/
def dvE (g : F .bf16) (d : F .f32) : F .f32 := lg (FloatOps.mulf (sh d) (FloatOps.mulf g (sgE g)))

/-- Three taps of the transposed convolution, rows `r`, `r + 1`, `r + 2` of `D` against the taps kept in every eighth row of `W`. -/
def tapE (W D : ℕ → ℕ → F .f32) (r l : ℕ) : F .bf16 :=
  sh (FloatOps.addf (FloatOps.addf (FloatOps.mulf (W (r % 8) l) (D (r + 2) l)) (FloatOps.mulf (W (8 + r % 8) l) (D (r + 1) l)))
    (FloatOps.mulf (W (16 + r % 8) l) (D r l)))

/-- Eight terms added from the left. -/
def fold8 (g : ℕ → F .f32) : F .f32 :=
  FloatOps.addf (FloatOps.addf (FloatOps.addf (FloatOps.addf (FloatOps.addf (FloatOps.addf (FloatOps.addf
    (g 0) (g 1)) (g 2)) (g 3)) (g 4)) (g 5)) (g 6)) (g 7)

/-- What one point adds to row `a` of the running tap sums: tap `a / 8`, rows `a % 8` modulo eight of the block. -/
def dwE (U : ℕ → ℕ → F .bf16) (D : ℕ → ℕ → F .f32) (a l : ℕ) : F .f32 :=
  fold8 fun b => fold8 fun q => FloatOps.mulf (lg (U (64 * b + 8 * q + a % 8) l)) (D (64 * b + 8 * q + a % 8 + (2 - a / 8)) l)

end Cert.KernelIdeal.Ffn
-- ==== Proof.Strip1.lean ====
/-
  The first loop of a grid point: sixty-four rows a trip, it turns the block of activation gradients into the two blocks of
  gradients that the transposed convolutions then read.
-/
module

public import proofs.«01_k».proof.Proof.Sem

@[expose] public section

set_option maxRecDepth 8192
set_option maxHeartbeats 4000000

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- Rows `0 … n` of a scratch block finished, the others as found. -/
def upTo (n : ℕ) (g : ℕ → ℕ → F .f32) (X : S520x1408.Idx → F .f32) : S520x1408.Idx → F .f32 :=
  fun y => if (y 0).val < n then g (y 0).val (y 1).val else X y

/-- The gate half's gradients, a function of the block's activations and activation gradients. -/
def DG (g : S512x1408.Idx → F .bf16) (d : S512x1408.Idx → F .f32) (cv : S512x1408.Idx → F .bf16) (r l : ℕ) : F .f32 :=
  dgE (rd g r l) (rd d r l) (rd cv r l)

/-- The value half's. -/
def DV (g : S512x1408.Idx → F .bf16) (d : S512x1408.Idx → F .f32) (r l : ℕ) : F .f32 := dvE (rd g r l) (rd d r l)

/-- A scratch buffer's contents before trip `k` of the loop. -/
def st1 (M : Memref sig .tc .vmem S520x1408 .f32) (hM : M.IsWhole) (g : ℕ → ℕ → F .f32) (G : M.view.ty.Contents (Elt F)) :
    ℕ → M.view.ty.Contents (Elt F)
  | 0 => G
  | k + 1 => hM.unread (upTo (64 * (k + 1)) g (M.view.read (Elt F) G))

theorem read_st1 (M : Memref sig .tc .vmem S520x1408 .f32) (hM : M.IsWhole) (g : ℕ → ℕ → F .f32) (G : M.view.ty.Contents (Elt F)) (k : ℕ) :
    M.view.read (Elt F) (st1 M hM g G k) = upTo (64 * k) g (M.view.read (Elt F) G) := by
  cases k with
  | zero => funext y; simp [st1, upTo]
  | succ k => exact hM.read_unread _

/-- The stored gate strip at an element. -/
theorem pay153_apply (g : Vec F S64x1408 .bf16) (d : Vec F S64x1408 .f32) (cv : Vec F S64x1408 .bf16) (x : S64x1408.Idx) :
    k0_pay153 g d cv x = dgE (g x) (d x) (cv x) := by
  simp only [k0_pay153, k0_pay152, k0_pay151, k0_pay150, shapeCast_self]
  rfl

/-- The stored value strip at an element. -/
theorem pay154_apply (g : Vec F S64x1408 .bf16) (d : Vec F S64x1408 .f32) (x : S64x1408.Idx) :
    k0_pay154 g d x = dvE (g x) (d x) := by
  simp only [k0_pay154, k0_pay152, k0_pay151, k0_pay150, shapeCast_self]
  rfl

/-- One stored strip of sixty-four rows carries the contents before a trip to the contents after it. -/
theorem st1_step (M : Memref sig .tc .vmem S520x1408 .f32) (hM : M.IsWhole) (g : ℕ → ℕ → F .f32) (G : M.view.ty.Contents (Elt F)) (k : ℕ)
    (off : Fin 2 → ℕ) (hoff : off = ![64 * k, 0]) (inb : ∀ a, off a + S64x1408.size a ≤ S520x1408.size a) (w : S64x1408.Idx → F .f32)
    (hw : ∀ x : S64x1408.Idx, w x = g (64 * k + (x 0).val) (x 1).val) :
    M.view.writes (Elt F) (st1 M hM g G k) [⟨Rect.unit (s := S520x1408) off S64x1408.size inb, w⟩] = st1 M hM g G (k + 1) := by
  refine hM.eq_unread (funext fun y => ?_)
  by_cases h : 64 * k ≤ (y 0).val ∧ (y 0).val < 64 * k + 64
  · refine (View.read_writes_cons_unit_of_mem (Val := Elt F) M.view _ inb w [] y (ix2 ⟨(y 0).val - 64 * k, by omega⟩ ⟨(y 1).val, (y 1).isLt⟩) hoff
      (Fin.forall_fin_two.mpr ⟨by show (y 0).val = 64 * k + ((y 0).val - 64 * k); omega, by show (y 1).val = 0 + (y 1).val; omega⟩)).trans ((hw _).trans ?_)
    show g (64 * k + ((y 0).val - 64 * k)) (y 1).val = upTo (64 * (k + 1)) g _ y
    rw [upTo, if_pos (by omega), Nat.add_sub_cancel' h.1]
  · refine (View.read_writes_cons_unit_of_not_mem (Val := Elt F) M.view _ inb w [] y hoff (0 : Fin 2)
      (by show (y 0).val < 64 * k ∨ 64 * k + 64 ≤ (y 0).val; omega)).trans ?_
    show M.view.read (Elt F) (st1 M hM g G k) y = _
    rw [read_st1]
    unfold upTo
    split <;> split <;> first | rfl | omega

variable (𝒱 : Variants) (c : Dev nD) (bd : Option 𝒱.V) (E : Set ℕ) (i : grid0.Coords) (arg2 : Memref sig .tc .vmem S512x1024 .bf16) (harg2 : arg2.IsWhole) (arg3 : Memref sig .tc .vmem S512x1408 .bf16) (harg3 : arg3.IsWhole) (arg4 : Memref sig .tc .vmem S512x1408 .bf16) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1408x1024 .bf16) (harg9 : arg9.IsWhole) (arg10 : Memref sig .tc .hbm S8x128 .f32) (harg10 : arg10.IsWhole) (arg11 : Memref sig .tc .vmem S2x512x1408 .bf16) (harg11 : arg11.IsWhole) (arg12 : Memref sig .tc .vmem S3x1408 .f32) (harg12 : arg12.IsWhole) (arg13 : Memref sig .tc .vmem S3x1408 .f32) (harg13 : arg13.IsWhole) (arg14 : Memref sig .tc .vmem S512x1408 .f32) (harg14 : arg14.IsWhole) (arg15 : Memref sig .tc .vmem S520x1408 .f32) (harg15 : arg15.IsWhole) (arg16 : Memref sig .tc .vmem S520x1408 .f32) (harg16 : arg16.IsWhole) (arg17 : Memref sig .tc .vmem S24x1408 .f32) (harg17 : arg17.IsWhole) (arg18 : Memref sig .tc .vmem S24x1408 .f32) (harg18 : arg18.IsWhole) (arg19 : Memref sig .tc .vmem S24x1408 .f32) (harg19 : arg19.IsWhole) (arg20 : Memref sig .tc .vmem S24x1408 .f32) (harg20 : arg20.IsWhole)  (v29 : FVec F S8x1408 .f32) (v30 : Vec F S8x1408 .f32)

/-- Where the trip's loads stand in their block. -/
theorem off1_0 (k : Fin k0_t1_loop.trips) (x : S64x1408.Idx) :
    (((Rect.unit (s := S512x1408) (k0_off1 k) S64x1408.size (k0_off1_inb k)).toLoadRect.idx x) 0).val = 64 * k.val + (x 0).val := by
  show k0_off1 k 0 + 1 * (x 0).val = _
  rw [k0_off1_eq, Nat.one_mul]; rfl
theorem off1_1 (k : Fin k0_t1_loop.trips) (x : S64x1408.Idx) :
    (((Rect.unit (s := S512x1408) (k0_off1 k) S64x1408.size (k0_off1_inb k)).toLoadRect.idx x) 1).val = (x 1).val := by
  show k0_off1 k 1 + 1 * (x 1).val = _
  rw [k0_off1_eq, Nat.one_mul]; exact Nat.zero_add _

set_option warn.classDefReducibility false in
/-- The loop by its invariant. -/
@[sl_loop] def loop1 (f5 : BufTy.Contents (Elt F) arg5.view.ty) (f6 : BufTy.Contents (Elt F) arg6.view.ty) (f14 : BufTy.Contents (Elt F) arg14.view.ty)
    (G15 : BufTy.Contents (Elt F) arg15.view.ty) (G16 : BufTy.Contents (Elt F) arg16.view.ty) :
    Idealize.ShloMosaic.LoopInv (M := 𝕄G) Idealize.ShloMosaic.frame (wpE defs₀ 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v29 v30) where
  inv k _ := iprop((arg5.view.loc (c : Thread nD τ) ↦[arg5.view.set]{fullShare} f5) ∗ (arg6.view.loc (c : Thread nD τ) ↦[arg6.view.set]{fullShare} f6) ∗ (arg14.view.loc (c : Thread nD τ) ↦[arg14.view.set]{fullShare} f14)
    ∗ (∃ f, (arg15.view.loc (c : Thread nD τ) ↦[arg15.view.set]{fullShare} f) ∗ ⌜f = st1 arg15 harg15 (DG (arg5.view.read (Elt F) f5) (arg14.view.read (Elt F) f14) (arg6.view.read (Elt F) f6)) G15 k⌝)
    ∗ (∃ f, (arg16.view.loc (c : Thread nD τ) ↦[arg16.view.set]{fullShare} f) ∗ ⌜f = st1 arg16 harg16 (DV (arg5.view.read (Elt F) f5) (arg14.view.read (Elt F) f14)) G16 k⌝))
  step k acc := by
    have hk : k.val < 8 := Nat.lt_of_lt_of_le k.isLt k0_t1_abs.2.1
    unfold k0_t1_body
    iintro ⟨H5, H6, H14, ⟨%f15, H15, %h15⟩, ⟨%f16, H16, %h16⟩⟩
    sl_exec
    sl_step
    isplitl [H5]; · iexact H5
    isplitl [H6]; · iexact H6
    isplitl [H14]; · iexact H14
    isplitl [H15]
    · iexists _; isplitl [H15]; · iexact H15
      ipureintro
      subst h15
      refine st1_step arg15 harg15 _ G15 k.val _ (k0_off2_eq k) _ _ fun x => ?_
      rw [pay153_apply, View.readAt_apply, View.readAt_apply, View.readAt_apply]
      unfold DG
      rw [rd_eq _ _ (off1_0 k _) (off1_1 k _), rd_eq _ _ (off1_0 k _) (off1_1 k _), rd_eq _ _ (off1_0 k _) (off1_1 k _)]
    · iexists _; isplitl [H16]; · iexact H16
      ipureintro
      subst h16
      refine st1_step arg16 harg16 _ G16 k.val _ (k0_off2_eq k) _ _ fun x => ?_
      rw [pay154_apply, View.readAt_apply, View.readAt_apply]
      unfold DV
      rw [rd_eq _ _ (off1_0 k _) (off1_1 k _), rd_eq _ _ (off1_0 k _) (off1_1 k _)]

end Cert.KernelIdeal.Ffn
-- ==== Proof.Taps.lean ====
/-
  The second and third loops of a grid point walk over strips of 128 columns. Here is what one strip stores, and how the
  stored tiles carry the buffers from before a trip to after it.
-/
module

public import proofs.«01_k».proof.Proof.Strip1

@[expose] public section

set_option maxRecDepth 8192
set_option maxHeartbeats 8000000

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-! ## Reading a strip -/

/-- A load through a rectangle is the reading at the rectangle's offsets. -/
theorem ld_rd {sp : Space} {R C h w : ℕ} [NeZero R] [NeZero C] {e : EltTy} (v : View sig .tc sp (⟨2, ![R, C]⟩ : Shape) e) (f : v.ty.Contents (Elt F))
    {off : Fin 2 → ℕ} (o0 o1 : ℕ) (ho : off = ![o0, o1]) (inb : ∀ a : Fin 2, off a + (![h, w] : Fin 2 → ℕ) a ≤ (![R, C] : Fin 2 → ℕ) a)
    (x : (⟨2, ![h, w]⟩ : Shape).Idx) :
    v.readAt (Elt F) (Rect.unit (s := ⟨2, ![R, C]⟩) off ![h, w] inb).toLoadRect f x = rd (v.read (Elt F) f) (o0 + (x 0).val) (o1 + (x 1).val) := by
  subst ho
  rw [View.readAt_apply]
  refine (rd_eq _ _ ?_ ?_).symm
  · show o0 + 1 * (x 0).val = _; rw [Nat.one_mul]
  · show o1 + 1 * (x 1).val = _; rw [Nat.one_mul]

/-- Eight rows repeated eight times. -/
def rep (w : Vec F S8x128 .f32) : FVec F S64x128 .f32 :=
  concatenate S64x128 0 [⟨S8x128, w⟩, ⟨S8x128, w⟩, ⟨S8x128, w⟩, ⟨S8x128, w⟩, ⟨S8x128, w⟩, ⟨S8x128, w⟩, ⟨S8x128, w⟩, ⟨S8x128, w⟩]
    concatenates_S8x128_S8x128_S8x128_S8x128_S8x128_S8x128_S8x128_S8x128_S64x128_d0

theorem rep_apply (w : Vec F S8x128 .f32) (x : S64x128.Idx) :
    rep w x = w (ix2 ⟨(x 0).val % 8, Nat.mod_lt _ (by decide)⟩ ⟨(x 1).val, (x 1).isLt⟩) :=
  concatenate_replicate_apply (t := S64x128) (s₁ := S8x128) 0 8 w _ rfl x _ rfl (fun b hb => by
    match b with
    | ⟨0, _⟩ => exact absurd rfl hb
    | ⟨1, _⟩ => rfl)

/-- One stored tile of the transposed convolution. -/
def tapV (w0 w1 w2 : Vec F S8x128 .f32) (d2 d1 d0 : Vec F S64x128 .f32) : Vec F S1x64x128 .bf16 :=
  shapeCast S1x64x128 (truncf .bf16 (addf (addf (mulf (rep w0) d2) (mulf (rep w1) d1)) (mulf (rep w2) d0)) bitsLt_bf16_f32) shapeCasts_S64x128_S1x64x128

theorem cast1_apply (v : FVec F S64x128 .bf16) (x : S1x64x128.Idx) :
    shapeCast S1x64x128 v shapeCasts_S64x128_S1x64x128 x = v (ix2 ⟨(x 1).val, (x 1).isLt⟩ ⟨(x 2).val, (x 2).isLt⟩) :=
  (shapeCast_addUnit_apply ![64, 128] v _ x).trans (congrArg v (eq_ix2 _))

theorem tapV_apply (W D : ℕ → ℕ → F .f32) (r r1 r2 c : ℕ) (h8 : r % 8 = 0) (h1 : r1 = r + 1) (h2 : r2 = r + 2)
    (w0 w1 w2 : Vec F S8x128 .f32) (d2 d1 d0 : Vec F S64x128 .f32)
    (hw0 : ∀ z, w0 z = W (0 + (z 0).val) (c + (z 1).val)) (hw1 : ∀ z, w1 z = W (8 + (z 0).val) (c + (z 1).val))
    (hw2 : ∀ z, w2 z = W (16 + (z 0).val) (c + (z 1).val))
    (hd2 : ∀ z, d2 z = D (r2 + (z 0).val) (c + (z 1).val)) (hd1 : ∀ z, d1 z = D (r1 + (z 0).val) (c + (z 1).val))
    (hd0 : ∀ z, d0 z = D (r + (z 0).val) (c + (z 1).val)) (x : S1x64x128.Idx) :
    tapV w0 w1 w2 d2 d1 d0 x = tapE W D (r + (x 1).val) (c + (x 2).val) := by
  subst h1 h2
  rw [tapV, cast1_apply]
  show FloatOps.truncf .bf16 bitsLt_bf16_f32 (FloatOps.addf (FloatOps.addf (FloatOps.mulf (rep w0 _) (d2 _)) (FloatOps.mulf (rep w1 _) (d1 _))) (FloatOps.mulf (rep w2 _) (d0 _))) = _
  rw [rep_apply, rep_apply, rep_apply, hw0, hw1, hw2, hd2, hd1, hd0]
  have e : (r + (x 1).val) % 8 = (x 1).val % 8 := by omega
  unfold tapE
  rw [e, show r + (x 1).val + 2 = r + 2 + (x 1).val by omega, show r + (x 1).val + 1 = r + 1 + (x 1).val by omega]
  show sh (FloatOps.addf (FloatOps.addf (FloatOps.mulf (W (0 + (x 1).val % 8) _) _) _) _) = _
  rw [Nat.zero_add]
  rfl

/-- The products of a strip with the gradients beside it, and the eight rows of partial sums that a strip folds into. -/
def prodV (u : Vec F S64x128 .bf16) (d : Vec F S64x128 .f32) : FVec F S64x128 .f32 :=
  mulf (extf .f32 (shapeCast S64x128 u shapeCasts_S64x128_S64x128) bitsLt_bf16_f32) d
def foldV (p : FVec F S64x128 .f32) : FVec F S8x128 .f32 :=
  addf (addf (addf (addf (addf (addf (addf (extractStridedSlice S8x128 ![0, 0] p slices_S64x128_o0_0_S8x128)
    (extractStridedSlice S8x128 ![8, 0] p slices_S64x128_o8_0_S8x128)) (extractStridedSlice S8x128 ![16, 0] p slices_S64x128_o16_0_S8x128))
    (extractStridedSlice S8x128 ![24, 0] p slices_S64x128_o24_0_S8x128)) (extractStridedSlice S8x128 ![32, 0] p slices_S64x128_o32_0_S8x128))
    (extractStridedSlice S8x128 ![40, 0] p slices_S64x128_o40_0_S8x128)) (extractStridedSlice S8x128 ![48, 0] p slices_S64x128_o48_0_S8x128))
    (extractStridedSlice S8x128 ![56, 0] p slices_S64x128_o56_0_S8x128)
def accV (a : Vec F S8x128 .f32) (p0 p1 p2 p3 p4 p5 p6 p7 : FVec F S64x128 .f32) : FVec F S8x128 .f32 :=
  shapeCast S8x128 (addf a (addf (addf (addf (addf (addf (addf (addf (foldV p0) (foldV p1)) (foldV p2)) (foldV p3)) (foldV p4)) (foldV p5)) (foldV p6)) (foldV p7)))
    shapeCasts_S8x128_S8x128

theorem slice_apply (P : ℕ → ℕ → F .f32) (r c o : ℕ) (p : FVec F S64x128 .f32) (hp : ∀ z, p z = P (r + (z 0).val) (c + (z 1).val))
    (h : S64x128.Slices ![o, 0] S8x128) (x : S8x128.Idx) :
    extractStridedSlice S8x128 ![o, 0] p h x = P (r + (o + (x 0).val)) (c + (x 1).val) := by
  unfold extractStridedSlice
  rw [hp]
  show P (r + (o + (x 0).val)) (c + (0 + (x 1).val)) = _
  rw [Nat.zero_add]

theorem foldV_apply (P : ℕ → ℕ → F .f32) (r c : ℕ) (p : FVec F S64x128 .f32) (hp : ∀ z, p z = P (r + (z 0).val) (c + (z 1).val)) (x : S8x128.Idx) :
    foldV p x = fold8 fun q => P (r + (8 * q + (x 0).val)) (c + (x 1).val) := by
  have H := fun o h => slice_apply P r c o p hp h x
  show FloatOps.addf (FloatOps.addf (FloatOps.addf (FloatOps.addf (FloatOps.addf (FloatOps.addf (FloatOps.addf (extractStridedSlice S8x128 ![0, 0] p _ x)
    (extractStridedSlice S8x128 ![8, 0] p _ x)) (extractStridedSlice S8x128 ![16, 0] p _ x))
    (extractStridedSlice S8x128 ![24, 0] p _ x)) (extractStridedSlice S8x128 ![32, 0] p _ x))
    (extractStridedSlice S8x128 ![40, 0] p _ x)) (extractStridedSlice S8x128 ![48, 0] p _ x))
    (extractStridedSlice S8x128 ![56, 0] p _ x) = _
  rw [H, H, H, H, H, H, H, H]
  rfl

theorem prodV_apply (U : ℕ → ℕ → F .bf16) (D : ℕ → ℕ → F .f32) (r s rs c : ℕ) (hs : rs = r + s) (u : Vec F S64x128 .bf16) (d : Vec F S64x128 .f32)
    (hu : ∀ z, u z = U (r + (z 0).val) (c + (z 1).val)) (hd : ∀ z, d z = D (rs + (z 0).val) (c + (z 1).val)) (x : S64x128.Idx) :
    prodV u d x = (fun a l => FloatOps.mulf (lg (U a l)) (D (a + s) l)) (r + (x 0).val) (c + (x 1).val) := by
  subst hs
  rw [prodV, shapeCast_self]
  show FloatOps.mulf (lg (u x)) (d x) = _
  rw [hu, hd, show r + s + (x 0).val = r + (x 0).val + s by omega]

theorem accV_apply (U : ℕ → ℕ → F .bf16) (D : ℕ → ℕ → F .f32) (A : ℕ → ℕ → F .f32) (j s c : ℕ) (hs : s = 2 - j)
    (a : Vec F S8x128 .f32) (p0 p1 p2 p3 p4 p5 p6 p7 : FVec F S64x128 .f32)
    (ha : ∀ z, a z = A (8 * j + (z 0).val) (c + (z 1).val))
    (h0 : ∀ z, p0 z = (fun a l => FloatOps.mulf (lg (U a l)) (D (a + s) l)) (0 + (z 0).val) (c + (z 1).val))
    (h1 : ∀ z, p1 z = (fun a l => FloatOps.mulf (lg (U a l)) (D (a + s) l)) (64 + (z 0).val) (c + (z 1).val))
    (h2 : ∀ z, p2 z = (fun a l => FloatOps.mulf (lg (U a l)) (D (a + s) l)) (128 + (z 0).val) (c + (z 1).val))
    (h3 : ∀ z, p3 z = (fun a l => FloatOps.mulf (lg (U a l)) (D (a + s) l)) (192 + (z 0).val) (c + (z 1).val))
    (h4 : ∀ z, p4 z = (fun a l => FloatOps.mulf (lg (U a l)) (D (a + s) l)) (256 + (z 0).val) (c + (z 1).val))
    (h5 : ∀ z, p5 z = (fun a l => FloatOps.mulf (lg (U a l)) (D (a + s) l)) (320 + (z 0).val) (c + (z 1).val))
    (h6 : ∀ z, p6 z = (fun a l => FloatOps.mulf (lg (U a l)) (D (a + s) l)) (384 + (z 0).val) (c + (z 1).val))
    (h7 : ∀ z, p7 z = (fun a l => FloatOps.mulf (lg (U a l)) (D (a + s) l)) (448 + (z 0).val) (c + (z 1).val))
    (x : S8x128.Idx) :
    accV a p0 p1 p2 p3 p4 p5 p6 p7 x
      = FloatOps.addf (A (8 * j + (x 0).val) (c + (x 1).val)) (dwE U D (8 * j + (x 0).val) (c + (x 1).val)) := by
  subst hs
  have hx : (x 0).val < 8 := (x 0).isLt
  rw [accV, shapeCast_self]
  show FloatOps.addf (a x) (FloatOps.addf (FloatOps.addf (FloatOps.addf (FloatOps.addf (FloatOps.addf (FloatOps.addf (FloatOps.addf (foldV p0 x) (foldV p1 x)) (foldV p2 x)) (foldV p3 x)) (foldV p4 x)) (foldV p5 x)) (foldV p6 x)) (foldV p7 x)) = _
  let P : ℕ → ℕ → F .f32 := fun a l => FloatOps.mulf (lg (U a l)) (D (a + (2 - j)) l)
  rw [foldV_apply P 0 c p0 h0 x, foldV_apply P 64 c p1 h1 x, foldV_apply P 128 c p2 h2 x, foldV_apply P 192 c p3 h3 x, foldV_apply P 256 c p4 h4 x, foldV_apply P 320 c p5 h5 x, foldV_apply P 384 c p6 h6 x, foldV_apply P 448 c p7 h7 x, ha]
  congr 1
  unfold dwE
  rw [show (8 * j + (x 0).val) % 8 = (x 0).val by omega, show (8 * j + (x 0).val) / 8 = j by omega]
  have e : ∀ b q : ℕ, 64 * b + 8 * q + (x 0).val = 64 * b + (8 * q + (x 0).val) := fun b q => Nat.add_assoc _ _ _
  simp only [e]
  rfl

/-! ## The buffers between trips -/

/-- One plane of the stored block finished in columns `0 … n`, the rest as found. -/
def upToO (p n : ℕ) (g : ℕ → ℕ → F .bf16) (X : S2x512x1408.Idx → F .bf16) : S2x512x1408.Idx → F .bf16 :=
  fun y => if (y 0).val = p ∧ (y 2).val < n then g (y 1).val (y 2).val else X y

/-- The running sums advanced in columns `0 … n`, the others as found. -/
def upToA (n : ℕ) (g : ℕ → ℕ → F .f32) (X : S24x1408.Idx → F .f32) : S24x1408.Idx → F .f32 :=
  fun y => if (y 1).val < n then FloatOps.addf (X y) (g (y 0).val (y 1).val) else X y

/-- The stored block's contents before trip `k`, and the running sums'. -/
def stO (M : Memref sig .tc .vmem S2x512x1408 .bf16) (hM : M.IsWhole) (p : ℕ) (g : ℕ → ℕ → F .bf16) (G : M.view.ty.Contents (Elt F)) :
    ℕ → M.view.ty.Contents (Elt F)
  | 0 => G
  | k + 1 => hM.unread (upToO p (128 * (k + 1)) g (M.view.read (Elt F) G))
def stA (M : Memref sig .tc .vmem S24x1408 .f32) (hM : M.IsWhole) (g : ℕ → ℕ → F .f32) (G : M.view.ty.Contents (Elt F)) :
    ℕ → M.view.ty.Contents (Elt F)
  | 0 => G
  | k + 1 => hM.unread (upToA (128 * (k + 1)) g (M.view.read (Elt F) G))

theorem read_stO (M : Memref sig .tc .vmem S2x512x1408 .bf16) (hM : M.IsWhole) (p : ℕ) (g : ℕ → ℕ → F .bf16) (G : M.view.ty.Contents (Elt F)) (k : ℕ) :
    M.view.read (Elt F) (stO M hM p g G k) = upToO p (128 * k) g (M.view.read (Elt F) G) := by
  cases k with
  | zero => funext y; simp [stO, upToO]
  | succ k => exact hM.read_unread _
theorem read_stA (M : Memref sig .tc .vmem S24x1408 .f32) (hM : M.IsWhole) (g : ℕ → ℕ → F .f32) (G : M.view.ty.Contents (Elt F)) (k : ℕ) :
    M.view.read (Elt F) (stA M hM g G k) = upToA (128 * k) g (M.view.read (Elt F) G) := by
  cases k with
  | zero => funext y; simp [stA, upToA]
  | succ k => exact hM.read_unread _

/-- One stored tile read back, or what lies under it. -/
theorem peelO (M : Memref sig .tc .vmem S2x512x1408 .bf16) (f : M.view.ty.Contents (Elt F)) (L : List (View.Piece (Elt F) S2x512x1408 .bf16))
    (p r c : ℕ) (g : ℕ → ℕ → F .bf16) (off : Fin 3 → ℕ) (hoff : off = ![p, r, c]) (inb : ∀ a, off a + S1x64x128.size a ≤ S2x512x1408.size a)
    (w : Vec F S1x64x128 .bf16) (hw : ∀ x, w x = g (r + (x 1).val) (c + (x 2).val)) (y : S2x512x1408.Idx) :
    M.view.read (Elt F) (M.view.writes (Elt F) f (⟨Rect.unit (s := S2x512x1408) off S1x64x128.size inb, w⟩ :: L)) y
      = if (y 0).val = p ∧ (r ≤ (y 1).val ∧ (y 1).val < r + 64) ∧ (c ≤ (y 2).val ∧ (y 2).val < c + 128) then g (y 1).val (y 2).val
        else M.view.read (Elt F) (M.view.writes (Elt F) f L) y := by
  by_cases h : (y 0).val = p ∧ (r ≤ (y 1).val ∧ (y 1).val < r + 64) ∧ (c ≤ (y 2).val ∧ (y 2).val < c + 128)
  · rw [if_pos h]
    obtain ⟨h0, h1, h2⟩ := h
    refine (View.read_writes_cons_unit_of_mem (Val := Elt F) M.view _ inb w L y
      (ix3 ⟨0, by decide⟩ ⟨(y 1).val - r, by omega⟩ ⟨(y 2).val - c, by omega⟩) hoff ?_).trans ((hw _).trans ?_)
    · intro a
      match a with
      | ⟨0, _⟩ => exact h0
      | ⟨1, _⟩ => show (y 1).val = r + ((y 1).val - r); omega
      | ⟨2, _⟩ => show (y 2).val = c + ((y 2).val - c); omega
    · show g (r + ((y 1).val - r)) (c + ((y 2).val - c)) = _
      rw [Nat.add_sub_cancel' h1.1, Nat.add_sub_cancel' h2.1]
  · rw [if_neg h]
    have hh : (y 0).val ≠ p ∨ ((y 1).val < r ∨ r + 64 ≤ (y 1).val) ∨ ((y 2).val < c ∨ c + 128 ≤ (y 2).val) := by omega
    rcases hh with h0 | h1 | h2
    · exact View.read_writes_cons_unit_of_not_mem (Val := Elt F) M.view _ inb w L y hoff (0 : Fin 3) (by show (y 0).val < p ∨ p + 1 ≤ (y 0).val; omega)
    · exact View.read_writes_cons_unit_of_not_mem (Val := Elt F) M.view _ inb w L y hoff (1 : Fin 3) h1
    · exact View.read_writes_cons_unit_of_not_mem (Val := Elt F) M.view _ inb w L y hoff (2 : Fin 3) h2

theorem peelA (M : Memref sig .tc .vmem S24x1408 .f32) (f : M.view.ty.Contents (Elt F)) (L : List (View.Piece (Elt F) S24x1408 .f32))
    (r c : ℕ) (g : ℕ → ℕ → F .f32) (off : Fin 2 → ℕ) (hoff : off = ![r, c]) (inb : ∀ a, off a + S8x128.size a ≤ S24x1408.size a)
    (w : Vec F S8x128 .f32) (hw : ∀ x, w x = g (r + (x 0).val) (c + (x 1).val)) (y : S24x1408.Idx) :
    M.view.read (Elt F) (M.view.writes (Elt F) f (⟨Rect.unit (s := S24x1408) off S8x128.size inb, w⟩ :: L)) y
      = if (r ≤ (y 0).val ∧ (y 0).val < r + 8) ∧ (c ≤ (y 1).val ∧ (y 1).val < c + 128) then g (y 0).val (y 1).val
        else M.view.read (Elt F) (M.view.writes (Elt F) f L) y := by
  by_cases h : (r ≤ (y 0).val ∧ (y 0).val < r + 8) ∧ (c ≤ (y 1).val ∧ (y 1).val < c + 128)
  · rw [if_pos h]
    obtain ⟨h1, h2⟩ := h
    refine (View.read_writes_cons_unit_of_mem (Val := Elt F) M.view _ inb w L y
      (ix2 ⟨(y 0).val - r, by omega⟩ ⟨(y 1).val - c, by omega⟩) hoff ?_).trans ((hw _).trans ?_)
    · intro a
      match a with
      | ⟨0, _⟩ => show (y 0).val = r + ((y 0).val - r); omega
      | ⟨1, _⟩ => show (y 1).val = c + ((y 1).val - c); omega
    · show g (r + ((y 0).val - r)) (c + ((y 1).val - c)) = _
      rw [Nat.add_sub_cancel' h1.1, Nat.add_sub_cancel' h2.1]
  · rw [if_neg h]
    have hh : ((y 0).val < r ∨ r + 8 ≤ (y 0).val) ∨ ((y 1).val < c ∨ c + 128 ≤ (y 1).val) := by omega
    rcases hh with h1 | h2
    · exact View.read_writes_cons_unit_of_not_mem (Val := Elt F) M.view _ inb w L y hoff (0 : Fin 2) h1
    · exact View.read_writes_cons_unit_of_not_mem (Val := Elt F) M.view _ inb w L y hoff (1 : Fin 2) h2

/-- Eight stored tiles carry the block from before a trip to after it. -/
theorem stO_step (M : Memref sig .tc .vmem S2x512x1408 .bf16) (hM : M.IsWhole) (p : ℕ) (g : ℕ → ℕ → F .bf16) (G : M.view.ty.Contents (Elt F)) (k : ℕ)
    (o0 o1 o2 o3 o4 o5 o6 o7 : Fin 3 → ℕ)
    (e0 : o0 = ![p, 0, 128 * k]) (e1 : o1 = ![p, 64, 128 * k]) (e2 : o2 = ![p, 128, 128 * k]) (e3 : o3 = ![p, 192, 128 * k])
    (e4 : o4 = ![p, 256, 128 * k]) (e5 : o5 = ![p, 320, 128 * k]) (e6 : o6 = ![p, 384, 128 * k]) (e7 : o7 = ![p, 448, 128 * k])
    (i0 : ∀ a, o0 a + S1x64x128.size a ≤ S2x512x1408.size a) (i1 : ∀ a, o1 a + S1x64x128.size a ≤ S2x512x1408.size a)
    (i2 : ∀ a, o2 a + S1x64x128.size a ≤ S2x512x1408.size a) (i3 : ∀ a, o3 a + S1x64x128.size a ≤ S2x512x1408.size a)
    (i4 : ∀ a, o4 a + S1x64x128.size a ≤ S2x512x1408.size a) (i5 : ∀ a, o5 a + S1x64x128.size a ≤ S2x512x1408.size a)
    (i6 : ∀ a, o6 a + S1x64x128.size a ≤ S2x512x1408.size a) (i7 : ∀ a, o7 a + S1x64x128.size a ≤ S2x512x1408.size a)
    (w0 w1 w2 w3 w4 w5 w6 w7 : Vec F S1x64x128 .bf16)
    (h0 : ∀ x, w0 x = g (0 + (x 1).val) (128 * k + (x 2).val)) (h1 : ∀ x, w1 x = g (64 + (x 1).val) (128 * k + (x 2).val))
    (h2 : ∀ x, w2 x = g (128 + (x 1).val) (128 * k + (x 2).val)) (h3 : ∀ x, w3 x = g (192 + (x 1).val) (128 * k + (x 2).val))
    (h4 : ∀ x, w4 x = g (256 + (x 1).val) (128 * k + (x 2).val)) (h5 : ∀ x, w5 x = g (320 + (x 1).val) (128 * k + (x 2).val))
    (h6 : ∀ x, w6 x = g (384 + (x 1).val) (128 * k + (x 2).val)) (h7 : ∀ x, w7 x = g (448 + (x 1).val) (128 * k + (x 2).val)) :
    M.view.writes (Elt F) (stO M hM p g G k)
      [⟨Rect.unit (s := S2x512x1408) o7 S1x64x128.size i7, w7⟩, ⟨Rect.unit (s := S2x512x1408) o6 S1x64x128.size i6, w6⟩,
       ⟨Rect.unit (s := S2x512x1408) o5 S1x64x128.size i5, w5⟩, ⟨Rect.unit (s := S2x512x1408) o4 S1x64x128.size i4, w4⟩,
       ⟨Rect.unit (s := S2x512x1408) o3 S1x64x128.size i3, w3⟩, ⟨Rect.unit (s := S2x512x1408) o2 S1x64x128.size i2, w2⟩,
       ⟨Rect.unit (s := S2x512x1408) o1 S1x64x128.size i1, w1⟩, ⟨Rect.unit (s := S2x512x1408) o0 S1x64x128.size i0, w0⟩]
      = stO M hM p g G (k + 1) := by
  refine hM.eq_unread (funext fun y => ?_)
  have hy : (y 1).val < 512 := (y 1).isLt
  refine (peelO M _ _ p 448 (128 * k) g o7 e7 i7 w7 h7 y).trans ?_
  refine (congrArg _ (peelO M _ _ p 384 (128 * k) g o6 e6 i6 w6 h6 y)).trans ?_
  refine (congrArg _ (congrArg _ (peelO M _ _ p 320 (128 * k) g o5 e5 i5 w5 h5 y))).trans ?_
  refine (congrArg _ (congrArg _ (congrArg _ (peelO M _ _ p 256 (128 * k) g o4 e4 i4 w4 h4 y)))).trans ?_
  refine (congrArg _ (congrArg _ (congrArg _ (congrArg _ (peelO M _ _ p 192 (128 * k) g o3 e3 i3 w3 h3 y))))).trans ?_
  refine (congrArg _ (congrArg _ (congrArg _ (congrArg _ (congrArg _ (peelO M _ _ p 128 (128 * k) g o2 e2 i2 w2 h2 y)))))).trans ?_
  refine (congrArg _ (congrArg _ (congrArg _ (congrArg _ (congrArg _ (congrArg _ (peelO M _ _ p 64 (128 * k) g o1 e1 i1 w1 h1 y))))))).trans ?_
  refine (congrArg _ (congrArg _ (congrArg _ (congrArg _ (congrArg _ (congrArg _ (congrArg _ (peelO M _ _ p 0 (128 * k) g o0 e0 i0 w0 h0 y)))))))).trans ?_
  rw [show M.view.read (Elt F) (M.view.writes (Elt F) (stO M hM p g G k) []) y = upToO p (128 * k) g (M.view.read (Elt F) G) y from
    congrFun (read_stO M hM p g G k) y]
  unfold upToO
  by_cases hp : (y 0).val = p
  · by_cases hc : (y 2).val < 128 * k
    · repeat (first | rw [if_pos (by omega)] | rw [if_neg (by omega)])
    · by_cases hc' : (y 2).val < 128 * (k + 1)
      · rw [if_pos (show (y 0).val = p ∧ (y 2).val < 128 * (k + 1) by omega)]
        split_ifs
        all_goals first | rfl | (exfalso; omega)
      · repeat (rw [if_neg (by omega)])
  · repeat (rw [if_neg (by omega)])

/-- Three stored tiles of running sums carry them from before a trip to after it. -/
theorem stA_step (M : Memref sig .tc .vmem S24x1408 .f32) (hM : M.IsWhole) (g : ℕ → ℕ → F .f32) (G : M.view.ty.Contents (Elt F)) (k : ℕ)
    (o0 o1 o2 : Fin 2 → ℕ) (e0 : o0 = ![0, 128 * k]) (e1 : o1 = ![8, 128 * k]) (e2 : o2 = ![16, 128 * k])
    (i0 : ∀ a, o0 a + S8x128.size a ≤ S24x1408.size a) (i1 : ∀ a, o1 a + S8x128.size a ≤ S24x1408.size a)
    (i2 : ∀ a, o2 a + S8x128.size a ≤ S24x1408.size a) (w0 w1 w2 : Vec F S8x128 .f32)
    (h : ∀ (a : ℕ) (x : S8x128.Idx), FloatOps.addf (rd (M.view.read (Elt F) (stA M hM g G k)) (8 * a + (x 0).val) (128 * k + (x 1).val)) (g (8 * a + (x 0).val) (128 * k + (x 1).val))
      = (match a with | 0 => w0 x | 1 => w1 x | 2 => w2 x | _ => FloatOps.addf (rd (M.view.read (Elt F) (stA M hM g G k)) (8 * a + (x 0).val) (128 * k + (x 1).val)) (g (8 * a + (x 0).val) (128 * k + (x 1).val)))) :
    M.view.writes (Elt F) (stA M hM g G k)
      [⟨Rect.unit (s := S24x1408) o2 S8x128.size i2, w2⟩, ⟨Rect.unit (s := S24x1408) o1 S8x128.size i1, w1⟩,
       ⟨Rect.unit (s := S24x1408) o0 S8x128.size i0, w0⟩]
      = stA M hM g G (k + 1) := by
  refine hM.eq_unread (funext fun y => ?_)
  have hy : (y 0).val < 24 := (y 0).isLt
  have hy1 : (y 1).val < 1408 := (y 1).isLt
  let T : ℕ → ℕ → F .f32 := fun a l => FloatOps.addf (rd (M.view.read (Elt F) (stA M hM g G k)) a l) (g a l)
  refine (peelA M _ _ 16 (128 * k) T o2 e2 i2 w2 (fun x => (h 2 x).symm) y).trans ?_
  refine (congrArg _ (peelA M _ _ 8 (128 * k) T o1 e1 i1 w1 (fun x => (h 1 x).symm) y)).trans ?_
  refine (congrArg _ (congrArg _ (peelA M _ _ 0 (128 * k) T o0 e0 i0 w0 (fun x => (h 0 x).symm) y))).trans ?_
  have hT : ¬ (y 1).val < 128 * k → T (y 0).val (y 1).val = FloatOps.addf (M.view.read (Elt F) G y) (g (y 0).val (y 1).val) := fun hc => by
    show FloatOps.addf (rd (M.view.read (Elt F) (stA M hM g G k)) (y 0).val (y 1).val) _ = _
    rw [rd_eq _ y rfl rfl, read_stA, upToA, if_neg hc]
  rw [show M.view.read (Elt F) (M.view.writes (Elt F) (stA M hM g G k) []) y = upToA (128 * k) g (M.view.read (Elt F) G) y from
    congrFun (read_stA M hM g G k) y]
  unfold upToA
  by_cases hc : (y 1).val < 128 * k
  · rw [if_neg (by omega), if_neg (by omega), if_neg (by omega), if_pos hc, if_pos (by omega)]
  · by_cases hc' : (y 1).val < 128 * (k + 1)
    · rw [if_pos hc', ← hT hc]
      split_ifs
      all_goals first | rfl | (exfalso; omega)
    · rw [if_neg (by omega), if_neg (by omega), if_neg (by omega), if_neg hc, if_neg hc']

end Cert.KernelIdeal.Ffn
-- ==== Proof.Strip2.lean ====
/-
  The second loop of a grid point, over the gate's columns: each trip stores eight tiles of the convolution's
  transpose into plane 0 of the stored block, and advances the running sums of the taps' gradients.
-/
module

public import proofs.«01_k».proof.Proof.Taps

@[expose] public section

set_option maxRecDepth 8192
set_option maxHeartbeats 8000000

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

variable (𝒱 : Variants) (c : Dev nD) (bd : Option 𝒱.V) (E : Set ℕ) (i : grid0.Coords) (arg2 : Memref sig .tc .vmem S512x1024 .bf16) (harg2 : arg2.IsWhole) (arg3 : Memref sig .tc .vmem S512x1408 .bf16) (harg3 : arg3.IsWhole) (arg4 : Memref sig .tc .vmem S512x1408 .bf16) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1408x1024 .bf16) (harg9 : arg9.IsWhole) (arg10 : Memref sig .tc .hbm S8x128 .f32) (harg10 : arg10.IsWhole) (arg11 : Memref sig .tc .vmem S2x512x1408 .bf16) (harg11 : arg11.IsWhole) (arg12 : Memref sig .tc .vmem S3x1408 .f32) (harg12 : arg12.IsWhole) (arg13 : Memref sig .tc .vmem S3x1408 .f32) (harg13 : arg13.IsWhole) (arg14 : Memref sig .tc .vmem S512x1408 .f32) (harg14 : arg14.IsWhole) (arg15 : Memref sig .tc .vmem S520x1408 .f32) (harg15 : arg15.IsWhole) (arg16 : Memref sig .tc .vmem S520x1408 .f32) (harg16 : arg16.IsWhole) (arg17 : Memref sig .tc .vmem S24x1408 .f32) (harg17 : arg17.IsWhole) (arg18 : Memref sig .tc .vmem S24x1408 .f32) (harg18 : arg18.IsWhole) (arg19 : Memref sig .tc .vmem S24x1408 .f32) (harg19 : arg19.IsWhole) (arg20 : Memref sig .tc .vmem S24x1408 .f32) (harg20 : arg20.IsWhole) (v29 : FVec F S8x1408 .f32) (v30 : Vec F S8x1408 .f32)

set_option warn.classDefReducibility false in
set_option sl_exec.squeezeSlice true in
/-- The gate loop by its invariant. -/
@[sl_loop] def loop2 (f3 : BufTy.Contents (Elt F) arg3.view.ty) (f15 : BufTy.Contents (Elt F) arg15.view.ty) (f19 : BufTy.Contents (Elt F) arg19.view.ty)
    (G11 : BufTy.Contents (Elt F) arg11.view.ty) (G17 : BufTy.Contents (Elt F) arg17.view.ty) :
    Idealize.ShloMosaic.LoopInv (M := 𝕄G) Idealize.ShloMosaic.frame (wpE defs₀ 𝒱 (c : Thread nD τ) bd) E
      k0_t2_loop.lb k0_t2_loop.ub k0_t2_loop.st k0_t2_ok () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v29 v30) where
  inv k _ := iprop((arg3.view.loc (c : Thread nD τ) ↦[arg3.view.set]{fullShare} f3) ∗ (arg15.view.loc (c : Thread nD τ) ↦[arg15.view.set]{fullShare} f15) ∗ (arg19.view.loc (c : Thread nD τ) ↦[arg19.view.set]{fullShare} f19)
    ∗ (∃ f, (arg11.view.loc (c : Thread nD τ) ↦[arg11.view.set]{fullShare} f) ∗ ⌜f = stO arg11 harg11 0 (tapE (rd (arg19.view.read (Elt F) f19)) (rd (arg15.view.read (Elt F) f15))) G11 k⌝)
    ∗ (∃ f, (arg17.view.loc (c : Thread nD τ) ↦[arg17.view.set]{fullShare} f) ∗ ⌜f = stA arg17 harg17 (dwE (rd (arg3.view.read (Elt F) f3)) (rd (arg15.view.read (Elt F) f15))) G17 k⌝))
  step k acc := by
    have hk : k.val < 11 := Nat.lt_of_lt_of_le k.isLt k0_t2_abs.2.1
    unfold k0_t2_body
    iintro ⟨HX, HD, HW, ⟨%f11, H11, %h11⟩, ⟨%fa, HA, %ha⟩⟩
    sl_exec
    sl_step
    isplitl [HX]; · iexact HX
    isplitl [HD]; · iexact HD
    isplitl [HW]; · iexact HW
    isplitl [H11]
    · iexists _; isplitl [H11]; · iexact H11
      ipureintro
      subst h11
      refine stO_step arg11 harg11 0 _ G11 k.val _ _ _ _ _ _ _ _ (k0_off10_eq k) (k0_off15_eq k) (k0_off20_eq k) (k0_off25_eq k) (k0_off30_eq k) (k0_off35_eq k) (k0_off40_eq k) (k0_off45_eq k) _ _ _ _ _ _ _ _ _ _ _ _ _ _ _ _ ?_ ?_ ?_ ?_ ?_ ?_ ?_ ?_
      · exact fun x => tapV_apply (rd (arg19.view.read (Elt F) f19)) (rd (arg15.view.read (Elt F) f15)) 0 1 2 (128 * k.val) rfl rfl rfl _ _ _ _ _ _
          (fun z => ld_rd arg19.view f19 (0) (128 * k.val) (k0_off5_eq k) (k0_off5_inb k) z)
          (fun z => ld_rd arg19.view f19 (8) (128 * k.val) (k0_off7_eq k) (k0_off7_inb k) z)
          (fun z => ld_rd arg19.view f19 (16) (128 * k.val) (k0_off9_eq k) (k0_off9_inb k) z)
          (fun z => ld_rd arg15.view f15 (2) (128 * k.val) (k0_off4_eq k) (k0_off4_inb k) z)
          (fun z => ld_rd arg15.view f15 (1) (128 * k.val) (k0_off6_eq k) (k0_off6_inb k) z)
          (fun z => ld_rd arg15.view f15 (0) (128 * k.val) (k0_off8_eq k) (k0_off8_inb k) z) x
      · exact fun x => tapV_apply (rd (arg19.view.read (Elt F) f19)) (rd (arg15.view.read (Elt F) f15)) 64 65 66 (128 * k.val) rfl rfl rfl _ _ _ _ _ _
          (fun z => ld_rd arg19.view f19 (0) (128 * k.val) (k0_off5_eq k) (k0_off5_inb k) z)
          (fun z => ld_rd arg19.view f19 (8) (128 * k.val) (k0_off7_eq k) (k0_off7_inb k) z)
          (fun z => ld_rd arg19.view f19 (16) (128 * k.val) (k0_off9_eq k) (k0_off9_inb k) z)
          (fun z => ld_rd arg15.view f15 (66) (128 * k.val) (k0_off12_eq k) (k0_off12_inb k) z)
          (fun z => ld_rd arg15.view f15 (65) (128 * k.val) (k0_off13_eq k) (k0_off13_inb k) z)
          (fun z => ld_rd arg15.view f15 (64) (128 * k.val) (k0_off14_eq k) (k0_off14_inb k) z) x
      · exact fun x => tapV_apply (rd (arg19.view.read (Elt F) f19)) (rd (arg15.view.read (Elt F) f15)) 128 129 130 (128 * k.val) rfl rfl rfl _ _ _ _ _ _
          (fun z => ld_rd arg19.view f19 (0) (128 * k.val) (k0_off5_eq k) (k0_off5_inb k) z)
          (fun z => ld_rd arg19.view f19 (8) (128 * k.val) (k0_off7_eq k) (k0_off7_inb k) z)
          (fun z => ld_rd arg19.view f19 (16) (128 * k.val) (k0_off9_eq k) (k0_off9_inb k) z)
          (fun z => ld_rd arg15.view f15 (130) (128 * k.val) (k0_off17_eq k) (k0_off17_inb k) z)
          (fun z => ld_rd arg15.view f15 (129) (128 * k.val) (k0_off18_eq k) (k0_off18_inb k) z)
          (fun z => ld_rd arg15.view f15 (128) (128 * k.val) (k0_off19_eq k) (k0_off19_inb k) z) x
      · exact fun x => tapV_apply (rd (arg19.view.read (Elt F) f19)) (rd (arg15.view.read (Elt F) f15)) 192 193 194 (128 * k.val) rfl rfl rfl _ _ _ _ _ _
          (fun z => ld_rd arg19.view f19 (0) (128 * k.val) (k0_off5_eq k) (k0_off5_inb k) z)
          (fun z => ld_rd arg19.view f19 (8) (128 * k.val) (k0_off7_eq k) (k0_off7_inb k) z)
          (fun z => ld_rd arg19.view f19 (16) (128 * k.val) (k0_off9_eq k) (k0_off9_inb k) z)
          (fun z => ld_rd arg15.view f15 (194) (128 * k.val) (k0_off22_eq k) (k0_off22_inb k) z)
          (fun z => ld_rd arg15.view f15 (193) (128 * k.val) (k0_off23_eq k) (k0_off23_inb k) z)
          (fun z => ld_rd arg15.view f15 (192) (128 * k.val) (k0_off24_eq k) (k0_off24_inb k) z) x
      · exact fun x => tapV_apply (rd (arg19.view.read (Elt F) f19)) (rd (arg15.view.read (Elt F) f15)) 256 257 258 (128 * k.val) rfl rfl rfl _ _ _ _ _ _
          (fun z => ld_rd arg19.view f19 (0) (128 * k.val) (k0_off5_eq k) (k0_off5_inb k) z)
          (fun z => ld_rd arg19.view f19 (8) (128 * k.val) (k0_off7_eq k) (k0_off7_inb k) z)
          (fun z => ld_rd arg19.view f19 (16) (128 * k.val) (k0_off9_eq k) (k0_off9_inb k) z)
          (fun z => ld_rd arg15.view f15 (258) (128 * k.val) (k0_off27_eq k) (k0_off27_inb k) z)
          (fun z => ld_rd arg15.view f15 (257) (128 * k.val) (k0_off28_eq k) (k0_off28_inb k) z)
          (fun z => ld_rd arg15.view f15 (256) (128 * k.val) (k0_off29_eq k) (k0_off29_inb k) z) x
      · exact fun x => tapV_apply (rd (arg19.view.read (Elt F) f19)) (rd (arg15.view.read (Elt F) f15)) 320 321 322 (128 * k.val) rfl rfl rfl _ _ _ _ _ _
          (fun z => ld_rd arg19.view f19 (0) (128 * k.val) (k0_off5_eq k) (k0_off5_inb k) z)
          (fun z => ld_rd arg19.view f19 (8) (128 * k.val) (k0_off7_eq k) (k0_off7_inb k) z)
          (fun z => ld_rd arg19.view f19 (16) (128 * k.val) (k0_off9_eq k) (k0_off9_inb k) z)
          (fun z => ld_rd arg15.view f15 (322) (128 * k.val) (k0_off32_eq k) (k0_off32_inb k) z)
          (fun z => ld_rd arg15.view f15 (321) (128 * k.val) (k0_off33_eq k) (k0_off33_inb k) z)
          (fun z => ld_rd arg15.view f15 (320) (128 * k.val) (k0_off34_eq k) (k0_off34_inb k) z) x
      · exact fun x => tapV_apply (rd (arg19.view.read (Elt F) f19)) (rd (arg15.view.read (Elt F) f15)) 384 385 386 (128 * k.val) rfl rfl rfl _ _ _ _ _ _
          (fun z => ld_rd arg19.view f19 (0) (128 * k.val) (k0_off5_eq k) (k0_off5_inb k) z)
          (fun z => ld_rd arg19.view f19 (8) (128 * k.val) (k0_off7_eq k) (k0_off7_inb k) z)
          (fun z => ld_rd arg19.view f19 (16) (128 * k.val) (k0_off9_eq k) (k0_off9_inb k) z)
          (fun z => ld_rd arg15.view f15 (386) (128 * k.val) (k0_off37_eq k) (k0_off37_inb k) z)
          (fun z => ld_rd arg15.view f15 (385) (128 * k.val) (k0_off38_eq k) (k0_off38_inb k) z)
          (fun z => ld_rd arg15.view f15 (384) (128 * k.val) (k0_off39_eq k) (k0_off39_inb k) z) x
      · exact fun x => tapV_apply (rd (arg19.view.read (Elt F) f19)) (rd (arg15.view.read (Elt F) f15)) 448 449 450 (128 * k.val) rfl rfl rfl _ _ _ _ _ _
          (fun z => ld_rd arg19.view f19 (0) (128 * k.val) (k0_off5_eq k) (k0_off5_inb k) z)
          (fun z => ld_rd arg19.view f19 (8) (128 * k.val) (k0_off7_eq k) (k0_off7_inb k) z)
          (fun z => ld_rd arg19.view f19 (16) (128 * k.val) (k0_off9_eq k) (k0_off9_inb k) z)
          (fun z => ld_rd arg15.view f15 (450) (128 * k.val) (k0_off42_eq k) (k0_off42_inb k) z)
          (fun z => ld_rd arg15.view f15 (449) (128 * k.val) (k0_off43_eq k) (k0_off43_inb k) z)
          (fun z => ld_rd arg15.view f15 (448) (128 * k.val) (k0_off44_eq k) (k0_off44_inb k) z) x
    · iexists _; isplitl [HA]; · iexact HA
      ipureintro
      subst ha
      refine stA_step arg17 harg17 _ G17 k.val _ _ _ (k0_off5_eq k) (k0_off7_eq k) (k0_off9_eq k) _ _ _ _ _ _ (fun a x => ?_)
      match a with
      | 0 =>
        exact (accV_apply (rd (arg3.view.read (Elt F) f3)) (rd (arg15.view.read (Elt F) f15)) (rd (arg17.view.read (Elt F) (stA arg17 harg17 (dwE (rd (arg3.view.read (Elt F) f3)) (rd (arg15.view.read (Elt F) f15))) G17 k.val))) 0 2 (128 * k.val) rfl _ _ _ _ _ _ _ _ _
          (fun z => ld_rd arg17.view _ (8 * 0) (128 * k.val) (k0_off5_eq k) (k0_off5_inb k) z)
          (prodV_apply (rd (arg3.view.read (Elt F) f3)) (rd (arg15.view.read (Elt F) f15)) 0 2 2 (128 * k.val) rfl _ _ (fun z => ld_rd arg3.view f3 (0) (128 * k.val) (k0_off3_eq k) (k0_off3_inb k) z) (fun z => ld_rd arg15.view f15 (2) (128 * k.val) (k0_off4_eq k) (k0_off4_inb k) z))
          (prodV_apply (rd (arg3.view.read (Elt F) f3)) (rd (arg15.view.read (Elt F) f15)) 64 2 66 (128 * k.val) rfl _ _ (fun z => ld_rd arg3.view f3 (64) (128 * k.val) (k0_off11_eq k) (k0_off11_inb k) z) (fun z => ld_rd arg15.view f15 (66) (128 * k.val) (k0_off12_eq k) (k0_off12_inb k) z))
          (prodV_apply (rd (arg3.view.read (Elt F) f3)) (rd (arg15.view.read (Elt F) f15)) 128 2 130 (128 * k.val) rfl _ _ (fun z => ld_rd arg3.view f3 (128) (128 * k.val) (k0_off16_eq k) (k0_off16_inb k) z) (fun z => ld_rd arg15.view f15 (130) (128 * k.val) (k0_off17_eq k) (k0_off17_inb k) z))
          (prodV_apply (rd (arg3.view.read (Elt F) f3)) (rd (arg15.view.read (Elt F) f15)) 192 2 194 (128 * k.val) rfl _ _ (fun z => ld_rd arg3.view f3 (192) (128 * k.val) (k0_off21_eq k) (k0_off21_inb k) z) (fun z => ld_rd arg15.view f15 (194) (128 * k.val) (k0_off22_eq k) (k0_off22_inb k) z))
          (prodV_apply (rd (arg3.view.read (Elt F) f3)) (rd (arg15.view.read (Elt F) f15)) 256 2 258 (128 * k.val) rfl _ _ (fun z => ld_rd arg3.view f3 (256) (128 * k.val) (k0_off26_eq k) (k0_off26_inb k) z) (fun z => ld_rd arg15.view f15 (258) (128 * k.val) (k0_off27_eq k) (k0_off27_inb k) z))
          (prodV_apply (rd (arg3.view.read (Elt F) f3)) (rd (arg15.view.read (Elt F) f15)) 320 2 322 (128 * k.val) rfl _ _ (fun z => ld_rd arg3.view f3 (320) (128 * k.val) (k0_off31_eq k) (k0_off31_inb k) z) (fun z => ld_rd arg15.view f15 (322) (128 * k.val) (k0_off32_eq k) (k0_off32_inb k) z))
          (prodV_apply (rd (arg3.view.read (Elt F) f3)) (rd (arg15.view.read (Elt F) f15)) 384 2 386 (128 * k.val) rfl _ _ (fun z => ld_rd arg3.view f3 (384) (128 * k.val) (k0_off36_eq k) (k0_off36_inb k) z) (fun z => ld_rd arg15.view f15 (386) (128 * k.val) (k0_off37_eq k) (k0_off37_inb k) z))
          (prodV_apply (rd (arg3.view.read (Elt F) f3)) (rd (arg15.view.read (Elt F) f15)) 448 2 450 (128 * k.val) rfl _ _ (fun z => ld_rd arg3.view f3 (448) (128 * k.val) (k0_off41_eq k) (k0_off41_inb k) z) (fun z => ld_rd arg15.view f15 (450) (128 * k.val) (k0_off42_eq k) (k0_off42_inb k) z)) x).symm
      | 1 =>
        exact (accV_apply (rd (arg3.view.read (Elt F) f3)) (rd (arg15.view.read (Elt F) f15)) (rd (arg17.view.read (Elt F) (stA arg17 harg17 (dwE (rd (arg3.view.read (Elt F) f3)) (rd (arg15.view.read (Elt F) f15))) G17 k.val))) 1 1 (128 * k.val) rfl _ _ _ _ _ _ _ _ _
          (fun z => ld_rd arg17.view _ (8 * 1) (128 * k.val) (k0_off7_eq k) (k0_off7_inb k) z)
          (prodV_apply (rd (arg3.view.read (Elt F) f3)) (rd (arg15.view.read (Elt F) f15)) 0 1 1 (128 * k.val) rfl _ _ (fun z => ld_rd arg3.view f3 (0) (128 * k.val) (k0_off3_eq k) (k0_off3_inb k) z) (fun z => ld_rd arg15.view f15 (1) (128 * k.val) (k0_off6_eq k) (k0_off6_inb k) z))
          (prodV_apply (rd (arg3.view.read (Elt F) f3)) (rd (arg15.view.read (Elt F) f15)) 64 1 65 (128 * k.val) rfl _ _ (fun z => ld_rd arg3.view f3 (64) (128 * k.val) (k0_off11_eq k) (k0_off11_inb k) z) (fun z => ld_rd arg15.view f15 (65) (128 * k.val) (k0_off13_eq k) (k0_off13_inb k) z))
          (prodV_apply (rd (arg3.view.read (Elt F) f3)) (rd (arg15.view.read (Elt F) f15)) 128 1 129 (128 * k.val) rfl _ _ (fun z => ld_rd arg3.view f3 (128) (128 * k.val) (k0_off16_eq k) (k0_off16_inb k) z) (fun z => ld_rd arg15.view f15 (129) (128 * k.val) (k0_off18_eq k) (k0_off18_inb k) z))
          (prodV_apply (rd (arg3.view.read (Elt F) f3)) (rd (arg15.view.read (Elt F) f15)) 192 1 193 (128 * k.val) rfl _ _ (fun z => ld_rd arg3.view f3 (192) (128 * k.val) (k0_off21_eq k) (k0_off21_inb k) z) (fun z => ld_rd arg15.view f15 (193) (128 * k.val) (k0_off23_eq k) (k0_off23_inb k) z))
          (prodV_apply (rd (arg3.view.read (Elt F) f3)) (rd (arg15.view.read (Elt F) f15)) 256 1 257 (128 * k.val) rfl _ _ (fun z => ld_rd arg3.view f3 (256) (128 * k.val) (k0_off26_eq k) (k0_off26_inb k) z) (fun z => ld_rd arg15.view f15 (257) (128 * k.val) (k0_off28_eq k) (k0_off28_inb k) z))
          (prodV_apply (rd (arg3.view.read (Elt F) f3)) (rd (arg15.view.read (Elt F) f15)) 320 1 321 (128 * k.val) rfl _ _ (fun z => ld_rd arg3.view f3 (320) (128 * k.val) (k0_off31_eq k) (k0_off31_inb k) z) (fun z => ld_rd arg15.view f15 (321) (128 * k.val) (k0_off33_eq k) (k0_off33_inb k) z))
          (prodV_apply (rd (arg3.view.read (Elt F) f3)) (rd (arg15.view.read (Elt F) f15)) 384 1 385 (128 * k.val) rfl _ _ (fun z => ld_rd arg3.view f3 (384) (128 * k.val) (k0_off36_eq k) (k0_off36_inb k) z) (fun z => ld_rd arg15.view f15 (385) (128 * k.val) (k0_off38_eq k) (k0_off38_inb k) z))
          (prodV_apply (rd (arg3.view.read (Elt F) f3)) (rd (arg15.view.read (Elt F) f15)) 448 1 449 (128 * k.val) rfl _ _ (fun z => ld_rd arg3.view f3 (448) (128 * k.val) (k0_off41_eq k) (k0_off41_inb k) z) (fun z => ld_rd arg15.view f15 (449) (128 * k.val) (k0_off43_eq k) (k0_off43_inb k) z)) x).symm
      | 2 =>
        exact (accV_apply (rd (arg3.view.read (Elt F) f3)) (rd (arg15.view.read (Elt F) f15)) (rd (arg17.view.read (Elt F) (stA arg17 harg17 (dwE (rd (arg3.view.read (Elt F) f3)) (rd (arg15.view.read (Elt F) f15))) G17 k.val))) 2 0 (128 * k.val) rfl _ _ _ _ _ _ _ _ _
          (fun z => ld_rd arg17.view _ (8 * 2) (128 * k.val) (k0_off9_eq k) (k0_off9_inb k) z)
          (prodV_apply (rd (arg3.view.read (Elt F) f3)) (rd (arg15.view.read (Elt F) f15)) 0 0 0 (128 * k.val) rfl _ _ (fun z => ld_rd arg3.view f3 (0) (128 * k.val) (k0_off3_eq k) (k0_off3_inb k) z) (fun z => ld_rd arg15.view f15 (0) (128 * k.val) (k0_off8_eq k) (k0_off8_inb k) z))
          (prodV_apply (rd (arg3.view.read (Elt F) f3)) (rd (arg15.view.read (Elt F) f15)) 64 0 64 (128 * k.val) rfl _ _ (fun z => ld_rd arg3.view f3 (64) (128 * k.val) (k0_off11_eq k) (k0_off11_inb k) z) (fun z => ld_rd arg15.view f15 (64) (128 * k.val) (k0_off14_eq k) (k0_off14_inb k) z))
          (prodV_apply (rd (arg3.view.read (Elt F) f3)) (rd (arg15.view.read (Elt F) f15)) 128 0 128 (128 * k.val) rfl _ _ (fun z => ld_rd arg3.view f3 (128) (128 * k.val) (k0_off16_eq k) (k0_off16_inb k) z) (fun z => ld_rd arg15.view f15 (128) (128 * k.val) (k0_off19_eq k) (k0_off19_inb k) z))
          (prodV_apply (rd (arg3.view.read (Elt F) f3)) (rd (arg15.view.read (Elt F) f15)) 192 0 192 (128 * k.val) rfl _ _ (fun z => ld_rd arg3.view f3 (192) (128 * k.val) (k0_off21_eq k) (k0_off21_inb k) z) (fun z => ld_rd arg15.view f15 (192) (128 * k.val) (k0_off24_eq k) (k0_off24_inb k) z))
          (prodV_apply (rd (arg3.view.read (Elt F) f3)) (rd (arg15.view.read (Elt F) f15)) 256 0 256 (128 * k.val) rfl _ _ (fun z => ld_rd arg3.view f3 (256) (128 * k.val) (k0_off26_eq k) (k0_off26_inb k) z) (fun z => ld_rd arg15.view f15 (256) (128 * k.val) (k0_off29_eq k) (k0_off29_inb k) z))
          (prodV_apply (rd (arg3.view.read (Elt F) f3)) (rd (arg15.view.read (Elt F) f15)) 320 0 320 (128 * k.val) rfl _ _ (fun z => ld_rd arg3.view f3 (320) (128 * k.val) (k0_off31_eq k) (k0_off31_inb k) z) (fun z => ld_rd arg15.view f15 (320) (128 * k.val) (k0_off34_eq k) (k0_off34_inb k) z))
          (prodV_apply (rd (arg3.view.read (Elt F) f3)) (rd (arg15.view.read (Elt F) f15)) 384 0 384 (128 * k.val) rfl _ _ (fun z => ld_rd arg3.view f3 (384) (128 * k.val) (k0_off36_eq k) (k0_off36_inb k) z) (fun z => ld_rd arg15.view f15 (384) (128 * k.val) (k0_off39_eq k) (k0_off39_inb k) z))
          (prodV_apply (rd (arg3.view.read (Elt F) f3)) (rd (arg15.view.read (Elt F) f15)) 448 0 448 (128 * k.val) rfl _ _ (fun z => ld_rd arg3.view f3 (448) (128 * k.val) (k0_off41_eq k) (k0_off41_inb k) z) (fun z => ld_rd arg15.view f15 (448) (128 * k.val) (k0_off44_eq k) (k0_off44_inb k) z)) x).symm
      | _ + 3 => rfl

end Cert.KernelIdeal.Ffn
-- ==== Proof.Strip3.lean ====
/-
  The third loop of a grid point, over the value's columns: each trip stores eight tiles of the convolution's
  transpose into plane 1 of the stored block, and advances the running sums of the taps' gradients.
-/
module

public import proofs.«01_k».proof.Proof.Taps

@[expose] public section

set_option maxRecDepth 8192
set_option maxHeartbeats 8000000

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

variable (𝒱 : Variants) (c : Dev nD) (bd : Option 𝒱.V) (E : Set ℕ) (i : grid0.Coords) (arg2 : Memref sig .tc .vmem S512x1024 .bf16) (harg2 : arg2.IsWhole) (arg3 : Memref sig .tc .vmem S512x1408 .bf16) (harg3 : arg3.IsWhole) (arg4 : Memref sig .tc .vmem S512x1408 .bf16) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1408x1024 .bf16) (harg9 : arg9.IsWhole) (arg10 : Memref sig .tc .hbm S8x128 .f32) (harg10 : arg10.IsWhole) (arg11 : Memref sig .tc .vmem S2x512x1408 .bf16) (harg11 : arg11.IsWhole) (arg12 : Memref sig .tc .vmem S3x1408 .f32) (harg12 : arg12.IsWhole) (arg13 : Memref sig .tc .vmem S3x1408 .f32) (harg13 : arg13.IsWhole) (arg14 : Memref sig .tc .vmem S512x1408 .f32) (harg14 : arg14.IsWhole) (arg15 : Memref sig .tc .vmem S520x1408 .f32) (harg15 : arg15.IsWhole) (arg16 : Memref sig .tc .vmem S520x1408 .f32) (harg16 : arg16.IsWhole) (arg17 : Memref sig .tc .vmem S24x1408 .f32) (harg17 : arg17.IsWhole) (arg18 : Memref sig .tc .vmem S24x1408 .f32) (harg18 : arg18.IsWhole) (arg19 : Memref sig .tc .vmem S24x1408 .f32) (harg19 : arg19.IsWhole) (arg20 : Memref sig .tc .vmem S24x1408 .f32) (harg20 : arg20.IsWhole) (v29 : FVec F S8x1408 .f32) (v30 : Vec F S8x1408 .f32)

set_option warn.classDefReducibility false in
set_option sl_exec.squeezeSlice true in
/-- The value loop by its invariant. -/
@[sl_loop] def loop3 (f4 : BufTy.Contents (Elt F) arg4.view.ty) (f16 : BufTy.Contents (Elt F) arg16.view.ty) (f20 : BufTy.Contents (Elt F) arg20.view.ty)
    (G11 : BufTy.Contents (Elt F) arg11.view.ty) (G18 : BufTy.Contents (Elt F) arg18.view.ty) :
    Idealize.ShloMosaic.LoopInv (M := 𝕄G) Idealize.ShloMosaic.frame (wpE defs₀ 𝒱 (c : Thread nD τ) bd) E
      k0_t3_loop.lb k0_t3_loop.ub k0_t3_loop.st k0_t3_ok () (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v29 v30) where
  inv k _ := iprop((arg4.view.loc (c : Thread nD τ) ↦[arg4.view.set]{fullShare} f4) ∗ (arg16.view.loc (c : Thread nD τ) ↦[arg16.view.set]{fullShare} f16) ∗ (arg20.view.loc (c : Thread nD τ) ↦[arg20.view.set]{fullShare} f20)
    ∗ (∃ f, (arg11.view.loc (c : Thread nD τ) ↦[arg11.view.set]{fullShare} f) ∗ ⌜f = stO arg11 harg11 1 (tapE (rd (arg20.view.read (Elt F) f20)) (rd (arg16.view.read (Elt F) f16))) G11 k⌝)
    ∗ (∃ f, (arg18.view.loc (c : Thread nD τ) ↦[arg18.view.set]{fullShare} f) ∗ ⌜f = stA arg18 harg18 (dwE (rd (arg4.view.read (Elt F) f4)) (rd (arg16.view.read (Elt F) f16))) G18 k⌝))
  step k acc := by
    have hk : k.val < 11 := Nat.lt_of_lt_of_le k.isLt k0_t3_abs.2.1
    unfold k0_t3_body
    iintro ⟨HX, HD, HW, ⟨%f11, H11, %h11⟩, ⟨%fa, HA, %ha⟩⟩
    sl_exec
    sl_step
    isplitl [HX]; · iexact HX
    isplitl [HD]; · iexact HD
    isplitl [HW]; · iexact HW
    isplitl [H11]
    · iexists _; isplitl [H11]; · iexact H11
      ipureintro
      subst h11
      refine stO_step arg11 harg11 1 _ G11 k.val _ _ _ _ _ _ _ _ (k0_off53_eq k) (k0_off58_eq k) (k0_off63_eq k) (k0_off68_eq k) (k0_off73_eq k) (k0_off78_eq k) (k0_off83_eq k) (k0_off88_eq k) _ _ _ _ _ _ _ _ _ _ _ _ _ _ _ _ ?_ ?_ ?_ ?_ ?_ ?_ ?_ ?_
      · exact fun x => tapV_apply (rd (arg20.view.read (Elt F) f20)) (rd (arg16.view.read (Elt F) f16)) 0 1 2 (128 * k.val) rfl rfl rfl _ _ _ _ _ _
          (fun z => ld_rd arg20.view f20 (0) (128 * k.val) (k0_off48_eq k) (k0_off48_inb k) z)
          (fun z => ld_rd arg20.view f20 (8) (128 * k.val) (k0_off50_eq k) (k0_off50_inb k) z)
          (fun z => ld_rd arg20.view f20 (16) (128 * k.val) (k0_off52_eq k) (k0_off52_inb k) z)
          (fun z => ld_rd arg16.view f16 (2) (128 * k.val) (k0_off47_eq k) (k0_off47_inb k) z)
          (fun z => ld_rd arg16.view f16 (1) (128 * k.val) (k0_off49_eq k) (k0_off49_inb k) z)
          (fun z => ld_rd arg16.view f16 (0) (128 * k.val) (k0_off51_eq k) (k0_off51_inb k) z) x
      · exact fun x => tapV_apply (rd (arg20.view.read (Elt F) f20)) (rd (arg16.view.read (Elt F) f16)) 64 65 66 (128 * k.val) rfl rfl rfl _ _ _ _ _ _
          (fun z => ld_rd arg20.view f20 (0) (128 * k.val) (k0_off48_eq k) (k0_off48_inb k) z)
          (fun z => ld_rd arg20.view f20 (8) (128 * k.val) (k0_off50_eq k) (k0_off50_inb k) z)
          (fun z => ld_rd arg20.view f20 (16) (128 * k.val) (k0_off52_eq k) (k0_off52_inb k) z)
          (fun z => ld_rd arg16.view f16 (66) (128 * k.val) (k0_off55_eq k) (k0_off55_inb k) z)
          (fun z => ld_rd arg16.view f16 (65) (128 * k.val) (k0_off56_eq k) (k0_off56_inb k) z)
          (fun z => ld_rd arg16.view f16 (64) (128 * k.val) (k0_off57_eq k) (k0_off57_inb k) z) x
      · exact fun x => tapV_apply (rd (arg20.view.read (Elt F) f20)) (rd (arg16.view.read (Elt F) f16)) 128 129 130 (128 * k.val) rfl rfl rfl _ _ _ _ _ _
          (fun z => ld_rd arg20.view f20 (0) (128 * k.val) (k0_off48_eq k) (k0_off48_inb k) z)
          (fun z => ld_rd arg20.view f20 (8) (128 * k.val) (k0_off50_eq k) (k0_off50_inb k) z)
          (fun z => ld_rd arg20.view f20 (16) (128 * k.val) (k0_off52_eq k) (k0_off52_inb k) z)
          (fun z => ld_rd arg16.view f16 (130) (128 * k.val) (k0_off60_eq k) (k0_off60_inb k) z)
          (fun z => ld_rd arg16.view f16 (129) (128 * k.val) (k0_off61_eq k) (k0_off61_inb k) z)
          (fun z => ld_rd arg16.view f16 (128) (128 * k.val) (k0_off62_eq k) (k0_off62_inb k) z) x
      · exact fun x => tapV_apply (rd (arg20.view.read (Elt F) f20)) (rd (arg16.view.read (Elt F) f16)) 192 193 194 (128 * k.val) rfl rfl rfl _ _ _ _ _ _
          (fun z => ld_rd arg20.view f20 (0) (128 * k.val) (k0_off48_eq k) (k0_off48_inb k) z)
          (fun z => ld_rd arg20.view f20 (8) (128 * k.val) (k0_off50_eq k) (k0_off50_inb k) z)
          (fun z => ld_rd arg20.view f20 (16) (128 * k.val) (k0_off52_eq k) (k0_off52_inb k) z)
          (fun z => ld_rd arg16.view f16 (194) (128 * k.val) (k0_off65_eq k) (k0_off65_inb k) z)
          (fun z => ld_rd arg16.view f16 (193) (128 * k.val) (k0_off66_eq k) (k0_off66_inb k) z)
          (fun z => ld_rd arg16.view f16 (192) (128 * k.val) (k0_off67_eq k) (k0_off67_inb k) z) x
      · exact fun x => tapV_apply (rd (arg20.view.read (Elt F) f20)) (rd (arg16.view.read (Elt F) f16)) 256 257 258 (128 * k.val) rfl rfl rfl _ _ _ _ _ _
          (fun z => ld_rd arg20.view f20 (0) (128 * k.val) (k0_off48_eq k) (k0_off48_inb k) z)
          (fun z => ld_rd arg20.view f20 (8) (128 * k.val) (k0_off50_eq k) (k0_off50_inb k) z)
          (fun z => ld_rd arg20.view f20 (16) (128 * k.val) (k0_off52_eq k) (k0_off52_inb k) z)
          (fun z => ld_rd arg16.view f16 (258) (128 * k.val) (k0_off70_eq k) (k0_off70_inb k) z)
          (fun z => ld_rd arg16.view f16 (257) (128 * k.val) (k0_off71_eq k) (k0_off71_inb k) z)
          (fun z => ld_rd arg16.view f16 (256) (128 * k.val) (k0_off72_eq k) (k0_off72_inb k) z) x
      · exact fun x => tapV_apply (rd (arg20.view.read (Elt F) f20)) (rd (arg16.view.read (Elt F) f16)) 320 321 322 (128 * k.val) rfl rfl rfl _ _ _ _ _ _
          (fun z => ld_rd arg20.view f20 (0) (128 * k.val) (k0_off48_eq k) (k0_off48_inb k) z)
          (fun z => ld_rd arg20.view f20 (8) (128 * k.val) (k0_off50_eq k) (k0_off50_inb k) z)
          (fun z => ld_rd arg20.view f20 (16) (128 * k.val) (k0_off52_eq k) (k0_off52_inb k) z)
          (fun z => ld_rd arg16.view f16 (322) (128 * k.val) (k0_off75_eq k) (k0_off75_inb k) z)
          (fun z => ld_rd arg16.view f16 (321) (128 * k.val) (k0_off76_eq k) (k0_off76_inb k) z)
          (fun z => ld_rd arg16.view f16 (320) (128 * k.val) (k0_off77_eq k) (k0_off77_inb k) z) x
      · exact fun x => tapV_apply (rd (arg20.view.read (Elt F) f20)) (rd (arg16.view.read (Elt F) f16)) 384 385 386 (128 * k.val) rfl rfl rfl _ _ _ _ _ _
          (fun z => ld_rd arg20.view f20 (0) (128 * k.val) (k0_off48_eq k) (k0_off48_inb k) z)
          (fun z => ld_rd arg20.view f20 (8) (128 * k.val) (k0_off50_eq k) (k0_off50_inb k) z)
          (fun z => ld_rd arg20.view f20 (16) (128 * k.val) (k0_off52_eq k) (k0_off52_inb k) z)
          (fun z => ld_rd arg16.view f16 (386) (128 * k.val) (k0_off80_eq k) (k0_off80_inb k) z)
          (fun z => ld_rd arg16.view f16 (385) (128 * k.val) (k0_off81_eq k) (k0_off81_inb k) z)
          (fun z => ld_rd arg16.view f16 (384) (128 * k.val) (k0_off82_eq k) (k0_off82_inb k) z) x
      · exact fun x => tapV_apply (rd (arg20.view.read (Elt F) f20)) (rd (arg16.view.read (Elt F) f16)) 448 449 450 (128 * k.val) rfl rfl rfl _ _ _ _ _ _
          (fun z => ld_rd arg20.view f20 (0) (128 * k.val) (k0_off48_eq k) (k0_off48_inb k) z)
          (fun z => ld_rd arg20.view f20 (8) (128 * k.val) (k0_off50_eq k) (k0_off50_inb k) z)
          (fun z => ld_rd arg20.view f20 (16) (128 * k.val) (k0_off52_eq k) (k0_off52_inb k) z)
          (fun z => ld_rd arg16.view f16 (450) (128 * k.val) (k0_off85_eq k) (k0_off85_inb k) z)
          (fun z => ld_rd arg16.view f16 (449) (128 * k.val) (k0_off86_eq k) (k0_off86_inb k) z)
          (fun z => ld_rd arg16.view f16 (448) (128 * k.val) (k0_off87_eq k) (k0_off87_inb k) z) x
    · iexists _; isplitl [HA]; · iexact HA
      ipureintro
      subst ha
      refine stA_step arg18 harg18 _ G18 k.val _ _ _ (k0_off48_eq k) (k0_off50_eq k) (k0_off52_eq k) _ _ _ _ _ _ (fun a x => ?_)
      match a with
      | 0 =>
        exact (accV_apply (rd (arg4.view.read (Elt F) f4)) (rd (arg16.view.read (Elt F) f16)) (rd (arg18.view.read (Elt F) (stA arg18 harg18 (dwE (rd (arg4.view.read (Elt F) f4)) (rd (arg16.view.read (Elt F) f16))) G18 k.val))) 0 2 (128 * k.val) rfl _ _ _ _ _ _ _ _ _
          (fun z => ld_rd arg18.view _ (8 * 0) (128 * k.val) (k0_off48_eq k) (k0_off48_inb k) z)
          (prodV_apply (rd (arg4.view.read (Elt F) f4)) (rd (arg16.view.read (Elt F) f16)) 0 2 2 (128 * k.val) rfl _ _ (fun z => ld_rd arg4.view f4 (0) (128 * k.val) (k0_off46_eq k) (k0_off46_inb k) z) (fun z => ld_rd arg16.view f16 (2) (128 * k.val) (k0_off47_eq k) (k0_off47_inb k) z))
          (prodV_apply (rd (arg4.view.read (Elt F) f4)) (rd (arg16.view.read (Elt F) f16)) 64 2 66 (128 * k.val) rfl _ _ (fun z => ld_rd arg4.view f4 (64) (128 * k.val) (k0_off54_eq k) (k0_off54_inb k) z) (fun z => ld_rd arg16.view f16 (66) (128 * k.val) (k0_off55_eq k) (k0_off55_inb k) z))
          (prodV_apply (rd (arg4.view.read (Elt F) f4)) (rd (arg16.view.read (Elt F) f16)) 128 2 130 (128 * k.val) rfl _ _ (fun z => ld_rd arg4.view f4 (128) (128 * k.val) (k0_off59_eq k) (k0_off59_inb k) z) (fun z => ld_rd arg16.view f16 (130) (128 * k.val) (k0_off60_eq k) (k0_off60_inb k) z))
          (prodV_apply (rd (arg4.view.read (Elt F) f4)) (rd (arg16.view.read (Elt F) f16)) 192 2 194 (128 * k.val) rfl _ _ (fun z => ld_rd arg4.view f4 (192) (128 * k.val) (k0_off64_eq k) (k0_off64_inb k) z) (fun z => ld_rd arg16.view f16 (194) (128 * k.val) (k0_off65_eq k) (k0_off65_inb k) z))
          (prodV_apply (rd (arg4.view.read (Elt F) f4)) (rd (arg16.view.read (Elt F) f16)) 256 2 258 (128 * k.val) rfl _ _ (fun z => ld_rd arg4.view f4 (256) (128 * k.val) (k0_off69_eq k) (k0_off69_inb k) z) (fun z => ld_rd arg16.view f16 (258) (128 * k.val) (k0_off70_eq k) (k0_off70_inb k) z))
          (prodV_apply (rd (arg4.view.read (Elt F) f4)) (rd (arg16.view.read (Elt F) f16)) 320 2 322 (128 * k.val) rfl _ _ (fun z => ld_rd arg4.view f4 (320) (128 * k.val) (k0_off74_eq k) (k0_off74_inb k) z) (fun z => ld_rd arg16.view f16 (322) (128 * k.val) (k0_off75_eq k) (k0_off75_inb k) z))
          (prodV_apply (rd (arg4.view.read (Elt F) f4)) (rd (arg16.view.read (Elt F) f16)) 384 2 386 (128 * k.val) rfl _ _ (fun z => ld_rd arg4.view f4 (384) (128 * k.val) (k0_off79_eq k) (k0_off79_inb k) z) (fun z => ld_rd arg16.view f16 (386) (128 * k.val) (k0_off80_eq k) (k0_off80_inb k) z))
          (prodV_apply (rd (arg4.view.read (Elt F) f4)) (rd (arg16.view.read (Elt F) f16)) 448 2 450 (128 * k.val) rfl _ _ (fun z => ld_rd arg4.view f4 (448) (128 * k.val) (k0_off84_eq k) (k0_off84_inb k) z) (fun z => ld_rd arg16.view f16 (450) (128 * k.val) (k0_off85_eq k) (k0_off85_inb k) z)) x).symm
      | 1 =>
        exact (accV_apply (rd (arg4.view.read (Elt F) f4)) (rd (arg16.view.read (Elt F) f16)) (rd (arg18.view.read (Elt F) (stA arg18 harg18 (dwE (rd (arg4.view.read (Elt F) f4)) (rd (arg16.view.read (Elt F) f16))) G18 k.val))) 1 1 (128 * k.val) rfl _ _ _ _ _ _ _ _ _
          (fun z => ld_rd arg18.view _ (8 * 1) (128 * k.val) (k0_off50_eq k) (k0_off50_inb k) z)
          (prodV_apply (rd (arg4.view.read (Elt F) f4)) (rd (arg16.view.read (Elt F) f16)) 0 1 1 (128 * k.val) rfl _ _ (fun z => ld_rd arg4.view f4 (0) (128 * k.val) (k0_off46_eq k) (k0_off46_inb k) z) (fun z => ld_rd arg16.view f16 (1) (128 * k.val) (k0_off49_eq k) (k0_off49_inb k) z))
          (prodV_apply (rd (arg4.view.read (Elt F) f4)) (rd (arg16.view.read (Elt F) f16)) 64 1 65 (128 * k.val) rfl _ _ (fun z => ld_rd arg4.view f4 (64) (128 * k.val) (k0_off54_eq k) (k0_off54_inb k) z) (fun z => ld_rd arg16.view f16 (65) (128 * k.val) (k0_off56_eq k) (k0_off56_inb k) z))
          (prodV_apply (rd (arg4.view.read (Elt F) f4)) (rd (arg16.view.read (Elt F) f16)) 128 1 129 (128 * k.val) rfl _ _ (fun z => ld_rd arg4.view f4 (128) (128 * k.val) (k0_off59_eq k) (k0_off59_inb k) z) (fun z => ld_rd arg16.view f16 (129) (128 * k.val) (k0_off61_eq k) (k0_off61_inb k) z))
          (prodV_apply (rd (arg4.view.read (Elt F) f4)) (rd (arg16.view.read (Elt F) f16)) 192 1 193 (128 * k.val) rfl _ _ (fun z => ld_rd arg4.view f4 (192) (128 * k.val) (k0_off64_eq k) (k0_off64_inb k) z) (fun z => ld_rd arg16.view f16 (193) (128 * k.val) (k0_off66_eq k) (k0_off66_inb k) z))
          (prodV_apply (rd (arg4.view.read (Elt F) f4)) (rd (arg16.view.read (Elt F) f16)) 256 1 257 (128 * k.val) rfl _ _ (fun z => ld_rd arg4.view f4 (256) (128 * k.val) (k0_off69_eq k) (k0_off69_inb k) z) (fun z => ld_rd arg16.view f16 (257) (128 * k.val) (k0_off71_eq k) (k0_off71_inb k) z))
          (prodV_apply (rd (arg4.view.read (Elt F) f4)) (rd (arg16.view.read (Elt F) f16)) 320 1 321 (128 * k.val) rfl _ _ (fun z => ld_rd arg4.view f4 (320) (128 * k.val) (k0_off74_eq k) (k0_off74_inb k) z) (fun z => ld_rd arg16.view f16 (321) (128 * k.val) (k0_off76_eq k) (k0_off76_inb k) z))
          (prodV_apply (rd (arg4.view.read (Elt F) f4)) (rd (arg16.view.read (Elt F) f16)) 384 1 385 (128 * k.val) rfl _ _ (fun z => ld_rd arg4.view f4 (384) (128 * k.val) (k0_off79_eq k) (k0_off79_inb k) z) (fun z => ld_rd arg16.view f16 (385) (128 * k.val) (k0_off81_eq k) (k0_off81_inb k) z))
          (prodV_apply (rd (arg4.view.read (Elt F) f4)) (rd (arg16.view.read (Elt F) f16)) 448 1 449 (128 * k.val) rfl _ _ (fun z => ld_rd arg4.view f4 (448) (128 * k.val) (k0_off84_eq k) (k0_off84_inb k) z) (fun z => ld_rd arg16.view f16 (449) (128 * k.val) (k0_off86_eq k) (k0_off86_inb k) z)) x).symm
      | 2 =>
        exact (accV_apply (rd (arg4.view.read (Elt F) f4)) (rd (arg16.view.read (Elt F) f16)) (rd (arg18.view.read (Elt F) (stA arg18 harg18 (dwE (rd (arg4.view.read (Elt F) f4)) (rd (arg16.view.read (Elt F) f16))) G18 k.val))) 2 0 (128 * k.val) rfl _ _ _ _ _ _ _ _ _
          (fun z => ld_rd arg18.view _ (8 * 2) (128 * k.val) (k0_off52_eq k) (k0_off52_inb k) z)
          (prodV_apply (rd (arg4.view.read (Elt F) f4)) (rd (arg16.view.read (Elt F) f16)) 0 0 0 (128 * k.val) rfl _ _ (fun z => ld_rd arg4.view f4 (0) (128 * k.val) (k0_off46_eq k) (k0_off46_inb k) z) (fun z => ld_rd arg16.view f16 (0) (128 * k.val) (k0_off51_eq k) (k0_off51_inb k) z))
          (prodV_apply (rd (arg4.view.read (Elt F) f4)) (rd (arg16.view.read (Elt F) f16)) 64 0 64 (128 * k.val) rfl _ _ (fun z => ld_rd arg4.view f4 (64) (128 * k.val) (k0_off54_eq k) (k0_off54_inb k) z) (fun z => ld_rd arg16.view f16 (64) (128 * k.val) (k0_off57_eq k) (k0_off57_inb k) z))
          (prodV_apply (rd (arg4.view.read (Elt F) f4)) (rd (arg16.view.read (Elt F) f16)) 128 0 128 (128 * k.val) rfl _ _ (fun z => ld_rd arg4.view f4 (128) (128 * k.val) (k0_off59_eq k) (k0_off59_inb k) z) (fun z => ld_rd arg16.view f16 (128) (128 * k.val) (k0_off62_eq k) (k0_off62_inb k) z))
          (prodV_apply (rd (arg4.view.read (Elt F) f4)) (rd (arg16.view.read (Elt F) f16)) 192 0 192 (128 * k.val) rfl _ _ (fun z => ld_rd arg4.view f4 (192) (128 * k.val) (k0_off64_eq k) (k0_off64_inb k) z) (fun z => ld_rd arg16.view f16 (192) (128 * k.val) (k0_off67_eq k) (k0_off67_inb k) z))
          (prodV_apply (rd (arg4.view.read (Elt F) f4)) (rd (arg16.view.read (Elt F) f16)) 256 0 256 (128 * k.val) rfl _ _ (fun z => ld_rd arg4.view f4 (256) (128 * k.val) (k0_off69_eq k) (k0_off69_inb k) z) (fun z => ld_rd arg16.view f16 (256) (128 * k.val) (k0_off72_eq k) (k0_off72_inb k) z))
          (prodV_apply (rd (arg4.view.read (Elt F) f4)) (rd (arg16.view.read (Elt F) f16)) 320 0 320 (128 * k.val) rfl _ _ (fun z => ld_rd arg4.view f4 (320) (128 * k.val) (k0_off74_eq k) (k0_off74_inb k) z) (fun z => ld_rd arg16.view f16 (320) (128 * k.val) (k0_off77_eq k) (k0_off77_inb k) z))
          (prodV_apply (rd (arg4.view.read (Elt F) f4)) (rd (arg16.view.read (Elt F) f16)) 384 0 384 (128 * k.val) rfl _ _ (fun z => ld_rd arg4.view f4 (384) (128 * k.val) (k0_off79_eq k) (k0_off79_inb k) z) (fun z => ld_rd arg16.view f16 (384) (128 * k.val) (k0_off82_eq k) (k0_off82_inb k) z))
          (prodV_apply (rd (arg4.view.read (Elt F) f4)) (rd (arg16.view.read (Elt F) f16)) 448 0 448 (128 * k.val) rfl _ _ (fun z => ld_rd arg4.view f4 (448) (128 * k.val) (k0_off84_eq k) (k0_off84_inb k) z) (fun z => ld_rd arg16.view f16 (448) (128 * k.val) (k0_off87_eq k) (k0_off87_inb k) z)) x).symm
      | _ + 3 => rfl

end Cert.KernelIdeal.Ffn
-- ==== Proof.Facts.lean ====
/-
What one point of the feed-forward backward leaves in each buffer, read row by row, each buffer on its own.
-/
module

public import proofs.«01_k».proof.Proof.Strip2
public import proofs.«01_k».proof.Proof.Strip3

@[expose] public section

set_option maxRecDepth 8192
set_option maxHeartbeats 8000000

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-! ## What the buffers hold after a point, read row by row -/

/-- The kernel's zero. -/
abbrev z32 : F .f32 := Scalar.ofBits .f32 0x00000000#32

theorem trips1 : Scf.trips k0_t1_loop.lb k0_t1_loop.ub k0_t1_loop.st = 8 := by decide
theorem trips2 : Scf.trips k0_t2_loop.lb k0_t2_loop.ub k0_t2_loop.st = 11 := by decide
theorem trips3 : Scf.trips k0_t3_loop.lb k0_t3_loop.ub k0_t3_loop.st = 11 := by decide

theorem rd_ix {R C : ℕ} {α : Type} [NeZero R] [NeZero C] (X : (⟨2, ![R, C]⟩ : Shape).Idx → α) (r l : ℕ) (hr : r < R) (hl : l < C) :
    rd X r l = X (ix2 ⟨r, hr⟩ ⟨l, hl⟩) := rd_eq X (ix2 ⟨r, hr⟩ ⟨l, hl⟩) rfl rfl

/-- Eight stored rows read back, or what lies under them. -/
theorem peelH {R : ℕ} (M : Memref sig .tc .vmem (⟨2, ![R, 1408]⟩ : Shape) .f32) (f : M.view.ty.Contents (Elt F))
    (L : List (View.Piece (Elt F) (⟨2, ![R, 1408]⟩ : Shape) .f32))
    (r : ℕ) (g : ℕ → ℕ → F .f32) (off : Fin 2 → ℕ) (hoff : off = ![r, 0]) (inb : ∀ a, off a + S8x1408.size a ≤ (⟨2, ![R, 1408]⟩ : Shape).size a)
    (w : Vec F S8x1408 .f32) (hw : ∀ x, w x = g (r + (x 0).val) (x 1).val) (y : (⟨2, ![R, 1408]⟩ : Shape).Idx) :
    M.view.read (Elt F) (M.view.writes (Elt F) f (⟨Rect.unit (s := (⟨2, ![R, 1408]⟩ : Shape)) off S8x1408.size inb, w⟩ :: L)) y
      = if r ≤ (y 0).val ∧ (y 0).val < r + 8 then g (y 0).val (y 1).val
        else M.view.read (Elt F) (M.view.writes (Elt F) f L) y := by
  by_cases h : r ≤ (y 0).val ∧ (y 0).val < r + 8
  · rw [if_pos h]
    have b1 : (y 1).val < 1408 := (y 1).isLt
    refine (View.read_writes_cons_unit_of_mem (Val := Elt F) M.view _ inb w L y
      (ix2 ⟨(y 0).val - r, by omega⟩ ⟨(y 1).val, b1⟩) hoff ?_).trans ((hw _).trans ?_)
    · intro a
      match a with
      | ⟨0, _⟩ => show (y 0).val = r + ((y 0).val - r); omega
      | ⟨1, _⟩ => show (y 1).val = 0 + (y 1).val; omega
    · show g (r + ((y 0).val - r)) (y 1).val = _
      rw [Nat.add_sub_cancel' h.1]
  · rw [if_neg h]
    exact View.read_writes_cons_unit_of_not_mem (Val := Elt F) M.view _ inb w L y hoff (0 : Fin 2)
      (by show (y 0).val < r ∨ r + 8 ≤ (y 0).val; omega)

/-- The scratch after the first loop: computed rows, then the halo found under them. -/
theorem scr_fact (M : Memref sig .tc .vmem S520x1408 .f32) (hM : M.IsWhole) (g : ℕ → ℕ → F .f32) (G : M.view.ty.Contents (Elt F)) (n : ℕ)
    (hn : n = 8) (D : ℕ → ℕ → F .f32) (hD : ∀ r l, r < 512 → l < 1408 → g r l = D r l)
    (hh : ∀ r l, r < 8 → l < 1408 → rd (M.view.read (Elt F) G) (512 + r) l = D (512 + r) l) (r l : ℕ) (hr : r < 520) (hl : l < 1408) :
    rd (M.view.read (Elt F) (st1 M hM g G n)) r l = D r l := by
  subst hn
  rw [read_st1, rd_ix _ r l hr hl]
  show (if r < 64 * 8 then g r l else _) = _
  by_cases h : r < 512
  · rw [if_pos (by omega)]; exact hD r l h hl
  · rw [if_neg (by omega)]
    obtain ⟨q, rfl⟩ : ∃ q, r = 512 + q := ⟨r - 512, by omega⟩
    rw [← hh q l (by omega) hl, rd_ix _ _ l hr hl]

/-- The halo stored at a point's end: the first eight rows. -/
theorem halo_fact (M : Memref sig .tc .vmem S520x1408 .f32) (G : M.view.ty.Contents (Elt F)) (D : ℕ → ℕ → F .f32)
    (hD : ∀ r l, r < 520 → l < 1408 → rd (M.view.read (Elt F) G) r l = D r l)
    (inb : ∀ a, (![512, 0] : Fin 2 → ℕ) a + S8x1408.size a ≤ S520x1408.size a)
    (inb' : ∀ a, (![0, 0] : Fin 2 → ℕ) a + S8x1408.size a ≤ S520x1408.size a) (w : Vec F S8x1408 .f32)
    (hw : w = M.view.readAt (Elt F) (Rect.unit (s := S520x1408) ![0, 0] S8x1408.size inb').toLoadRect G) (r l : ℕ) (hr : r < 8) (hl : l < 1408) :
    rd (M.view.read (Elt F) (M.view.writes (Elt F) G [⟨Rect.unit (s := S520x1408) ![512, 0] S8x1408.size inb, w⟩])) (512 + r) l = D r l := by
  rw [rd_ix _ (512 + r) l (by omega) hl]
  refine (peelH M G [] 512 (fun a b => D (a - 512) b) _ rfl inb w (fun x => ?_) _).trans ?_
  · have b0 : (x 0).val < 8 := (x 0).isLt
    have b1 : (x 1).val < 1408 := (x 1).isLt
    rw [hw, View.readAt_apply]
    show _ = D (512 + (x 0).val - 512) (x 1).val
    rw [Nat.add_sub_cancel_left, ← hD _ _ (by omega) b1]
    refine (rd_eq _ _ ?_ ?_).symm
    · show 0 + 1 * (x 0).val = _; omega
    · show 0 + 1 * (x 1).val = _; omega
  · rw [if_pos (by show 512 ≤ 512 + r ∧ 512 + r < 512 + 8; omega)]
    show D (512 + r - 512) l = _
    rw [Nat.add_sub_cancel_left]

/-- A halo of zeros. -/
theorem halo_zero (M : Memref sig .tc .vmem S520x1408 .f32) (G : M.view.ty.Contents (Elt F))
    (inb : ∀ a, (![512, 0] : Fin 2 → ℕ) a + S8x1408.size a ≤ S520x1408.size a) (w : Vec F S8x1408 .f32) (hw : ∀ x, w x = z32)
    (r l : ℕ) (hr : r < 8) (hl : l < 1408) :
    rd (M.view.read (Elt F) (M.view.writes (Elt F) G [⟨Rect.unit (s := S520x1408) ![512, 0] S8x1408.size inb, w⟩])) (512 + r) l = z32 := by
  rw [rd_ix _ (512 + r) l (by omega) hl]
  refine (peelH M G [] 512 (fun a b => z32) _ rfl inb w hw _).trans ?_
  rw [if_pos (by show 512 ≤ 512 + r ∧ 512 + r < 512 + 8; omega)]

/-- Sums of zeros. -/
theorem acc_zero (M : Memref sig .tc .vmem S24x1408 .f32) (G : M.view.ty.Contents (Elt F))
    (inb : ∀ a, (![0, 0] : Fin 2 → ℕ) a + S24x1408.size a ≤ S24x1408.size a) (w : Vec F S24x1408 .f32) (hw : ∀ x, w x = z32)
    (a l : ℕ) (ha : a < 24) (hl : l < 1408) :
    rd (M.view.read (Elt F) (M.view.writes (Elt F) G [⟨Rect.unit (s := S24x1408) ![0, 0] S24x1408.size inb, w⟩])) a l = z32 := by
  rw [rd_ix _ a l ha hl]
  refine (View.read_writes_cons_unit_of_mem (Val := Elt F) M.view _ inb w [] _ (ix2 ⟨a, ha⟩ ⟨l, hl⟩) rfl ?_).trans (hw _)
  intro a'
  match a' with
  | ⟨0, _⟩ => exact (Nat.zero_add _).symm
  | ⟨1, _⟩ => exact (Nat.zero_add _).symm

/-- A point's addition to the tap sums depends on the first five hundred and twenty rows only. -/
theorem dwE_congr (U : ℕ → ℕ → F .bf16) (D D' : ℕ → ℕ → F .f32) (h : ∀ r l, r < 520 → l < 1408 → D r l = D' r l) (a l : ℕ)
    (ha : a < 24) (hl : l < 1408) : dwE U D a l = dwE U D' a l := by
  have ho : a / 8 < 3 := by omega
  unfold dwE
  simp only [fold8]
  have e : ∀ b q, b < 8 → q < 8 → D (64 * b + 8 * q + a % 8 + (2 - a / 8)) l = D' (64 * b + 8 * q + a % 8 + (2 - a / 8)) l :=
    fun b q hb hq => h _ _ (by omega) hl
  simp only [e _ _ (by decide : (0:ℕ) < 8), e _ _ (by decide : (1:ℕ) < 8), e _ _ (by decide : (2:ℕ) < 8), e _ _ (by decide : (3:ℕ) < 8), e _ _ (by decide : (4:ℕ) < 8), e _ _ (by decide : (5:ℕ) < 8), e _ _ (by decide : (6:ℕ) < 8), e _ _ (by decide : (7:ℕ) < 8), (by decide : (0:ℕ) < 8), (by decide : (1:ℕ) < 8), (by decide : (2:ℕ) < 8), (by decide : (3:ℕ) < 8), (by decide : (4:ℕ) < 8), (by decide : (5:ℕ) < 8), (by decide : (6:ℕ) < 8), (by decide : (7:ℕ) < 8)]

/-- The tap sums after a point. -/
theorem acc_fact (M : Memref sig .tc .vmem S24x1408 .f32) (hM : M.IsWhole) (U : ℕ → ℕ → F .bf16) (D' D : ℕ → ℕ → F .f32)
    (G : M.view.ty.Contents (Elt F)) (n : ℕ) (hn : n = 11) (A : ℕ → ℕ → F .f32)
    (hD : ∀ r l, r < 520 → l < 1408 → D' r l = D r l)
    (hA : ∀ a l, a < 24 → l < 1408 → rd (M.view.read (Elt F) G) a l = A a l) (a l : ℕ) (ha : a < 24) (hl : l < 1408) :
    rd (M.view.read (Elt F) (stA M hM (dwE U D') G n)) a l = FloatOps.addf (A a l) (dwE U D a l) := by
  subst hn
  rw [read_stA, rd_ix _ a l ha hl]
  show (if l < 128 * 11 then FloatOps.addf (M.view.read (Elt F) G (ix2 ⟨a, ha⟩ ⟨l, hl⟩)) (dwE U D' a l) else _) = _
  rw [if_pos (by omega), dwE_congr U D' D hD a l ha hl, ← hA a l ha hl, rd_ix _ a l ha hl]

/-- One row repeated eight times. -/
theorem bc_apply (v : Vec F S1x1408 .f32) (x : S8x1408.Idx) :
    broadcastTo S8x1408 v broadcasts_S1x1408_S8x1408 x = v (ix2 ⟨0, by decide⟩ ⟨(x 1).val, (x 1).isLt⟩) := by
  show v _ = v _
  congr 1
  funext a
  match a with
  | ⟨0, _⟩ => rfl
  | ⟨1, _⟩ => rfl

/-- The taps kept with every row repeated eight times. -/
theorem wrep_fact (M : Memref sig .tc .vmem S24x1408 .f32) (f : M.view.ty.Contents (Elt F)) (N : Memref sig .tc .vmem S3x1408 .f32)
    (X : N.view.ty.Contents (Elt F)) (w0 w1 w2 : Vec F S8x1408 .f32)
    (i0 : ∀ a, (![0, 0] : Fin 2 → ℕ) a + S8x1408.size a ≤ S24x1408.size a) (i1 : ∀ a, (![8, 0] : Fin 2 → ℕ) a + S8x1408.size a ≤ S24x1408.size a)
    (i2 : ∀ a, (![16, 0] : Fin 2 → ℕ) a + S8x1408.size a ≤ S24x1408.size a)
    (j0 : ∀ a, (![0, 0] : Fin 2 → ℕ) a + S1x1408.size a ≤ S3x1408.size a) (j1 : ∀ a, (![1, 0] : Fin 2 → ℕ) a + S1x1408.size a ≤ S3x1408.size a)
    (j2 : ∀ a, (![2, 0] : Fin 2 → ℕ) a + S1x1408.size a ≤ S3x1408.size a)
    (h0 : w0 = broadcastTo S8x1408 (N.view.readAt (Elt F) (Rect.unit (s := S3x1408) ![0, 0] S1x1408.size j0).toLoadRect X) broadcasts_S1x1408_S8x1408)
    (h1 : w1 = broadcastTo S8x1408 (N.view.readAt (Elt F) (Rect.unit (s := S3x1408) ![1, 0] S1x1408.size j1).toLoadRect X) broadcasts_S1x1408_S8x1408)
    (h2 : w2 = broadcastTo S8x1408 (N.view.readAt (Elt F) (Rect.unit (s := S3x1408) ![2, 0] S1x1408.size j2).toLoadRect X) broadcasts_S1x1408_S8x1408)
    (a l : ℕ) (ha : a < 24) (hl : l < 1408) :
    rd (M.view.read (Elt F) (M.view.writes (Elt F) f [⟨Rect.unit (s := S24x1408) ![16, 0] S8x1408.size i2, w2⟩,
      ⟨Rect.unit (s := S24x1408) ![8, 0] S8x1408.size i1, w1⟩, ⟨Rect.unit (s := S24x1408) ![0, 0] S8x1408.size i0, w0⟩])) a l
      = rd (N.view.read (Elt F) X) (a / 8) l := by
  have key : ∀ (k : ℕ) (hk : k < 3) (jk : ∀ a, (![k, 0] : Fin 2 → ℕ) a + S1x1408.size a ≤ S3x1408.size a) (x : S8x1408.Idx),
      broadcastTo S8x1408 (N.view.readAt (Elt F) (Rect.unit (s := S3x1408) ![k, 0] S1x1408.size jk).toLoadRect X) broadcasts_S1x1408_S8x1408 x
        = rd (N.view.read (Elt F) X) ((8 * k + (x 0).val) / 8) (x 1).val := by
    intro k hk jk x
    have b0 : (x 0).val < 8 := (x 0).isLt
    rw [bc_apply, View.readAt_apply]
    refine (rd_eq _ _ ?_ ?_).symm
    · show k + 1 * 0 = _; omega
    · show 0 + 1 * (x 1).val = _; omega
  rw [rd_ix _ a l ha hl]
  refine (peelH M f _ 16 (fun a l => rd (N.view.read (Elt F) X) (a / 8) l) _ rfl i2 w2 (fun x => h2 ▸ key 2 (by decide) j2 x) _).trans ?_
  by_cases c2 : 16 ≤ a
  · exact if_pos (by show 16 ≤ a ∧ a < 16 + 8; omega)
  rw [if_neg (by show ¬(16 ≤ a ∧ a < 16 + 8); omega)]
  refine (peelH M f _ 8 (fun a l => rd (N.view.read (Elt F) X) (a / 8) l) _ rfl i1 w1 (fun x => h1 ▸ key 1 (by decide) j1 x) _).trans ?_
  by_cases c1 : 8 ≤ a
  · exact if_pos (by show 8 ≤ a ∧ a < 8 + 8; omega)
  rw [if_neg (by show ¬(8 ≤ a ∧ a < 8 + 8); omega)]
  refine (peelH M f _ 0 (fun a l => rd (N.view.read (Elt F) X) (a / 8) l) _ rfl i0 w0 (fun x => h0 ▸ key 0 (by decide) j0 x) _).trans ?_
  exact if_pos (by show 0 ≤ a ∧ a < 0 + 8; omega)

/-- The transposed convolution at a row and a column, its taps in three rows. -/
def tapB (X D : ℕ → ℕ → F .f32) (r l : ℕ) : F .bf16 :=
  sh (FloatOps.addf (FloatOps.addf (FloatOps.mulf (X 0 l) (D (r + 2) l)) (FloatOps.mulf (X 1 l) (D (r + 1) l))) (FloatOps.mulf (X 2 l) (D r l)))

theorem tapE_eq (W D X D₂ : ℕ → ℕ → F .f32) (hW : ∀ a l, a < 24 → l < 1408 → W a l = X (a / 8) l)
    (hD : ∀ r l, r < 520 → l < 1408 → D r l = D₂ r l) (r l : ℕ) (hr : r < 512) (hl : l < 1408) : tapE W D r l = tapB X D₂ r l := by
  unfold tapE tapB
  rw [hW _ l (by omega) hl, hW _ l (by omega) hl, hW _ l (by omega) hl, hD _ l (by omega) hl, hD _ l (by omega) hl, hD _ l (by omega) hl,
    show r % 8 / 8 = 0 by omega, show (8 + r % 8) / 8 = 1 by omega, show (16 + r % 8) / 8 = 2 by omega]

/-- The stored block after the two tap loops. -/
theorem out_fact (M : Memref sig .tc .vmem S2x512x1408 .bf16) (hM : M.IsWhole) (W W' D D' X X' D₂ D₂' : ℕ → ℕ → F .f32)
    (G : M.view.ty.Contents (Elt F)) (n n' : ℕ) (hn : n = 11) (hn' : n' = 11)
    (hW : ∀ a l, a < 24 → l < 1408 → W a l = X (a / 8) l) (hW' : ∀ a l, a < 24 → l < 1408 → W' a l = X' (a / 8) l)
    (hD : ∀ r l, r < 520 → l < 1408 → D r l = D₂ r l) (hD' : ∀ r l, r < 520 → l < 1408 → D' r l = D₂' r l) (y : S2x512x1408.Idx) :
    M.view.read (Elt F) (stO M hM 1 (tapE W' D') (stO M hM 0 (tapE W D) G n) n') y
      = if (y 0).val = 0 then tapB X D₂ (y 1).val (y 2).val else tapB X' D₂' (y 1).val (y 2).val := by
  subst hn hn'
  have b0 : (y 0).val < 2 := (y 0).isLt
  have b1 : (y 1).val < 512 := (y 1).isLt
  have b2 : (y 2).val < 1408 := (y 2).isLt
  rw [read_stO, read_stO]
  show (if (y 0).val = 1 ∧ (y 2).val < 128 * 11 then tapE W' D' (y 1).val (y 2).val
    else if (y 0).val = 0 ∧ (y 2).val < 128 * 11 then tapE W D (y 1).val (y 2).val else _) = _
  rw [tapE_eq W D X D₂ hW hD _ _ b1 b2, tapE_eq W' D' X' D₂' hW' hD' _ _ b1 b2]
  by_cases h : (y 0).val = 0
  · rw [if_neg (by omega), if_pos (by omega), if_pos h]
  · rw [if_pos (by omega), if_neg h]

/-- A whole block read is the block. -/
theorem readAt_full {s : Shape} {e : EltTy} (M : Memref sig .tc .vmem s e) (X : M.view.ty.Contents (Elt F)) (off : Fin s.rank → ℕ) (hoff : ∀ a, off a = 0)
    (inb : ∀ a, off a + s.size a ≤ s.size a) :
    M.view.readAt (Elt F) (Rect.unit (s := s) off s.size inb).toLoadRect X = M.view.read (Elt F) X := by
  funext y
  rw [View.readAt_apply]
  congr 1
  funext a
  exact Fin.ext (by show off a + 1 * (y a).val = _; rw [hoff]; omega)

/-- The three tap gradients of summed rows, the eight running rows of each tap added. -/
def dwOut (N : ℕ → ℕ → F .f32) : Vec F S3x1408 .f32 :=
  k0_pay2 (fun y : S8x1408.Idx => N (y 0).val (y 1).val) (fun y : S8x1408.Idx => N (8 + (y 0).val) (y 1).val) (fun y : S8x1408.Idx => N (16 + (y 0).val) (y 1).val)

theorem dw_read (M : Memref sig .tc .vmem S24x1408 .f32) (G : M.view.ty.Contents (Elt F)) (N : ℕ → ℕ → F .f32)
    (hN : ∀ a l, a < 24 → l < 1408 → rd (M.view.read (Elt F) G) a l = N a l) (k : ℕ) (hk : k ≤ 16)
    (inb : ∀ a, (![k, 0] : Fin 2 → ℕ) a + S8x1408.size a ≤ S24x1408.size a) :
    M.view.readAt (Elt F) (Rect.unit (s := S24x1408) ![k, 0] S8x1408.size inb).toLoadRect G
      = fun y : S8x1408.Idx => N (k + (y 0).val) (y 1).val := by
  funext y
  have b0 : (y 0).val < 8 := (y 0).isLt
  have b1 : (y 1).val < 1408 := (y 1).isLt
  rw [View.readAt_apply, ← hN _ _ (by omega) b1]
  refine (rd_eq _ _ ?_ ?_).symm
  · show k + 1 * (y 0).val = _; omega
  · show 0 + 1 * (y 1).val = _; omega

theorem dw_fact (M : Memref sig .tc .vmem S24x1408 .f32) (G : M.view.ty.Contents (Elt F)) (N : ℕ → ℕ → F .f32)
    (hN : ∀ a l, a < 24 → l < 1408 → rd (M.view.read (Elt F) G) a l = N a l)
    (O : Memref sig .tc .vmem S3x1408 .f32) (f : O.view.ty.Contents (Elt F))
    (inb : ∀ a, (![0, 0] : Fin 2 → ℕ) a + S3x1408.size a ≤ S3x1408.size a)
    (i0 : ∀ a, (![0, 0] : Fin 2 → ℕ) a + S8x1408.size a ≤ S24x1408.size a) (i1 : ∀ a, (![8, 0] : Fin 2 → ℕ) a + S8x1408.size a ≤ S24x1408.size a)
    (i2 : ∀ a, (![16, 0] : Fin 2 → ℕ) a + S8x1408.size a ≤ S24x1408.size a) (w : Vec F S3x1408 .f32)
    (hw : w = k0_pay2 (M.view.readAt (Elt F) (Rect.unit (s := S24x1408) ![0, 0] S8x1408.size i0).toLoadRect G)
        (M.view.readAt (Elt F) (Rect.unit (s := S24x1408) ![8, 0] S8x1408.size i1).toLoadRect G)
        (M.view.readAt (Elt F) (Rect.unit (s := S24x1408) ![16, 0] S8x1408.size i2).toLoadRect G)) :
    O.view.read (Elt F) (O.view.writes (Elt F) f [⟨Rect.unit (s := S3x1408) ![0, 0] S3x1408.size inb, w⟩]) = dwOut N := by
  subst hw
  rw [dw_read M G N hN 0 (by decide), dw_read M G N hN 8 (by decide), dw_read M G N hN 16 (by decide)]
  funext y
  refine (View.read_writes_cons_unit_of_mem (Val := Elt F) O.view _ inb _ [] y (fun a => y a) rfl ?_).trans ?_
  · intro a
    match a with
    | ⟨0, _⟩ => exact (Nat.zero_add _).symm
    | ⟨1, _⟩ => exact (Nat.zero_add _).symm
  · simp only [Nat.zero_add]; rfl

end Cert.KernelIdeal.Ffn
-- ==== Proof.Body.lean ====
/-
One grid point of the feed-forward backward: the whole body run once, its three conditions taken by cases.
-/
module

public import proofs.«01_k».proof.Proof.Facts

@[expose] public section

set_option maxRecDepth 8192
set_option maxHeartbeats 8000000

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- The activation gradient's product, stored and read back, is the product of the blocks. -/
theorem dact_read (arg2 : Memref sig .tc .vmem S512x1024 .bf16) (arg9 : Memref sig .tc .vmem S1408x1024 .bf16) (arg14 : Memref sig .tc .vmem S512x1408 .f32)
    (f2 : BufTy.Contents (Elt F) arg2.view.ty) (f9 : BufTy.Contents (Elt F) arg9.view.ty) :
    (arg14.view.read (Elt F) (arg14.view.writes (Elt F) arg14.view.junk [⟨Rect.unit (s := S512x1408) ![0, 0] S512x1408.size inb_S512x1408_S512x1408_0_0, k0_pay149 (arg2.view.readAt (Elt F) (Rect.unit (s := S512x1024) ![0, 0] S512x1024.size inb_S512x1024_S512x1024_0_0).toLoadRect f2) (arg9.view.readAt (Elt F) (Rect.unit (s := S1408x1024) ![0, 0] S1408x1024.size inb_S1408x1024_S1408x1024_0_0).toLoadRect f9)⟩])) = k0_pay149 (arg2.view.read (Elt F) f2) (arg9.view.read (Elt F) f9) := by
  rw [readAt_full arg2 f2 ![0, 0] (fun a => by match a with | ⟨0, _⟩ => rfl | ⟨1, _⟩ => rfl) _,
    readAt_full arg9 f9 ![0, 0] (fun a => by match a with | ⟨0, _⟩ => rfl | ⟨1, _⟩ => rfl) _]
  funext y
  refine View.read_writes_cons_unit_of_mem (Val := Elt F) arg14.view _ _ _ [] y (fun a => y a) rfl ?_
  intro a
  match a with
  | ⟨0, _⟩ => exact (Nat.zero_add _).symm
  | ⟨1, _⟩ => exact (Nat.zero_add _).symm

/-! The stored words that only repeat or carry over a row, at an element. -/
theorem pay138_apply (x : S8x1408.Idx) : k0_pay138 (F := F) x = z32 := by simp only [k0_pay138, shapeCast_self]; rfl
theorem pay139_apply (x : S8x1408.Idx) : k0_pay139 (F := F) x = z32 := by simp only [k0_pay139, shapeCast_self]; rfl
theorem pay140_apply (x : S24x1408.Idx) : k0_pay140 (F := F) x = z32 := by simp only [k0_pay140, shapeCast_self]; rfl
theorem pay141_apply (x : S24x1408.Idx) : k0_pay141 (F := F) x = z32 := by simp only [k0_pay141, shapeCast_self]; rfl
theorem pay142_eq (v : Vec F S1x1408 .f32) : k0_pay142 v = broadcastTo S8x1408 v broadcasts_S1x1408_S8x1408 := by simp only [k0_pay142, shapeCast_self]
theorem pay143_eq (v : Vec F S1x1408 .f32) : k0_pay143 v = broadcastTo S8x1408 v broadcasts_S1x1408_S8x1408 := by simp only [k0_pay143, shapeCast_self]
theorem pay144_eq (v : Vec F S1x1408 .f32) : k0_pay144 v = broadcastTo S8x1408 v broadcasts_S1x1408_S8x1408 := by simp only [k0_pay144, shapeCast_self]
theorem pay145_eq (v : Vec F S1x1408 .f32) : k0_pay145 v = broadcastTo S8x1408 v broadcasts_S1x1408_S8x1408 := by simp only [k0_pay145, shapeCast_self]
theorem pay146_eq (v : Vec F S1x1408 .f32) : k0_pay146 v = broadcastTo S8x1408 v broadcasts_S1x1408_S8x1408 := by simp only [k0_pay146, shapeCast_self]
theorem pay148_eq (v : Vec F S1x1408 .f32) : k0_pay148 v = broadcastTo S8x1408 v broadcasts_S1x1408_S8x1408 := by simp only [k0_pay148, shapeCast_self]
theorem pay147_eq (v : Vec F S8x1408 .f32) : k0_pay147 v = v := by simp only [k0_pay147, shapeCast_self]
theorem pay163_eq (v : Vec F S8x1408 .f32) : k0_pay163 v = v := by simp only [k0_pay163, shapeCast_self]
theorem pay1_eq (v : Vec F S8x1408 .f32) : k0_pay1 v = v := by simp only [k0_pay1, shapeCast_self]

/-- One grid point: from blocks with the named contents the body stores the block of the convolution's transpose, leaves the halo and the tap sums
    advanced, and at the last point of a column half the taps' gradients. `Dg` and `Dv` are the two halves' gradients over the block's rows and the halo's. -/
theorem kernelRun (c : Dev nD) (i : grid0.Coords) (arg2 : Memref sig .tc .vmem S512x1024 .bf16) (harg2 : arg2.IsWhole) (arg3 : Memref sig .tc .vmem S512x1408 .bf16) (harg3 : arg3.IsWhole) (arg4 : Memref sig .tc .vmem S512x1408 .bf16) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1408x1024 .bf16) (harg9 : arg9.IsWhole) (arg10 : Memref sig .tc .hbm S8x128 .f32) (harg10 : arg10.IsWhole) (arg11 : Memref sig .tc .vmem S2x512x1408 .bf16) (harg11 : arg11.IsWhole) (arg12 : Memref sig .tc .vmem S3x1408 .f32) (harg12 : arg12.IsWhole) (arg13 : Memref sig .tc .vmem S3x1408 .f32) (harg13 : arg13.IsWhole) (arg14 : Memref sig .tc .vmem S512x1408 .f32) (harg14 : arg14.IsWhole) (arg15 : Memref sig .tc .vmem S520x1408 .f32) (harg15 : arg15.IsWhole) (arg16 : Memref sig .tc .vmem S520x1408 .f32) (harg16 : arg16.IsWhole) (arg17 : Memref sig .tc .vmem S24x1408 .f32) (harg17 : arg17.IsWhole) (arg18 : Memref sig .tc .vmem S24x1408 .f32) (harg18 : arg18.IsWhole) (arg19 : Memref sig .tc .vmem S24x1408 .f32) (harg19 : arg19.IsWhole) (arg20 : Memref sig .tc .vmem S24x1408 .f32) (harg20 : arg20.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (K : PUnit → sProp 𝕄G) (Dg Dv Ag Av : ℕ → ℕ → F .f32)
   (hDg : ∀ r l, r < 512 → l < 1408 → DG (arg5.view.read (Elt F) f5) (k0_pay149 (arg2.view.read (Elt F) f2) (arg9.view.read (Elt F) f9)) (arg6.view.read (Elt F) f6) r l = Dg r l)
   (hDv : ∀ r l, r < 512 → l < 1408 → DV (arg5.view.read (Elt F) f5) (k0_pay149 (arg2.view.read (Elt F) f2) (arg9.view.read (Elt F) f9)) r l = Dv r l)
   (hz : Scalar.cmpi .ne (Scalar.extui (Scalar.cmpi .eq (BitVec.ofNat 32 (i 1).val) 0#32) : BitVec 32) 0#32 = 1#1 → (∀ r l, r < 8 → l < 1408 → z32 = Dg (512 + r) l) ∧ (∀ r l, r < 8 → l < 1408 → z32 = Dv (512 + r) l)
      ∧ (∀ a l, a < 24 → l < 1408 → z32 = Ag a l) ∧ (∀ a l, a < 24 → l < 1408 → z32 = Av a l))
   (hn : ¬(Scalar.cmpi .ne (Scalar.extui (Scalar.cmpi .eq (BitVec.ofNat 32 (i 1).val) 0#32) : BitVec 32) 0#32 = 1#1) → (∀ r l, r < 8 → l < 1408 → rd (arg15.view.read (Elt F) f15) (512 + r) l = Dg (512 + r) l) ∧ (∀ r l, r < 8 → l < 1408 → rd (arg16.view.read (Elt F) f16) (512 + r) l = Dv (512 + r) l)
      ∧ (∀ a l, a < 24 → l < 1408 → rd (arg17.view.read (Elt F) f17) a l = Ag a l) ∧ (∀ a l, a < 24 → l < 1408 → rd (arg18.view.read (Elt F) f18) a l = Av a l)) :
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ g, (arg11.view.loc (c : Thread nD τ) ↦[arg11.view.set]{fullShare} g) ∗ ⌜∀ y : S2x512x1408.Idx, (arg11.view.read (Elt F) g) y = if (y 0).val = 0 then tapB (rd (arg7.view.read (Elt F) f7)) Dg (y 1).val (y 2).val else tapB (rd (arg8.view.read (Elt F) f8)) Dv (y 1).val (y 2).val⌝) ∗ (∃ g, (arg12.view.loc (c : Thread nD τ) ↦[arg12.view.set]{fullShare} g) ∗ ⌜k0_cond2 i = 1#1 → (arg12.view.read (Elt F) g) = dwOut (fun a l => FloatOps.addf (Ag a l) (dwE (rd (arg3.view.read (Elt F) f3)) Dg a l))⌝) ∗ (∃ g, (arg13.view.loc (c : Thread nD τ) ↦[arg13.view.set]{fullShare} g) ∗ ⌜k0_cond2 i = 1#1 → (arg13.view.read (Elt F) g) = dwOut (fun a l => FloatOps.addf (Av a l) (dwE (rd (arg4.view.read (Elt F) f4)) Dv a l))⌝) ∗ (∃ g, (arg14.view.loc (c : Thread nD τ) ↦[arg14.view.set]{fullShare} g)) ∗ (∃ g, (arg15.view.loc (c : Thread nD τ) ↦[arg15.view.set]{fullShare} g) ∗ ⌜∀ r l, r < 8 → l < 1408 → rd (arg15.view.read (Elt F) g) (512 + r) l = Dg r l⌝) ∗ (∃ g, (arg16.view.loc (c : Thread nD τ) ↦[arg16.view.set]{fullShare} g) ∗ ⌜∀ r l, r < 8 → l < 1408 → rd (arg16.view.read (Elt F) g) (512 + r) l = Dv r l⌝) ∗ (∃ g, (arg17.view.loc (c : Thread nD τ) ↦[arg17.view.set]{fullShare} g) ∗ ⌜∀ a l, a < 24 → l < 1408 → rd (arg17.view.read (Elt F) g) a l = FloatOps.addf (Ag a l) (dwE (rd (arg3.view.read (Elt F) f3)) Dg a l)⌝) ∗ (∃ g, (arg18.view.loc (c : Thread nD τ) ↦[arg18.view.set]{fullShare} g) ∗ ⌜∀ a l, a < 24 → l < 1408 → rd (arg18.view.read (Elt F) g) a l = FloatOps.addf (Av a l) (dwE (rd (arg4.view.read (Elt F) f4)) Dv a l)⌝) ∗ (∃ g, (arg19.view.loc (c : Thread nD τ) ↦[arg19.view.set]{fullShare} g)) ∗ (∃ g, (arg20.view.loc (c : Thread nD τ) ↦[arg20.view.set]{fullShare} g))) -∗ K ⟨⟩)) ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  have hDg' : ∀ r l, r < 512 → l < 1408 → DG (arg5.view.read (Elt F) f5) (arg14.view.read (Elt F) (arg14.view.writes (Elt F) arg14.view.junk [⟨Rect.unit (s := S512x1408) ![0, 0] S512x1408.size inb_S512x1408_S512x1408_0_0, k0_pay149 (arg2.view.readAt (Elt F) (Rect.unit (s := S512x1024) ![0, 0] S512x1024.size inb_S512x1024_S512x1024_0_0).toLoadRect f2) (arg9.view.readAt (Elt F) (Rect.unit (s := S1408x1024) ![0, 0] S1408x1024.size inb_S1408x1024_S1408x1024_0_0).toLoadRect f9)⟩])) (arg6.view.read (Elt F) f6) r l = Dg r l := by
    rw [dact_read arg2 arg9 arg14 f2 f9]; exact hDg
  have hDv' : ∀ r l, r < 512 → l < 1408 → DV (arg5.view.read (Elt F) f5) (arg14.view.read (Elt F) (arg14.view.writes (Elt F) arg14.view.junk [⟨Rect.unit (s := S512x1408) ![0, 0] S512x1408.size inb_S512x1408_S512x1408_0_0, k0_pay149 (arg2.view.readAt (Elt F) (Rect.unit (s := S512x1024) ![0, 0] S512x1024.size inb_S512x1024_S512x1024_0_0).toLoadRect f2) (arg9.view.readAt (Elt F) (Rect.unit (s := S1408x1024) ![0, 0] S1408x1024.size inb_S1408x1024_S1408x1024_0_0).toLoadRect f9)⟩])) r l = Dv r l := by
    rw [dact_read arg2 arg9 arg14 f2 f9]; exact hDv
  have w19 := fun w0 w1 w2 h0 h1 h2 => wrep_fact arg19 arg19.view.junk arg7 f7 w0 w1 w2 inb_S24x1408_S8x1408_0_0 inb_S24x1408_S8x1408_8_0 inb_S24x1408_S8x1408_16_0 inb_S3x1408_S1x1408_0_0 inb_S3x1408_S1x1408_1_0 inb_S3x1408_S1x1408_2_0 h0 h1 h2
  have w20 := fun w0 w1 w2 h0 h1 h2 => wrep_fact arg20 arg20.view.junk arg8 f8 w0 w1 w2 inb_S24x1408_S8x1408_0_0 inb_S24x1408_S8x1408_8_0 inb_S24x1408_S8x1408_16_0 inb_S3x1408_S1x1408_0_0 inb_S3x1408_S1x1408_1_0 inb_S3x1408_S1x1408_2_0 h0 h1 h2
  by_cases h1 : Scalar.cmpi .ne (Scalar.extui (Scalar.cmpi .eq (BitVec.ofNat 32 (i 1).val) 0#32) : BitVec 32) 0#32 = 1#1
  · obtain ⟨zg, zv, za, zb⟩ := hz h1
    have s15 := scr_fact arg15 harg15 (DG (arg5.view.read (Elt F) f5) (arg14.view.read (Elt F) (arg14.view.writes (Elt F) arg14.view.junk [⟨Rect.unit (s := S512x1408) ![0, 0] S512x1408.size inb_S512x1408_S512x1408_0_0, k0_pay149 (arg2.view.readAt (Elt F) (Rect.unit (s := S512x1024) ![0, 0] S512x1024.size inb_S512x1024_S512x1024_0_0).toLoadRect f2) (arg9.view.readAt (Elt F) (Rect.unit (s := S1408x1024) ![0, 0] S1408x1024.size inb_S1408x1024_S1408x1024_0_0).toLoadRect f9)⟩])) (arg6.view.read (Elt F) f6)) (arg15.view.writes (Elt F) f15 [⟨Rect.unit (s := S520x1408) ![512, 0] S8x1408.size inb_S520x1408_S8x1408_512_0, k0_pay138⟩]) _ trips1 Dg hDg' (fun r l hr hl => (halo_zero arg15 f15 _ _ pay138_apply r l hr hl).trans (zg r l hr hl))
    have s16 := scr_fact arg16 harg16 (DV (arg5.view.read (Elt F) f5) (arg14.view.read (Elt F) (arg14.view.writes (Elt F) arg14.view.junk [⟨Rect.unit (s := S512x1408) ![0, 0] S512x1408.size inb_S512x1408_S512x1408_0_0, k0_pay149 (arg2.view.readAt (Elt F) (Rect.unit (s := S512x1024) ![0, 0] S512x1024.size inb_S512x1024_S512x1024_0_0).toLoadRect f2) (arg9.view.readAt (Elt F) (Rect.unit (s := S1408x1024) ![0, 0] S1408x1024.size inb_S1408x1024_S1408x1024_0_0).toLoadRect f9)⟩]))) (arg16.view.writes (Elt F) f16 [⟨Rect.unit (s := S520x1408) ![512, 0] S8x1408.size inb_S520x1408_S8x1408_512_0, k0_pay139⟩]) _ trips1 Dv hDv' (fun r l hr hl => (halo_zero arg16 f16 _ _ pay139_apply r l hr hl).trans (zv r l hr hl))
    have a17 := acc_fact arg17 harg17 (rd (arg3.view.read (Elt F) f3)) _ Dg (arg17.view.writes (Elt F) arg17.view.junk [⟨Rect.unit (s := S24x1408) ![0, 0] S24x1408.size inb_S24x1408_S24x1408_0_0, k0_pay140⟩]) _ trips2 Ag s15 (fun a l ha hl => (acc_zero arg17 _ _ _ pay140_apply a l ha hl).trans (za a l ha hl))
    have a18 := acc_fact arg18 harg18 (rd (arg4.view.read (Elt F) f4)) _ Dv (arg18.view.writes (Elt F) arg18.view.junk [⟨Rect.unit (s := S24x1408) ![0, 0] S24x1408.size inb_S24x1408_S24x1408_0_0, k0_pay141⟩]) _ trips3 Av s16 (fun a l ha hl => (acc_zero arg18 _ _ _ pay141_apply a l ha hl).trans (zb a l ha hl))
    by_cases h2 : k0_cond2 i = 1#1
    · simp only [cc0_ffn_bwd_eq_skeleton]; unfold cc0_ffn_bwd_skel
      iintro ⟨H2, H3, H4, H5, H6, H7, H8, H9, H11, H12, H13, H14, H15, H16, H17, H18, H19, H20, HK⟩
      sl_exec
      sl_step
      iapply HK
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]
      · iexists _; isplitl [H11]; · iexact H11
        ipureintro; exact out_fact arg11 harg11 _ _ _ _ _ _ Dg Dv f11 _ _ trips2 trips3 (w19 _ _ _ (pay142_eq _) (pay143_eq _) (pay144_eq _)) (w20 _ _ _ (pay145_eq _) ((pay147_eq _).trans (pay146_eq _)) (pay148_eq _)) s15 s16
      isplitl [H12]
      · iexists _; isplitl [H12]; · iexact H12
        ipureintro; exact fun _ => dw_fact arg17 _ _ a17 arg12 f12 _ _ _ _ _ rfl
      isplitl [H13]
      · iexists _; isplitl [H13]; · iexact H13
        ipureintro; exact fun _ => dw_fact arg18 _ _ a18 arg13 f13 _ _ _ _ _ rfl
      isplitl [H14]; · iexists _; iexact H14
      isplitl [H15]
      · iexists _; isplitl [H15]; · iexact H15
        ipureintro; exact halo_fact arg15 _ Dg s15 _ _ _ (pay163_eq _)
      isplitl [H16]
      · iexists _; isplitl [H16]; · iexact H16
        ipureintro; exact halo_fact arg16 _ Dv s16 _ _ _ (pay1_eq _)
      isplitl [H17]
      · iexists _; isplitl [H17]; · iexact H17
        ipureintro; exact a17
      isplitl [H18]
      · iexists _; isplitl [H18]; · iexact H18
        ipureintro; exact a18
      isplitl [H19]; · iexists _; iexact H19
      iexists _; iexact H20
    · simp only [cc0_ffn_bwd_eq_skeleton]; unfold cc0_ffn_bwd_skel
      iintro ⟨H2, H3, H4, H5, H6, H7, H8, H9, H11, H12, H13, H14, H15, H16, H17, H18, H19, H20, HK⟩
      sl_exec
      sl_step
      iapply HK
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]
      · iexists _; isplitl [H11]; · iexact H11
        ipureintro; exact out_fact arg11 harg11 _ _ _ _ _ _ Dg Dv f11 _ _ trips2 trips3 (w19 _ _ _ (pay142_eq _) (pay143_eq _) (pay144_eq _)) (w20 _ _ _ (pay145_eq _) ((pay147_eq _).trans (pay146_eq _)) (pay148_eq _)) s15 s16
      isplitl [H12]
      · iexists _; isplitl [H12]; · iexact H12
        ipureintro; exact fun h => absurd h h2
      isplitl [H13]
      · iexists _; isplitl [H13]; · iexact H13
        ipureintro; exact fun h => absurd h h2
      isplitl [H14]; · iexists _; iexact H14
      isplitl [H15]
      · iexists _; isplitl [H15]; · iexact H15
        ipureintro; exact halo_fact arg15 _ Dg s15 _ _ _ (pay163_eq _)
      isplitl [H16]
      · iexists _; isplitl [H16]; · iexact H16
        ipureintro; exact halo_fact arg16 _ Dv s16 _ _ _ (pay1_eq _)
      isplitl [H17]
      · iexists _; isplitl [H17]; · iexact H17
        ipureintro; exact a17
      isplitl [H18]
      · iexists _; isplitl [H18]; · iexact H18
        ipureintro; exact a18
      isplitl [H19]; · iexists _; iexact H19
      iexists _; iexact H20
  · obtain ⟨zg, zv, za, zb⟩ := hn h1
    have s15 := scr_fact arg15 harg15 (DG (arg5.view.read (Elt F) f5) (arg14.view.read (Elt F) (arg14.view.writes (Elt F) arg14.view.junk [⟨Rect.unit (s := S512x1408) ![0, 0] S512x1408.size inb_S512x1408_S512x1408_0_0, k0_pay149 (arg2.view.readAt (Elt F) (Rect.unit (s := S512x1024) ![0, 0] S512x1024.size inb_S512x1024_S512x1024_0_0).toLoadRect f2) (arg9.view.readAt (Elt F) (Rect.unit (s := S1408x1024) ![0, 0] S1408x1024.size inb_S1408x1024_S1408x1024_0_0).toLoadRect f9)⟩])) (arg6.view.read (Elt F) f6)) f15 _ trips1 Dg hDg' zg
    have s16 := scr_fact arg16 harg16 (DV (arg5.view.read (Elt F) f5) (arg14.view.read (Elt F) (arg14.view.writes (Elt F) arg14.view.junk [⟨Rect.unit (s := S512x1408) ![0, 0] S512x1408.size inb_S512x1408_S512x1408_0_0, k0_pay149 (arg2.view.readAt (Elt F) (Rect.unit (s := S512x1024) ![0, 0] S512x1024.size inb_S512x1024_S512x1024_0_0).toLoadRect f2) (arg9.view.readAt (Elt F) (Rect.unit (s := S1408x1024) ![0, 0] S1408x1024.size inb_S1408x1024_S1408x1024_0_0).toLoadRect f9)⟩]))) f16 _ trips1 Dv hDv' zv
    have a17 := acc_fact arg17 harg17 (rd (arg3.view.read (Elt F) f3)) _ Dg f17 _ trips2 Ag s15 za
    have a18 := acc_fact arg18 harg18 (rd (arg4.view.read (Elt F) f4)) _ Dv f18 _ trips3 Av s16 zb
    by_cases h2 : k0_cond2 i = 1#1
    · simp only [cc0_ffn_bwd_eq_skeleton]; unfold cc0_ffn_bwd_skel
      iintro ⟨H2, H3, H4, H5, H6, H7, H8, H9, H11, H12, H13, H14, H15, H16, H17, H18, H19, H20, HK⟩
      sl_exec
      sl_step
      iapply HK
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]
      · iexists _; isplitl [H11]; · iexact H11
        ipureintro; exact out_fact arg11 harg11 _ _ _ _ _ _ Dg Dv f11 _ _ trips2 trips3 (w19 _ _ _ (pay142_eq _) (pay143_eq _) (pay144_eq _)) (w20 _ _ _ (pay145_eq _) ((pay147_eq _).trans (pay146_eq _)) (pay148_eq _)) s15 s16
      isplitl [H12]
      · iexists _; isplitl [H12]; · iexact H12
        ipureintro; exact fun _ => dw_fact arg17 _ _ a17 arg12 f12 _ _ _ _ _ rfl
      isplitl [H13]
      · iexists _; isplitl [H13]; · iexact H13
        ipureintro; exact fun _ => dw_fact arg18 _ _ a18 arg13 f13 _ _ _ _ _ rfl
      isplitl [H14]; · iexists _; iexact H14
      isplitl [H15]
      · iexists _; isplitl [H15]; · iexact H15
        ipureintro; exact halo_fact arg15 _ Dg s15 _ _ _ (pay163_eq _)
      isplitl [H16]
      · iexists _; isplitl [H16]; · iexact H16
        ipureintro; exact halo_fact arg16 _ Dv s16 _ _ _ (pay1_eq _)
      isplitl [H17]
      · iexists _; isplitl [H17]; · iexact H17
        ipureintro; exact a17
      isplitl [H18]
      · iexists _; isplitl [H18]; · iexact H18
        ipureintro; exact a18
      isplitl [H19]; · iexists _; iexact H19
      iexists _; iexact H20
    · simp only [cc0_ffn_bwd_eq_skeleton]; unfold cc0_ffn_bwd_skel
      iintro ⟨H2, H3, H4, H5, H6, H7, H8, H9, H11, H12, H13, H14, H15, H16, H17, H18, H19, H20, HK⟩
      sl_exec
      sl_step
      iapply HK
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]
      · iexists _; isplitl [H11]; · iexact H11
        ipureintro; exact out_fact arg11 harg11 _ _ _ _ _ _ Dg Dv f11 _ _ trips2 trips3 (w19 _ _ _ (pay142_eq _) (pay143_eq _) (pay144_eq _)) (w20 _ _ _ (pay145_eq _) ((pay147_eq _).trans (pay146_eq _)) (pay148_eq _)) s15 s16
      isplitl [H12]
      · iexists _; isplitl [H12]; · iexact H12
        ipureintro; exact fun h => absurd h h2
      isplitl [H13]
      · iexists _; isplitl [H13]; · iexact H13
        ipureintro; exact fun h => absurd h h2
      isplitl [H14]; · iexists _; iexact H14
      isplitl [H15]
      · iexists _; isplitl [H15]; · iexact H15
        ipureintro; exact halo_fact arg15 _ Dg s15 _ _ _ (pay163_eq _)
      isplitl [H16]
      · iexists _; isplitl [H16]; · iexact H16
        ipureintro; exact halo_fact arg16 _ Dv s16 _ _ _ (pay1_eq _)
      isplitl [H17]
      · iexists _; isplitl [H17]; · iexact H17
        ipureintro; exact a17
      isplitl [H18]
      · iexists _; isplitl [H18]; · iexact H18
        ipureintro; exact a18
      isplitl [H19]; · iexists _; iexact H19
      iexists _; iexact H20

end Cert.KernelIdeal.Ffn
-- ==== Proof.Run.lean ====
/-
The launch of the feed-forward backward: what is known between the grid points, what each point leaves, and the run they add up to.
-/
module

public import proofs.«01_k».proof.Proof.Body
public import proofs.«01_k».proof.Proof.Gen.KernelIdeal.Frame
public import Idealize.ShloMosaic.Lib.Pipeline.ArrRel

@[expose] public section

set_option maxRecDepth 8192
set_option maxHeartbeats 8000000

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (RDat Dat Cfg Window)

variable {F : FTy → Type} [FloatOps F]

local notation "𝕄G" => MT nD τ sig Unit (Elt F) ℕ (UR sig nD τ) ℕ

/-- One grid point over whole blocks: the buffers named by what they read. -/
theorem kernelRunO (c : Dev nD) (i : grid0.Coords) (arg2 : Memref sig .tc .vmem S512x1024 .bf16) (harg2 : arg2.IsWhole) (arg3 : Memref sig .tc .vmem S512x1408 .bf16) (harg3 : arg3.IsWhole) (arg4 : Memref sig .tc .vmem S512x1408 .bf16) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S3x1408 .f32) (harg7 : arg7.IsWhole) (arg8 : Memref sig .tc .vmem S3x1408 .f32) (harg8 : arg8.IsWhole) (arg9 : Memref sig .tc .vmem S1408x1024 .bf16) (harg9 : arg9.IsWhole) (arg10 : Memref sig .tc .hbm S8x128 .f32) (harg10 : arg10.IsWhole) (arg11 : Memref sig .tc .vmem S2x512x1408 .bf16) (harg11 : arg11.IsWhole) (arg12 : Memref sig .tc .vmem S3x1408 .f32) (harg12 : arg12.IsWhole) (arg13 : Memref sig .tc .vmem S3x1408 .f32) (harg13 : arg13.IsWhole) (arg14 : Memref sig .tc .vmem S512x1408 .f32) (harg14 : arg14.IsWhole) (arg15 : Memref sig .tc .vmem S520x1408 .f32) (harg15 : arg15.IsWhole) (arg16 : Memref sig .tc .vmem S520x1408 .f32) (harg16 : arg16.IsWhole) (arg17 : Memref sig .tc .vmem S24x1408 .f32) (harg17 : arg17.IsWhole) (arg18 : Memref sig .tc .vmem S24x1408 .f32) (harg18 : arg18.IsWhole) (arg19 : Memref sig .tc .vmem S24x1408 .f32) (harg19 : arg19.IsWhole) (arg20 : Memref sig .tc .vmem S24x1408 .f32) (harg20 : arg20.IsWhole) (X2 : Vec F S512x1024 .bf16) (X3 : Vec F S512x1408 .bf16) (X4 : Vec F S512x1408 .bf16) (X5 : Vec F S512x1408 .bf16) (X6 : Vec F S512x1408 .bf16) (X7 : Vec F S3x1408 .f32) (X8 : Vec F S3x1408 .f32) (X9 : Vec F S1408x1024 .bf16) (X11 : Vec F S2x512x1408 .bf16) (X12 : Vec F S3x1408 .f32) (X13 : Vec F S3x1408 .f32) (X14 : Vec F S512x1408 .f32) (X15 : Vec F S520x1408 .f32) (X16 : Vec F S520x1408 .f32) (X17 : Vec F S24x1408 .f32) (X18 : Vec F S24x1408 .f32) (X19 : Vec F S24x1408 .f32) (X20 : Vec F S24x1408 .f32) (K : PUnit → sProp 𝕄G) (Dg Dv Ag Av : ℕ → ℕ → F .f32)
   (hDg : ∀ r l, r < 512 → l < 1408 → DG X5 (k0_pay149 X2 X9) X6 r l = Dg r l)
   (hDv : ∀ r l, r < 512 → l < 1408 → DV X5 (k0_pay149 X2 X9) r l = Dv r l)
   (hz : Scalar.cmpi .ne (Scalar.extui (Scalar.cmpi .eq (BitVec.ofNat 32 (i 1).val) 0#32) : BitVec 32) 0#32 = 1#1 → (∀ r l, r < 8 → l < 1408 → z32 = Dg (512 + r) l) ∧ (∀ r l, r < 8 → l < 1408 → z32 = Dv (512 + r) l)
      ∧ (∀ a l, a < 24 → l < 1408 → z32 = Ag a l) ∧ (∀ a l, a < 24 → l < 1408 → z32 = Av a l))
   (hn : ¬(Scalar.cmpi .ne (Scalar.extui (Scalar.cmpi .eq (BitVec.ofNat 32 (i 1).val) 0#32) : BitVec 32) 0#32 = 1#1) → (∀ r l, r < 8 → l < 1408 → rd X15 (512 + r) l = Dg (512 + r) l) ∧ (∀ r l, r < 8 → l < 1408 → rd X16 (512 + r) l = Dv (512 + r) l)
      ∧ (∀ a l, a < 24 → l < 1408 → rd X17 a l = Ag a l) ∧ (∀ a l, a < 24 → l < 1408 → rd X18 a l = Av a l)) :
  iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20 ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ X : Vec F S2x512x1408 .bf16, ⌜∀ y : S2x512x1408.Idx, X y = if (y 0).val = 0 then tapB (rd X7) Dg (y 1).val (y 2).val else tapB (rd X8) Dv (y 1).val (y 2).val⌝ ∗ owns (c : Thread nD τ) arg11 fullShare X) ∗ (∃ X : Vec F S3x1408 .f32, ⌜k0_cond2 i = 1#1 → X = dwOut (fun a l => FloatOps.addf (Ag a l) (dwE (rd X3) Dg a l))⌝ ∗ owns (c : Thread nD τ) arg12 fullShare X) ∗ (∃ X : Vec F S3x1408 .f32, ⌜k0_cond2 i = 1#1 → X = dwOut (fun a l => FloatOps.addf (Av a l) (dwE (rd X4) Dv a l))⌝ ∗ owns (c : Thread nD τ) arg13 fullShare X) ∗ (∃ X : Vec F S512x1408 .f32, ⌜True⌝ ∗ owns (c : Thread nD τ) arg14 fullShare X) ∗ (∃ X : Vec F S520x1408 .f32, ⌜∀ r l, r < 8 → l < 1408 → rd X (512 + r) l = Dg r l⌝ ∗ owns (c : Thread nD τ) arg15 fullShare X) ∗ (∃ X : Vec F S520x1408 .f32, ⌜∀ r l, r < 8 → l < 1408 → rd X (512 + r) l = Dv r l⌝ ∗ owns (c : Thread nD τ) arg16 fullShare X) ∗ (∃ X : Vec F S24x1408 .f32, ⌜∀ a l, a < 24 → l < 1408 → rd X a l = FloatOps.addf (Ag a l) (dwE (rd X3) Dg a l)⌝ ∗ owns (c : Thread nD τ) arg17 fullShare X) ∗ (∃ X : Vec F S24x1408 .f32, ⌜∀ a l, a < 24 → l < 1408 → rd X a l = FloatOps.addf (Av a l) (dwE (rd X4) Dv a l)⌝ ∗ owns (c : Thread nD τ) arg18 fullShare X) ∗ (∃ X : Vec F S24x1408 .f32, ⌜True⌝ ∗ owns (c : Thread nD τ) arg19 fullShare X) ∗ (∃ X : Vec F S24x1408 .f32, ⌜True⌝ ∗ owns (c : Thread nD τ) arg20 fullShare X)) -∗ K ⟨⟩)) ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, HK⟩
  subst e2 e3 e4 e5 e6 e7 e8 e9 e11 e12 e13 e14 e15 e16 e17 e18 e19 e20
  iapply (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f11 f12 f13 f14 f15 f16 f17 f18 f19 f20 K Dg Dv Ag Av hDg hDv hz hn)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, ⟨%g11, H11, %p11⟩, ⟨%g12, H12, %p12⟩, ⟨%g13, H13, %p13⟩, ⟨%g14, H14⟩, ⟨%g15, H15, %p15⟩, ⟨%g16, H16, %p16⟩, ⟨%g17, H17, %p17⟩, ⟨%g18, H18, %p18⟩, ⟨%g19, H19⟩, ⟨%g20, H20⟩⟩
  iapply HK
  isplitl [H2]; · iexists f2; isplitr; (ipureintro; rfl); iexact H2
  isplitl [H3]; · iexists f3; isplitr; (ipureintro; rfl); iexact H3
  isplitl [H4]; · iexists f4; isplitr; (ipureintro; rfl); iexact H4
  isplitl [H5]; · iexists f5; isplitr; (ipureintro; rfl); iexact H5
  isplitl [H6]; · iexists f6; isplitr; (ipureintro; rfl); iexact H6
  isplitl [H7]; · iexists f7; isplitr; (ipureintro; rfl); iexact H7
  isplitl [H8]; · iexists f8; isplitr; (ipureintro; rfl); iexact H8
  isplitl [H9]; · iexists f9; isplitr; (ipureintro; rfl); iexact H9
  isplitl [H11]; · iexists _; isplitr; swap; (iexists g11; isplitr; (ipureintro; rfl); iexact H11); ipureintro; exact p11
  isplitl [H12]; · iexists _; isplitr; swap; (iexists g12; isplitr; (ipureintro; rfl); iexact H12); ipureintro; exact p12
  isplitl [H13]; · iexists _; isplitr; swap; (iexists g13; isplitr; (ipureintro; rfl); iexact H13); ipureintro; exact p13
  isplitl [H14]; · iexists _; isplitr; swap; (iexists g14; isplitr; (ipureintro; rfl); iexact H14); ipureintro; trivial
  isplitl [H15]; · iexists _; isplitr; swap; (iexists g15; isplitr; (ipureintro; rfl); iexact H15); ipureintro; exact p15
  isplitl [H16]; · iexists _; isplitr; swap; (iexists g16; isplitr; (ipureintro; rfl); iexact H16); ipureintro; exact p16
  isplitl [H17]; · iexists _; isplitr; swap; (iexists g17; isplitr; (ipureintro; rfl); iexact H17); ipureintro; exact p17
  isplitl [H18]; · iexists _; isplitr; swap; (iexists g18; isplitr; (ipureintro; rfl); iexact H18); ipureintro; exact p18
  isplitl [H19]; · iexists _; isplitr; swap; (iexists g19; isplitr; (ipureintro; rfl); iexact H19); ipureintro; trivial
  iexists _; isplitr; swap; (iexists g20; isplitr; (ipureintro; rfl); iexact H20); ipureintro; trivial

/-! ## The points in order -/

variable (m : (ℓ : Loc nD τ sig) → Buf (Elt F) ℓ) (ρ : Dev nD → PrngReg)

/-- The `n`-th grid point. -/
def pt (n : ℕ) : Fin cfg0.N := ⟨n % 16, by show n % 16 < grid0.N; rw [N_0]; exact Nat.mod_lt _ (by decide)⟩
theorem pt_val (t : Fin cfg0.N) : pt t.val = t :=
  Fin.ext (Nat.mod_eq_of_lt (by have h : t.val < grid0.N := t.isLt; rwa [N_0] at h))

/-! The blocks the windows stage at point `n`. -/
def bX2 (c : Dev nD) (n : ℕ) : Vec F S512x1024 .bf16 := iblk m c 0 (pt n)
def bX3 (c : Dev nD) (n : ℕ) : Vec F S512x1408 .bf16 := iblk m c 1 (pt n)
def bX4 (c : Dev nD) (n : ℕ) : Vec F S512x1408 .bf16 := iblk m c 2 (pt n)
def bX5 (c : Dev nD) (n : ℕ) : Vec F S512x1408 .bf16 := iblk m c 3 (pt n)
def bX6 (c : Dev nD) (n : ℕ) : Vec F S512x1408 .bf16 := iblk m c 4 (pt n)
def bX7 (c : Dev nD) (n : ℕ) : Vec F S3x1408 .f32 := iblk m c 5 (pt n)
def bX8 (c : Dev nD) (n : ℕ) : Vec F S3x1408 .f32 := iblk m c 6 (pt n)
def bX9 (c : Dev nD) (n : ℕ) : Vec F S1408x1024 .bf16 := iblk m c 7 (pt n)

/-- The gate half's gradient over the rows of point `n`'s block, then over the halo: the first rows of the block before, none at a column half's start. -/
def DgP (c : Dev nD) (n r l : ℕ) : F .f32 :=
  if r < 512 then DG (bX5 m c n) (k0_pay149 (bX2 m c n) (bX9 m c n)) (bX6 m c n) r l
  else if n % 8 = 0 then z32
  else DG (bX5 m c (n - 1)) (k0_pay149 (bX2 m c (n - 1)) (bX9 m c (n - 1))) (bX6 m c (n - 1)) (r - 512) l
/-- The value half's. -/
def DvP (c : Dev nD) (n r l : ℕ) : F .f32 :=
  if r < 512 then DV (bX5 m c n) (k0_pay149 (bX2 m c n) (bX9 m c n)) r l
  else if n % 8 = 0 then z32
  else DV (bX5 m c (n - 1)) (k0_pay149 (bX2 m c (n - 1)) (bX9 m c (n - 1))) (r - 512) l
/-- The gate half's tap sums before point `n`, and the value half's. -/
def AgP (c : Dev nD) : ℕ → ℕ → ℕ → F .f32
  | 0, _, _ => z32
  | n + 1, a, l => if (n + 1) % 8 = 0 then z32 else FloatOps.addf (AgP c n a l) (dwE (rd (bX3 m c n)) (DgP m c n) a l)
def AvP (c : Dev nD) : ℕ → ℕ → ℕ → F .f32
  | 0, _, _ => z32
  | n + 1, a, l => if (n + 1) % 8 = 0 then z32 else FloatOps.addf (AvP c n a l) (dwE (rd (bX4 m c n)) (DvP m c n) a l)

theorem AgP_zero (c : Dev nD) (n a l : ℕ) (h : n % 8 = 0) : AgP m c n a l = z32 := by
  cases n with
  | zero => rfl
  | succ n => exact if_pos h
theorem AvP_zero (c : Dev nD) (n a l : ℕ) (h : n % 8 = 0) : AvP m c n a l = z32 := by
  cases n with
  | zero => rfl
  | succ n => exact if_pos h
theorem DgP_halo (c : Dev nD) (n r l : ℕ) (h : (n + 1) % 8 ≠ 0) (hr : r < 8) : DgP m c (n + 1) (512 + r) l = DgP m c n r l := by
  unfold DgP
  rw [if_neg (by omega), if_neg h, if_pos (by omega), Nat.add_sub_cancel, Nat.add_sub_cancel_left]
theorem DvP_halo (c : Dev nD) (n r l : ℕ) (h : (n + 1) % 8 ≠ 0) (hr : r < 8) : DvP m c (n + 1) (512 + r) l = DvP m c n r l := by
  unfold DvP
  rw [if_neg (by omega), if_neg h, if_pos (by omega), Nat.add_sub_cancel, Nat.add_sub_cancel_left]

/-- What is known between points: the halo and the tap sums, inside a column half. -/
def Φs (c : Dev nD) (n : ℕ) : sProp 𝕄G :=
  iprop((∃ X : Vec F S512x1408 .f32, owns (c : Thread nD τ) (Memref.whole cc0_scratch0) fullShare X)
    ∗ (∃ X : Vec F S520x1408 .f32, ⌜n % 8 ≠ 0 → ∀ r l, r < 8 → l < 1408 → rd X (512 + r) l = DgP m c n (512 + r) l⌝ ∗ owns (c : Thread nD τ) (Memref.whole cc0_scratch1) fullShare X)
    ∗ (∃ X : Vec F S520x1408 .f32, ⌜n % 8 ≠ 0 → ∀ r l, r < 8 → l < 1408 → rd X (512 + r) l = DvP m c n (512 + r) l⌝ ∗ owns (c : Thread nD τ) (Memref.whole cc0_scratch2) fullShare X)
    ∗ (∃ X : Vec F S24x1408 .f32, ⌜n % 8 ≠ 0 → ∀ a l, a < 24 → l < 1408 → rd X a l = AgP m c n a l⌝ ∗ owns (c : Thread nD τ) (Memref.whole cc0_scratch3) fullShare X)
    ∗ (∃ X : Vec F S24x1408 .f32, ⌜n % 8 ≠ 0 → ∀ a l, a < 24 → l < 1408 → rd X a l = AvP m c n a l⌝ ∗ owns (c : Thread nD τ) (Memref.whole cc0_scratch4) fullShare X)
    ∗ (∃ X : Vec F S24x1408 .f32, owns (c : Thread nD τ) (Memref.whole cc0_scratch5) fullShare X)
    ∗ (∃ X : Vec F S24x1408 .f32, owns (c : Thread nD τ) (Memref.whole cc0_scratch6) fullShare X)
    ∗ ∃ r, prngReg c r)

/-- What the body leaves in each window's buffer. -/
def left (c : Dev nD) : (w : Fin cfg0.W) → Fin cfg0.N → (Y X : (cfg0.win w).block.Idx → Elt F (cfg0.win w).elt) → Prop := fun
  | 0 => fun _ Y X => X = Y | 1 => fun _ Y X => X = Y | 2 => fun _ Y X => X = Y | 3 => fun _ Y X => X = Y
  | 4 => fun _ Y X => X = Y | 5 => fun _ Y X => X = Y | 6 => fun _ Y X => X = Y | 7 => fun _ Y X => X = Y
  | 8 => fun t _ (X : Vec F S2x512x1408 .bf16) => ∀ y : S2x512x1408.Idx, X y = if (y 0).val = 0 then tapB (rd (bX7 m c t.val)) (DgP m c t.val) (y 1).val (y 2).val
      else tapB (rd (bX8 m c t.val)) (DvP m c t.val) (y 1).val (y 2).val
  | 9 => fun t _ (X : Vec F S3x1408 .f32) => t.val % 8 = 7 → X = dwOut (fun a l => FloatOps.addf (AgP m c t.val a l) (dwE (rd (bX3 m c t.val)) (DgP m c t.val) a l))
  | 10 => fun t _ (X : Vec F S3x1408 .f32) => t.val % 8 = 7 → X = dwOut (fun a l => FloatOps.addf (AvP m c t.val a l) (dwE (rd (bX4 m c t.val)) (DvP m c t.val) a l))

/-- The launch's data on core `c`. -/
def rdat (c : Dev nD) : RDat τ (Elt F) Unit ℕ (UR sig nD τ) ℕ cfg0 c where
  A w := V m c (Pipeline.arrRef spec0 w)
  after := left m c
  Φ t := Φs m c t.val
  q w := Pipeline.shareOf spec0 w
  owed _ := 0

theorem A_eq (c : Dev nD) (w : Fin cfg0.W) : (rdat m c).A w = V m c (Pipeline.arrRef spec0 w) := rfl

theorem cond1 : ∀ t : Fin grid0.N, (Scalar.cmpi .ne (Scalar.extui (Scalar.cmpi .eq (BitVec.ofNat 32 (grid0.coords t 1).val) 0#32) : BitVec 32) 0#32 = 1#1 ↔ t.val % 8 = 0) := by decide +kernel
theorem cond2 : ∀ t : Fin grid0.N, (k0_cond2 (grid0.coords t) = 1#1 ↔ t.val % 8 = 7) := by decide +kernel

theorem found2 (c : Dev nD) (t : Fin cfg0.N) (Y) (h : (rdat (F := F) m c).Finds 0 t Y) : Y = bX2 m c t.val := by
  obtain ⟨d, e⟩ := (rdat m c).finds_in_eq_fetched 0 rfl (fun _ _ _ => rfl) (fun _ _ _ h => h) t Y h
  rw [e]; unfold bX2; rw [pt_val]; unfold RDat.fetched RDat.blockOf iblk; rw [A_eq]; rfl
theorem found3 (c : Dev nD) (t : Fin cfg0.N) (Y) (h : (rdat (F := F) m c).Finds 1 t Y) : Y = bX3 m c t.val := by
  obtain ⟨d, e⟩ := (rdat m c).finds_in_eq_fetched 1 rfl (fun _ _ _ => rfl) (fun _ _ _ h => h) t Y h
  rw [e]; unfold bX3; rw [pt_val]; unfold RDat.fetched RDat.blockOf iblk; rw [A_eq]; rfl
theorem found4 (c : Dev nD) (t : Fin cfg0.N) (Y) (h : (rdat (F := F) m c).Finds 2 t Y) : Y = bX4 m c t.val := by
  obtain ⟨d, e⟩ := (rdat m c).finds_in_eq_fetched 2 rfl (fun _ _ _ => rfl) (fun _ _ _ h => h) t Y h
  rw [e]; unfold bX4; rw [pt_val]; unfold RDat.fetched RDat.blockOf iblk; rw [A_eq]; rfl
theorem found5 (c : Dev nD) (t : Fin cfg0.N) (Y) (h : (rdat (F := F) m c).Finds 3 t Y) : Y = bX5 m c t.val := by
  obtain ⟨d, e⟩ := (rdat m c).finds_in_eq_fetched 3 rfl (fun _ _ _ => rfl) (fun _ _ _ h => h) t Y h
  rw [e]; unfold bX5; rw [pt_val]; unfold RDat.fetched RDat.blockOf iblk; rw [A_eq]; rfl
theorem found6 (c : Dev nD) (t : Fin cfg0.N) (Y) (h : (rdat (F := F) m c).Finds 4 t Y) : Y = bX6 m c t.val := by
  obtain ⟨d, e⟩ := (rdat m c).finds_in_eq_fetched 4 rfl (fun _ _ _ => rfl) (fun _ _ _ h => h) t Y h
  rw [e]; unfold bX6; rw [pt_val]; unfold RDat.fetched RDat.blockOf iblk; rw [A_eq]; rfl
theorem found7 (c : Dev nD) (t : Fin cfg0.N) (Y) (h : (rdat (F := F) m c).Finds 5 t Y) : Y = bX7 m c t.val := by
  obtain ⟨d, e⟩ := (rdat m c).finds_in_eq_fetched 5 rfl (fun _ _ _ => rfl) (fun _ _ _ h => h) t Y h
  rw [e]; unfold bX7; rw [pt_val]; unfold RDat.fetched RDat.blockOf iblk; rw [A_eq]; rfl
theorem found8 (c : Dev nD) (t : Fin cfg0.N) (Y) (h : (rdat (F := F) m c).Finds 6 t Y) : Y = bX8 m c t.val := by
  obtain ⟨d, e⟩ := (rdat m c).finds_in_eq_fetched 6 rfl (fun _ _ _ => rfl) (fun _ _ _ h => h) t Y h
  rw [e]; unfold bX8; rw [pt_val]; unfold RDat.fetched RDat.blockOf iblk; rw [A_eq]; rfl
theorem found9 (c : Dev nD) (t : Fin cfg0.N) (Y) (h : (rdat (F := F) m c).Finds 7 t Y) : Y = bX9 m c t.val := by
  obtain ⟨d, e⟩ := (rdat m c).finds_in_eq_fetched 7 rfl (fun _ _ _ => rfl) (fun _ _ _ h => h) t Y h
  rw [e]; unfold bX9; rw [pt_val]; unfold RDat.fetched RDat.blockOf iblk; rw [A_eq]; rfl

/-- The body at a point, from what is known before it to what is known after. -/
theorem sound_body (c : Dev nD) (t : Fin cfg0.N) (Y : (w : Fin cfg0.W) → (cfg0.win w).block.Idx → Elt F (cfg0.win w).elt)
    (hY : ∀ w, (rdat (F := F) m c).Finds w t (Y w)) :
    iprop((rdat m c).Φ t.castSucc ∗ (rdat m c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10))
      ⊢ wp frame (wpE (defs₀ (F := F)) Variants.none c none) Set.univ (bodyAt0 t) fun _ =>
        iprop((rdat m c).Φ t.succ ∗ (rdat m c).owesAt () t.succ ∗ (∃ X, ⌜(rdat m c).after 0 t (Y 0) X⌝ ∗ owns (c : Thread nD τ) (win0_0.stage (cfg0.slots t 0)) fullShare X) ∗ (∃ X, ⌜(rdat m c).after 1 t (Y 1) X⌝ ∗ owns (c : Thread nD τ) (win0_1.stage (cfg0.slots t 1)) fullShare X) ∗ (∃ X, ⌜(rdat m c).after 2 t (Y 2) X⌝ ∗ owns (c : Thread nD τ) (win0_2.stage (cfg0.slots t 2)) fullShare X) ∗ (∃ X, ⌜(rdat m c).after 3 t (Y 3) X⌝ ∗ owns (c : Thread nD τ) (win0_3.stage (cfg0.slots t 3)) fullShare X) ∗ (∃ X, ⌜(rdat m c).after 4 t (Y 4) X⌝ ∗ owns (c : Thread nD τ) (win0_4.stage (cfg0.slots t 4)) fullShare X) ∗ (∃ X, ⌜(rdat m c).after 5 t (Y 5) X⌝ ∗ owns (c : Thread nD τ) (win0_5.stage (cfg0.slots t 5)) fullShare X) ∗ (∃ X, ⌜(rdat m c).after 6 t (Y 6) X⌝ ∗ owns (c : Thread nD τ) (win0_6.stage (cfg0.slots t 6)) fullShare X) ∗ (∃ X, ⌜(rdat m c).after 7 t (Y 7) X⌝ ∗ owns (c : Thread nD τ) (win0_7.stage (cfg0.slots t 7)) fullShare X) ∗ (∃ X, ⌜(rdat m c).after 8 t (Y 8) X⌝ ∗ owns (c : Thread nD τ) (win0_8.stage (cfg0.slots t 8)) fullShare X) ∗ (∃ X, ⌜(rdat m c).after 9 t (Y 9) X⌝ ∗ owns (c : Thread nD τ) (win0_9.stage (cfg0.slots t 9)) fullShare X) ∗ (∃ X, ⌜(rdat m c).after 10 t (Y 10) X⌝ ∗ owns (c : Thread nD τ) (win0_10.stage (cfg0.slots t 10)) fullShare X)) := by
  have y2 := found2 m c t _ (hY 0)
  have y3 := found3 m c t _ (hY 1)
  have y4 := found4 m c t _ (hY 2)
  have y5 := found5 m c t _ (hY 3)
  have y6 := found6 m c t _ (hY 4)
  have y7 := found7 m c t _ (hY 5)
  have y8 := found8 m c t _ (hY 6)
  have y9 := found9 m c t _ (hY 7)
  rw [y2, y3, y4, y5, y6, y7, y8, y9]
  rw [show (rdat m c).Φ t.castSucc = Φs m c t.val from rfl, show (rdat m c).Φ t.succ = Φs m c (t.val + 1) from rfl,
    show (rdat m c).owesAt () t.succ = (rdat m c).owesAt () t.castSucc from rfl]
  unfold Φs
  iintro ⟨⟨⟨%X14, H14⟩, ⟨%X15, %h15, H15⟩, ⟨%X16, %h16, H16⟩, ⟨%X17, %h17, H17⟩, ⟨%X18, %h18, H18⟩, ⟨%X19, H19⟩, ⟨%X20, H20⟩, HR⟩, HO, H2, H3, H4, H5, H6, H7, H8, H9, H11, H12, H13⟩
  iapply (kernelRunO c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole main_arg4) (Memref.isWhole_whole _) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (bX2 m c t.val) (bX3 m c t.val) (bX4 m c t.val) (bX5 m c t.val) (bX6 m c t.val) (bX7 m c t.val) (bX8 m c t.val) (bX9 m c t.val) (Y 8) (Y 9) (Y 10) X14 X15 X16 X17 X18 X19 X20 _
    (DgP m c t.val) (DvP m c t.val) (AgP m c t.val) (AvP m c t.val) (fun r l hr _ => (if_pos hr).symm) (fun r l hr _ => (if_pos hr).symm)
    (fun h1 => have h0 := (cond1 t).mp h1
      ⟨fun r l _ _ => by unfold DgP; rw [if_neg (by omega), if_pos h0], fun r l _ _ => by unfold DvP; rw [if_neg (by omega), if_pos h0],
        fun a l _ _ => (AgP_zero m c _ a l h0).symm, fun a l _ _ => (AvP_zero m c _ a l h0).symm⟩)
    (fun h1 => have h0 := fun h => h1 ((cond1 t).mpr h)
      ⟨h15 h0, h16 h0, h17 h0, h18 h0⟩))
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, ⟨%g11, %p11, H11⟩, ⟨%g12, %p12, H12⟩, ⟨%g13, %p13, H13⟩, ⟨%g14, %p14, H14⟩, ⟨%g15, %p15, H15⟩, ⟨%g16, %p16, H16⟩, ⟨%g17, %p17, H17⟩, ⟨%g18, %p18, H18⟩, ⟨%g19, %p19, H19⟩, ⟨%g20, %p20, H20⟩⟩
  isplitl [H14 H15 H16 H17 H18 H19 H20 HR]
  · isplitl [H14]; · iexists g14; iexact H14
    isplitl [H15]; · iexists g15; isplitr; swap; (iexact H15); ipureintro; exact fun h0 r l hr hl => (p15 r l hr hl).trans (DgP_halo m c _ r l h0 hr).symm
    isplitl [H16]; · iexists g16; isplitr; swap; (iexact H16); ipureintro; exact fun h0 r l hr hl => (p16 r l hr hl).trans (DvP_halo m c _ r l h0 hr).symm
    isplitl [H17]; · iexists g17; isplitr; swap; (iexact H17); ipureintro; exact fun h0 a l ha hl => (p17 a l ha hl).trans (if_neg h0).symm
    isplitl [H18]; · iexists g18; isplitr; swap; (iexact H18); ipureintro; exact fun h0 a l ha hl => (p18 a l ha hl).trans (if_neg h0).symm
    isplitl [H19]; · iexists g19; iexact H19
    isplitl [H20]; · iexists g20; iexact H20
    iexact HR
  isplitl [HO]; · iexact HO
  isplitl [H2]; · iexists _; isplitr; swap; (iexact H2); ipureintro; exact (rfl : bX2 m c t.val = bX2 m c t.val)
  isplitl [H3]; · iexists _; isplitr; swap; (iexact H3); ipureintro; exact (rfl : bX3 m c t.val = bX3 m c t.val)
  isplitl [H4]; · iexists _; isplitr; swap; (iexact H4); ipureintro; exact (rfl : bX4 m c t.val = bX4 m c t.val)
  isplitl [H5]; · iexists _; isplitr; swap; (iexact H5); ipureintro; exact (rfl : bX5 m c t.val = bX5 m c t.val)
  isplitl [H6]; · iexists _; isplitr; swap; (iexact H6); ipureintro; exact (rfl : bX6 m c t.val = bX6 m c t.val)
  isplitl [H7]; · iexists _; isplitr; swap; (iexact H7); ipureintro; exact (rfl : bX7 m c t.val = bX7 m c t.val)
  isplitl [H8]; · iexists _; isplitr; swap; (iexact H8); ipureintro; exact (rfl : bX8 m c t.val = bX8 m c t.val)
  isplitl [H9]; · iexists _; isplitr; swap; (iexact H9); ipureintro; exact (rfl : bX9 m c t.val = bX9 m c t.val)
  isplitl [H11]; · iexists g11; isplitr; swap; (iexact H11); ipureintro; exact p11
  isplitl [H12]; · iexists g12; isplitr; swap; (iexact H12); ipureintro; exact fun h => p12 ((cond2 t).mpr h)
  iexists g13; isplitr; swap; (iexact H13); ipureintro; exact fun h => p13 ((cond2 t).mpr h)

/-- The body table's row at a point is the body there. -/
theorem row (t : Fin cfg0.N) : defs₀ (F := F) .tc cfg0.body (cfg0.bodyArgs t (cfg0.slots t)) = bodyAt0 t := by
  unfold defs₀; rw [Defs.onTc_tc]

theorem obligation (c : Dev nD) : (rdat (F := F) m c).BodyObligation (defs₀ (F := F)) Variants.none () Set.univ := fun t Y hY => by
  rw [bigSep_W0, bigSep_W0, row]
  exact triple_restated (sound_body m c t Y hY) rfl .rfl fun _ => .rfl

theorem enter (c : Dev nD) : (Pipeline.ΦA (U := UR sig nD τ) (Val := Elt F) spec0 c) ⊢ (rdat m c).Φ 0 := by
  rw [show (rdat m c).Φ 0 = Φs m c 0 from rfl]
  unfold Φs Pipeline.ΦA
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩⟩, HR⟩
  isplitl [H0]; · iexists f0; iexact H0
  isplitl [H1]; · iexists f1; isplitr; swap; (iexact H1); ipureintro; exact fun h => absurd rfl h
  isplitl [H2]; · iexists f2; isplitr; swap; (iexact H2); ipureintro; exact fun h => absurd rfl h
  isplitl [H3]; · iexists f3; isplitr; swap; (iexact H3); ipureintro; exact fun h => absurd rfl h
  isplitl [H4]; · iexists f4; isplitr; swap; (iexact H4); ipureintro; exact fun h => absurd rfl h
  isplitl [H5]; · iexists f5; iexact H5
  isplitl [H6]; · iexists f6; iexact H6
  iexact HR

theorem leave (c : Dev nD) : (rdat m c).Φ (Fin.last cfg0.N) ⊢ (Pipeline.ΦA (U := UR sig nD τ) (Val := Elt F) spec0 c) := by
  rw [show (rdat m c).Φ (Fin.last cfg0.N) = Φs m c cfg0.N from rfl]
  unfold Φs Pipeline.ΦA
  rw [scopedRest0_eq]
  simp only [owns_whole]
  iintro ⟨⟨%f0, H0⟩, ⟨%f1, %_, H1⟩, ⟨%f2, %_, H2⟩, ⟨%f3, %_, H3⟩, ⟨%f4, %_, H4⟩, ⟨%f5, H5⟩, ⟨%f6, H6⟩, HR⟩
  isplitl [H0 H1 H2 H3 H4 H5 H6]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    iexists f6; iexact H6
  iexact HR

/-- Every run ends, with the arrays at what the points' write-backs made of them and every counter at zero. -/
theorem run_main : θ_run defs (onTc (τ := τ) (main (F := F))) (s₀ m ρ)
    (fun r => RDat.FramePost cfg0 (rdat m) (V m) r ∧ r.2.sem = fun _ => 0) :=
  Pipeline.RDat.θ_run_frame_track_shared cfgs 0 launch₀0 defs₀ Variants.none (rdat m) m ρ main
    (hbody := obligation m) (hq := fun _ _ _ => rfl) (howed := fun _ _ => rfl) (V := V m) (hmain := hmain m Variants.none)
    (hA := A_eq m) (hin := enter m) (hout := leave m) (Q' := _) (hQ' := fun _ h => h)

/-- The argument arrays end as they began. -/
theorem args_kept {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    (RDat.FramePost.arr_in h c 6 rfl).trans ((A_eq m c 6).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.KernelIdeal.Ffn
-- ==== Proof.Ref.lean ====
/- The reference's run, its line of operations cut in three: the forward convolution, the gradients of the
   convolved array, and the way back through the convolution. -/
module

public import proofs.«01_k».proof.Proof.Gen.ReferenceIdeal
public import Idealize.ShloMosaic.Lib.StableHlo.Run
public import Idealize.ShloMosaic.Lib.StableHlo.RunRead

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- Two rows of the first array, then the second: a shift by two rows. -/
def down2 : (⟨S2x5632, .f32⟩ : BufTy).Contents (Elt F) → (⟨S4094x5632, .f32⟩ : BufTy).Contents (Elt F) → (⟨S4096x5632, .f32⟩ : BufTy).Contents (Elt F) :=
  (fun a b => concatenate S4096x5632 0 [⟨S2x5632, a⟩, ⟨S4094x5632, b⟩] concatenates_S2x5632_S4094x5632_S4096x5632_d0)

/-- One row of the first array, then the second: a shift by one row. -/
def down1 : (⟨S1x5632, .f32⟩ : BufTy).Contents (Elt F) → (⟨S4095x5632, .f32⟩ : BufTy).Contents (Elt F) → (⟨S4096x5632, .f32⟩ : BufTy).Contents (Elt F) :=
  (fun a b => concatenate S4096x5632 0 [⟨S1x5632, a⟩, ⟨S4095x5632, b⟩] concatenates_S1x5632_S4095x5632_S4096x5632_d0)

/-- Two arrays side by side. -/
def side : (⟨S4096x2816, .f32⟩ : BufTy).Contents (Elt F) → (⟨S4096x2816, .f32⟩ : BufTy).Contents (Elt F) → (⟨S4096x5632, .f32⟩ : BufTy).Contents (Elt F) :=
  (fun a b => concatenate S4096x5632 1 [⟨S4096x2816, a⟩, ⟨S4096x2816, b⟩] concatenates_S4096x2816_S4096x2816_S4096x5632_d1)

/-- Two arrays stacked. -/
def halves : (⟨S1x4096x2816, .f32⟩ : BufTy).Contents (Elt F) → (⟨S1x4096x2816, .f32⟩ : BufTy).Contents (Elt F) → (⟨S2x4096x2816, .f32⟩ : BufTy).Contents (Elt F) :=
  (fun a b => concatenate S2x4096x2816 0 [⟨S1x4096x2816, a⟩, ⟨S1x4096x2816, b⟩] concatenates_S1x4096x2816_S1x4096x2816_S2x4096x2816_d0)

/-- The forward convolution and its two halves. -/
abbrev opsA : List (HloOp τ sig (Elt F)) :=
  [ unary main_arg1 main_v0 ((extractStridedSlice S1x5632 ![0, 0] · slices_S3x5632_S1x5632_0_0) : (⟨S3x5632, .f32⟩ : BufTy).Contents (Elt F) → (⟨S1x5632, .f32⟩ : BufTy).Contents (Elt F)),
    reshape main_v0 main_v1 (rfl : (.f32 : EltTy) = .f32) shapeCasts_S1x5632_S5632,
    unary main_v1 main_v2 (broadcastInDim S1x5632 ![1] bcast_S5632_S1x5632_1 : (⟨S5632, .f32⟩ : BufTy).Contents (Elt F) → (⟨S1x5632, .f32⟩ : BufTy).Contents (Elt F)),
    nullary main_cst (constant S_ .f32 0x00000000#32),
    unary main_cst main_v3 (broadcastInDim S2x5632 ![] bcast_S_S2x5632 : (⟨S_, .f32⟩ : BufTy).Contents (Elt F) → (⟨S2x5632, .f32⟩ : BufTy).Contents (Elt F)),
    unary main_arg0 main_v4 ((extractStridedSlice S4094x5632 ![0, 0] · slices_S4096x5632_S4094x5632_0_0) : (⟨S4096x5632, .f32⟩ : BufTy).Contents (Elt F) → (⟨S4094x5632, .f32⟩ : BufTy).Contents (Elt F)),
    binary main_v3 main_v4 main_v5 (down2 (F := F)),
    nullary main_cst_0 (constant S_ .f32 0x00000000#32),
    unary main_cst_0 main_v6 (broadcastInDim S2x5632 ![] bcast_S_S2x5632 : (⟨S_, .f32⟩ : BufTy).Contents (Elt F) → (⟨S2x5632, .f32⟩ : BufTy).Contents (Elt F)),
    unary main_v2 main_v7 (broadcastInDim S4096x5632 ![0, 1] bcast_S1x5632_S4096x5632_0_1 : (⟨S1x5632, .f32⟩ : BufTy).Contents (Elt F) → (⟨S4096x5632, .f32⟩ : BufTy).Contents (Elt F)),
    binary main_v7 main_v5 main_v8 (mulf : (⟨S4096x5632, .f32⟩ : BufTy).Contents (Elt F) → (⟨S4096x5632, .f32⟩ : BufTy).Contents (Elt F) → (⟨S4096x5632, .f32⟩ : BufTy).Contents (Elt F)),
    unary main_arg1 main_v9 ((extractStridedSlice S1x5632 ![1, 0] · slices_S3x5632_S1x5632_1_0) : (⟨S3x5632, .f32⟩ : BufTy).Contents (Elt F) → (⟨S1x5632, .f32⟩ : BufTy).Contents (Elt F)),
    reshape main_v9 main_v10 (rfl : (.f32 : EltTy) = .f32) shapeCasts_S1x5632_S5632,
    unary main_v10 main_v11 (broadcastInDim S1x5632 ![1] bcast_S5632_S1x5632_1 : (⟨S5632, .f32⟩ : BufTy).Contents (Elt F) → (⟨S1x5632, .f32⟩ : BufTy).Contents (Elt F)),
    nullary main_cst_1 (constant S_ .f32 0x00000000#32),
    unary main_cst_1 main_v12 (broadcastInDim S1x5632 ![] bcast_S_S1x5632 : (⟨S_, .f32⟩ : BufTy).Contents (Elt F) → (⟨S1x5632, .f32⟩ : BufTy).Contents (Elt F)),
    unary main_arg0 main_v13 ((extractStridedSlice S4095x5632 ![0, 0] · slices_S4096x5632_S4095x5632_0_0) : (⟨S4096x5632, .f32⟩ : BufTy).Contents (Elt F) → (⟨S4095x5632, .f32⟩ : BufTy).Contents (Elt F)),
    binary main_v12 main_v13 main_v14 (down1 (F := F)),
    nullary main_cst_2 (constant S_ .f32 0x00000000#32),
    unary main_cst_2 main_v15 (broadcastInDim S1x5632 ![] bcast_S_S1x5632 : (⟨S_, .f32⟩ : BufTy).Contents (Elt F) → (⟨S1x5632, .f32⟩ : BufTy).Contents (Elt F)),
    unary main_v11 main_v16 (broadcastInDim S4096x5632 ![0, 1] bcast_S1x5632_S4096x5632_0_1 : (⟨S1x5632, .f32⟩ : BufTy).Contents (Elt F) → (⟨S4096x5632, .f32⟩ : BufTy).Contents (Elt F)),
    binary main_v16 main_v14 main_v17 (mulf : (⟨S4096x5632, .f32⟩ : BufTy).Contents (Elt F) → (⟨S4096x5632, .f32⟩ : BufTy).Contents (Elt F) → (⟨S4096x5632, .f32⟩ : BufTy).Contents (Elt F)),
    binary main_v8 main_v17 main_v18 (addf : (⟨S4096x5632, .f32⟩ : BufTy).Contents (Elt F) → (⟨S4096x5632, .f32⟩ : BufTy).Contents (Elt F) → (⟨S4096x5632, .f32⟩ : BufTy).Contents (Elt F)),
    unary main_arg1 main_v19 ((extractStridedSlice S1x5632 ![2, 0] · slices_S3x5632_S1x5632_2_0) : (⟨S3x5632, .f32⟩ : BufTy).Contents (Elt F) → (⟨S1x5632, .f32⟩ : BufTy).Contents (Elt F)),
    reshape main_v19 main_v20 (rfl : (.f32 : EltTy) = .f32) shapeCasts_S1x5632_S5632,
    unary main_v20 main_v21 (broadcastInDim S1x5632 ![1] bcast_S5632_S1x5632_1 : (⟨S5632, .f32⟩ : BufTy).Contents (Elt F) → (⟨S1x5632, .f32⟩ : BufTy).Contents (Elt F)),
    unary main_v21 main_v22 (broadcastInDim S4096x5632 ![0, 1] bcast_S1x5632_S4096x5632_0_1 : (⟨S1x5632, .f32⟩ : BufTy).Contents (Elt F) → (⟨S4096x5632, .f32⟩ : BufTy).Contents (Elt F)),
    binary main_v22 main_arg0 main_v23 (mulf : (⟨S4096x5632, .f32⟩ : BufTy).Contents (Elt F) → (⟨S4096x5632, .f32⟩ : BufTy).Contents (Elt F) → (⟨S4096x5632, .f32⟩ : BufTy).Contents (Elt F)),
    binary main_v18 main_v23 main_v24 (addf : (⟨S4096x5632, .f32⟩ : BufTy).Contents (Elt F) → (⟨S4096x5632, .f32⟩ : BufTy).Contents (Elt F) → (⟨S4096x5632, .f32⟩ : BufTy).Contents (Elt F)),
    unary main_v24 main_v25 ((extractStridedSlice S4096x2816 ![0, 0] · slices_S4096x5632_S4096x2816_0_0) : (⟨S4096x5632, .f32⟩ : BufTy).Contents (Elt F) → (⟨S4096x2816, .f32⟩ : BufTy).Contents (Elt F)),
    unary main_v24 main_v26 ((extractStridedSlice S4096x2816 ![0, 2816] · slices_S4096x5632_S4096x2816_0_2816) : (⟨S4096x5632, .f32⟩ : BufTy).Contents (Elt F) → (⟨S4096x2816, .f32⟩ : BufTy).Contents (Elt F))]

/-- The gradients of the two halves. -/
abbrev opsB : List (HloOp τ sig (Elt F)) :=
  [ TRef.unary (TRef.of (T := ⟨S4096x2816, .f32⟩) main_v25) (TRef.of (T := ⟨S4096x2816, .f32⟩) main_call0_v0) Host.negf,
    TRef.unary (TRef.of (T := ⟨S4096x2816, .f32⟩) main_call0_v0) (TRef.of (T := ⟨S4096x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4096x2816, .f32⟩) main_call0_v2) (broadcastInDim S4096x2816 ![] bcast_S_S4096x2816),
    TRef.binary (TRef.of (T := ⟨S4096x2816, .f32⟩) main_call0_v2) (TRef.of (T := ⟨S4096x2816, .f32⟩) main_call0_v1) (TRef.of (T := ⟨S4096x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4096x2816, .f32⟩) main_call0_v4) (broadcastInDim S4096x2816 ![] bcast_S_S4096x2816),
    TRef.binary (TRef.of (T := ⟨S4096x2816, .f32⟩) main_call0_v4) (TRef.of (T := ⟨S4096x2816, .f32⟩) main_call0_v3) (TRef.of (T := ⟨S4096x2816, .f32⟩) main_v27_2) Host.divf,
    TRef.nullary (TRef.of (T := ⟨S_, .f32⟩) main_call0_cst_1) (constant S_ .f32 0x3F800000#32),
    TRef.unary (TRef.of (T := ⟨S_, .f32⟩) main_call0_cst_1) (TRef.of (T := ⟨S4096x2816, .f32⟩) main_call0_v6) (broadcastInDim S4096x2816 ![] bcast_S_S4096x2816),
    TRef.binary (TRef.of (T := ⟨S4096x2816, .f32⟩) main_call0_v6) (TRef.of (T := ⟨S4096x2816, .f32⟩) main_v27_2) (TRef.of (T := ⟨S4096x2816, .f32⟩) main_call0_v7) subf,
    TRef.binary (TRef.of (T := ⟨S4096x2816, .f32⟩) main_v27_2) (TRef.of (T := ⟨S4096x2816, .f32⟩) main_call0_v7) (TRef.of (T := ⟨S4096x2816, .f32⟩) main_v27_1) mulf,
    TRef.binary (TRef.of (T := ⟨S4096x2816, .f32⟩) main_v25) (TRef.of (T := ⟨S4096x2816, .f32⟩) main_v27_2) (TRef.of (T := ⟨S4096x2816, .f32⟩) main_v27_0) mulf,
    binary main_v27_0 main_v26 main_v28 (mulf : (⟨S4096x2816, .f32⟩ : BufTy).Contents (Elt F) → (⟨S4096x2816, .f32⟩ : BufTy).Contents (Elt F) → (⟨S4096x2816, .f32⟩ : BufTy).Contents (Elt F)),
    binary main_v28 main_arg2 main_v29 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    binary main_arg3 main_arg2 main_v30 ((fun l r => Host.dotGeneral dot_S4096x1024_S2816x1024_S4096x2816_1_1_0_0_n_n none l r) : (⟨S4096x1024, .f32⟩ : BufTy).Contents (Elt F) → (⟨S2816x1024, .f32⟩ : BufTy).Contents (Elt F) → (⟨S4096x2816, .f32⟩ : BufTy).Contents (Elt F)),
    binary main_v27_0 main_v30 main_v31 (mulf : (⟨S4096x2816, .f32⟩ : BufTy).Contents (Elt F) → (⟨S4096x2816, .f32⟩ : BufTy).Contents (Elt F) → (⟨S4096x2816, .f32⟩ : BufTy).Contents (Elt F)),
    binary main_v30 main_v26 main_v32 (mulf : (⟨S4096x2816, .f32⟩ : BufTy).Contents (Elt F) → (⟨S4096x2816, .f32⟩ : BufTy).Contents (Elt F) → (⟨S4096x2816, .f32⟩ : BufTy).Contents (Elt F)),
    TRef.binary (TRef.of (T := ⟨S4096x2816, .f32⟩) main_v25) (TRef.of (T := ⟨S4096x2816, .f32⟩) main_v32) (TRef.of (T := ⟨S4096x2816, .f32⟩) main_call1_v0) mulf,
    TRef.binary (TRef.of (T := ⟨S4096x2816, .f32⟩) main_v32) (TRef.of (T := ⟨S4096x2816, .f32⟩) main_v27_2) (TRef.of (T := ⟨S4096x2816, .f32⟩) main_call1_v1) mulf,
    TRef.binary (TRef.of (T := ⟨S4096x2816, .f32⟩) main_call1_v0) (TRef.of (T := ⟨S4096x2816, .f32⟩) main_v27_1) (TRef.of (T := ⟨S4096x2816, .f32⟩) main_call1_v2) mulf,
    TRef.binary (TRef.of (T := ⟨S4096x2816, .f32⟩) main_call1_v1) (TRef.of (T := ⟨S4096x2816, .f32⟩) main_call1_v2) (TRef.of (T := ⟨S4096x2816, .f32⟩) main_v33) addf,
    binary main_v33 main_v31 main_v34 (side (F := F))]

/-- The way back through the convolution. -/
abbrev opsC : List (HloOp τ sig (Elt F)) :=
  [ unary main_v21 main_v35 (broadcastInDim S4096x5632 ![0, 1] bcast_S1x5632_S4096x5632_0_1 : (⟨S1x5632, .f32⟩ : BufTy).Contents (Elt F) → (⟨S4096x5632, .f32⟩ : BufTy).Contents (Elt F)),
    binary main_v35 main_v34 main_v36 (mulf : (⟨S4096x5632, .f32⟩ : BufTy).Contents (Elt F) → (⟨S4096x5632, .f32⟩ : BufTy).Contents (Elt F) → (⟨S4096x5632, .f32⟩ : BufTy).Contents (Elt F)),
    binary main_v34 main_arg0 main_v37 (mulf : (⟨S4096x5632, .f32⟩ : BufTy).Contents (Elt F) → (⟨S4096x5632, .f32⟩ : BufTy).Contents (Elt F) → (⟨S4096x5632, .f32⟩ : BufTy).Contents (Elt F)),
    nullary main_cst_3 (constant S_ .f32 0x00000000#32),
    binary main_v37 main_cst_3 main_v38 ((fun x v => Host.reduceAdd x v reducesTo_S4096x5632_S5632_d0 h_S_) : (⟨S4096x5632, .f32⟩ : BufTy).Contents (Elt F) → (⟨S_, .f32⟩ : BufTy).Contents (Elt F) → (⟨S5632, .f32⟩ : BufTy).Contents (Elt F)),
    reshape main_v38 main_v39 (rfl : (.f32 : EltTy) = .f32) shapeCasts_S5632_S1x5632,
    nullary main_cst_4 (constant S_ .f32 0x00000000#32),
    binary main_v39 main_cst_4 main_v40 ((fun x v => Host.reduceAdd x v reducesTo_S1x5632_S5632_d0 h_S_) : (⟨S1x5632, .f32⟩ : BufTy).Contents (Elt F) → (⟨S_, .f32⟩ : BufTy).Contents (Elt F) → (⟨S5632, .f32⟩ : BufTy).Contents (Elt F)),
    unary main_v40 main_v41 (broadcastInDim S1x5632 ![1] bcast_S5632_S1x5632_1 : (⟨S5632, .f32⟩ : BufTy).Contents (Elt F) → (⟨S1x5632, .f32⟩ : BufTy).Contents (Elt F)),
    nullary main_cst_5 (constant S_ .f32 0x00000000#32),
    binary main_v41 main_cst_5 main_v42 ((fun x v => pad S3x5632 ![2, 0] ![0, 0] ![0, 0] x v pads_S1x5632_S3x5632_200_000 h_S_) : (⟨S1x5632, .f32⟩ : BufTy).Contents (Elt F) → (⟨S_, .f32⟩ : BufTy).Contents (Elt F) → (⟨S3x5632, .f32⟩ : BufTy).Contents (Elt F)),
    unary main_v11 main_v43 (broadcastInDim S4096x5632 ![0, 1] bcast_S1x5632_S4096x5632_0_1 : (⟨S1x5632, .f32⟩ : BufTy).Contents (Elt F) → (⟨S4096x5632, .f32⟩ : BufTy).Contents (Elt F)),
    binary main_v43 main_v34 main_v44 (mulf : (⟨S4096x5632, .f32⟩ : BufTy).Contents (Elt F) → (⟨S4096x5632, .f32⟩ : BufTy).Contents (Elt F) → (⟨S4096x5632, .f32⟩ : BufTy).Contents (Elt F)),
    binary main_v34 main_v14 main_v45 (mulf : (⟨S4096x5632, .f32⟩ : BufTy).Contents (Elt F) → (⟨S4096x5632, .f32⟩ : BufTy).Contents (Elt F) → (⟨S4096x5632, .f32⟩ : BufTy).Contents (Elt F)),
    nullary main_cst_6 (constant S_ .f32 0x00000000#32),
    binary main_v45 main_cst_6 main_v46 ((fun x v => Host.reduceAdd x v reducesTo_S4096x5632_S5632_d0 h_S_) : (⟨S4096x5632, .f32⟩ : BufTy).Contents (Elt F) → (⟨S_, .f32⟩ : BufTy).Contents (Elt F) → (⟨S5632, .f32⟩ : BufTy).Contents (Elt F)),
    reshape main_v46 main_v47 (rfl : (.f32 : EltTy) = .f32) shapeCasts_S5632_S1x5632,
    unary main_v44 main_v48 ((extractStridedSlice S1x5632 ![0, 0] · slices_S4096x5632_S1x5632_0_0) : (⟨S4096x5632, .f32⟩ : BufTy).Contents (Elt F) → (⟨S1x5632, .f32⟩ : BufTy).Contents (Elt F)),
    unary main_v44 main_v49 ((extractStridedSlice S4095x5632 ![1, 0] · slices_S4096x5632_S4095x5632_1_0) : (⟨S4096x5632, .f32⟩ : BufTy).Contents (Elt F) → (⟨S4095x5632, .f32⟩ : BufTy).Contents (Elt F)),
    nullary main_cst_7 (constant S_ .f32 0x00000000#32),
    binary main_v49 main_cst_7 main_v50 ((fun x v => pad S4096x5632 ![0, 0] ![1, 0] ![0, 0] x v pads_S4095x5632_S4096x5632_010_000 h_S_) : (⟨S4095x5632, .f32⟩ : BufTy).Contents (Elt F) → (⟨S_, .f32⟩ : BufTy).Contents (Elt F) → (⟨S4096x5632, .f32⟩ : BufTy).Contents (Elt F)),
    binary main_v36 main_v50 main_v51 (addf : (⟨S4096x5632, .f32⟩ : BufTy).Contents (Elt F) → (⟨S4096x5632, .f32⟩ : BufTy).Contents (Elt F) → (⟨S4096x5632, .f32⟩ : BufTy).Contents (Elt F)),
    nullary main_cst_8 (constant S_ .f32 0x00000000#32),
    binary main_v47 main_cst_8 main_v52 ((fun x v => Host.reduceAdd x v reducesTo_S1x5632_S5632_d0 h_S_) : (⟨S1x5632, .f32⟩ : BufTy).Contents (Elt F) → (⟨S_, .f32⟩ : BufTy).Contents (Elt F) → (⟨S5632, .f32⟩ : BufTy).Contents (Elt F)),
    unary main_v52 main_v53 (broadcastInDim S1x5632 ![1] bcast_S5632_S1x5632_1 : (⟨S5632, .f32⟩ : BufTy).Contents (Elt F) → (⟨S1x5632, .f32⟩ : BufTy).Contents (Elt F)),
    nullary main_cst_9 (constant S_ .f32 0x00000000#32),
    binary main_v53 main_cst_9 main_v54 ((fun x v => pad S3x5632 ![1, 0] ![1, 0] ![0, 0] x v pads_S1x5632_S3x5632_110_000 h_S_) : (⟨S1x5632, .f32⟩ : BufTy).Contents (Elt F) → (⟨S_, .f32⟩ : BufTy).Contents (Elt F) → (⟨S3x5632, .f32⟩ : BufTy).Contents (Elt F)),
    binary main_v42 main_v54 main_v55 (addf : (⟨S3x5632, .f32⟩ : BufTy).Contents (Elt F) → (⟨S3x5632, .f32⟩ : BufTy).Contents (Elt F) → (⟨S3x5632, .f32⟩ : BufTy).Contents (Elt F)),
    unary main_v2 main_v56 (broadcastInDim S4096x5632 ![0, 1] bcast_S1x5632_S4096x5632_0_1 : (⟨S1x5632, .f32⟩ : BufTy).Contents (Elt F) → (⟨S4096x5632, .f32⟩ : BufTy).Contents (Elt F)),
    binary main_v56 main_v34 main_v57 (mulf : (⟨S4096x5632, .f32⟩ : BufTy).Contents (Elt F) → (⟨S4096x5632, .f32⟩ : BufTy).Contents (Elt F) → (⟨S4096x5632, .f32⟩ : BufTy).Contents (Elt F)),
    binary main_v34 main_v5 main_v58 (mulf : (⟨S4096x5632, .f32⟩ : BufTy).Contents (Elt F) → (⟨S4096x5632, .f32⟩ : BufTy).Contents (Elt F) → (⟨S4096x5632, .f32⟩ : BufTy).Contents (Elt F)),
    nullary main_cst_10 (constant S_ .f32 0x00000000#32),
    binary main_v58 main_cst_10 main_v59 ((fun x v => Host.reduceAdd x v reducesTo_S4096x5632_S5632_d0 h_S_) : (⟨S4096x5632, .f32⟩ : BufTy).Contents (Elt F) → (⟨S_, .f32⟩ : BufTy).Contents (Elt F) → (⟨S5632, .f32⟩ : BufTy).Contents (Elt F)),
    reshape main_v59 main_v60 (rfl : (.f32 : EltTy) = .f32) shapeCasts_S5632_S1x5632,
    unary main_v57 main_v61 ((extractStridedSlice S2x5632 ![0, 0] · slices_S4096x5632_S2x5632_0_0) : (⟨S4096x5632, .f32⟩ : BufTy).Contents (Elt F) → (⟨S2x5632, .f32⟩ : BufTy).Contents (Elt F)),
    unary main_v57 main_v62 ((extractStridedSlice S4094x5632 ![2, 0] · slices_S4096x5632_S4094x5632_2_0) : (⟨S4096x5632, .f32⟩ : BufTy).Contents (Elt F) → (⟨S4094x5632, .f32⟩ : BufTy).Contents (Elt F)),
    nullary main_cst_11 (constant S_ .f32 0x00000000#32),
    binary main_v62 main_cst_11 main_v63 ((fun x v => pad S4096x5632 ![0, 0] ![2, 0] ![0, 0] x v pads_S4094x5632_S4096x5632_020_000 h_S_) : (⟨S4094x5632, .f32⟩ : BufTy).Contents (Elt F) → (⟨S_, .f32⟩ : BufTy).Contents (Elt F) → (⟨S4096x5632, .f32⟩ : BufTy).Contents (Elt F)),
    binary main_v51 main_v63 main_v64 (addf : (⟨S4096x5632, .f32⟩ : BufTy).Contents (Elt F) → (⟨S4096x5632, .f32⟩ : BufTy).Contents (Elt F) → (⟨S4096x5632, .f32⟩ : BufTy).Contents (Elt F)),
    nullary main_cst_12 (constant S_ .f32 0x00000000#32),
    binary main_v60 main_cst_12 main_v65 ((fun x v => Host.reduceAdd x v reducesTo_S1x5632_S5632_d0 h_S_) : (⟨S1x5632, .f32⟩ : BufTy).Contents (Elt F) → (⟨S_, .f32⟩ : BufTy).Contents (Elt F) → (⟨S5632, .f32⟩ : BufTy).Contents (Elt F)),
    unary main_v65 main_v66 (broadcastInDim S1x5632 ![1] bcast_S5632_S1x5632_1 : (⟨S5632, .f32⟩ : BufTy).Contents (Elt F) → (⟨S1x5632, .f32⟩ : BufTy).Contents (Elt F)),
    nullary main_cst_13 (constant S_ .f32 0x00000000#32),
    binary main_v66 main_cst_13 main_v67 ((fun x v => pad S3x5632 ![0, 0] ![2, 0] ![0, 0] x v pads_S1x5632_S3x5632_020_000 h_S_) : (⟨S1x5632, .f32⟩ : BufTy).Contents (Elt F) → (⟨S_, .f32⟩ : BufTy).Contents (Elt F) → (⟨S3x5632, .f32⟩ : BufTy).Contents (Elt F)),
    binary main_v55 main_v67 main_v68 (addf : (⟨S3x5632, .f32⟩ : BufTy).Contents (Elt F) → (⟨S3x5632, .f32⟩ : BufTy).Contents (Elt F) → (⟨S3x5632, .f32⟩ : BufTy).Contents (Elt F)),
    unary main_v64 main_v69 ((extractStridedSlice S4096x2816 ![0, 0] · slices_S4096x5632_S4096x2816_0_0) : (⟨S4096x5632, .f32⟩ : BufTy).Contents (Elt F) → (⟨S4096x2816, .f32⟩ : BufTy).Contents (Elt F)),
    unary main_v64 main_v70 ((extractStridedSlice S4096x2816 ![0, 2816] · slices_S4096x5632_S4096x2816_0_2816) : (⟨S4096x5632, .f32⟩ : BufTy).Contents (Elt F) → (⟨S4096x2816, .f32⟩ : BufTy).Contents (Elt F)),
    unary main_v69 main_v71 (broadcastInDim S1x4096x2816 ![1, 2] bcast_S4096x2816_S1x4096x2816_1_2 : (⟨S4096x2816, .f32⟩ : BufTy).Contents (Elt F) → (⟨S1x4096x2816, .f32⟩ : BufTy).Contents (Elt F)),
    unary main_v70 main_v72 (broadcastInDim S1x4096x2816 ![1, 2] bcast_S4096x2816_S1x4096x2816_1_2 : (⟨S4096x2816, .f32⟩ : BufTy).Contents (Elt F) → (⟨S1x4096x2816, .f32⟩ : BufTy).Contents (Elt F)),
    binary main_v71 main_v72 main_v73 (halves (F := F)),
    unary main_v73 main_v74 ((truncf .bf16 · bitsLt_bf16_f32) : (⟨S2x4096x2816, .f32⟩ : BufTy).Contents (Elt F) → (⟨S2x4096x2816, .bf16⟩ : BufTy).Contents (Elt F)),
    unary main_v68 main_v75 ((extractStridedSlice S3x2816 ![0, 0] · slices_S3x5632_S3x2816_0_0) : (⟨S3x5632, .f32⟩ : BufTy).Contents (Elt F) → (⟨S3x2816, .f32⟩ : BufTy).Contents (Elt F)),
    unary main_v68 main_v76 ((extractStridedSlice S3x2816 ![0, 2816] · slices_S3x5632_S3x2816_0_2816) : (⟨S3x5632, .f32⟩ : BufTy).Contents (Elt F) → (⟨S3x2816, .f32⟩ : BufTy).Contents (Elt F)) ]

set_option maxRecDepth 8192 in
set_option maxHeartbeats 4000000 in
theorem main_eq (c : Dev nD) : main (F := F) c = seq (opsA ++ (opsB ++ opsC)) := rfl
theorem no_refs : (Finset.univ.filter fun b : Ref sig .tc => b.isScoped) = ∅ := by decide
theorem no_sems : (Finset.univ.filter fun sm : SemLoc sig => sm.isScoped .tc) = ∅ := by decide
set_option maxRecDepth 8192 in
theorem ops_sub : (opsA ++ (opsB ++ opsC) : List (HloOp τ sig (Elt F))).Forall fun op => op.bufs ⊆ tcRefs τ sig :=
  ⟨unary_bufs_sub .., reshape_bufs_sub .., unary_bufs_sub .., nullary_bufs_sub .., unary_bufs_sub ..,
   unary_bufs_sub .., binary_bufs_sub .., nullary_bufs_sub .., unary_bufs_sub .., unary_bufs_sub ..,
   binary_bufs_sub .., unary_bufs_sub .., reshape_bufs_sub .., unary_bufs_sub .., nullary_bufs_sub ..,
   unary_bufs_sub .., unary_bufs_sub .., binary_bufs_sub .., nullary_bufs_sub .., unary_bufs_sub ..,
   unary_bufs_sub .., binary_bufs_sub .., binary_bufs_sub .., unary_bufs_sub .., reshape_bufs_sub ..,
   unary_bufs_sub .., unary_bufs_sub .., binary_bufs_sub .., binary_bufs_sub .., unary_bufs_sub ..,
   unary_bufs_sub .., unary_bufs_sub .., unary_bufs_sub .., nullary_bufs_sub .., unary_bufs_sub ..,
   binary_bufs_sub .., nullary_bufs_sub .., unary_bufs_sub .., binary_bufs_sub .., nullary_bufs_sub ..,
   unary_bufs_sub .., binary_bufs_sub .., binary_bufs_sub .., binary_bufs_sub .., binary_bufs_sub ..,
   binary_bufs_sub .., binary_bufs_sub .., binary_bufs_sub .., binary_bufs_sub .., binary_bufs_sub ..,
   binary_bufs_sub .., binary_bufs_sub .., binary_bufs_sub .., binary_bufs_sub .., unary_bufs_sub ..,
   binary_bufs_sub .., binary_bufs_sub .., nullary_bufs_sub .., binary_bufs_sub .., reshape_bufs_sub ..,
   nullary_bufs_sub .., binary_bufs_sub .., unary_bufs_sub .., nullary_bufs_sub .., binary_bufs_sub ..,
   unary_bufs_sub .., binary_bufs_sub .., binary_bufs_sub .., nullary_bufs_sub .., binary_bufs_sub ..,
   reshape_bufs_sub .., unary_bufs_sub .., unary_bufs_sub .., nullary_bufs_sub .., binary_bufs_sub ..,
   binary_bufs_sub .., nullary_bufs_sub .., binary_bufs_sub .., unary_bufs_sub .., nullary_bufs_sub ..,
   binary_bufs_sub .., binary_bufs_sub .., unary_bufs_sub .., binary_bufs_sub .., binary_bufs_sub ..,
   nullary_bufs_sub .., binary_bufs_sub .., reshape_bufs_sub .., unary_bufs_sub .., unary_bufs_sub ..,
   nullary_bufs_sub .., binary_bufs_sub .., binary_bufs_sub .., nullary_bufs_sub .., binary_bufs_sub ..,
   unary_bufs_sub .., nullary_bufs_sub .., binary_bufs_sub .., binary_bufs_sub .., unary_bufs_sub ..,
   unary_bufs_sub .., unary_bufs_sub .., unary_bufs_sub .., binary_bufs_sub .., unary_bufs_sub ..,
   unary_bufs_sub .., unary_bufs_sub ..⟩

set_option maxRecDepth 8192 in
/-- Every run ends with each buffer at what the line of operations leaves in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (opsA ++ (opsB ++ opsC)) (launchContents m c) (Proc.devRef .tc b) :=
  run_seq no_refs no_sems defs main (fun _ => opsA ++ (opsB ++ opsC)) main_eq (fun _ => ops_sub) m ρ

set_option maxRecDepth 8192 in
set_option maxHeartbeats 4000000 in
/-- The argument arrays end as they began. -/
theorem args_kept (m : (ℓ : Loc nD τ sig) → Buf (Elt F) ℓ) (c : Dev nD) :
    after (opsA ++ (opsB ++ opsC)) (launchContents m c) (Proc.devRef .tc main_arg0) = m ((c.tc : Thread nD τ).loc main_arg0)
    ∧ after (opsA ++ (opsB ++ opsC)) (launchContents m c) (Proc.devRef .tc main_arg1) = m ((c.tc : Thread nD τ).loc main_arg1)
    ∧ after (opsA ++ (opsB ++ opsC)) (launchContents m c) (Proc.devRef .tc main_arg2) = m ((c.tc : Thread nD τ).loc main_arg2)
    ∧ after (opsA ++ (opsB ++ opsC)) (launchContents m c) (Proc.devRef .tc main_arg3) = m ((c.tc : Thread nD τ).loc main_arg3)
    ∧ after (opsA ++ (opsB ++ opsC)) (launchContents m c) (Proc.devRef .tc main_arg4) = m ((c.tc : Thread nD τ).loc main_arg4) := by
  simp only [List.cons_append, List.nil_append, TRef.binary, TRef.nullary, TRef.unary, TRef.toBuf, TRef.ofBuf, cast_eq]
  refine ⟨?_, ?_, ?_, ?_, ?_⟩ <;> after_reads_simp <;> rfl

end Cert.ReferenceIdeal.Ref

end
-- ==== Proof.Same.lean ====
/- The kernel and its idealization are printed from one text: their body tables and their @main agree, over any float
   values. -/
module

public import proofs.«01_k».proof.Proof.Gen.Kernel
public import proofs.«01_k».proof.Proof.Gen.KernelIdeal

@[expose] public section
noncomputable section
namespace Cert.Proof.Same
open Idealize.ShloMosaic Idealize.SL.Sem
variable {F : FTy → Type} [FloatOps F]

theorem body_same : @Cert.Kernel.cc0_ffn_bwd F _ Cert.Kernel.Gen.facts = @Cert.KernelIdeal.cc0_ffn_bwd F _ Cert.KernelIdeal.Gen.facts := rfl

set_option maxHeartbeats 1000000 in
theorem table_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel.defs F _ Cert.Kernel.Gen.facts = @Cert.KernelIdeal.defs F _ Cert.KernelIdeal.Gen.facts :=
  congrArg (Pipeline.defs Cert.KernelIdeal.pcfgs) table_same

set_option maxHeartbeats 4000000 in
set_option maxRecDepth 8192 in
theorem main_same : @Cert.Kernel.main F _ Cert.Kernel.Gen.facts = @Cert.KernelIdeal.main F _ Cert.KernelIdeal.Gen.facts := rfl
end Cert.Proof.Same
end
-- ==== Proof.Blocks.lean ====
/- The blocks each grid point stages, read as rows and columns of the whole arrays. -/
module

public import proofs.«01_k».proof.Proof.Run

@[expose] public section

set_option maxRecDepth 16384

noncomputable section

namespace Cert.KernelIdeal.Ffn

open Idealize.ShloMosaic Idealize.ShloMosaic.TcCoe Idealize.SL.Sem
open Cert.KernelIdeal Cert.KernelIdeal.Gen

/-- Where each window's block sits at each point: the row blocks run downwards, twice, once per half of the columns. -/
theorem idx : ∀ t : Fin cfg0.N, win0_0.index t = ![7 - t.val % 8, 0] ∧ win0_1.index t = ![7 - t.val % 8, t.val / 8]
    ∧ win0_2.index t = ![7 - t.val % 8, t.val / 8 + 2] ∧ win0_3.index t = ![7 - t.val % 8, t.val / 8]
    ∧ win0_4.index t = ![7 - t.val % 8, t.val / 8] ∧ win0_5.index t = ![0, t.val / 8] ∧ win0_6.index t = ![0, t.val / 8 + 2]
    ∧ win0_7.index t = ![t.val / 8, 0] ∧ win0_8.index t = ![0, 7 - t.val % 8, t.val / 8]
    ∧ win0_9.index t = ![0, t.val / 8] ∧ win0_10.index t = ![0, t.val / 8] :=
  (by decide +kernel : ∀ t : Fin grid0.N, _)

variable {F : FTy → Type} [FloatOps F]
variable (m : (ℓ : Loc nD τ sig) → Buf (Elt F) ℓ)

/-! The whole arrays the launch reads. -/
def aU (c : Dev nD) : Vec F S4096x5632 .bf16 := V m c main_v0
def aG (c : Dev nD) : Vec F S4096x2816 .bf16 := V m c main_v26
def aV (c : Dev nD) : Vec F S4096x2816 .bf16 := V m c main_v27
def aX (c : Dev nD) : Vec F S4096x1024 .bf16 := V m c main_v28
def aD (c : Dev nD) : Vec F S2816x1024 .bf16 := V m c main_v29
def aW (c : Dev nD) : Vec F S3x5632 .f32 := V m c main_arg1

theorem pt_eq {n : ℕ} (hn : n < 16) : (pt n).val = n := Nat.mod_eq_of_lt hn

theorem rd_X2 (c : Dev nD) (n r l : ℕ) (hn : n < 16) (hr : r < 512) (hl : l < 1024) :
    rd (bX2 m c n) r l = rd (aX m c) (512 * (7 - n % 8) + r) l := by
  have hp := pt_eq hn
  rw [rd_ix (bX2 m c n) (r) (l) (hr) (hl),
    rd_ix (aX m c) (512 * (7 - n % 8) + r) (l) (by omega) (hl)]
  unfold bX2 aX
  blk_ext [iblk, idx (pt n), hp]
theorem rd_X3 (c : Dev nD) (n r l : ℕ) (hn : n < 16) (hr : r < 512) (hl : l < 1408) :
    rd (bX3 m c n) r l = rd (aU m c) (512 * (7 - n % 8) + r) (1408 * (n / 8) + l) := by
  have hp := pt_eq hn
  rw [rd_ix (bX3 m c n) (r) (l) (hr) (hl),
    rd_ix (aU m c) (512 * (7 - n % 8) + r) (1408 * (n / 8) + l) (by omega) (by omega)]
  unfold bX3 aU
  blk_ext [iblk, idx (pt n), hp]
theorem rd_X4 (c : Dev nD) (n r l : ℕ) (hn : n < 16) (hr : r < 512) (hl : l < 1408) :
    rd (bX4 m c n) r l = rd (aU m c) (512 * (7 - n % 8) + r) (2816 + (1408 * (n / 8) + l)) := by
  have hp := pt_eq hn
  rw [rd_ix (bX4 m c n) (r) (l) (hr) (hl),
    rd_ix (aU m c) (512 * (7 - n % 8) + r) (2816 + (1408 * (n / 8) + l)) (by omega) (by omega)]
  unfold bX4 aU
  blk_ext [iblk, idx (pt n), hp]
theorem rd_X5 (c : Dev nD) (n r l : ℕ) (hn : n < 16) (hr : r < 512) (hl : l < 1408) :
    rd (bX5 m c n) r l = rd (aG m c) (512 * (7 - n % 8) + r) (1408 * (n / 8) + l) := by
  have hp := pt_eq hn
  rw [rd_ix (bX5 m c n) (r) (l) (hr) (hl),
    rd_ix (aG m c) (512 * (7 - n % 8) + r) (1408 * (n / 8) + l) (by omega) (by omega)]
  unfold bX5 aG
  blk_ext [iblk, idx (pt n), hp]
theorem rd_X6 (c : Dev nD) (n r l : ℕ) (hn : n < 16) (hr : r < 512) (hl : l < 1408) :
    rd (bX6 m c n) r l = rd (aV m c) (512 * (7 - n % 8) + r) (1408 * (n / 8) + l) := by
  have hp := pt_eq hn
  rw [rd_ix (bX6 m c n) (r) (l) (hr) (hl),
    rd_ix (aV m c) (512 * (7 - n % 8) + r) (1408 * (n / 8) + l) (by omega) (by omega)]
  unfold bX6 aV
  blk_ext [iblk, idx (pt n), hp]
theorem rd_X7 (c : Dev nD) (n k l : ℕ) (hn : n < 16) (hk : k < 3) (hl : l < 1408) :
    rd (bX7 m c n) k l = rd (aW m c) k (1408 * (n / 8) + l) := by
  have hp := pt_eq hn
  rw [rd_ix (bX7 m c n) (k) (l) (hk) (hl),
    rd_ix (aW m c) (k) (1408 * (n / 8) + l) (hk) (by omega)]
  unfold bX7 aW
  blk_ext [iblk, idx (pt n), hp]
theorem rd_X8 (c : Dev nD) (n k l : ℕ) (hn : n < 16) (hk : k < 3) (hl : l < 1408) :
    rd (bX8 m c n) k l = rd (aW m c) k (2816 + (1408 * (n / 8) + l)) := by
  have hp := pt_eq hn
  rw [rd_ix (bX8 m c n) (k) (l) (hk) (hl),
    rd_ix (aW m c) (k) (2816 + (1408 * (n / 8) + l)) (hk) (by omega)]
  unfold bX8 aW
  blk_ext [iblk, idx (pt n), hp]
theorem rd_X9 (c : Dev nD) (n j d : ℕ) (hn : n < 16) (hj : j < 1408) (hd : d < 1024) :
    rd (bX9 m c n) j d = rd (aD m c) (1408 * (n / 8) + j) d := by
  have hp := pt_eq hn
  rw [rd_ix (bX9 m c n) (j) (d) (hj) (hd),
    rd_ix (aD m c) (1408 * (n / 8) + j) (d) (by omega) (hd)]
  unfold bX9 aD
  blk_ext [iblk, idx (pt n), hp]

end Cert.KernelIdeal.Ffn
-- ==== Proof.Closed.lean ====
/- What the launch leaves, in closed form over the whole arrays, floats read as extended reals. -/
module

public import proofs.«01_k».proof.Proof.Blocks
public import Idealize.ShloMosaic.PureOps.Ideal.Laws
public import Idealize.ShloMosaic.Lib.Pipeline.ArrRel

@[expose] public section

set_option maxRecDepth 16384

noncomputable section

namespace Cert.KernelIdeal.Ffn

open Idealize.ShloMosaic Idealize.ShloMosaic.TcCoe Idealize.SL.Sem
open Idealize.ShloMosaic.Pipeline (RDat Dat Cfg Window)
open Cert.KernelIdeal Cert.KernelIdeal.Gen

variable (m : (ℓ : Loc nD τ sig) → Buf (Elt Ideal) ℓ)

/-! ## Sums cut into rows -/

/-- A sum over `a * b` numbers, taken `b` at a time. -/
theorem sum_rows {M : Type} [AddCommMonoid M] (f : ℕ → M) (a b : ℕ) :
    ∑ x ∈ Finset.range a, ∑ y ∈ Finset.range b, f (b * x + y) = ∑ s ∈ Finset.range (b * a), f s := by
  induction a with
  | zero => simp
  | succ a ih => rw [Finset.sum_range_succ, ih, Nat.mul_succ, Finset.sum_range_add]

/-- The rows of a column, gone through block by block from the last, the residues modulo eight taken apart. -/
theorem sum_blocks {M : Type} [AddCommMonoid M] (f : ℕ → M) :
    ∑ e ∈ Finset.range 8, ∑ i ∈ Finset.range 8, ∑ b ∈ Finset.range 8, ∑ q ∈ Finset.range 8, f (512 * (7 - i) + (64 * b + 8 * q + e))
      = ∑ s ∈ Finset.range 4096, f s := by
  have h1 : ∑ s ∈ Finset.range 4096, f s = ∑ i ∈ Finset.range 8, ∑ r ∈ Finset.range 512, f (512 * i + r) := (sum_rows f 8 512).symm
  have h2 (i : ℕ) : ∑ r ∈ Finset.range 512, f (512 * i + r)
      = ∑ b ∈ Finset.range 8, ∑ q ∈ Finset.range 8, ∑ e ∈ Finset.range 8, f (512 * i + (64 * b + 8 * q + e)) := by
    rw [show (512 : ℕ) = 64 * 8 from rfl, ← sum_rows (fun r => f (64 * 8 * i + r)) 8 64]
    refine Finset.sum_congr rfl fun b _ => ?_
    rw [show (64 : ℕ) = 8 * 8 from rfl, ← sum_rows (fun r => f (8 * 8 * 8 * i + (8 * 8 * b + r))) 8 8]
    refine Finset.sum_congr rfl fun q _ => Finset.sum_congr rfl fun e _ => ?_
    simp only [Nat.add_assoc]
  rw [h1, ← Finset.sum_range_reflect (fun i => ∑ r ∈ Finset.range 512, f (512 * i + r)), Finset.sum_comm]
  refine Finset.sum_congr rfl fun i _ => ?_
  rw [h2, Finset.sum_comm]
  refine Finset.sum_congr rfl fun b _ => ?_
  rw [Finset.sum_comm]

/-! ## One point -/

/-- The gradient of the feed-forward's inner product, row `s` and column `j`. -/
def dact (c : Dev nD) (s j : ℕ) : EReal := ∑ d : Fin 1024, (rd (aX m c) s d.val : EReal) * (rd (aD m c) j d.val : EReal)

theorem rd_dact (c : Dev nD) (n r l : ℕ) (hn : n < 16) (hr : r < 512) (hl : l < 1408) :
    rd (k0_pay149 (bX2 m c n) (bX9 m c n)) r l = dact m c (512 * (7 - n % 8) + r) (1408 * (n / 8) + l) := by
  rw [rd_ix _ r l hr hl]
  pointwise [k0_pay149]
  unfold dact
  refine Finset.sum_congr rfl fun d _ => ?_
  rw [← rd_X2 m c n r d.val hn hr d.isLt, ← rd_X9 m c n l d.val hn hl d.isLt, rd_ix _ r d.val hr d.isLt, rd_ix _ l d.val hl d.isLt]

/-- The gradients of the two halves of the convolved array, none below the last row. -/
def gG (c : Dev nD) (s j : ℕ) : EReal := if s < 4096 then dgE (F := Ideal) (rd (aG m c) s j) (dact m c s j) (rd (aV m c) s j) else 0
def gV (c : Dev nD) (s j : ℕ) : EReal := if s < 4096 then dvE (F := Ideal) (rd (aG m c) s j) (dact m c s j) else 0

theorem z32_eq : (z32 : Ideal .f32) = (0 : EReal) := by
  pointwise [z32]

theorem DgP_eq (c : Dev nD) (n r l : ℕ) (hn : n < 16) (hr : r < 520) (hl : l < 1408) :
    DgP m c n r l = gG m c (512 * (7 - n % 8) + r) (1408 * (n / 8) + l) := by
  unfold DgP gG
  by_cases h : r < 512
  · rw [if_pos h, if_pos (by omega)]
    unfold DG
    rw [rd_X5 m c n r l hn h hl, rd_X6 m c n r l hn h hl, rd_dact m c n r l hn h hl]
  · rw [if_neg h]
    by_cases h0 : n % 8 = 0
    · rw [if_pos h0, if_neg (by omega)]; exact z32_eq
    · rw [if_neg h0, if_pos (by omega)]
      unfold DG
      have hn' : n - 1 < 16 := by omega
      have hr' : r - 512 < 512 := by omega
      rw [rd_X5 m c (n - 1) _ l hn' hr' hl, rd_X6 m c (n - 1) _ l hn' hr' hl, rd_dact m c (n - 1) _ l hn' hr' hl,
        show 512 * (7 - (n - 1) % 8) + (r - 512) = 512 * (7 - n % 8) + r by omega, show (n - 1) / 8 = n / 8 by omega]

theorem DvP_eq (c : Dev nD) (n r l : ℕ) (hn : n < 16) (hr : r < 520) (hl : l < 1408) :
    DvP m c n r l = gV m c (512 * (7 - n % 8) + r) (1408 * (n / 8) + l) := by
  unfold DvP gV
  by_cases h : r < 512
  · rw [if_pos h, if_pos (by omega)]
    unfold DV
    rw [rd_X5 m c n r l hn h hl, rd_dact m c n r l hn h hl]
  · rw [if_neg h]
    by_cases h0 : n % 8 = 0
    · rw [if_pos h0, if_neg (by omega)]; exact z32_eq
    · rw [if_neg h0, if_pos (by omega)]
      unfold DV
      have hn' : n - 1 < 16 := by omega
      have hr' : r - 512 < 512 := by omega
      rw [rd_X5 m c (n - 1) _ l hn' hr' hl, rd_dact m c (n - 1) _ l hn' hr' hl,
        show 512 * (7 - (n - 1) % 8) + (r - 512) = 512 * (7 - n % 8) + r by omega, show (n - 1) / 8 = n / 8 by omega]

/-! ## The tap sums -/

theorem fold8_eq (g : ℕ → Ideal .f32) : fold8 g = ∑ b ∈ Finset.range 8, (g b : EReal) := by
  show (((((((g 0 : EReal) + g 1) + g 2) + g 3) + g 4) + g 5) + g 6) + g 7 = _
  simp only [Finset.sum_range_succ, Finset.sum_range_zero, zero_add]

theorem dwE_eq (U : ℕ → ℕ → Ideal .bf16) (D : ℕ → ℕ → Ideal .f32) (a l : ℕ) :
    dwE U D a l = ∑ b ∈ Finset.range 8, ∑ q ∈ Finset.range 8,
      (U (64 * b + 8 * q + a % 8) l : EReal) * (D (64 * b + 8 * q + a % 8 + (2 - a / 8)) l : EReal) := by
  unfold dwE
  rw [fold8_eq]
  refine Finset.sum_congr rfl fun b _ => ?_
  rw [fold8_eq]
  rfl

theorem AgP_eq (c : Dev nD) (a l : ℕ) : ∀ n, AgP m c n a l
    = ∑ i ∈ Finset.range (n % 8), (dwE (rd (bX3 m c (8 * (n / 8) + i))) (DgP m c (8 * (n / 8) + i)) a l : EReal)
  | 0 => by simpa [AgP] using z32_eq
  | n + 1 => by
    by_cases h : (n + 1) % 8 = 0
    · rw [h, Finset.range_zero, Finset.sum_empty]
      simpa [AgP, h] using z32_eq
    · rw [AgP, if_neg h, AgP_eq c a l n, show (n + 1) % 8 = n % 8 + 1 by omega, show (n + 1) / 8 = n / 8 by omega,
        Finset.sum_range_succ, show 8 * (n / 8) + n % 8 = n by omega]
      rfl

theorem AvP_eq (c : Dev nD) (a l : ℕ) : ∀ n, AvP m c n a l
    = ∑ i ∈ Finset.range (n % 8), (dwE (rd (bX4 m c (8 * (n / 8) + i))) (DvP m c (8 * (n / 8) + i)) a l : EReal)
  | 0 => by simpa [AvP] using z32_eq
  | n + 1 => by
    by_cases h : (n + 1) % 8 = 0
    · rw [h, Finset.range_zero, Finset.sum_empty]
      simpa [AvP, h] using z32_eq
    · rw [AvP, if_neg h, AvP_eq c a l n, show (n + 1) % 8 = n % 8 + 1 by omega, show (n + 1) / 8 = n / 8 by omega,
        Finset.sum_range_succ, show 8 * (n / 8) + n % 8 = n by omega]
      rfl

/-- Row `k` of the tap gradients: eight rows of the running sums added. -/
theorem dwOut_eq (N : ℕ → ℕ → Ideal .f32) (y : S3x1408.Idx) :
    dwOut N y = ∑ e ∈ Finset.range 8, (N (8 * (y 0).val + e) (y 1).val : EReal) := by
  have hy : (y 0).val < 3 := (y 0).isLt
  have hk : (y 0).val = 0 ∨ (y 0).val = 1 ∨ (y 0).val = 2 := by omega
  unfold dwOut
  rcases hk with h | h | h <;> pointwise [k0_pay2] <;> simp only [h] <;> exact Fin.sum_univ_eq_sum_range (fun x => (N (_ + x) (y 1).val : EReal)) 8

theorem acc_g (c : Dev nD) (n a l : ℕ) (h7 : n % 8 = 7) (hn : n < 16) :
    (FloatOps.addf (AgP m c n a l) (dwE (rd (bX3 m c n)) (DgP m c n) a l) : Ideal .f32)
      = ∑ i ∈ Finset.range 8, (dwE (rd (bX3 m c (8 * (n / 8) + i))) (DgP m c (8 * (n / 8) + i)) a l : EReal) := by
  rw [AgP_eq, h7, Finset.sum_range_succ (n := 7), show 8 * (n / 8) + 7 = n by omega]
  rfl

theorem acc_v (c : Dev nD) (n a l : ℕ) (h7 : n % 8 = 7) (hn : n < 16) :
    (FloatOps.addf (AvP m c n a l) (dwE (rd (bX4 m c n)) (DvP m c n) a l) : Ideal .f32)
      = ∑ i ∈ Finset.range 8, (dwE (rd (bX4 m c (8 * (n / 8) + i))) (DvP m c (8 * (n / 8) + i)) a l : EReal) := by
  rw [AvP_eq, h7, Finset.sum_range_succ (n := 7), show 8 * (n / 8) + 7 = n by omega]
  rfl

/-- The gradient of one tap: a column of the input against the gradient shifted by the tap. -/
def tapSum (U D : ℕ → ℕ → EReal) (k j j' : ℕ) : EReal := ∑ s ∈ Finset.range 4096, U s j * D (s + (2 - k)) j'

theorem dw_g (c : Dev nD) (n : ℕ) (h7 : n % 8 = 7) (hn : n < 16) (y : S3x1408.Idx) :
    dwOut (fun a l => FloatOps.addf (AgP m c n a l) (dwE (rd (bX3 m c n)) (DgP m c n) a l)) y
      = tapSum (rd (aU m c)) (gG m c) (y 0).val (1408 * (n / 8) + (y 1).val) (1408 * (n / 8) + (y 1).val) := by
  have hy : (y 0).val < 3 := (y 0).isLt
  have hl : (y 1).val < 1408 := (y 1).isLt
  rw [dwOut_eq]
  unfold tapSum
  rw [← sum_blocks]
  refine Finset.sum_congr rfl fun e he => ?_
  have he := Finset.mem_range.mp he
  rw [acc_g m c n _ _ h7 hn]
  refine Finset.sum_congr rfl fun i hi => ?_
  have hi := Finset.mem_range.mp hi
  rw [dwE_eq]
  refine Finset.sum_congr rfl fun b hb => Finset.sum_congr rfl fun q hq => ?_
  have hb := Finset.mem_range.mp hb
  have hq := Finset.mem_range.mp hq
  rw [show (8 * (y 0).val + e) % 8 = e by omega, show (8 * (y 0).val + e) / 8 = (y 0).val by omega,
    rd_X3 m c _ _ _ (by omega) (by omega) hl, DgP_eq m c _ _ _ (by omega) (by omega) hl,
    show (8 * (n / 8) + i) % 8 = i by omega, show (8 * (n / 8) + i) / 8 = n / 8 by omega, Nat.add_assoc (512 * (7 - i))]

theorem dw_v (c : Dev nD) (n : ℕ) (h7 : n % 8 = 7) (hn : n < 16) (y : S3x1408.Idx) :
    dwOut (fun a l => FloatOps.addf (AvP m c n a l) (dwE (rd (bX4 m c n)) (DvP m c n) a l)) y
      = tapSum (rd (aU m c)) (gV m c) (y 0).val (2816 + (1408 * (n / 8) + (y 1).val)) (1408 * (n / 8) + (y 1).val) := by
  have hy : (y 0).val < 3 := (y 0).isLt
  have hl : (y 1).val < 1408 := (y 1).isLt
  rw [dwOut_eq]
  unfold tapSum
  rw [← sum_blocks]
  refine Finset.sum_congr rfl fun e he => ?_
  have he := Finset.mem_range.mp he
  rw [acc_v m c n _ _ h7 hn]
  refine Finset.sum_congr rfl fun i hi => ?_
  have hi := Finset.mem_range.mp hi
  rw [dwE_eq]
  refine Finset.sum_congr rfl fun b hb => Finset.sum_congr rfl fun q hq => ?_
  have hb := Finset.mem_range.mp hb
  have hq := Finset.mem_range.mp hq
  rw [show (8 * (y 0).val + e) % 8 = e by omega, show (8 * (y 0).val + e) / 8 = (y 0).val by omega,
    rd_X4 m c _ _ _ (by omega) (by omega) hl, DvP_eq m c _ _ _ (by omega) (by omega) hl,
    show (8 * (n / 8) + i) % 8 = i by omega, show (8 * (n / 8) + i) / 8 = n / 8 by omega, Nat.add_assoc (512 * (7 - i))]

/-- The gradient sent back through the three taps, row `s`; the tap weights sit at column `j`. -/
def tapBack (W : ℕ → ℕ → EReal) (D : ℕ → ℕ → EReal) (s j j' : ℕ) : EReal :=
  (W 0 j * D (s + 2) j' + W 1 j * D (s + 1) j') + W 2 j * D s j'

theorem tap_g (c : Dev nD) (n r l : ℕ) (hn : n < 16) (hr : r < 512) (hl : l < 1408) :
    tapB (rd (bX7 m c n)) (DgP m c n) r l
      = tapBack (rd (aW m c)) (gG m c) (512 * (7 - n % 8) + r) (1408 * (n / 8) + l) (1408 * (n / 8) + l) := by
  unfold tapB tapBack
  rw [DgP_eq m c n (r + 2) l hn (by omega) hl, DgP_eq m c n (r + 1) l hn (by omega) hl, DgP_eq m c n r l hn (by omega) hl,
    rd_X7 m c n 0 l hn (by omega) hl, rd_X7 m c n 1 l hn (by omega) hl, rd_X7 m c n 2 l hn (by omega) hl]
  rfl

theorem tap_v (c : Dev nD) (n r l : ℕ) (hn : n < 16) (hr : r < 512) (hl : l < 1408) :
    tapB (rd (bX8 m c n)) (DvP m c n) r l
      = tapBack (rd (aW m c)) (gV m c) (512 * (7 - n % 8) + r) (2816 + (1408 * (n / 8) + l)) (1408 * (n / 8) + l) := by
  unfold tapB tapBack
  rw [DvP_eq m c n (r + 2) l hn (by omega) hl, DvP_eq m c n (r + 1) l hn (by omega) hl, DvP_eq m c n r l hn (by omega) hl,
    rd_X8 m c n 0 l hn (by omega) hl, rd_X8 m c n 1 l hn (by omega) hl, rd_X8 m c n 2 l hn (by omega) hl]
  rfl

/-! ## The three results -/

/-- The first result: both halves of the gradient of the input. -/
def G8 (c : Dev nD) : Vec Ideal S2x4096x2816 .bf16 := fun i =>
  if (i 0).val = 0 then tapBack (rd (aW m c)) (gG m c) (i 1).val (i 2).val (i 2).val
  else tapBack (rd (aW m c)) (gV m c) (i 1).val (2816 + (i 2).val) (i 2).val
/-- The second and third: the gradients of the taps, gate half and value half. -/
def G9 (c : Dev nD) : Vec Ideal S3x2816 .f32 := fun i => tapSum (rd (aU m c)) (gG m c) (i 0).val (i 1).val (i 1).val
def G10 (c : Dev nD) : Vec Ideal S3x2816 .f32 := fun i => tapSum (rd (aU m c)) (gV m c) (i 0).val (2816 + (i 1).val) (i 1).val

theorem results {r : PUnit × MemSt nD τ sig (Elt Ideal)} (h : RDat.FramePost cfg0 (rdat m) (V m) r) (c : Dev nD) :
    r.2.mem ((c.tc : Thread nD τ).loc main_v30_0) = G8 m c ∧ r.2.mem ((c.tc : Thread nD τ).loc main_v30_1) = G9 m c
      ∧ r.2.mem ((c.tc : Thread nD τ).loc main_v30_2) = G10 m c := by
  obtain ⟨after, hL, hA⟩ := RDat.FramePost.exists_exact h c
  have hN (t : Fin cfg0.N) : t.val < 16 := t.isLt
  refine ⟨(hA 8).trans ?_, (hA 9).trans ?_, (hA 10).trans ?_⟩
  · refine ((rdat m c).withAfter after).arrAt_eq_of_covers 8 (G8 m c) (by decide +kernel) fun t hf y => ?_
    obtain ⟨Y, _, hY⟩ := hL 8 t hf
    have hY : ∀ y : S2x512x1408.Idx, after 8 t y = if (y 0).val = 0 then tapB (rd (bX7 m c t.val)) (DgP m c t.val) (y 1).val (y 2).val
      else tapB (rd (bX8 m c t.val)) (DvP m c t.val) (y 1).val (y 2).val := hY
    have y1 : (y 1).val < 512 := (y 1).isLt
    have y2 : (y 2).val < 1408 := (y 2).isLt
    blk_simp [idx t]
    refine (hY y).trans ?_
    rw [tap_g m c t.val _ _ (hN t) y1 y2, tap_v m c t.val _ _ (hN t) y1 y2]
    unfold G8
    blk_simp [idx t]
    simp only [Nat.mul_comm (7 - t.val % 8), Nat.mul_comm (t.val / 8)]
  · refine ((rdat m c).withAfter after).arrAt_eq_of_covers 9 (G9 m c) (by decide +kernel) fun t hf y => ?_
    obtain ⟨Y, _, hY⟩ := hL 9 t hf
    have h7 : t.val % 8 = 7 := ((by decide +kernel) : ∀ t : Fin cfg0.N, (cfg0.win 9).flush t = true → t.val % 8 = 7) t hf
    have hY := hY h7
    blk_simp [idx t]
    refine (congrFun hY y).trans ((dw_g m c t.val h7 (hN t) y).trans ?_)
    unfold G9
    blk_simp [idx t]
    simp only [Nat.mul_comm (7 - t.val % 8), Nat.mul_comm (t.val / 8)]
  · refine ((rdat m c).withAfter after).arrAt_eq_of_covers 10 (G10 m c) (by decide +kernel) fun t hf y => ?_
    obtain ⟨Y, _, hY⟩ := hL 10 t hf
    have h7 : t.val % 8 = 7 := ((by decide +kernel) : ∀ t : Fin cfg0.N, (cfg0.win 10).flush t = true → t.val % 8 = 7) t hf
    have hY := hY h7
    blk_simp [idx t]
    refine (congrFun hY y).trans ((dw_v m c t.val h7 (hN t) y).trans ?_)
    unfold G10
    blk_simp [idx t]
    simp only [Nat.mul_comm (7 - t.val % 8), Nat.mul_comm (t.val / 8)]

end Cert.KernelIdeal.Ffn
-- ==== Proof.HostIn.lean ====
/- The arrays the launch reads, in the kernel's arguments, floats read as extended reals. -/
module

public import proofs.«01_k».proof.Proof.Closed
public import Idealize.ShloMosaic.Lib.StableHlo.ReadAt

@[expose] public section

set_option maxRecDepth 16384

noncomputable section

namespace Cert.KernelIdeal.Ffn

open Idealize.ShloMosaic Idealize.ShloMosaic.TcCoe Idealize.SL.Sem
open Cert.KernelIdeal Cert.KernelIdeal.Gen

variable (m : (ℓ : Loc nD τ sig) → Buf (Elt Ideal) ℓ)

/-- A column moved down `k` rows, zero above. -/
def dn (U : ℕ → ℕ → EReal) (k s l : ℕ) : EReal := if s < k then 0 else U (s - k) l
/-- The causal convolution of three taps. -/
def conv (W U : ℕ → ℕ → EReal) (s l : ℕ) : EReal := (W 0 l * dn U 2 s l + W 1 l * dn U 1 s l) + W 2 l * U s l

/-! The arguments, read by row and column. -/
def rU (c : Dev nD) : ℕ → ℕ → EReal := rd (m ((c.tc : Thread nD τ).loc main_arg0) : Vec Ideal S4096x5632 .f32)
def rW (c : Dev nD) : ℕ → ℕ → EReal := rd (m ((c.tc : Thread nD τ).loc main_arg1) : Vec Ideal S3x5632 .f32)
def rD (c : Dev nD) : ℕ → ℕ → EReal := rd (m ((c.tc : Thread nD τ).loc main_arg2) : Vec Ideal S2816x1024 .f32)
def rX (c : Dev nD) : ℕ → ℕ → EReal := rd (m ((c.tc : Thread nD τ).loc main_arg3) : Vec Ideal S4096x1024 .f32)

theorem aW_eq (c : Dev nD) (k l : ℕ) (hk : k < 3) (hl : l < 5632) : (rd (aW m c) k l : EReal) = rW m c k l := by
  unfold aW rW
  rw [rd_ix _ k l hk hl, rd_ix _ k l hk hl]
  entry_read
  rfl
theorem aU_eq (c : Dev nD) (s l : ℕ) (hs : s < 4096) (hl : l < 5632) : (rd (aU m c) s l : EReal) = rU m c s l := by
  unfold aU rU
  rw [rd_ix _ s l hs hl, rd_ix _ s l hs hl]
  unfold V
  after_reads_at
theorem aX_eq (c : Dev nD) (s l : ℕ) (hs : s < 4096) (hl : l < 1024) : (rd (aX m c) s l : EReal) = rX m c s l := by
  unfold aX rX
  rw [rd_ix _ s l hs hl, rd_ix _ s l hs hl]
  unfold V
  after_reads_at
theorem aD_eq (c : Dev nD) (s l : ℕ) (hs : s < 2816) (hl : l < 1024) : (rd (aD m c) s l : EReal) = rD m c s l := by
  unfold aD rD
  rw [rd_ix _ s l hs hl, rd_ix _ s l hs hl]
  unfold V
  after_reads_at
theorem aG_eq (c : Dev nD) (s l : ℕ) (hs : s < 4096) (hl : l < 2816) : (rd (aG m c) s l : EReal) = conv (rW m c) (rU m c) s (l) := by
  unfold conv dn rU rW
  have hl' : l < 5632 := by omega
  rw [rd_ix (aG m c) s l hs hl, rd_ix _ s (l) hs hl', rd_ix _ 0 (l) (by decide) hl', rd_ix _ 1 (l) (by decide) hl', rd_ix _ 2 (l) (by decide) hl',
    rd_ix _ (s - 2) (l) (by omega) hl', rd_ix _ (s - 1) (l) (by omega) hl']
  unfold aG V
  after_reads_at
  by_cases h2 : s < 2
  · by_cases h1 : s < 1
    · simp only [dif_pos h2, dif_pos h1, if_pos h2, if_pos h1]
      after_reads_at
    · simp only [dif_pos h2, dif_neg h1, if_pos h2, if_neg h1]
      after_reads_at
  · have h1 : ¬ s < 1 := by omega
    simp only [dif_neg h2, dif_neg h1, if_neg h2, if_neg h1]
    after_reads_at
theorem aV_eq (c : Dev nD) (s l : ℕ) (hs : s < 4096) (hl : l < 2816) : (rd (aV m c) s l : EReal) = conv (rW m c) (rU m c) s (2816 + l) := by
  unfold conv dn rU rW
  have hl' : 2816 + l < 5632 := by omega
  rw [rd_ix (aV m c) s l hs hl, rd_ix _ s (2816 + l) hs hl', rd_ix _ 0 (2816 + l) (by decide) hl', rd_ix _ 1 (2816 + l) (by decide) hl', rd_ix _ 2 (2816 + l) (by decide) hl',
    rd_ix _ (s - 2) (2816 + l) (by omega) hl', rd_ix _ (s - 1) (2816 + l) (by omega) hl']
  unfold aV V
  after_reads_at
  by_cases h2 : s < 2
  · by_cases h1 : s < 1
    · simp only [dif_pos h2, dif_pos h1, if_pos h2, if_pos h1]
      after_reads_at
    · simp only [dif_pos h2, dif_neg h1, if_pos h2, if_neg h1]
      after_reads_at
  · have h1 : ¬ s < 1 := by omega
    simp only [dif_neg h2, dif_neg h1, if_neg h2, if_neg h1]
    after_reads_at

end Cert.KernelIdeal.Ffn
-- ==== Proof.RefValue.lean ====
/- The reference's results, element by element, floats read as extended reals. -/
module

public import proofs.«01_k».proof.Proof.HostIn
public import proofs.«01_k».proof.Proof.Ref

@[expose] public section

set_option maxRecDepth 16384

noncomputable section

namespace Cert.ReferenceIdeal.Ref

open Cert.ReferenceIdeal Cert.ReferenceIdeal.Gen Idealize.ShloMosaic Idealize.ShloMosaic.TcCoe Idealize.SL.Sem Idealize.ShloMosaic.StableHlo
open Cert.KernelIdeal.Ffn (rd rd_ix dn conv)

variable (V : Valuation τ sig (Elt Ideal))

/-! A buffer of the line, read by row and column. -/
def qU : ℕ → ℕ → EReal := rd (V (Proc.devRef .tc main_arg0) : Vec Ideal S4096x5632 .f32)
def qW : ℕ → ℕ → EReal := rd (V (Proc.devRef .tc main_arg1) : Vec Ideal S3x5632 .f32)
def qD : ℕ → ℕ → EReal := rd (V (Proc.devRef .tc main_arg2) : Vec Ideal S2816x1024 .f32)
def qX : ℕ → ℕ → EReal := rd (V (Proc.devRef .tc main_arg3) : Vec Ideal S4096x1024 .f32)
def q2 : ℕ → ℕ → EReal := rd (V (Proc.devRef .tc main_v2) : Vec Ideal S1x5632 .f32)
def q11 : ℕ → ℕ → EReal := rd (V (Proc.devRef .tc main_v11) : Vec Ideal S1x5632 .f32)
def q21 : ℕ → ℕ → EReal := rd (V (Proc.devRef .tc main_v21) : Vec Ideal S1x5632 .f32)
def q5 : ℕ → ℕ → EReal := rd (V (Proc.devRef .tc main_v5) : Vec Ideal S4096x5632 .f32)
def q14 : ℕ → ℕ → EReal := rd (V (Proc.devRef .tc main_v14) : Vec Ideal S4096x5632 .f32)
def q24 : ℕ → ℕ → EReal := rd (V (Proc.devRef .tc main_v24) : Vec Ideal S4096x5632 .f32)
def q25 : ℕ → ℕ → EReal := rd (V (Proc.devRef .tc main_v25) : Vec Ideal S4096x2816 .f32)
def q26 : ℕ → ℕ → EReal := rd (V (Proc.devRef .tc main_v26) : Vec Ideal S4096x2816 .f32)
def q34 : ℕ → ℕ → EReal := rd (V (Proc.devRef .tc main_v34) : Vec Ideal S4096x5632 .f32)

/-! ## The forward convolution -/

theorem a2 (l : ℕ) (hl : l < 5632) : q2 (after opsA V) 0 l = qW V 0 l := by
  unfold q2 qW
  rw [rd_ix _ 0 l (by decide) hl, rd_ix _ 0 l (by decide) hl]
  after_reads_at
theorem a11 (l : ℕ) (hl : l < 5632) : q11 (after opsA V) 0 l = qW V 1 l := by
  unfold q11 qW
  rw [rd_ix _ 0 l (by decide) hl, rd_ix _ 1 l (by decide) hl]
  after_reads_at
theorem a21 (l : ℕ) (hl : l < 5632) : q21 (after opsA V) 0 l = qW V 2 l := by
  unfold q21 qW
  rw [rd_ix _ 0 l (by decide) hl, rd_ix _ 2 l (by decide) hl]
  after_reads_at
theorem a5 (s l : ℕ) (hs : s < 4096) (hl : l < 5632) : q5 (after opsA V) s l = dn (qU V) 2 s l := by
  unfold q5 dn qU
  rw [rd_ix _ s l hs hl, rd_ix _ (s - 2) l (by omega) hl]
  after_reads_simp
  unfold down2
  after_reads_at
  by_cases h : s < 2
  · simp only [dif_pos h, if_pos h]
  · simp only [dif_neg h, if_neg h]
theorem a14 (s l : ℕ) (hs : s < 4096) (hl : l < 5632) : q14 (after opsA V) s l = dn (qU V) 1 s l := by
  unfold q14 dn qU
  rw [rd_ix _ s l hs hl, rd_ix _ (s - 1) l (by omega) hl]
  after_reads_simp
  unfold down1
  after_reads_at
  by_cases h : s < 1
  · simp only [dif_pos h, if_pos h]
  · simp only [dif_neg h, if_neg h]
theorem a25 (s l : ℕ) (hs : s < 4096) (hl : l < 2816) : q25 (after opsA V) s l = conv (qW V) (qU V) s l := by
  have hl' : l < 5632 := by omega
  unfold conv
  rw [← a2 V l hl', ← a11 V l hl', ← a21 V l hl', ← a5 V s l hs hl', ← a14 V s l hs hl']
  unfold q25 q2 q11 q21 q5 q14 qU
  rw [rd_ix _ s l hs hl, rd_ix _ s l hs hl', rd_ix _ 0 l (by decide) hl', rd_ix _ 0 l (by decide) hl', rd_ix _ 0 l (by decide) hl',
    rd_ix _ s l hs hl', rd_ix _ s l hs hl']
  after_reads_at
theorem a26 (s l : ℕ) (hs : s < 4096) (hl : l < 2816) : q26 (after opsA V) s l = conv (qW V) (qU V) s (2816 + l) := by
  have hl' : 2816 + l < 5632 := by omega
  unfold conv
  rw [← a2 V _ hl', ← a11 V _ hl', ← a21 V _ hl', ← a5 V s _ hs hl', ← a14 V s _ hs hl']
  unfold q26 q2 q11 q21 q5 q14 qU
  rw [rd_ix _ s l hs hl, rd_ix _ s _ hs hl', rd_ix _ 0 _ (by decide) hl', rd_ix _ 0 _ (by decide) hl', rd_ix _ 0 _ (by decide) hl',
    rd_ix _ s _ hs hl', rd_ix _ s _ hs hl']
  after_reads_at
theorem aU : qU (after opsA V) = qU V := by
  unfold qU
  after_reads_simp
theorem aD : qD (after opsA V) = qD V := by
  unfold qD
  after_reads_simp
theorem aX : qX (after opsA V) = qX V := by
  unfold qX
  after_reads_simp

/-! ## The gradients of the convolved array -/

theorem b2 : q2 (after opsB V) = q2 V := by
  unfold q2
  after_reads_simp
theorem b11 : q11 (after opsB V) = q11 V := by
  unfold q11
  after_reads_simp
theorem b21 : q21 (after opsB V) = q21 V := by
  unfold q21
  after_reads_simp
theorem b5 : q5 (after opsB V) = q5 V := by
  unfold q5
  after_reads_simp
theorem b14 : q14 (after opsB V) = q14 V := by
  unfold q14
  after_reads_simp
theorem bU : qU (after opsB V) = qU V := by
  unfold qU
  after_reads_simp

def dactR (s j : ℕ) : EReal := ∑ d : Fin 1024, qX V s d.val * qD V j d.val

/-- The logistic function as the reference computes it. -/
def sgR (g : EReal) : EReal := Ideal.div 1 (1 + Ideal.exp (-g))
def dgR (g d cv : EReal) : EReal := (d * cv) * sgR g + (g * (d * cv)) * (sgR g * (1 - sgR g))
def dvR (g d : EReal) : EReal := (g * sgR g) * d

theorem dot_eq (A : Vec Ideal S4096x1024 .f32) (B : Vec Ideal S2816x1024 .f32) (s j : ℕ) (hs : s < 4096) (hj : j < 2816) :
    (∑ d : Fin 1024, (rd A s d.val : EReal) * (rd B j d.val : EReal)) = ∑ x : Fin 1024, (A (ix2 ⟨s, hs⟩ x) : EReal) * (B (ix2 ⟨j, hj⟩ x) : EReal) := by
  refine Finset.sum_congr rfl fun x _ => ?_
  rw [rd_ix _ s x.val hs x.isLt, rd_ix _ j x.val hj x.isLt]

theorem b34g (s l : ℕ) (hs : s < 4096) (hl : l < 2816) : q34 (after opsB V) s l = dgR (q25 V s l) (dactR V s l) (q26 V s l) := by
  unfold q34 q25 q26 dgR sgR
  rw [show dactR V s l = _ from dot_eq (V (Proc.tc.devRef main_arg3)) (V (Proc.tc.devRef main_arg2)) s l hs hl, rd_ix _ s l hs (by omega), rd_ix _ s l hs hl, rd_ix _ s l hs hl]
  after_reads_simp
  unfold side
  after_reads_at
  rw [dif_pos hl]
theorem b34v (s l : ℕ) (hs : s < 4096) (hl : l < 2816) : q34 (after opsB V) s (2816 + l) = dvR (q25 V s l) (dactR V s l) := by
  unfold q34 q25 dvR sgR
  rw [show dactR V s l = _ from dot_eq (V (Proc.tc.devRef main_arg3)) (V (Proc.tc.devRef main_arg2)) s l hs hl, rd_ix _ s (2816 + l) hs (by omega), rd_ix _ s l hs hl]
  after_reads_simp
  unfold side
  after_reads_at

/-! ## Back through the convolution -/

/-- The gradient, none below the last row. -/
def Dz (s j : ℕ) : EReal := if s < 4096 then q34 V s j else 0

/-- The gradient sent back through the three taps. -/
def back (s j : ℕ) : EReal := (q21 V 0 j * Dz V s j + q11 V 0 j * Dz V (1 + s) j) + q2 V 0 j * Dz V (2 + s) j

theorem back_ix (W2 W1 W0 : Vec Ideal S1x5632 .f32) (D : Vec Ideal S4096x5632 .f32) (s j : ℕ) (hs : s < 4096) (hj : j < 5632) :
    ((rd W2 0 j : EReal) * (if s < 4096 then (rd D s j : EReal) else 0) + (rd W1 0 j : EReal) * (if 1 + s < 4096 then (rd D (1 + s) j : EReal) else 0))
      + (rd W0 0 j : EReal) * (if 2 + s < 4096 then (rd D (2 + s) j : EReal) else 0)
    = ((W2 (ix2 0 ⟨j, hj⟩) : EReal) * (D (ix2 ⟨s, hs⟩ ⟨j, hj⟩) : EReal)
          + if h : s < 4095 ∧ j < 5632 then (W1 (ix2 0 ⟨j, hj⟩) : EReal) * (D (ix2 ⟨1 + s, by omega⟩ ⟨j, hj⟩) : EReal) else (0 : EReal))
        + (if h : s < 4094 ∧ j < 5632 then (W0 (ix2 0 ⟨j, hj⟩) : EReal) * (D (ix2 ⟨2 + s, by omega⟩ ⟨j, hj⟩) : EReal) else (0 : EReal)) := by
  rw [if_pos hs, rd_ix _ s j hs hj, rd_ix _ 0 j (by decide) hj, rd_ix _ 0 j (by decide) hj, rd_ix _ 0 j (by decide) hj]
  by_cases h1 : s < 4095
  · rw [dif_pos ⟨h1, hj⟩, if_pos (by omega), rd_ix _ (1 + s) j (by omega) hj]
    by_cases h2 : s < 4094
    · rw [dif_pos ⟨h2, hj⟩, if_pos (by omega), rd_ix _ (2 + s) j (by omega) hj]
      rfl
    · rw [dif_neg (fun h => h2 h.1), if_neg (by omega), mul_zero]
      rfl
  · rw [dif_neg (fun h => h1 h.1), if_neg (by omega), mul_zero, dif_neg (fun h => by omega), if_neg (by omega), mul_zero]
    rfl

theorem c74g (i : S2x4096x2816.Idx) (h : (i 0).val = 0) : after opsC V (Proc.devRef .tc main_v74) i = back V (i 1).val ((i 2).val) := by
  have h1 : (i 1).val < 4096 := (i 1).isLt
  have h2 : (i 2).val < 2816 := (i 2).isLt
  have hj : (i 2).val < 5632 := by omega
  rw [show back V (i 1).val ((i 2).val) = _ from
    back_ix (V (Proc.tc.devRef main_v21)) (V (Proc.tc.devRef main_v11)) (V (Proc.tc.devRef main_v2)) (V (Proc.tc.devRef main_v34)) _ _ h1 hj]
  after_reads_simp
  unfold halves
  after_reads_at
  rw [dif_pos (by omega)]
theorem c74v (i : S2x4096x2816.Idx) (h : (i 0).val ≠ 0) : after opsC V (Proc.devRef .tc main_v74) i = back V (i 1).val (2816 + (i 2).val) := by
  have h1 : (i 1).val < 4096 := (i 1).isLt
  have h2 : (i 2).val < 2816 := (i 2).isLt
  have hj : 2816 + (i 2).val < 5632 := by omega
  rw [show back V (i 1).val (2816 + (i 2).val) = _ from
    back_ix (V (Proc.tc.devRef main_v21)) (V (Proc.tc.devRef main_v11)) (V (Proc.tc.devRef main_v2)) (V (Proc.tc.devRef main_v34)) _ _ h1 hj]
  after_reads_simp
  unfold halves
  after_reads_at
  rw [dif_neg (by omega)]

/-- The gradient of tap `k`. -/
def tap (k j : ℕ) : EReal := ∑ s ∈ Finset.range 4096, q34 V s j * (if k = 2 then qU V s j else if k = 1 then q14 V s j else q5 V s j)

theorem tap_sum (A B : Vec Ideal S4096x5632 .f32) (j : ℕ) (hj : j < 5632) :
    (∑ x : Fin 4096, (A (ix2 x ⟨j, hj⟩) : EReal) * (B (ix2 x ⟨j, hj⟩) : EReal)) = ∑ s ∈ Finset.range 4096, (rd A s j : EReal) * (rd B s j : EReal) := by
  rw [Finset.sum_range]
  refine Finset.sum_congr rfl fun x _ => ?_
  rw [rd_ix A x.val j x.isLt hj, rd_ix B x.val j x.isLt hj]

theorem c75 (i : S3x2816.Idx) : after opsC V (Proc.devRef .tc main_v75) i = tap V (i 0).val ((i 1).val) := by
  have h0 : (i 0).val < 3 := (i 0).isLt
  have h1 : (i 1).val < 2816 := (i 1).isLt
  have hj : (i 1).val < 5632 := by omega
  after_reads_at
  have hk : (i 0).val = 0 ∨ (i 0).val = 1 ∨ (i 0).val = 2 := by omega
  unfold tap
  rcases hk with h | h | h
  · simp [h, hj]
    exact tap_sum (V (Proc.tc.devRef main_v34)) (V (Proc.tc.devRef main_v5)) _ hj
  · simp [h, hj]
    exact tap_sum (V (Proc.tc.devRef main_v34)) (V (Proc.tc.devRef main_v14)) _ hj
  · simp [h, hj]
    exact tap_sum (V (Proc.tc.devRef main_v34)) (V (Proc.tc.devRef main_arg0)) _ hj
theorem c76 (i : S3x2816.Idx) : after opsC V (Proc.devRef .tc main_v76) i = tap V (i 0).val (2816 + (i 1).val) := by
  have h0 : (i 0).val < 3 := (i 0).isLt
  have h1 : (i 1).val < 2816 := (i 1).isLt
  have hj : 2816 + (i 1).val < 5632 := by omega
  after_reads_at
  have hk : (i 0).val = 0 ∨ (i 0).val = 1 ∨ (i 0).val = 2 := by omega
  unfold tap
  rcases hk with h | h | h
  · simp [h, hj]
    exact tap_sum (V (Proc.tc.devRef main_v34)) (V (Proc.tc.devRef main_v5)) _ hj
  · simp [h, hj]
    exact tap_sum (V (Proc.tc.devRef main_v34)) (V (Proc.tc.devRef main_v14)) _ hj
  · simp [h, hj]
    exact tap_sum (V (Proc.tc.devRef main_v34)) (V (Proc.tc.devRef main_arg0)) _ hj

/-! ## From the arguments -/

/-- The gradients of the two halves of the convolved array, from the arguments, none below the last row. -/
def hG (s j : ℕ) : EReal :=
  if s < 4096 then dgR (conv (qW V) (qU V) s j) (dactR V s j) (conv (qW V) (qU V) s (2816 + j)) else 0
def hV (s j : ℕ) : EReal := if s < 4096 then dvR (conv (qW V) (qU V) s j) (dactR V s j) else 0

theorem dactA (s j : ℕ) : dactR (after opsA V) s j = dactR V s j := by
  unfold dactR
  rw [aD, aX]

theorem Dz_g (s j : ℕ) (hj : j < 2816) : Dz (after opsB (after opsA V)) s j = hG V s j := by
  unfold Dz hG
  by_cases hs : s < 4096
  · rw [if_pos hs, if_pos hs, b34g _ s j hs hj, a25 V s j hs hj, a26 V s j hs hj, dactA]
  · rw [if_neg hs, if_neg hs]
theorem Dz_v (s j : ℕ) (hj : j < 2816) : Dz (after opsB (after opsA V)) s (2816 + j) = hV V s j := by
  unfold Dz hV
  by_cases hs : s < 4096
  · rw [if_pos hs, if_pos hs, b34v _ s j hs hj, a25 V s j hs hj, dactA]
  · rw [if_neg hs, if_neg hs]

/-- A gradient sent back through the taps at column `j`. -/
def backOf (W h : ℕ → ℕ → EReal) (s j j' : ℕ) : EReal := (W 2 j * h s j' + W 1 j * h (1 + s) j') + W 0 j * h (2 + s) j'
/-- The gradient of tap `k` at column `j`. -/
def tapOf (U h : ℕ → ℕ → EReal) (k j j' : ℕ) : EReal :=
  ∑ s ∈ Finset.range 4096, h s j' * (if k = 2 then U s j else if k = 1 then dn U 1 s j else dn U 2 s j)

theorem back_of (s j j' : ℕ) (hj : j < 5632) (h : ℕ → ℕ → EReal) (hD : ∀ s, Dz (after opsB (after opsA V)) s j = h s j') :
    back (after opsB (after opsA V)) s j = backOf (qW V) h s j j' := by
  unfold back backOf
  rw [hD, hD, hD, b2, b11, b21, a2 V j hj, a11 V j hj, a21 V j hj]

theorem tap_of (k j j' : ℕ) (hj : j < 5632) (h : ℕ → ℕ → EReal) (hD : ∀ s, Dz (after opsB (after opsA V)) s j = h s j') :
    tap (after opsB (after opsA V)) k j = tapOf (qU V) h k j j' := by
  unfold tap tapOf
  refine Finset.sum_congr rfl fun s hs => ?_
  have hs := Finset.mem_range.mp hs
  have := hD s
  unfold Dz at this
  rw [if_pos hs] at this
  rw [this, bU, aU, b14, b5, a14 V s j hs hj, a5 V s j hs hj]

theorem r74g (i : S2x4096x2816.Idx) (h : (i 0).val = 0) : after (opsA ++ (opsB ++ opsC)) V (Proc.devRef .tc main_v74) i
    = backOf (qW V) (hG V) (i 1).val (i 2).val (i 2).val := by
  have h2 : (i 2).val < 2816 := (i 2).isLt
  rw [after_append, after_append, c74g _ i h]
  exact back_of V _ _ _ (by omega) _ fun s => Dz_g V s _ h2
theorem r74v (i : S2x4096x2816.Idx) (h : (i 0).val ≠ 0) : after (opsA ++ (opsB ++ opsC)) V (Proc.devRef .tc main_v74) i
    = backOf (qW V) (hV V) (i 1).val (2816 + (i 2).val) (i 2).val := by
  have h2 : (i 2).val < 2816 := (i 2).isLt
  rw [after_append, after_append, c74v _ i h]
  exact back_of V _ _ _ (by omega) _ fun s => Dz_v V s _ h2
theorem r75 (i : S3x2816.Idx) : after (opsA ++ (opsB ++ opsC)) V (Proc.devRef .tc main_v75) i
    = tapOf (qU V) (hG V) (i 0).val (i 1).val (i 1).val := by
  have h2 : (i 1).val < 2816 := (i 1).isLt
  rw [after_append, after_append, c75 _ i]
  exact tap_of V _ _ _ (by omega) _ fun s => Dz_g V s _ h2
theorem r76 (i : S3x2816.Idx) : after (opsA ++ (opsB ++ opsC)) V (Proc.devRef .tc main_v76) i
    = tapOf (qU V) (hV V) (i 0).val (2816 + (i 1).val) (i 1).val := by
  have h2 : (i 1).val < 2816 := (i 1).isLt
  rw [after_append, after_append, c76 _ i]
  exact tap_of V _ _ _ (by omega) _ fun s => Dz_v V s _ h2

end Cert.ReferenceIdeal.Ref
-- ==== Proof.Real.lean ====
/- The two ways of writing the gate's gradient agree at real numbers. -/
module

public import proofs.«01_k».proof.Proof.RefValue

@[expose] public section

noncomputable section

namespace Cert.Proof.Gate

open Idealize.ShloMosaic
open Cert.KernelIdeal.Ffn (sgE dgE dvE half one rd dn conv)
open Cert.ReferenceIdeal.Ref (sgR dgR dvR)

theorem half_eq : (half : Ideal .bf16) = (((1 : ℝ) / 2 : ℝ) : EReal) := by
  show Ideal.ofBits .bf16 0x3F00#16 = _
  simp [Ideal.ofBits, Ideal.ieee, -EReal.coe_mul]; norm_num
theorem one_eq : (one : Ideal .bf16) = ((1 : ℝ) : EReal) := by
  pointwise [one]
  rfl

theorem tanh_half (z : ℝ) : 1 / 2 * Real.tanh (1 / 2 * z) + 1 / 2 = 1 / (1 + Real.exp (-z)) := by
  have hz : Real.exp (-z) = Real.exp (-(1 / 2 * z)) * Real.exp (-(1 / 2 * z)) := by
    rw [← Real.exp_add]
    congr 1
    ring
  have h1 : Real.exp (1 / 2 * z) * Real.exp (-(1 / 2 * z)) = 1 := by
    rw [← Real.exp_add, add_neg_cancel, Real.exp_zero]
  have p : 0 < Real.exp (1 / 2 * z) := Real.exp_pos _
  have q : 0 < Real.exp (-(1 / 2 * z)) := Real.exp_pos _
  rw [hz, Real.tanh_eq_sinh_div_cosh, Real.sinh_eq, Real.cosh_eq]
  generalize Real.exp (1 / 2 * z) = a at *
  generalize Real.exp (-(1 / 2 * z)) = b at *
  have hs : a + b ≠ 0 := by positivity
  have ht : 1 + b * b ≠ 0 := by positivity
  field_simp
  nlinarith

theorem sgE_coe (z : ℝ) : (sgE (F := Ideal) (z : EReal) : EReal) = ((1 / (1 + Real.exp (-z)) : ℝ) : EReal) := by
  show ((half : Ideal .bf16) : EReal) * Ideal.tanh (((half : Ideal .bf16) : EReal) * (z : EReal)) + ((half : Ideal .bf16) : EReal) = _
  rw [half_eq, ← EReal.coe_mul, Ideal.tanh_coe, ← EReal.coe_mul, ← EReal.coe_add, tanh_half]
theorem sgR_coe (z : ℝ) : sgR (z : EReal) = ((1 / (1 + Real.exp (-z)) : ℝ) : EReal) := by
  have h : (1 : ℝ) + Real.exp (-z) ≠ 0 := by positivity
  unfold sgR Ideal.div
  rw [← EReal.coe_neg, Ideal.exp_coe, ← EReal.coe_one, ← EReal.coe_add, if_neg (fun e => h (by exact_mod_cast e)), ← EReal.coe_inv, ← EReal.coe_mul, one_div, one_mul]

/-- At real numbers the two gates' gradients agree. -/
theorem dg_eq (g d cv : ℝ) : (dgE (F := Ideal) (g : EReal) (d : EReal) (cv : EReal) : EReal) = dgR g d cv := by
  show ((d : EReal) * cv) * ((sgE (F := Ideal) (g : EReal) : EReal) * (((one : Ideal .bf16) : EReal) + (g : EReal) * (((one : Ideal .bf16) : EReal) - (sgE (F := Ideal) (g : EReal) : EReal)))) = _
  unfold dgR
  rw [sgE_coe, sgR_coe, one_eq, ← EReal.coe_one]
  generalize 1 / (1 + Real.exp (-g)) = s
  simp only [← EReal.coe_mul, ← EReal.coe_add, ← EReal.coe_sub]
  congr 1
  ring
theorem dv_eq (g : ℝ) (d : EReal) : (dvE (F := Ideal) (g : EReal) d : EReal) = dvR g d := by
  show d * ((g : EReal) * (sgE (F := Ideal) (g : EReal) : EReal)) = _
  unfold dvR
  rw [sgE_coe, sgR_coe, mul_comm]

/-! ## Arrays of real numbers -/

/-- A table all of whose entries are real numbers. -/
def Reals (U : ℕ → ℕ → EReal) : Prop := ∀ r l, ∃ x : ℝ, U r l = x

theorem conv_real {W U : ℕ → ℕ → EReal} (hW : Reals W) (hU : Reals U) (s l : ℕ) : ∃ x : ℝ, conv W U s l = x := by
  have hd (k : ℕ) : ∃ x : ℝ, dn U k s l = x := by
    unfold dn
    split
    · exact ⟨0, rfl⟩
    · exact hU _ _
  obtain ⟨a, ha⟩ := hW 0 l
  obtain ⟨b, hb⟩ := hW 1 l
  obtain ⟨c, hc⟩ := hW 2 l
  obtain ⟨x, hx⟩ := hd 2
  obtain ⟨y, hy⟩ := hd 1
  obtain ⟨z, hz⟩ := hU s l
  refine ⟨(a * x + b * y) + c * z, ?_⟩
  unfold conv
  rw [ha, hb, hc, hx, hy, hz]
  push_cast
  rfl

theorem sum_real {n : ℕ} (f : Fin n → EReal) (h : ∀ i, ∃ x : ℝ, f i = x) : ∃ x : ℝ, ∑ i, f i = x := by
  refine Finset.sum_induction f (fun v => ∃ x : ℝ, v = x) ?_ ⟨0, rfl⟩ fun i _ => h i
  rintro _ _ ⟨x, rfl⟩ ⟨y, rfl⟩
  exact ⟨x + y, (EReal.coe_add x y).symm⟩

theorem dot_real {X D : ℕ → ℕ → EReal} (hX : Reals X) (hD : Reals D) (s j : ℕ) (n : ℕ) :
    ∃ x : ℝ, ∑ d : Fin n, X s d.val * D j d.val = x :=
  sum_real _ fun d => by
    obtain ⟨a, ha⟩ := hX s d.val
    obtain ⟨b, hb⟩ := hD j d.val
    exact ⟨a * b, by rw [ha, hb, EReal.coe_mul]⟩

/-! ## The taps, summed one way and the other -/

/-- A column moved down against a gradient is the column against the gradient moved up, where the gradient ends. -/
theorem shift_sum (U h : ℕ → ℕ → EReal) (hz : ∀ s j, 4096 ≤ s → h s j = 0) (e j j' : ℕ) (he : e ≤ 4096) :
    ∑ s ∈ Finset.range 4096, U s j * h (s + e) j' = ∑ s ∈ Finset.range 4096, h s j' * dn U e s j := by
  obtain ⟨n, hn⟩ := Nat.exists_eq_add_of_le he
  have l : ∑ s ∈ Finset.range 4096, U s j * h (s + e) j' = ∑ s ∈ Finset.range n, U s j * h (s + e) j' := by
    rw [show 4096 = n + e by omega, Finset.sum_range_add, Finset.sum_eq_zero (s := Finset.range e), add_zero]
    intro x _
    rw [hz _ _ (by omega), mul_zero]
  rw [l, hn, Finset.sum_range_add, Finset.sum_eq_zero (s := Finset.range e), zero_add]
  · refine Finset.sum_congr rfl fun s _ => ?_
    unfold dn
    rw [if_neg (by omega), Nat.add_sub_cancel_left, Nat.add_comm e s, mul_comm]
  · intro x hx
    unfold dn
    rw [if_pos (Finset.mem_range.mp hx), mul_zero]

end Cert.Proof.Gate
-- ==== Proof.Finite.lean ====
/- What the precondition says: every element of the four arrays is a real number. -/
module

public import proofs.«01_k».proof.Pre_finite
public import proofs.«01_k».proof.Proof.Real
public import Idealize.ShloMosaic.Lib.ReduceAll

@[expose] public section

noncomputable section

namespace Cert.Proof.Finite

open Idealize.ShloMosaic
open Cert.Pre_finite

/-- The side conditions of the precondition's operations. -/
theorem facts : Cert.Pre_finite.Facts where
  bcast_S_S4096x5632 := by decide
  reducesTo_S4096x5632_S_d0_1 := by decide
  h_S_ := by decide
  bcast_S_S3x5632 := by decide
  reducesTo_S3x5632_S_d0_1 := by decide
  bcast_S_S2816x1024 := by decide
  reducesTo_S2816x1024_S_d0_1 := by decide
  bcast_S_S4096x1024 := by decide
  reducesTo_S4096x1024_S_d0_1 := by decide
  bcast_S_S1 := by decide
  concatenates_S1_S1_S1_S1_S4_d0 := by decide

theorem real_of_lt (x : Ideal .f32)
    (h : FloatOps.cmpf .olt (FloatOps.hostAbsf x) (FloatOps.ofBits (F := Ideal) .f32 0x7F800000#32) = 1#1) : ∃ r : ℝ, (x : EReal) = r := by
  have htop : Ideal.ofBits .f32 0x7F800000#32 = ⊤ := by simp [Ideal.ofBits, Ideal.ieee]
  have h : Ideal.cmp .olt (max (x : EReal) (-(x : EReal))) (Ideal.ofBits .f32 0x7F800000#32) = 1#1 := h
  rw [htop] at h
  induction x using EReal.rec with
  | bot => simp [Ideal.cmp] at h
  | top => simp [Ideal.cmp] at h
  | coe r => exact ⟨r, rfl⟩

theorem parts [Cert.Pre_finite.Facts] (p q r s : IVec S_ 1) (h : ∀ j, fn_part1 (F := Ideal) p q r s j = 1#1) :
    (∀ j, p j = 1#1) ∧ (∀ j, q j = 1#1) ∧ (∀ j, r j = 1#1) ∧ (∀ j, s j = 1#1) := by
  have h0 := h (ix1 0)
  have h1 := h (ix1 1)
  have h2 := h (ix1 2)
  have h3 := h (ix1 3)
  unfold fn_part1 at h0 h1 h2 h3
  dsimp only at h0 h1 h2 h3
  pointwise at h0
  pointwise at h1
  pointwise at h2
  pointwise at h3
  refine ⟨fun j => ?_, fun j => ?_, fun j => ?_, fun j => ?_⟩ <;> rw [Subsingleton.elim j ix0] <;> assumption

theorem pre [Cert.Pre_finite.Facts] (a : FVec Ideal S4096x5632 .f32) (b : FVec Ideal S3x5632 .f32) (c : FVec Ideal S2816x1024 .f32) (d : FVec Ideal S4096x1024 .f32) (e : FVec Ideal S8x128 .f32)
    (h : ∀ j, fn (F := Ideal) a b c d e j = 1#1) :
    (∀ i, ∃ r : ℝ, (a i : EReal) = r) ∧ (∀ i, ∃ r : ℝ, (b i : EReal) = r) ∧ (∀ i, ∃ r : ℝ, (c i : EReal) = r) ∧ (∀ i, ∃ r : ℝ, (d i : EReal) = r) := by
  obtain ⟨ha, hb, hc, hd⟩ := parts _ _ _ _ h
  exact ⟨fun i => real_of_lt _ (Host.reduce_andi_all _ _ _ _ ix0 (ha ix0) i), fun i => real_of_lt _ (Host.reduce_andi_all _ _ _ _ ix0 (hb ix0) i),
    fun i => real_of_lt _ (Host.reduce_andi_all _ _ _ _ ix0 (hc ix0) i), fun i => real_of_lt _ (Host.reduce_andi_all _ _ _ _ ix0 (hd ix0) i)⟩

end Cert.Proof.Finite
-- ==== Proof.Equal.lean ====
/- The kernel's three results are the reference's, at real arguments. -/
module

public import proofs.«01_k».proof.Proof.Finite
public import proofs.«01_k».proof.Defs

@[expose] public section

set_option maxRecDepth 16384

noncomputable section

namespace Cert.Proof.Equal

open Idealize.ShloMosaic Idealize.ShloMosaic.TcCoe Idealize.SL.Sem Idealize.ShloMosaic.StableHlo
open Cert.KernelIdeal.Ffn Cert.ReferenceIdeal.Ref Cert.Proof.Gate

variable (m : (ℓ : Loc Cert.KernelIdeal.nD Cert.KernelIdeal.τ Cert.KernelIdeal.sig) → Buf (Elt Ideal) ℓ)
variable (V : Valuation Cert.ReferenceIdeal.τ Cert.ReferenceIdeal.sig (Elt Ideal)) (c : Dev Cert.KernelIdeal.nD)

/-- The arguments agree. -/
structure Agree : Prop where
  u : qU V = rU m c
  w : qW V = rW m c
  d : qD V = rD m c
  x : qX V = rX m c

/-- The arguments are real numbers. -/
structure RealArgs : Prop where
  u : Reals (rU m c)
  w : Reals (rW m c)
  d : Reals (rD m c)
  x : Reals (rX m c)

variable {m V c}

theorem dact_eq (h : Agree m V c) (s j : ℕ) (hs : s < 4096) (hj : j < 2816) : dact m c s j = dactR V s j := by
  unfold dact dactR
  rw [h.x, h.d]
  refine Finset.sum_congr rfl fun d _ => ?_
  rw [aX_eq m c s d.val hs d.isLt, aD_eq m c j d.val hj d.isLt]

theorem g_eq (h : Agree m V c) (k : RealArgs m c) (s j : ℕ) (hj : j < 2816) : gG m c s j = hG V s j := by
  unfold gG hG
  by_cases hs : s < 4096
  · rw [if_pos hs, if_pos hs, aG_eq m c s j hs hj, aV_eq m c s j hs hj, dact_eq h s j hs hj, h.w, h.u]
    obtain ⟨a, ha⟩ := conv_real k.w k.u s j
    obtain ⟨b, hb⟩ := conv_real k.w k.u s (2816 + j)
    obtain ⟨d, hd⟩ := dot_real k.x k.d s j 1024
    have hd : dactR V s j = d := by
      unfold dactR
      rw [h.x, h.d]
      exact hd
    rw [ha, hb, hd]
    exact dg_eq a d b
  · rw [if_neg hs, if_neg hs]

theorem v_eq (h : Agree m V c) (k : RealArgs m c) (s j : ℕ) (hj : j < 2816) : gV m c s j = hV V s j := by
  unfold gV hV
  by_cases hs : s < 4096
  · rw [if_pos hs, if_pos hs, aG_eq m c s j hs hj, dact_eq h s j hs hj, h.w, h.u]
    obtain ⟨a, ha⟩ := conv_real k.w k.u s j
    rw [ha]
    exact dv_eq a _
  · rw [if_neg hs, if_neg hs]

theorem back_same {h g : ℕ → ℕ → EReal} (a : Agree m V c) (s j j' : ℕ) (hj : j < 5632) (e : ∀ s, g s j' = h s j') :
    tapBack (rd (aW m c)) g s j j' = backOf (qW V) h s j j' := by
  unfold tapBack backOf
  rw [e, e, e, aW_eq m c 0 j (by decide) hj, aW_eq m c 1 j (by decide) hj, aW_eq m c 2 j (by decide) hj, a.w, Nat.add_comm s 2, Nat.add_comm s 1]
  generalize rW m c 0 j * h (2 + s) j' = x
  generalize rW m c 1 j * h (1 + s) j' = y
  generalize rW m c 2 j * h s j' = z
  rw [add_comm x y, add_comm (y + x) z, add_assoc]

theorem tap_same {h g : ℕ → ℕ → EReal} (a : Agree m V c) (k j j' : ℕ) (hk : k < 3) (hj : j < 5632) (e : ∀ s, g s j' = h s j')
    (hz : ∀ s j, 4096 ≤ s → g s j = 0) : tapSum (rd (aU m c)) g k j j' = tapOf (qU V) h k j j' := by
  have l : tapSum (rd (aU m c)) g k j j' = ∑ s ∈ Finset.range 4096, qU V s j * g (s + (2 - k)) j' := by
    unfold tapSum
    refine Finset.sum_congr rfl fun s hs => ?_
    rw [aU_eq m c s j (Finset.mem_range.mp hs) hj, a.u]
  rw [l, shift_sum _ g hz _ _ _ (by omega)]
  unfold tapOf
  refine Finset.sum_congr rfl fun s _ => ?_
  rw [e]
  have : k = 0 ∨ k = 1 ∨ k = 2 := by omega
  rcases this with rfl | rfl | rfl
  · rfl
  · rfl
  · unfold dn
    rfl

theorem gG_zero (s j : ℕ) (h : 4096 ≤ s) : gG m c s j = 0 := if_neg (by omega)
theorem gV_zero (s j : ℕ) (h : 4096 ≤ s) : gV m c s j = 0 := if_neg (by omega)

theorem res0 (a : Agree m V c) (k : RealArgs m c) : (after (opsA ++ (opsB ++ opsC)) V (Proc.devRef .tc Cert.ReferenceIdeal.main_v74)) = G8 m c := by
  funext i
  have h2 : (i 2).val < 2816 := (i 2).isLt
  by_cases h : (i 0).val = 0
  · refine (r74g V i h).trans (Eq.trans ?_ (if_pos h).symm)
    exact (back_same a _ _ _ (by omega) fun s => g_eq a k s _ h2).symm
  · refine (r74v V i h).trans (Eq.trans ?_ (if_neg h).symm)
    exact (back_same a _ _ _ (by omega) fun s => v_eq a k s _ h2).symm

theorem res1 (a : Agree m V c) (k : RealArgs m c) : (after (opsA ++ (opsB ++ opsC)) V (Proc.devRef .tc Cert.ReferenceIdeal.main_v75)) = G9 m c := by
  funext i
  have h2 : (i 1).val < 2816 := (i 1).isLt
  exact (r75 V i).trans (tap_same a _ _ _ (i 0).isLt (by omega) (fun s => g_eq a k s _ h2) gG_zero).symm

theorem res2 (a : Agree m V c) (k : RealArgs m c) : (after (opsA ++ (opsB ++ opsC)) V (Proc.devRef .tc Cert.ReferenceIdeal.main_v76)) = G10 m c := by
  funext i
  have h2 : (i 1).val < 2816 := (i 1).isLt
  exact (r76 V i).trans (tap_same a _ _ _ (i 0).isLt (by omega) (fun s => v_eq a k s _ h2) gV_zero).symm

/-- The precondition gives real arguments. -/
theorem real_args [Cert.Pre_finite.Facts] (h : Cert.Pre_KernelIdeal_finite m) (c : Dev Cert.KernelIdeal.nD) : RealArgs m c := by
  obtain ⟨hu, hw, hd, hx⟩ := Finite.pre _ _ _ _ _ (fun j => congrFun (h c) j)
  exact ⟨fun r l => hu _, fun r l => hw _, fun r l => hd _, fun r l => hx _⟩

end Cert.Proof.Equal
-- ==== Proof.DwUp.lean ====
/- The up projection's weight gradient: what the launch leaves, element by element, and the reference's element. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

noncomputable section

namespace Cert.Kernel2Ideal.Dw

open Idealize.ShloMosaic Idealize.ShloMosaic.TcCoe Idealize.SL.Sem
open Cert.Kernel2Ideal Cert.Kernel2Ideal.Gen

variable (m : (ℓ : Loc nD τ sig) → Buf (Elt Ideal) ℓ) (ρ : Dev nD → PrngReg)

/-- Where each window's block sits at each point: two points, one per half of the rows, for each block of columns. -/
theorem idx : ∀ t : Fin cfg0.N, win0_0.index t = ![t.val / 4, t.val % 2, t.val / 2 % 2] ∧ win0_1.index t = ![t.val % 2, 0]
    ∧ win0_2.index t = ![t.val / 2, 0] :=
  (by decide +kernel : ∀ t : Fin grid0.N, _)

/-- The first operand's two halves side by side. -/
def side (A : Vec Ideal S2x4096x2816 .f32) (s : Fin 4096) (j : Fin 5632) : Elt Ideal .f32 :=
  if h : j.val < 2816 then A (ix3 0 s ⟨j.val, h⟩) else A (ix3 1 s ⟨j.val - 2816, by omega⟩)

/-- The product of one operand's columns with the other's, over all 4096 rows. -/
def prod (A : Vec Ideal S2x4096x2816 .f32) (B : Vec Ideal S4096x1024 .f32) : Vec Ideal S5632x1024 .bf16 := fun i =>
  ∑ s : Fin 4096, (side A s (i 0) : EReal) * B (ix2 s (i 1))

/-- What the first operand's block holds at a point, in the array the launch is given. -/
theorem read0 (c : Dev nD) (t : Fin cfg0.N) (s : Fin 2048) (j : Fin 1408) (r : Fin 4096) (k : Fin 5632)
    (hr : r.val = 2048 * (t.val % 2) + s.val) (hk : k.val = 1408 * (t.val / 2) + j.val) :
    (iblk m c 0 t : Vec Ideal S1x2048x1408 .bf16) (ix3 0 s j) = side (m ((c : Thread nD τ).loc main_arg0)) r k := by
  have ht : t.val < 8 := lt_of_lt_of_eq t.isLt N_0
  unfold iblk side
  entry_read
  blk_simp
  split
  all_goals
    pointwise
    blk_ext [idx t]
    try omega

theorem read1 (c : Dev nD) (t : Fin cfg0.N) (s : Fin 2048) (l : Fin 1024) (r : Fin 4096) (k : Fin 1024)
    (hr : r.val = 2048 * (t.val % 2) + s.val) (hk : k.val = l.val) :
    (iblk m c 1 t : Vec Ideal S2048x1024 .bf16) (ix2 s l)
      = (m ((c : Thread nD τ).loc main_arg1) : Vec Ideal S4096x1024 .f32) (ix2 r k) := by
  unfold iblk
  entry_read
  blk_simp
  pointwise
  blk_ext [idx t]

theorem sum_halves (f g : Fin 2048 → EReal) (h : Fin 4096 → EReal) (hf : ∀ s : Fin 2048, f s = h ⟨s.val, by omega⟩)
    (hg : ∀ s : Fin 2048, g s = h ⟨2048 + s.val, by omega⟩) : ∑ s, f s + ∑ s, g s = ∑ s, h s := by
  refine Eq.trans ?_ (Fin.sum_univ_add (a := 2048) (b := 2048) (fun s : Fin (2048 + 2048) => h s)).symm
  exact congrArg₂ (· + ·) (Finset.sum_congr rfl fun s _ => hf s) (Finset.sum_congr rfl fun s _ => hg s)

theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) (fun t hf y => ?_)
  have hN : cfg0.N = 8 := N_0
  have ht : t.val < 8 := lt_of_lt_of_eq t.isLt N_0
  have h1 : t.val % 2 = 1 := (flush0_2 t).mp hf
  have h0 : ¬t.val % 2 = 0 := by omega
  have hp0 : (⟨t.val - 1, by omega⟩ : Fin cfg0.N).val % 2 = 0 := by dsimp only; omega
  have hp1 : ¬(⟨t.val - 1, by omega⟩ : Fin cfg0.N).val % 2 = 1 := by dsimp only; omega
  blk_simp
  rw [after0_2, outsAt0_B m c t h0 h1]
  frame_out
  rw [outsAt0_A m c ⟨t.val - 1, by omega⟩ hp0 hp1]
  dsimp only
  frame_out
  simp only [read_unread_whole]
  unfold prod
  pointwise [k0_pay1, k0_pay2]
  have he0 : (((cfg0.win 2).blk t).view.emb y 0).val = 1408 * (t.val / 2) + (y 0).val := by
    blk_simp [idx t]; try omega
  have he1 : (((cfg0.win 2).blk t).view.emb y 1).val = (y 1).val := by
    blk_simp [idx t]; try omega
  refine sum_halves _ _ _ (fun s => congrArg₂ (· * ·) (read0 m c _ s (y 0) _ _ ?_ ?_) (read1 m c _ s (y 1) _ _ ?_ he1))
    (fun s => congrArg₂ (· * ·) (read0 m c _ s (y 0) _ _ ?_ ?_) (read1 m c _ s (y 1) _ _ ?_ he1))
  all_goals first | refine he0.trans ?_ | skip
  all_goals dsimp only <;> omega

/-- The run leaves the product in the result, and the arguments as they were. -/
theorem run : θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.Kernel2Ideal.Value.run_blocks m ρ)

end Cert.Kernel2Ideal.Dw

namespace Cert.Reference2Ideal.Dw

open Idealize.ShloMosaic Idealize.ShloMosaic.TcCoe Idealize.SL.Sem
open Cert.Reference2Ideal

theorem value (A : Vec Ideal S2x4096x2816 .f32) (B : Vec Ideal S4096x1024 .f32) (h1 h2 h3 h4 h5 h6 h7) :
    (truncf (F := Ideal) .bf16 (transpose S5632x1024 [1, 0] (transpose S1024x5632 [1, 0] (Host.dotGeneral (φ₁ := .f32) (φ₂ := .f32) dot_S4096x5632_S4096x1024_S5632x1024_0_0_1_1_n_n none (concatenate S4096x5632 1 [⟨S4096x2816, (shapeCast _ (extractStridedSlice S1x4096x2816 ![0, 0, 0] A h4) h5)⟩, ⟨S4096x2816, (shapeCast _ (extractStridedSlice S1x4096x2816 ![1, 0, 0] A h6) h5)⟩] h7) B) h1) h2) h3 : Vec Ideal S5632x1024 .bf16)
      = Cert.Kernel2Ideal.Dw.prod A B := by
  funext i
  unfold Cert.Kernel2Ideal.Dw.prod
  pointwise [Cert.Kernel2Ideal.Dw.side]

end Cert.Reference2Ideal.Dw

end
-- ==== Proof.DwUpClaim.lean ====
/- The up projection's weight gradient: the launch and its idealization share one text; the frames, and the equality with the
   reference. -/
module

public import proofs.«01_k».proof.Defs
public import proofs.«01_k».proof.Proof.Gen.Kernel2
public import proofs.«01_k».proof.Proof.Gen.Reference2Ideal
public import proofs.«01_k».proof.Proof.DwUp
public import Idealize.ShloMosaic.Lib.Quiescent

@[expose] public section

noncomputable section

namespace Cert.Proof.DwUp

open Idealize.ShloMosaic Idealize.ShloMosaic.StableHlo Idealize.SL.Sem

section
variable {F : FTy → Type} [FloatOps F]

theorem body_same : @Cert.Kernel2.cc0_dw_up F _ Cert.Kernel2.Gen.facts = @Cert.Kernel2Ideal.cc0_dw_up F _ Cert.Kernel2Ideal.Gen.facts := rfl

theorem table_same : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel2.defs F _ Cert.Kernel2.Gen.facts = @Cert.Kernel2Ideal.defs F _ Cert.Kernel2Ideal.Gen.facts :=
  congrArg (Pipeline.defs Cert.Kernel2Ideal.pcfgs) table_same

set_option maxRecDepth 8192 in
theorem main_same : @Cert.Kernel2.main F _ Cert.Kernel2.Gen.facts = @Cert.Kernel2Ideal.main F _ Cert.Kernel2Ideal.Gen.facts := rfl

end

/-- The idealized kernel runs, for any arguments. -/
theorem frame_ideal : Cert.quiescent_Kernel2Ideal (hKernel2Ideal := Cert.Kernel2Ideal.Gen.facts) :=
  fun m ρ _ => Cert.Kernel2Ideal.Gen.frame m ρ

/-- The kernel runs, for any arguments: its program has the same text, and the run is over any float values. -/
theorem frame_kernel : Cert.quiescent_Kernel2 (hKernel2 := Cert.Kernel2.Gen.facts) := by
  intro m ρ _
  rw [defs_same, main_same]
  exact Cert.Kernel2Ideal.Gen.frame (F := Bits) m ρ

/-- The reference runs, for any arguments. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

/-- The kernel's result is the reference's. -/
theorem equal : Cert.algebraic_Kernel2Ideal_Reference2Ideal (hKernel2Ideal := Cert.Kernel2Ideal.Gen.facts)
    (hReference2Ideal := Cert.Reference2Ideal.Gen.facts) := by
  intro m g m' g' _ ha
  refine ⟨fun c => Cert.Kernel2Ideal.Dw.prod (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)), Cert.Kernel2Ideal.Dw.run m g, ?_⟩
  refine (θ_run Cert.Reference2Ideal.defs _ _).mono (fun r h c => ⟨(h c).1.trans ?_, (h c).2⟩) (Cert.Reference2Ideal.Value.run m' g')
  refine (Cert.Reference2Ideal.Dw.value _ _ _ _ _ _ _ _ _).trans ?_
  exact congrArg₂ Cert.Kernel2Ideal.Dw.prod (ha c).1 (ha c).2

end Cert.Proof.DwUp

end
-- ==== Proof.DwDown.lean ====
/- The down projection's weight gradient: what the launch leaves, element by element, and the reference's element. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

noncomputable section

namespace Cert.Kernel3Ideal.Dw

open Idealize.ShloMosaic Idealize.ShloMosaic.TcCoe Idealize.SL.Sem
open Cert.Kernel3Ideal Cert.Kernel3Ideal.Gen

variable (m : (ℓ : Loc nD τ sig) → Buf (Elt Ideal) ℓ) (ρ : Dev nD → PrngReg)

/-- Where each window's block sits at each point: two points, one per half of the rows, for each block of columns. -/
theorem idx : ∀ t : Fin cfg0.N, win0_0.index t = ![0, t.val % 2, t.val / 2] ∧ win0_1.index t = ![t.val % 2, 0]
    ∧ win0_2.index t = ![t.val / 2, 0] :=
  (by decide +kernel : ∀ t : Fin grid0.N, _)

/-- The product of one operand's columns with the other's, over all 4096 rows. -/
def prod (A : Vec Ideal S4096x2816 .f32) (B : Vec Ideal S4096x1024 .f32) : Vec Ideal S2816x1024 .bf16 := fun i =>
  ∑ s : Fin 4096, (A (ix2 s (i 0)) : EReal) * B (ix2 s (i 1))

/-- What the first operand's block holds at a point, in the array the launch is given. -/
theorem read0 (c : Dev nD) (t : Fin cfg0.N) (s : Fin 2048) (j : Fin 1408) (r : Fin 4096) (k : Fin 2816)
    (hr : r.val = 2048 * (t.val % 2) + s.val) (hk : k.val = 1408 * (t.val / 2) + j.val) :
    (iblk m c 0 t : Vec Ideal S1x2048x1408 .bf16) (ix3 0 s j)
      = (m ((c : Thread nD τ).loc main_arg0) : Vec Ideal S4096x2816 .f32) (ix2 r k) := by
  have ht : t.val < 4 := lt_of_lt_of_eq t.isLt N_0
  unfold iblk
  entry_read
  blk_simp
  pointwise
  blk_ext [idx t]

theorem read1 (c : Dev nD) (t : Fin cfg0.N) (s : Fin 2048) (l : Fin 1024) (r : Fin 4096) (k : Fin 1024)
    (hr : r.val = 2048 * (t.val % 2) + s.val) (hk : k.val = l.val) :
    (iblk m c 1 t : Vec Ideal S2048x1024 .bf16) (ix2 s l)
      = (m ((c : Thread nD τ).loc main_arg1) : Vec Ideal S4096x1024 .f32) (ix2 r k) := by
  unfold iblk
  entry_read
  blk_simp
  pointwise
  blk_ext [idx t]

theorem sum_halves (f g : Fin 2048 → EReal) (h : Fin 4096 → EReal) (hf : ∀ s : Fin 2048, f s = h ⟨s.val, by omega⟩)
    (hg : ∀ s : Fin 2048, g s = h ⟨2048 + s.val, by omega⟩) : ∑ s, f s + ∑ s, g s = ∑ s, h s := by
  refine Eq.trans ?_ (Fin.sum_univ_add (a := 2048) (b := 2048) (fun s : Fin (2048 + 2048) => h s)).symm
  exact congrArg₂ (· + ·) (Finset.sum_congr rfl fun s _ => hf s) (Finset.sum_congr rfl fun s _ => hg s)

theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) (fun t hf y => ?_)
  have hN : cfg0.N = 4 := N_0
  have ht : t.val < 4 := lt_of_lt_of_eq t.isLt N_0
  have h1 : t.val % 2 = 1 := (flush0_2 t).mp hf
  have h0 : ¬t.val % 2 = 0 := by omega
  have hp0 : (⟨t.val - 1, by omega⟩ : Fin cfg0.N).val % 2 = 0 := by dsimp only; omega
  have hp1 : ¬(⟨t.val - 1, by omega⟩ : Fin cfg0.N).val % 2 = 1 := by dsimp only; omega
  blk_simp
  rw [after0_2, outsAt0_B m c t h0 h1]
  frame_out
  rw [outsAt0_A m c ⟨t.val - 1, by omega⟩ hp0 hp1]
  dsimp only
  frame_out
  simp only [read_unread_whole]
  unfold prod
  pointwise [k0_pay1, k0_pay2]
  have he0 : (((cfg0.win 2).blk t).view.emb y 0).val = 1408 * (t.val / 2) + (y 0).val := by
    blk_simp [idx t]; try omega
  have he1 : (((cfg0.win 2).blk t).view.emb y 1).val = (y 1).val := by
    blk_simp [idx t]; try omega
  refine sum_halves _ _ _ (fun s => congrArg₂ (· * ·) (read0 m c _ s (y 0) _ _ ?_ ?_) (read1 m c _ s (y 1) _ _ ?_ he1))
    (fun s => congrArg₂ (· * ·) (read0 m c _ s (y 0) _ _ ?_ ?_) (read1 m c _ s (y 1) _ _ ?_ he1))
  all_goals first | refine he0.trans ?_ | skip
  all_goals dsimp only <;> omega

/-- The run leaves the product in the result, and the arguments as they were. -/
theorem run : θ_run defs (onTc (τ := τ) (main (F := Ideal))) ⟨m, fun _ => 0, ρ⟩ fun r => ∀ c : Dev nD,
      r.2.mem ((c : Thread nD τ).loc main_v3) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.Kernel3Ideal.Value.run_blocks m ρ)

end Cert.Kernel3Ideal.Dw

namespace Cert.Reference3Ideal.Dw

open Idealize.ShloMosaic Idealize.ShloMosaic.TcCoe Idealize.SL.Sem
open Cert.Reference3Ideal

theorem value (A : Vec Ideal S4096x2816 .f32) (B : Vec Ideal S4096x1024 .f32) (h1 h2) :
    (truncf (F := Ideal) .bf16 (transpose S2816x1024 [1, 0] (Host.dotGeneral (φ₁ := .f32) (φ₂ := .f32) dot_S4096x1024_S4096x2816_S1024x2816_0_0_1_1_n_n none B A) h1) h2 : Vec Ideal S2816x1024 .bf16)
      = Cert.Kernel3Ideal.Dw.prod A B := by
  funext i
  unfold Cert.Kernel3Ideal.Dw.prod
  pointwise
  refine Finset.sum_congr (M := EReal) rfl fun s _ => ?_
  exact mul_comm (G := EReal) _ _

end Cert.Reference3Ideal.Dw

end
-- ==== Proof.DwDownClaim.lean ====
/- The down projection's weight gradient: the launch and its idealization share one text; the frames, and the equality with the
   reference. -/
module

public import proofs.«01_k».proof.Defs
public import proofs.«01_k».proof.Proof.Gen.Kernel3
public import proofs.«01_k».proof.Proof.Gen.Reference3Ideal
public import proofs.«01_k».proof.Proof.DwDown
public import Idealize.ShloMosaic.Lib.Quiescent

@[expose] public section

noncomputable section

namespace Cert.Proof.DwDown

open Idealize.ShloMosaic Idealize.ShloMosaic.StableHlo Idealize.SL.Sem

section
variable {F : FTy → Type} [FloatOps F]

theorem body_same : @Cert.Kernel3.cc0_dw_down F _ Cert.Kernel3.Gen.facts = @Cert.Kernel3Ideal.cc0_dw_down F _ Cert.Kernel3Ideal.Gen.facts := rfl

theorem table_same : @Cert.Kernel3.defs₀ F _ Cert.Kernel3.Gen.facts = @Cert.Kernel3Ideal.defs₀ F _ Cert.Kernel3Ideal.Gen.facts := by
  unfold Cert.Kernel3.defs₀ Cert.Kernel3Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel3.defs F _ Cert.Kernel3.Gen.facts = @Cert.Kernel3Ideal.defs F _ Cert.Kernel3Ideal.Gen.facts :=
  congrArg (Pipeline.defs Cert.Kernel3Ideal.pcfgs) table_same

set_option maxRecDepth 8192 in
theorem main_same : @Cert.Kernel3.main F _ Cert.Kernel3.Gen.facts = @Cert.Kernel3Ideal.main F _ Cert.Kernel3Ideal.Gen.facts := rfl

end

/-- The idealized kernel runs, for any arguments. -/
theorem frame_ideal : Cert.quiescent_Kernel3Ideal (hKernel3Ideal := Cert.Kernel3Ideal.Gen.facts) :=
  fun m ρ _ => Cert.Kernel3Ideal.Gen.frame m ρ

/-- The kernel runs, for any arguments: its program has the same text, and the run is over any float values. -/
theorem frame_kernel : Cert.quiescent_Kernel3 (hKernel3 := Cert.Kernel3.Gen.facts) := by
  intro m ρ _
  rw [defs_same, main_same]
  exact Cert.Kernel3Ideal.Gen.frame (F := Bits) m ρ

/-- The reference runs, for any arguments. -/
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)

/-- The kernel's result is the reference's. -/
theorem equal : Cert.algebraic_Kernel3Ideal_Reference3Ideal (hKernel3Ideal := Cert.Kernel3Ideal.Gen.facts)
    (hReference3Ideal := Cert.Reference3Ideal.Gen.facts) := by
  intro m g m' g' _ ha
  refine ⟨fun c => Cert.Kernel3Ideal.Dw.prod (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), Cert.Kernel3Ideal.Dw.run m g, ?_⟩
  refine (θ_run Cert.Reference3Ideal.defs _ _).mono (fun r h c => ⟨(h c).1.trans ?_, (h c).2⟩) (Cert.Reference3Ideal.Value.run m' g')
  refine (Cert.Reference3Ideal.Dw.value _ _ _ _).trans ?_
  exact congrArg₂ Cert.Kernel3Ideal.Dw.prod (ha c).1 (ha c).2

end Cert.Proof.DwDown

end
-- ==== Proof.DwOut.lean ====
/- The output projection's weight gradient: what the launch leaves, element by element, and the reference's element. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

noncomputable section

namespace Cert.Kernel4Ideal.Dw

open Idealize.ShloMosaic Idealize.ShloMosaic.TcCoe Idealize.SL.Sem
open Cert.Kernel4Ideal Cert.Kernel4Ideal.Gen

variable (m : (ℓ : Loc nD τ sig) → Buf (Elt Ideal) ℓ) (ρ : Dev nD → PrngReg)

/-- Where each window's block sits at each point: two points, one per half of the rows, for each block of columns. -/
theorem idx : ∀ t : Fin cfg0.N, win0_0.index t = ![0, t.val % 2, t.val / 2] ∧ win0_1.index t = ![t.val % 2, 0]
    ∧ win0_2.index t = ![t.val / 2, 0] :=
  (by decide +kernel : ∀ t : Fin grid0.N, _)

/-- The product of one operand's columns with the other's, over all 4096 rows. -/
def prod (A : Vec Ideal S4096x1024 .f32) (B : Vec Ideal S4096x1024 .f32) : Vec Ideal S1024x1024 .bf16 := fun i =>
  ∑ s : Fin 4096, (A (ix2 s (i 0)) : EReal) * B (ix2 s (i 1))

/-- What the first operand's block holds at a point, in the array the launch is given. -/
theorem read0 (c : Dev nD) (t : Fin cfg0.N) (s : Fin 2048) (j : Fin 512) (r : Fin 4096) (k : Fin 1024)
    (hr : r.val = 2048 * (t.val % 2) + s.val) (hk : k.val = 512 * (t.val / 2) + j.val) :
    (iblk m c 0 t : Vec Ideal S1x2048x512 .bf16) (ix3 0 s j)
      = (m ((c : Thread nD τ).loc main_arg0) : Vec Ideal S4096x1024 .f32) (ix2 r k) := by
  have ht : t.val < 4 := lt_of_lt_of_eq t.isLt N_0
  unfold iblk
  entry_read
  blk_simp
  pointwise
  blk_ext [idx t]

theorem read1 (c : Dev nD) (t : Fin cfg0.N) (s : Fin 2048) (l : Fin 1024) (r : Fin 4096) (k : Fin 1024)
    (hr : r.val = 2048 * (t.val % 2) + s.val) (hk : k.val = l.val) :
    (iblk m c 1 t : Vec Ideal S2048x1024 .bf16) (ix2 s l)
      = (m ((c : Thread nD τ).loc main_arg1) : Vec Ideal S4096x1024 .f32) (ix2 r k) := by
  unfold iblk
  entry_read
  blk_simp
  pointwise
  blk_ext [idx t]

theorem sum_halves (f g : Fin 2048 → EReal) (h : Fin 4096 → EReal) (hf : ∀ s : Fin 2048, f s = h ⟨s.val, by omega⟩)
    (hg : ∀ s : Fin 2048, g s = h ⟨2048 + s.val, by omega⟩) : ∑ s, f s + ∑ s, g s = ∑ s, h s := by
  refine Eq.trans ?_ (Fin.sum_univ_add (a := 2048) (b := 2048) (fun s : Fin (2048 + 2048) => h s)).symm
  exact congrArg₂ (· + ·) (Finset.sum_congr rfl fun s _ => hf s) (Finset.sum_congr rfl fun s _ => hg s)

theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) (fun t hf y => ?_)
  have hN : cfg0.N = 4 := N_0
  have ht : t.val < 4 := lt_of_lt_of_eq t.isLt N_0
  have h1 : t.val % 2 = 1 := (flush0_2 t).mp hf
  have h0 : ¬t.val % 2 = 0 := by omega
  have hp0 : (⟨t.val - 1, by omega⟩ : Fin cfg0.N).val % 2 = 0 := by dsimp only; omega
  have hp1 : ¬(⟨t.val - 1, by omega⟩ : Fin cfg0.N).val % 2 = 1 := by dsimp only; omega
  blk_simp
  rw [after0_2, outsAt0_B m c t h0 h1]
  frame_out
  rw [outsAt0_A m c ⟨t.val - 1, by omega⟩ hp0 hp1]
  dsimp only
  frame_out
  simp only [read_unread_whole]
  unfold prod
  pointwise [k0_pay1, k0_pay2]
  have he0 : (((cfg0.win 2).blk t).view.emb y 0).val = 512 * (t.val / 2) + (y 0).val := by
    blk_simp [idx t]; try omega
  have he1 : (((cfg0.win 2).blk t).view.emb y 1).val = (y 1).val := by
    blk_simp [idx t]; try omega
  refine sum_halves _ _ _ (fun s => congrArg₂ (· * ·) (read0 m c _ s (y 0) _ _ ?_ ?_) (read1 m c _ s (y 1) _ _ ?_ he1))
    (fun s => congrArg₂ (· * ·) (read0 m c _ s (y 0) _ _ ?_ ?_) (read1 m c _ s (y 1) _ _ ?_ he1))
  all_goals first | refine he0.trans ?_ | skip
  all_goals dsimp only <;> omega

/-- The run leaves the product in the result, and the arguments as they were. -/
theorem run : θ_run defs (onTc (τ := τ) (main (F := Ideal))) ⟨m, fun _ => 0, ρ⟩ fun r => ∀ c : Dev nD,
      r.2.mem ((c : Thread nD τ).loc main_v3) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.Kernel4Ideal.Value.run_blocks m ρ)

end Cert.Kernel4Ideal.Dw

namespace Cert.Reference4Ideal.Dw

open Idealize.ShloMosaic Idealize.ShloMosaic.TcCoe Idealize.SL.Sem
open Cert.Reference4Ideal

theorem value (A : Vec Ideal S4096x1024 .f32) (B : Vec Ideal S4096x1024 .f32) (h1 h2) :
    (truncf (F := Ideal) .bf16 (transpose S1024x1024 [1, 0] (Host.dotGeneral (φ₁ := .f32) (φ₂ := .f32) dot_S4096x1024_S4096x1024_S1024x1024_0_0_1_1_n_n none B A) h1) h2 : Vec Ideal S1024x1024 .bf16)
      = Cert.Kernel4Ideal.Dw.prod A B := by
  funext i
  unfold Cert.Kernel4Ideal.Dw.prod
  pointwise
  refine Finset.sum_congr (M := EReal) rfl fun s _ => ?_
  exact mul_comm (G := EReal) _ _

end Cert.Reference4Ideal.Dw

end
-- ==== Proof.DwOutClaim.lean ====
/- The output projection's weight gradient: the launch and its idealization share one text; the frames, and the equality with the
   reference. -/
module

public import proofs.«01_k».proof.Defs
public import proofs.«01_k».proof.Proof.Gen.Kernel4
public import proofs.«01_k».proof.Proof.Gen.Reference4Ideal
public import proofs.«01_k».proof.Proof.DwOut
public import Idealize.ShloMosaic.Lib.Quiescent

@[expose] public section

noncomputable section

namespace Cert.Proof.DwOut

open Idealize.ShloMosaic Idealize.ShloMosaic.StableHlo Idealize.SL.Sem

section
variable {F : FTy → Type} [FloatOps F]

theorem body_same : @Cert.Kernel4.cc0_dw_out F _ Cert.Kernel4.Gen.facts = @Cert.Kernel4Ideal.cc0_dw_out F _ Cert.Kernel4Ideal.Gen.facts := rfl

theorem table_same : @Cert.Kernel4.defs₀ F _ Cert.Kernel4.Gen.facts = @Cert.Kernel4Ideal.defs₀ F _ Cert.Kernel4Ideal.Gen.facts := by
  unfold Cert.Kernel4.defs₀ Cert.Kernel4Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel4.defs F _ Cert.Kernel4.Gen.facts = @Cert.Kernel4Ideal.defs F _ Cert.Kernel4Ideal.Gen.facts :=
  congrArg (Pipeline.defs Cert.Kernel4Ideal.pcfgs) table_same

set_option maxRecDepth 8192 in
theorem main_same : @Cert.Kernel4.main F _ Cert.Kernel4.Gen.facts = @Cert.Kernel4Ideal.main F _ Cert.Kernel4Ideal.Gen.facts := rfl

end

/-- The idealized kernel runs, for any arguments. -/
theorem frame_ideal : Cert.quiescent_Kernel4Ideal (hKernel4Ideal := Cert.Kernel4Ideal.Gen.facts) :=
  fun m ρ _ => Cert.Kernel4Ideal.Gen.frame m ρ

/-- The kernel runs, for any arguments: its program has the same text, and the run is over any float values. -/
theorem frame_kernel : Cert.quiescent_Kernel4 (hKernel4 := Cert.Kernel4.Gen.facts) := by
  intro m ρ _
  rw [defs_same, main_same]
  exact Cert.Kernel4Ideal.Gen.frame (F := Bits) m ρ

/-- The reference runs, for any arguments. -/
theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

/-- The kernel's result is the reference's. -/
theorem equal : Cert.algebraic_Kernel4Ideal_Reference4Ideal (hKernel4Ideal := Cert.Kernel4Ideal.Gen.facts)
    (hReference4Ideal := Cert.Reference4Ideal.Gen.facts) := by
  intro m g m' g' _ ha
  refine ⟨fun c => Cert.Kernel4Ideal.Dw.prod (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), Cert.Kernel4Ideal.Dw.run m g, ?_⟩
  refine (θ_run Cert.Reference4Ideal.defs _ _).mono (fun r h c => ⟨(h c).1.trans ?_, (h c).2⟩) (Cert.Reference4Ideal.Value.run m' g')
  refine (Cert.Reference4Ideal.Dw.value _ _ _ _).trans ?_
  exact congrArg₂ Cert.Kernel4Ideal.Dw.prod (ha c).1 (ha c).2

end Cert.Proof.DwOut

end
-- ==== Proof.DwIn.lean ====
/- The in projection's weight gradient: what the launch leaves, element by element, and the reference's element. -/
module

public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel5Ideal.Dw

open Idealize.ShloMosaic Idealize.ShloMosaic.TcCoe Idealize.SL.Sem
open Cert.Kernel5Ideal Cert.Kernel5Ideal.Gen

variable (m : (ℓ : Loc nD τ sig) → Buf (Elt Ideal) ℓ) (ρ : Dev nD → PrngReg)

/-- Where each window's block sits at each point: one block of columns of the first operand per point, the second whole. -/
theorem idx : ∀ t : Fin cfg0.N, win0_0.index t = ![0, 0, t.val] ∧ win0_1.index t = ![0, 0] ∧ win0_2.index t = ![t.val, 0] :=
  (by decide +kernel : ∀ t : Fin grid0.N, _)

/-- The product of the first operand's columns with the second's, over all 4096 rows. -/
def prod (A : Vec Ideal S4096x2560 .f32) (B : Vec Ideal S4096x1024 .f32) : Vec Ideal S2560x1024 .bf16 := fun i =>
  ∑ s : Fin 4096, (A (ix2 s (i 0)) : EReal) * B (ix2 s (i 1))

theorem sum_ext {n : ℕ} {f g : Fin n → EReal} (h : ∀ s, f s = g s) : ∑ s, f s = ∑ s, g s := Finset.sum_congr rfl fun s _ => h s

theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) (fun t _ y => ?_)
  blk_simp
  rw [after0_2]
  frame_out
  unfold prod
  pointwise [k0_pay1]
  refine sum_ext fun s => ?_
  have h0 : (iblk m c 0 t : Vec Ideal S1x4096x512 .bf16) (ix3 0 s (y 0))
      = (m ((c : Thread nD τ).loc main_arg0) : Vec Ideal S4096x2560 .f32) (ix2 s (((cfg0.win 2).blk t).view.emb y 0)) := by
    unfold iblk
    entry_read
    blk_simp
    pointwise
    blk_ext [idx t]
  have h1 : (iblk m c 1 t : Vec Ideal S4096x1024 .bf16) (ix2 s (y 1))
      = (m ((c : Thread nD τ).loc main_arg1) : Vec Ideal S4096x1024 .f32) (ix2 s (((cfg0.win 2).blk t).view.emb y 1)) := by
    unfold iblk
    entry_read
    blk_simp
    pointwise
    blk_ext [idx t]
  exact congrArg₂ (· * ·) h0 h1

/-- The run leaves the product in the result, and the arguments as they were. -/
theorem run : θ_run defs (onTc (τ := τ) (main (F := Ideal))) ⟨m, fun _ => 0, ρ⟩ fun r => ∀ c : Dev nD,
      r.2.mem ((c : Thread nD τ).loc main_v3) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.Kernel5Ideal.Value.run_blocks m ρ)

end Cert.Kernel5Ideal.Dw

namespace Cert.Reference5Ideal.Dw

open Idealize.ShloMosaic Idealize.ShloMosaic.TcCoe Idealize.SL.Sem
open Cert.Reference5Ideal

theorem value (A : Vec Ideal S4096x2560 .f32) (B : Vec Ideal S4096x1024 .f32) (h1 h2 h3) :
    (truncf (F := Ideal) .bf16 (transpose S2560x1024 [1, 0] (transpose S1024x2560 [1, 0] (Host.dotGeneral (φ₁ := .f32) (φ₂ := .f32) dot_S4096x2560_S4096x1024_S2560x1024_0_0_1_1_n_n none A B) h1) h2) h3 : Vec Ideal S2560x1024 .bf16)
      = Cert.Kernel5Ideal.Dw.prod A B := by
  funext i
  unfold Cert.Kernel5Ideal.Dw.prod
  pointwise

end Cert.Reference5Ideal.Dw

end
-- ==== Proof.DwInClaim.lean ====
/- The in projection's weight gradient: the launch and its idealization share one text; the frames, and the equality with the
   reference. -/
module

public import proofs.«01_k».proof.Defs
public import proofs.«01_k».proof.Proof.Gen.Kernel5
public import proofs.«01_k».proof.Proof.Gen.Reference5Ideal
public import proofs.«01_k».proof.Proof.DwIn
public import Idealize.ShloMosaic.Lib.Quiescent

@[expose] public section

noncomputable section

namespace Cert.Proof.DwIn

open Idealize.ShloMosaic Idealize.ShloMosaic.StableHlo Idealize.SL.Sem

section
variable {F : FTy → Type} [FloatOps F]

theorem body_same : @Cert.Kernel5.cc0_dw_in F _ Cert.Kernel5.Gen.facts = @Cert.Kernel5Ideal.cc0_dw_in F _ Cert.Kernel5Ideal.Gen.facts := rfl

theorem table_same : @Cert.Kernel5.defs₀ F _ Cert.Kernel5.Gen.facts = @Cert.Kernel5Ideal.defs₀ F _ Cert.Kernel5Ideal.Gen.facts := by
  unfold Cert.Kernel5.defs₀ Cert.Kernel5Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel5.defs F _ Cert.Kernel5.Gen.facts = @Cert.Kernel5Ideal.defs F _ Cert.Kernel5Ideal.Gen.facts :=
  congrArg (Pipeline.defs Cert.Kernel5Ideal.pcfgs) table_same

set_option maxRecDepth 8192 in
theorem main_same : @Cert.Kernel5.main F _ Cert.Kernel5.Gen.facts = @Cert.Kernel5Ideal.main F _ Cert.Kernel5Ideal.Gen.facts := rfl

end

/-- The idealized kernel runs, for any arguments. -/
theorem frame_ideal : Cert.quiescent_Kernel5Ideal (hKernel5Ideal := Cert.Kernel5Ideal.Gen.facts) :=
  fun m ρ _ => Cert.Kernel5Ideal.Gen.frame m ρ

/-- The kernel runs, for any arguments: its program has the same text, and the run is over any float values. -/
theorem frame_kernel : Cert.quiescent_Kernel5 (hKernel5 := Cert.Kernel5.Gen.facts) := by
  intro m ρ _
  rw [defs_same, main_same]
  exact Cert.Kernel5Ideal.Gen.frame (F := Bits) m ρ

/-- The reference runs, for any arguments. -/
theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run m ρ)

/-- The kernel's result is the reference's. -/
theorem equal : Cert.algebraic_Kernel5Ideal_Reference5Ideal (hKernel5Ideal := Cert.Kernel5Ideal.Gen.facts)
    (hReference5Ideal := Cert.Reference5Ideal.Gen.facts) := by
  intro m g m' g' _ ha
  refine ⟨fun c => Cert.Kernel5Ideal.Dw.prod (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), Cert.Kernel5Ideal.Dw.run m g, ?_⟩
  refine (θ_run Cert.Reference5Ideal.defs _ _).mono (fun r h c => ⟨(h c).1.trans ?_, (h c).2⟩) (Cert.Reference5Ideal.Value.run m' g')
  refine (Cert.Reference5Ideal.Dw.value _ _ _ _ _).trans ?_
  exact congrArg₂ Cert.Kernel5Ideal.Dw.prod (ha c).1 (ha c).2

end Cert.Proof.DwIn

end
-- ==== Proof.UpRun.lean ====
/- The launch of the up projection: one grid point's body run, what each point leaves, and the run they add up to.
   The array the body leaves unread is the input itself, which a window stages as well. -/
module

public import proofs.«01_k».proof.Proof.Gen.Kernel6Ideal.Skeleton
public import proofs.«01_k».proof.Proof.Gen.Kernel6Ideal.Frame
public import Idealize.ShloMosaic.Lib.Claim

@[expose] public section

set_option maxRecDepth 16384

noncomputable section

namespace Cert.Kernel6Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel6Ideal Cert.Kernel6Ideal.Gen

variable {F : FTy → Type} [FloatOps F]

local notation "𝕄G" => MT nD τ sig Unit (Elt F) ℕ (UR sig nD τ) ℕ

variable (m : (ℓ : Loc nD τ sig) → Buf (Elt F) ℓ) (ρ : Dev nD → PrngReg)

set_option maxHeartbeats 4000000 in
/-- One grid point: from the blocks of the input, the gains and the weight, the body runs, and the two output buffers end with the pieces found. -/
noncomputable def pointRun (c : Dev nD) (i : grid0.Coords) (a1 : Memref sig .tc .vmem S512x1024 .f32) (h1 : a1.IsWhole) (a2 : Memref sig .tc .vmem S1x1024 .f32) (h2 : a2.IsWhole)
    (a3 : Memref sig .tc .vmem S5632x1024 .bf16) (h3 : a3.IsWhole) (a5 : Memref sig .tc .vmem S512x5632 .bf16) (h5 : a5.IsWhole) (a6 : Memref sig .tc .vmem S512x1024 .bf16) (h6 : a6.IsWhole)
    (x : Vec F S512x1024 .f32) (g : Vec F S1x1024 .f32) (w : Vec F S5632x1024 .bf16) :
    Σ' (L : List (View.Piece (Elt F) S512x5632 .bf16)), { N : List (View.Piece (Elt F) S512x1024 .bf16) //
      ∀ K : PUnit → sProp 𝕄G,
        iprop(owns (c : Thread nD τ) a1 fullShare x ∗ owns (c : Thread nD τ) a2 fullShare g ∗ owns (c : Thread nD τ) a3 fullShare w
            ∗ (∃ d, owns (c : Thread nD τ) a5 fullShare d) ∗ (∃ d, owns (c : Thread nD τ) a6 fullShare d)
            ∗ (iprop(owns (c : Thread nD τ) a1 fullShare x ∗ owns (c : Thread nD τ) a2 fullShare g ∗ owns (c : Thread nD τ) a3 fullShare w
                ∗ (∃ f, a5.view.loc (c : Thread nD τ) ↦[a5.view.set]{fullShare} a5.view.writes (Elt F) f L)
                ∗ (∃ f, a6.view.loc (c : Thread nD τ) ↦[a6.view.set]{fullShare} a6.view.writes (Elt F) f N)) -∗ K ⟨⟩))
          ⊢ wp frame (wpE (defs₀ (F := F)) Variants.none c none) Set.univ
              (cc0_up_proj i a1 h1 a2 h2 a3 h3 (Memref.whole main_arg0) (Memref.isWhole_whole _) a5 h5 a6 h6) K } := by
  refine ⟨?_, ?_, fun K => ?run⟩
  case run =>
    simp only [cc0_up_proj_eq_skeleton]
    unfold cc0_up_proj_skel
    simp only [k0_part1_eq_skeleton, k0_part2_eq_skeleton, k0_part3_eq_skeleton, k0_part4_eq_skeleton]
    unfold owns
    iintro ⟨⟨%f1, %e1, H1⟩, ⟨%f2, %e2, H2⟩, ⟨%f3, %e3, H3⟩, ⟨%d5, %f5, -, H5⟩, ⟨%d6, %f6, -, H6⟩, HK⟩
    obtain rfl := h1.eq_unread e1
    obtain rfl := h2.eq_unread e2
    obtain rfl := h3.eq_unread e3
    sl_exec
    sl_step
    iapply HK
    isplitl [H1]
    · iexists _; isplitr; swap; (iexact H1); ipureintro; exact h1.read_unread _
    isplitl [H2]
    · iexists _; isplitr; swap; (iexact H2); ipureintro; exact h2.read_unread _
    isplitl [H3]
    · iexists _; isplitr; swap; (iexact H3); ipureintro; exact h3.read_unread _
    isplitl [H5]; · iexists _; iexact H5
    iexists _; iexact H6

/-- The staging buffer of each window at a point. -/
abbrev s0 (t : Fin cfg0.N) : Memref sig .tc .vmem S512x1024 .f32 := win0_0.stage (cfg0.slots t 0)
abbrev w0 (t : Fin cfg0.N) : (s0 t).IsWhole := hstage0_0 ((cfg0.slots t 0).cast nbuf0_0)
abbrev s1 (t : Fin cfg0.N) : Memref sig .tc .vmem S1x1024 .f32 := win0_1.stage (cfg0.slots t 1)
abbrev w1 (t : Fin cfg0.N) : (s1 t).IsWhole := hstage0_1 ((cfg0.slots t 1).cast nbuf0_1)
abbrev s2 (t : Fin cfg0.N) : Memref sig .tc .vmem S5632x1024 .bf16 := win0_2.stage (cfg0.slots t 2)
abbrev w2 (t : Fin cfg0.N) : (s2 t).IsWhole := hstage0_2 ((cfg0.slots t 2).cast nbuf0_2)
abbrev s3 (t : Fin cfg0.N) : Memref sig .tc .vmem S512x5632 .bf16 := win0_3.stage (cfg0.slots t 3)
abbrev w3 (t : Fin cfg0.N) : (s3 t).IsWhole := hstage0_3 ((cfg0.slots t 3).cast nbuf0_3)
abbrev s4 (t : Fin cfg0.N) : Memref sig .tc .vmem S512x1024 .bf16 := win0_4.stage (cfg0.slots t 4)
abbrev w4 (t : Fin cfg0.N) : (s4 t).IsWhole := hstage0_4 ((cfg0.slots t 4).cast nbuf0_4)

/-- The body's run at a point, over the point's blocks. -/
abbrev atPoint (c : Dev nD) (t : Fin cfg0.N) :=
  pointRun (F := F) c (grid0.coords t) (s0 t) (w0 t) (s1 t) (w1 t) (s2 t) (w2 t) (s3 t) (w3 t) (s4 t) (w4 t) (iblk m c 0 t) (iblk m c 1 t) (iblk m c 2 t)

/-- The projection's pieces fill its block. -/
theorem filled3 (c : Dev nD) (t : Fin cfg0.N) (y : S512x5632.Idx) : ∃ p ∈ (atPoint m c t).1, y ∈ p.1.set :=
  View.cover_of_tiledL (atPoint m c t).1 S512x512.size (by sl_kernel_rfl) y

/-- The normalised block's pieces fill it. -/
theorem filled4 (c : Dev nD) (t : Fin cfg0.N) (y : S512x1024.Idx) : ∃ p ∈ (atPoint m c t).2.1, y ∈ p.1.set :=
  View.cover_of_tiledL (atPoint m c t).2.1 S128x1024.size (by sl_kernel_rfl) y

/-- What a point leaves in the projection's buffer. -/
def left3 (c : Dev nD) (t : Fin cfg0.N) : Vec F S512x5632 .bf16 := (s3 t).view.read (Elt F) ((s3 t).view.writes (Elt F) (s3 t).view.junk (atPoint m c t).1)

/-- What a point leaves in the normalised input's buffer. -/
def left4 (c : Dev nD) (t : Fin cfg0.N) : Vec F S512x1024 .bf16 := (s4 t).view.read (Elt F) ((s4 t).view.writes (Elt F) (s4 t).view.junk (atPoint m c t).2.1)

/-- The launch's data on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left3 m c t
    | ⟨4, _⟩ => left4 m c t
  Φ _ := Pipeline.ΦA spec0 c
  q _ := fullShare
  owed _ := 0

theorem entry (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = left3 m c t := by dsimp only [dats]
theorem after_4 (c : Dev nD) (t : Fin cfg0.N) : (dats m 0 c).after 4 t = left4 m c t := by dsimp only [dats]
theorem before_0 (c : Dev nD) (t : Fin cfg0.N) (d) : (dats m 0 c).before 0 t d = iblk m c 0 t := before0_0_of m (dats m 0 c) (entry m c 0) (after_0 m c) t d
theorem before_1 (c : Dev nD) (t : Fin cfg0.N) (d) : (dats m 0 c).before 1 t d = iblk m c 1 t := before0_1_of m (dats m 0 c) (entry m c 1) (after_1 m c) t d
theorem before_2 (c : Dev nD) (t : Fin cfg0.N) (d) : (dats m 0 c).before 2 t d = iblk m c 2 t := before0_2_of m (dats m 0 c) (entry m c 2) (after_2 m c) t d

/-- The body at a point, from what is known before it to what is known after. -/
theorem sound_body (c : Dev nD) (t : Fin cfg0.N) :
    iprop((dats m 0 c).Φ t.castSucc ∗ (dats m 0 c).owesAt () t.castSucc
        ∗ (∃ d, owns (c : Thread nD τ) (s0 t) fullShare ((dats m 0 c).before 0 t d)) ∗ (∃ d, owns (c : Thread nD τ) (s1 t) fullShare ((dats m 0 c).before 1 t d))
        ∗ (∃ d, owns (c : Thread nD τ) (s2 t) fullShare ((dats m 0 c).before 2 t d)) ∗ (∃ d, owns (c : Thread nD τ) (s3 t) fullShare ((dats m 0 c).before 3 t d))
        ∗ (∃ d, owns (c : Thread nD τ) (s4 t) fullShare ((dats m 0 c).before 4 t d)))
      ⊢ wp frame (wpE (defs₀ (F := F)) Variants.none c none) Set.univ (bodyAt0 t) fun _ =>
        iprop((dats m 0 c).Φ t.succ ∗ (dats m 0 c).owesAt () t.succ
          ∗ owns (c : Thread nD τ) (s0 t) fullShare ((dats m 0 c).after 0 t) ∗ owns (c : Thread nD τ) (s1 t) fullShare ((dats m 0 c).after 1 t)
          ∗ owns (c : Thread nD τ) (s2 t) fullShare ((dats m 0 c).after 2 t) ∗ owns (c : Thread nD τ) (s3 t) fullShare ((dats m 0 c).after 3 t)
          ∗ owns (c : Thread nD τ) (s4 t) fullShare ((dats m 0 c).after 4 t)) := by
  simp only [before_0, before_1, before_2]
  rw [show (dats m 0 c).Φ t.succ = (dats m 0 c).Φ t.castSucc from rfl, show (dats m 0 c).owesAt () t.succ = (dats m 0 c).owesAt () t.castSucc from rfl,
    after_0, after_1, after_2, after_3, after_4]
  unfold left3 left4
  iintro ⟨HΦ, HO, ⟨%d0, H0⟩, ⟨%d1, H1⟩, ⟨%d2, H2⟩, ⟨%d3, H3⟩, ⟨%d4, H4⟩⟩
  iapply ((atPoint m c t).2.2 _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [HO]; · iexact HO
  isplitl [H0]; · iexact H0
  isplitl [H1]; · iexact H1
  isplitl [H2]; · iexact H2
  isplitl [H3]
  · unfold owns; iexists _; isplitr; swap; (iexact H3); ipureintro
    exact View.read_writes_of_cover _ _ _ _ _ (filled3 m c t)
  unfold owns; iexists _; isplitr; swap; (iexact H4); ipureintro
  exact View.read_writes_of_cover _ _ _ _ _ (filled4 m c t)

/-- The body table's row at a point is the body there. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- Every run ends, with the arrays at what the points' write-backs made of them and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := entry m) (hΦ := fun _ _ => rfl)

/-- The argument arrays end as they began, and every counter is at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (entry m) ((θ_run defs _ _).mono (fun _ h => h.1) (run_main m ρ)))
    ((θ_run defs _ _).mono (fun _ h => h.2) (run_main m ρ))

/-- The run leaves each result's array at what the points wrote, and the arguments as they were. -/
theorem run_arrays : θ_run defs (onTc (τ := τ) (main (F := F))) ⟨m, fun _ => 0, ρ⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1.1 c).1 3, (h.1.1 c).1 4, (h.2.1 c)⟩) (θ_run_and (run_main m ρ) (quiet m ρ))

end Cert.Kernel6Ideal.Up

end
-- ==== Proof.RowNorm.lean ====
/- The reciprocal root mean square of a row, and a row scaled by it. -/
module

public import Idealize.ShloMosaic.Lib.Pointwise

@[expose] public section

noncomputable section

namespace Cert.RowNorm

open Idealize.ShloMosaic

/-- The reciprocal of a row's root mean square: the squares summed, over 1024, with the small constant added. -/
def rms (x : Fin 1024 → EReal) : EReal :=
  Ideal.rsqrt (Ideal.div (∑ k, x k * x k) (Ideal.ofBits FTy.f32 0x44800000#32) + Ideal.ofBits FTy.f32 0x358637BD#32)

end Cert.RowNorm

end
-- ==== Proof.UpProj.lean ====
/- The up projection of a normalised input. -/
module

public import proofs.«01_k».proof.Proof.UpRun
public import proofs.«01_k».proof.Proof.Gen.Reference6Ideal.Run
public import proofs.«01_k».proof.Proof.RowNorm
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

noncomputable section

namespace Cert.Kernel6Ideal.Proj

open Idealize.ShloMosaic Idealize.ShloMosaic.TcCoe Idealize.SL.Sem
open Cert.Kernel6Ideal Cert.Kernel6Ideal.Gen Cert.Kernel6Ideal.Up

variable (m : (ℓ : Loc nD τ sig) → Buf (Elt Ideal) ℓ) (ρ : Dev nD → PrngReg)

/-- A block of rows, each scaled by the reciprocal of its root mean square and by the gains. -/
def nb (x0 : Vec Ideal S512x1024 .f32) (g : Vec Ideal S1x1024 .f32) : Vec Ideal S512x1024 .bf16 := fun y =>
  (x0 y : EReal) * Cert.RowNorm.rms (fun k => x0 (ix2 (y 0) k)) * g (ix2 0 (y 1))

/-- The normalised block as the launch stores it, 128 rows at a time. -/
abbrev strips (x0 : Vec Ideal S512x1024 .f32) (g : Vec Ideal S1x1024 .f32) : List (View.Piece (Elt Ideal) S512x1024 .bf16) :=
  [⟨Rect.unit ![384, 0] ![128, 1024] inb_S512x1024_S128x1024_384_0, k0_pay7 (View.ld x0 (Rect.unit ![384, 0] ![128, 1024] inb_S512x1024_S128x1024_384_0)) g⟩,
      ⟨Rect.unit ![256, 0] ![128, 1024] inb_S512x1024_S128x1024_256_0, k0_pay6 (View.ld x0 (Rect.unit ![256, 0] ![128, 1024] inb_S512x1024_S128x1024_256_0)) (k0_pay5 (View.ld x0 (Rect.unit ![256, 0] ![128, 1024] inb_S512x1024_S128x1024_256_0))) g⟩,
      ⟨Rect.unit ![128, 0] ![128, 1024] inb_S512x1024_S128x1024_128_0, k0_pay4 (View.ld x0 (Rect.unit ![128, 0] ![128, 1024] inb_S512x1024_S128x1024_128_0)) g⟩,
      ⟨Rect.unit ![0, 0] ![128, 1024] inb_S512x1024_S128x1024_0_0, k0_pay3 (View.ld x0 (Rect.unit ![0, 0] ![128, 1024] inb_S512x1024_S128x1024_0_0)) g⟩]

theorem strips_nb (x0 : Vec Ideal S512x1024 .f32) (g : Vec Ideal S1x1024 .f32) (y : S512x1024.Idx) :
    View.canon (strips x0 g) y = nb x0 g y := by
  refine View.canon_apply_of_pieces (nb x0 g) (strips x0 g) ?_ y (View.cover_of_tiled_head _ _ _ (by rfl) y)
  intro p hp x
  simp only [strips, List.mem_cons, List.not_mem_nil, or_false] at hp
  rcases hp with rfl | rfl | rfl | rfl
  all_goals
    unfold nb Cert.RowNorm.rms
    pointwise [k0_pay3, k0_pay4, k0_pay5, k0_pay6, k0_pay7]
    blk_point []

theorem strips_read (x0 : Vec Ideal S512x1024 .f32) (g : Vec Ideal S1x1024 .f32) {sig : RefSig} {κ : Kind} {sp : Space}
    (v : View sig κ sp S512x1024 .bf16) :
    v.readCov (strips x0 g) (Rect.unit ![0, 0] ![512, 1024] inb_S512x1024_S512x1024_0_0).toLoadRect = nb x0 g := by
  rw [View.readCov_eq_canon']
  funext y
  refine (strips_nb x0 g _).trans (congrArg (nb x0 g) ?_)
  blk_ext []
  all_goals (show 0 + 1 * _ = _; omega)

/-- The block of the projection: the normalised rows times the rows of the transposed weight. -/
def ob (x0 : Vec Ideal S512x1024 .f32) (g : Vec Ideal S1x1024 .f32) (w : Vec Ideal S5632x1024 .bf16) : Vec Ideal S512x5632 .bf16 := fun y =>
  ∑ k : Fin 1024, (nb x0 g (ix2 (y 0) k) : EReal) * w (ix2 (y 1) k)

/-- Where each window's block sits at each point: the rows of the point; the weight and the gains whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem after4 (c : Dev nD) (t : Fin cfg0.N) (y : S512x1024.Idx) :
    (dats m 0 c).after 4 t y = nb (iblk m c 0 t) (iblk m c 1 t) y := by
  rw [after_4]
  unfold left4 atPoint pointRun
  frame_out
  exact strips_nb _ _ y

theorem after3 (c : Dev nD) (t : Fin cfg0.N) (y : S512x5632.Idx) :
    (dats m 0 c).after 3 t y = ob (iblk m c 0 t) (iblk m c 1 t) (iblk m c 2 t) y := by
  rw [after_3]
  unfold left3 atPoint pointRun
  frame_out
  have e := strips_read (iblk m c 0 t) (iblk m c 1 t) (s4 t).view
  unfold strips at e
  simp only [e]
  generalize hx0 : (iblk m c 0 t : Vec Ideal S512x1024 .f32) = x0
  generalize hx1 : (iblk m c 1 t : Vec Ideal S1x1024 .f32) = x1
  generalize hx2 : (iblk m c 2 t : Vec Ideal S5632x1024 .bf16) = x2
  refine View.canon_apply_of_pieces (ob x0 x1 x2) _ ?_ y (View.cover_of_tiled_head _ _ _ (by rfl) y)
  intro p hp x
  simp only [List.mem_cons, List.not_mem_nil, or_false] at hp
  rcases hp with rfl | rfl | rfl | rfl | rfl | rfl | rfl | rfl | rfl | rfl | rfl
  all_goals
    unfold ob
    generalize nb x0 x1 = N
    pointwise [k0_pay1, k0_pay2, k0_pay8, k0_pay9, k0_pay10, k0_pay11, k0_pay12, k0_pay13, k0_pay14, k0_pay15, k0_pay16]
    blk_point []

/-- The normalised input. -/
def norm (X : Vec Ideal S4096x1024 .f32) (g : Vec Ideal S1024 .f32) : Vec Ideal S4096x1024 .bf16 := fun i =>
  (X i : EReal) * Cert.RowNorm.rms (fun k => X (ix2 (i 0) k)) * g (ix1 (i 1))

/-- The projection of the normalised input. -/
def proj (X : Vec Ideal S4096x1024 .f32) (g : Vec Ideal S1024 .f32) (W : Vec Ideal S1024x5632 .f32) :
    Vec Ideal S4096x5632 .bf16 := fun i =>
  ∑ k : Fin 1024, (norm X g (ix2 (i 0) k) : EReal) * W (ix2 k (i 1))

theorem read0 (c : Dev nD) (t : Fin cfg0.N) (s : Fin 512) (k : Fin 1024) (r : Fin 4096) (hr : r.val = 512 * t.val + s.val) :
    (iblk m c 0 t : Vec Ideal S512x1024 .f32) (ix2 s k)
      = (m ((c : Thread nD τ).loc main_arg0) : Vec Ideal S4096x1024 .f32) (ix2 r k) := by
  unfold iblk
  entry_read
  blk_simp
  blk_ext [idx t]

theorem read1 (c : Dev nD) (t : Fin cfg0.N) (k : Fin 1024) :
    (iblk m c 1 t : Vec Ideal S1x1024 .f32) (ix2 0 k) = (m ((c : Thread nD τ).loc main_arg1) : Vec Ideal S1024 .f32) (ix1 k) := by
  unfold iblk
  entry_read
  blk_simp
  pointwise
  blk_ext [idx t]

theorem read2 (c : Dev nD) (t : Fin cfg0.N) (l : Fin 5632) (k : Fin 1024) :
    (iblk m c 2 t : Vec Ideal S5632x1024 .bf16) (ix2 l k)
      = (m ((c : Thread nD τ).loc main_arg2) : Vec Ideal S1024x5632 .f32) (ix2 k l) := by
  unfold iblk
  entry_read
  blk_simp
  pointwise
  blk_ext [idx t]

/-- A block of the normalised input is its rows of the whole. -/
theorem nb_eq (c : Dev nD) (t : Fin cfg0.N) (s : Fin 512) (k : Fin 1024) (r : Fin 4096) (hr : r.val = 512 * t.val + s.val) :
    nb (iblk m c 0 t) (iblk m c 1 t) (ix2 s k)
      = norm (m ((c : Thread nD τ).loc main_arg0)) (m ((c : Thread nD τ).loc main_arg1)) (ix2 r k) := by
  unfold nb norm
  refine congrArg₂ (· * ·) (congrArg₂ (· * ·) (read0 m c t s k r hr) (congrArg Cert.RowNorm.rms (funext fun k => read0 m c t s k r hr)))
    (read1 m c t k)

/-- The row of the whole array a row of a point's block stands for. -/
def row (t : Fin cfg0.N) (s : Fin 512) : Fin 4096 :=
  ⟨512 * t.val + s.val, by have ht : t.val < 8 := lt_of_lt_of_eq t.isLt N_0; have := s.isLt; omega⟩

theorem final4 (c : Dev nD) : (dats m 0 c).arrAt 4 cfg0.N = norm (m ((c : Thread nD τ).loc main_arg0)) (m ((c : Thread nD τ).loc main_arg1)) := by
  refine (dats m 0 c).arrAt_eq_of_covers 4 _ (by decide +kernel) (fun t _ y => ?_)
  have e : ((cfg0.win 4).blk t).view.emb y = ix2 (row t (y 0)) (y 1) := by
    unfold row
    blk_ext [idx t]
  blk_simp
  rw [e]
  refine (after4 m c t y).trans (Eq.trans ?_ (nb_eq m c t (y 0) (y 1) (row t (y 0)) rfl))
  exact congrArg _ (eq_ix2 y)

theorem final3 (c : Dev nD) : (dats m 0 c).arrAt 3 cfg0.N = proj (m ((c : Thread nD τ).loc main_arg0)) (m ((c : Thread nD τ).loc main_arg1)) (m ((c : Thread nD τ).loc main_arg2)) := by
  refine (dats m 0 c).arrAt_eq_of_covers 3 _ (by decide +kernel) (fun t _ y => ?_)
  have e : ((cfg0.win 3).blk t).view.emb y = ix2 (row t (y 0)) (y 1) := by
    unfold row
    blk_ext [idx t]
  blk_simp
  rw [e]
  refine (after3 m c t y).trans ?_
  unfold ob proj
  exact Finset.sum_congr (M := EReal) rfl fun k _ => congrArg₂ (· * ·)
    (nb_eq m c t (y 0) k (row t (y 0)) rfl) (read2 m c t (y 1) k)

/-- The run leaves the projection and the normalised input in the results, and the arguments as they were. -/
theorem run : θ_run defs (onTc (τ := τ) (main (F := Ideal))) ⟨m, fun _ => 0, ρ⟩ fun r => ∀ c : Dev nD,
      r.2.mem ((c : Thread nD τ).loc main_v3_0) = proj (m ((c : Thread nD τ).loc main_arg0)) (m ((c : Thread nD τ).loc main_arg1)) (m ((c : Thread nD τ).loc main_arg2))
      ∧ r.2.mem ((c : Thread nD τ).loc main_v3_1) = norm (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩) (run_arrays m ρ)

end Cert.Kernel6Ideal.Proj

namespace Cert.Reference6Ideal.Proj

open Idealize.ShloMosaic Idealize.ShloMosaic.TcCoe Idealize.SL.Sem
open Cert.Reference6Ideal Cert.Reference6Ideal.Gen Cert.Reference6Ideal.Facts
variable (m : (ℓ : Loc nD τ sig) → Buf (Elt Ideal) ℓ) (ρ : Dev nD → PrngReg)
theorem value1 (X : Vec Ideal S4096x1024 .f32) (g : Vec Ideal S1024 .f32) (i : S4096x1024.Idx) :
   truncf (F := Ideal) .bf16 (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32 i = Cert.Kernel6Ideal.Proj.norm X g i := by
  unfold Cert.Kernel6Ideal.Proj.norm Cert.RowNorm.rms
  pointwise

theorem value0 (X : Vec Ideal S4096x1024 .f32) (g : Vec Ideal S1024 .f32) (W : Vec Ideal S1024x5632 .f32) (i : S4096x5632.Idx) :
   truncf (F := Ideal) .bf16 (Host.dotGeneral (φ₁ := .f32) (φ₂ := .f32) dot_S4096x1024_S1024x5632_S4096x5632_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) W) bitsLt_bf16_f32 i = Cert.Kernel6Ideal.Proj.proj X g W i := by
  unfold Cert.Kernel6Ideal.Proj.proj Cert.Kernel6Ideal.Proj.norm Cert.RowNorm.rms
  pointwise

end Cert.Reference6Ideal.Proj
end
-- ==== Proof.UpProjClaim.lean ====
/- The up projection: the launch and its idealization share one text; the frames, and the equality with the
   reference. -/
module

public import proofs.«01_k».proof.Defs
public import proofs.«01_k».proof.Proof.Gen.Kernel6
public import proofs.«01_k».proof.Proof.Gen.Reference6Ideal
public import proofs.«01_k».proof.Proof.UpProj
public import Idealize.ShloMosaic.Lib.Quiescent

@[expose] public section

noncomputable section

namespace Cert.Proof.UpProj

open Idealize.ShloMosaic Idealize.ShloMosaic.StableHlo Idealize.SL.Sem

section
variable {F : FTy → Type} [FloatOps F]

theorem body_same : @Cert.Kernel6.cc0_up_proj F _ Cert.Kernel6.Gen.facts = @Cert.Kernel6Ideal.cc0_up_proj F _ Cert.Kernel6Ideal.Gen.facts := rfl

theorem table_same : @Cert.Kernel6.defs₀ F _ Cert.Kernel6.Gen.facts = @Cert.Kernel6Ideal.defs₀ F _ Cert.Kernel6Ideal.Gen.facts := by
  unfold Cert.Kernel6.defs₀ Cert.Kernel6Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel6.defs F _ Cert.Kernel6.Gen.facts = @Cert.Kernel6Ideal.defs F _ Cert.Kernel6Ideal.Gen.facts :=
  congrArg (Pipeline.defs Cert.Kernel6Ideal.pcfgs) table_same

set_option maxRecDepth 8192 in
theorem main_same : @Cert.Kernel6.main F _ Cert.Kernel6.Gen.facts = @Cert.Kernel6Ideal.main F _ Cert.Kernel6Ideal.Gen.facts := rfl

end

/-- The idealized kernel runs, for any arguments. -/
theorem frame_ideal : Cert.quiescent_Kernel6Ideal (hKernel6Ideal := Cert.Kernel6Ideal.Gen.facts) :=
  fun m ρ _ => Cert.Kernel6Ideal.Up.quiet m ρ

/-- The kernel runs, for any arguments: its program has the same text, and the run is over any float values. -/
theorem frame_kernel : Cert.quiescent_Kernel6 (hKernel6 := Cert.Kernel6.Gen.facts) := by
  intro m ρ _
  rw [defs_same, main_same]
  exact Cert.Kernel6Ideal.Up.quiet (F := Bits) m ρ

/-- The reference runs, for any arguments. -/
theorem frame_reference : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run m ρ)

/-- The kernel's results are the reference's. -/
theorem equal : Cert.algebraic_Kernel6Ideal_Reference6Ideal (hKernel6Ideal := Cert.Kernel6Ideal.Gen.facts)
    (hReference6Ideal := Cert.Reference6Ideal.Gen.facts) := by
  intro m g m' g' _ ha
  refine ⟨fun c => Cert.Kernel6Ideal.Proj.proj (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    fun c => Cert.Kernel6Ideal.Proj.norm (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    Cert.Kernel6Ideal.Proj.run m g, ?_⟩
  refine (θ_run Cert.Reference6Ideal.defs _ _).mono (fun r h c => ⟨(h c).1.trans ?_, (h c).2.1.trans ?_, (h c).2.2⟩)
    (Cert.Reference6Ideal.Value.run m' g')
  · refine (funext fun i => Cert.Reference6Ideal.Proj.value0 _ _ _ i).trans ?_
    obtain ⟨e0, e1, e2⟩ := ha c
    simp only [e0, e1, e2]
  · refine (funext fun i => Cert.Reference6Ideal.Proj.value1 _ _ i).trans ?_
    obtain ⟨e0, e1, _⟩ := ha c
    simp only [e0, e1]

end Cert.Proof.UpProj

end
-- ==== Proof.InProj.lean ====
/- The in projection of a normalised input. -/
module

public import proofs.«01_k».proof.Proof.Gen.Kernel7Ideal.Value
public import proofs.«01_k».proof.Proof.Gen.Reference7Ideal.Run
public import proofs.«01_k».proof.Proof.RowNorm
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

noncomputable section

namespace Cert.Kernel7Ideal.Proj

open Idealize.ShloMosaic Idealize.ShloMosaic.TcCoe Idealize.SL.Sem
open Cert.Kernel7Ideal Cert.Kernel7Ideal.Gen

variable (m : (ℓ : Loc nD τ sig) → Buf (Elt Ideal) ℓ) (ρ : Dev nD → PrngReg)

/-- A block of rows, each scaled by the reciprocal of its root mean square and by the gains. -/
def nb (x0 : Vec Ideal S512x1024 .f32) (g : Vec Ideal S1x1024 .f32) : Vec Ideal S512x1024 .bf16 := fun y =>
  (x0 y : EReal) * Cert.RowNorm.rms (fun k => x0 (ix2 (y 0) k)) * g (ix2 0 (y 1))

/-- The normalised block as the launch stores it, 128 rows at a time. -/
abbrev strips (x0 : Vec Ideal S512x1024 .f32) (g : Vec Ideal S1x1024 .f32) : List (View.Piece (Elt Ideal) S512x1024 .bf16) :=
  [⟨Rect.unit ![384, 0] ![128, 1024] inb_S512x1024_S128x1024_384_0, k0_pay7 (View.ld x0 (Rect.unit ![384, 0] ![128, 1024] inb_S512x1024_S128x1024_384_0)) g⟩,
      ⟨Rect.unit ![256, 0] ![128, 1024] inb_S512x1024_S128x1024_256_0, k0_pay6 (View.ld x0 (Rect.unit ![256, 0] ![128, 1024] inb_S512x1024_S128x1024_256_0)) (k0_pay5 (View.ld x0 (Rect.unit ![256, 0] ![128, 1024] inb_S512x1024_S128x1024_256_0))) g⟩,
      ⟨Rect.unit ![128, 0] ![128, 1024] inb_S512x1024_S128x1024_128_0, k0_pay4 (View.ld x0 (Rect.unit ![128, 0] ![128, 1024] inb_S512x1024_S128x1024_128_0)) g⟩,
      ⟨Rect.unit ![0, 0] ![128, 1024] inb_S512x1024_S128x1024_0_0, k0_pay3 (View.ld x0 (Rect.unit ![0, 0] ![128, 1024] inb_S512x1024_S128x1024_0_0)) g⟩]

theorem strips_nb (x0 : Vec Ideal S512x1024 .f32) (g : Vec Ideal S1x1024 .f32) (y : S512x1024.Idx) :
    View.canon (strips x0 g) y = nb x0 g y := by
  refine View.canon_apply_of_pieces (nb x0 g) (strips x0 g) ?_ y (View.cover_of_tiled_head _ _ _ (by rfl) y)
  intro p hp x
  simp only [strips, List.mem_cons, List.not_mem_nil, or_false] at hp
  rcases hp with rfl | rfl | rfl | rfl
  all_goals
    unfold nb Cert.RowNorm.rms
    pointwise [k0_pay3, k0_pay4, k0_pay5, k0_pay6, k0_pay7]
    blk_point []

theorem strips_read (x0 : Vec Ideal S512x1024 .f32) (g : Vec Ideal S1x1024 .f32) {sig : RefSig} {κ : Kind} {sp : Space}
    (v : View sig κ sp S512x1024 .bf16) :
    v.readCov (strips x0 g) (Rect.unit ![0, 0] ![512, 1024] inb_S512x1024_S512x1024_0_0).toLoadRect = nb x0 g := by
  rw [View.readCov_eq_canon']
  funext y
  refine (strips_nb x0 g _).trans (congrArg (nb x0 g) ?_)
  blk_ext []
  all_goals (show 0 + 1 * _ = _; omega)

/-- The block of the projection: the normalised rows times the rows of the transposed weight, and the bias. -/
def ob (x0 : Vec Ideal S512x1024 .f32) (g : Vec Ideal S1x1024 .f32) (w : Vec Ideal S2560x1024 .bf16) (b : Vec Ideal S1x2560 .f32) :
    Vec Ideal S512x2560 .bf16 := fun y =>
  (∑ k : Fin 1024, (nb x0 g (ix2 (y 0) k) : EReal) * w (ix2 (y 1) k)) + b (ix2 0 (y 1))

/-- Where each window's block sits at each point: the rows of the point; the weight and the vectors whole. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

theorem after5 (c : Dev nD) (t : Fin cfg0.N) (y : S512x1024.Idx) :
    (dats m 0 c).after 5 t y = nb (iblk m c 0 t) (iblk m c 1 t) y := by
  rw [after0_5]
  unfold outsAt0
  dsimp only
  frame_out
  exact strips_nb _ _ y

theorem after4 (c : Dev nD) (t : Fin cfg0.N) (y : S512x2560.Idx) :
    (dats m 0 c).after 4 t y = ob (iblk m c 0 t) (iblk m c 1 t) (iblk m c 2 t) (iblk m c 3 t) y := by
  rw [after0_4]
  unfold outsAt0
  dsimp only
  frame_out
  have e := strips_read (iblk m c 0 t) (iblk m c 1 t) (ms0_5 t).view
  unfold strips at e
  simp only [e]
  generalize hx0 : (iblk m c 0 t : Vec Ideal S512x1024 .f32) = x0
  generalize hx1 : (iblk m c 1 t : Vec Ideal S1x1024 .f32) = x1
  generalize hx2 : (iblk m c 2 t : Vec Ideal S2560x1024 .bf16) = x2
  generalize hx3 : (iblk m c 3 t : Vec Ideal S1x2560 .f32) = x3
  refine View.canon_apply_of_pieces (ob x0 x1 x2 x3) _ ?_ y (View.cover_of_tiled_head _ _ _ (by rfl) y)
  intro p hp x
  simp only [List.mem_cons, List.not_mem_nil, or_false] at hp
  rcases hp with rfl | rfl | rfl | rfl | rfl
  all_goals
    unfold ob
    generalize nb x0 x1 = N
    pointwise [k0_pay1, k0_pay2, k0_pay8, k0_pay9, k0_pay10, k0_pay11, k0_pay12, k0_pay13]
    blk_point []

/-- The normalised input. -/
def norm (X : Vec Ideal S4096x1024 .f32) (g : Vec Ideal S1024 .f32) : Vec Ideal S4096x1024 .bf16 := fun i =>
  (X i : EReal) * Cert.RowNorm.rms (fun k => X (ix2 (i 0) k)) * g (ix1 (i 1))

/-- The projection of the normalised input. -/
def proj (X : Vec Ideal S4096x1024 .f32) (g : Vec Ideal S1024 .f32) (W : Vec Ideal S1024x2560 .f32) (b : Vec Ideal S2560 .f32) :
    Vec Ideal S4096x2560 .bf16 := fun i =>
  (∑ k : Fin 1024, (norm X g (ix2 (i 0) k) : EReal) * W (ix2 k (i 1))) + b (ix1 (i 1))

theorem read0 (c : Dev nD) (t : Fin cfg0.N) (s : Fin 512) (k : Fin 1024) (r : Fin 4096) (hr : r.val = 512 * t.val + s.val) :
    (iblk m c 0 t : Vec Ideal S512x1024 .f32) (ix2 s k)
      = (m ((c : Thread nD τ).loc main_arg0) : Vec Ideal S4096x1024 .f32) (ix2 r k) := by
  unfold iblk
  entry_read
  blk_simp
  blk_ext [idx t]

theorem read1 (c : Dev nD) (t : Fin cfg0.N) (k : Fin 1024) :
    (iblk m c 1 t : Vec Ideal S1x1024 .f32) (ix2 0 k) = (m ((c : Thread nD τ).loc main_arg1) : Vec Ideal S1024 .f32) (ix1 k) := by
  unfold iblk
  entry_read
  blk_simp
  pointwise
  blk_ext [idx t]

theorem read2 (c : Dev nD) (t : Fin cfg0.N) (l : Fin 2560) (k : Fin 1024) :
    (iblk m c 2 t : Vec Ideal S2560x1024 .bf16) (ix2 l k)
      = (m ((c : Thread nD τ).loc main_arg2) : Vec Ideal S1024x2560 .f32) (ix2 k l) := by
  unfold iblk
  entry_read
  blk_simp
  pointwise
  blk_ext [idx t]

theorem read3 (c : Dev nD) (t : Fin cfg0.N) (l : Fin 2560) :
    (iblk m c 3 t : Vec Ideal S1x2560 .f32) (ix2 0 l) = (m ((c : Thread nD τ).loc main_arg3) : Vec Ideal S2560 .f32) (ix1 l) := by
  unfold iblk
  entry_read
  blk_simp
  pointwise
  blk_ext [idx t]

/-- A block of the normalised input is its rows of the whole. -/
theorem nb_eq (c : Dev nD) (t : Fin cfg0.N) (s : Fin 512) (k : Fin 1024) (r : Fin 4096) (hr : r.val = 512 * t.val + s.val) :
    nb (iblk m c 0 t) (iblk m c 1 t) (ix2 s k)
      = norm (m ((c : Thread nD τ).loc main_arg0)) (m ((c : Thread nD τ).loc main_arg1)) (ix2 r k) := by
  unfold nb norm
  refine congrArg₂ (· * ·) (congrArg₂ (· * ·) (read0 m c t s k r hr) (congrArg Cert.RowNorm.rms (funext fun k => read0 m c t s k r hr)))
    (read1 m c t k)

/-- The row of the whole array a row of a point's block stands for. -/
def row (t : Fin cfg0.N) (s : Fin 512) : Fin 4096 :=
  ⟨512 * t.val + s.val, by have ht : t.val < 8 := lt_of_lt_of_eq t.isLt N_0; have := s.isLt; omega⟩

theorem final5 (c : Dev nD) : (dats m 0 c).arrAt 5 cfg0.N
    = norm (m ((c : Thread nD τ).loc main_arg0)) (m ((c : Thread nD τ).loc main_arg1)) := by
  refine (dats m 0 c).arrAt_eq_of_covers 5 _ (by decide +kernel) (fun t _ y => ?_)
  have e : ((cfg0.win 5).blk t).view.emb y = ix2 (row t (y 0)) (y 1) := by
    unfold row
    blk_ext [idx t]
  blk_simp
  rw [e]
  refine (after5 m c t y).trans (Eq.trans ?_ (nb_eq m c t (y 0) (y 1) (row t (y 0)) rfl))
  exact congrArg _ (eq_ix2 y)

theorem final4 (c : Dev nD) : (dats m 0 c).arrAt 4 cfg0.N
    = proj (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) (fun t _ y => ?_)
  have e : ((cfg0.win 4).blk t).view.emb y = ix2 (row t (y 0)) (y 1) := by
    unfold row
    blk_ext [idx t]
  blk_simp
  rw [e]
  refine (after4 m c t y).trans ?_
  unfold ob proj
  exact congrArg₂ (· + ·) (Finset.sum_congr (M := EReal) rfl fun k _ => congrArg₂ (· * ·)
    (nb_eq m c t (y 0) k (row t (y 0)) rfl) (read2 m c t (y 1) k)) (read3 m c t (y 1))

/-- The run leaves the projection and the normalised input in the results, and the arguments as they were. -/
theorem run : θ_run defs (onTc (τ := τ) (main (F := Ideal))) ⟨m, fun _ => 0, ρ⟩ fun r => ∀ c : Dev nD,
      r.2.mem ((c : Thread nD τ).loc main_v4_0) = proj (m ((c : Thread nD τ).loc main_arg0)) (m ((c : Thread nD τ).loc main_arg1))
        (m ((c : Thread nD τ).loc main_arg2)) (m ((c : Thread nD τ).loc main_arg3))
      ∧ r.2.mem ((c : Thread nD τ).loc main_v4_1) = norm (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final4 m c), (h c).2.1.trans (final5 m c), (h c).2.2⟩)
    (Cert.Kernel7Ideal.Value.run_blocks m ρ)

end Cert.Kernel7Ideal.Proj

namespace Cert.Reference7Ideal.Proj

open Idealize.ShloMosaic Idealize.ShloMosaic.TcCoe Idealize.SL.Sem
open Cert.Reference7Ideal Cert.Reference7Ideal.Gen Cert.Reference7Ideal.Facts
variable (m : (ℓ : Loc nD τ sig) → Buf (Elt Ideal) ℓ) (ρ : Dev nD → PrngReg)
theorem value1 (X : Vec Ideal S4096x1024 .f32) (g : Vec Ideal S1024 .f32) (i : S4096x1024.Idx) :
   truncf (F := Ideal) .bf16 (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32 i = Cert.Kernel7Ideal.Proj.norm X g i := by
  unfold Cert.Kernel7Ideal.Proj.norm Cert.RowNorm.rms
  pointwise

theorem value0 (X : Vec Ideal S4096x1024 .f32) (g : Vec Ideal S1024 .f32) (W : Vec Ideal S1024x2560 .f32) (b : Vec Ideal S2560 .f32)
    (i : S4096x2560.Idx) :
   truncf (F := Ideal) .bf16 (addf (Host.dotGeneral (φ₁ := .f32) (φ₂ := .f32) dot_S4096x1024_S1024x2560_S4096x2560_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) W) (broadcastInDim S4096x2560 ![0, 1] bcast_S1x2560_S4096x2560_0_1 (broadcastInDim S1x2560 ![1] bcast_S2560_S1x2560_1 b))) bitsLt_bf16_f32 i = Cert.Kernel7Ideal.Proj.proj X g W b i := by
  unfold Cert.Kernel7Ideal.Proj.proj Cert.Kernel7Ideal.Proj.norm Cert.RowNorm.rms
  pointwise

end Cert.Reference7Ideal.Proj
end
-- ==== Proof.InProjClaim.lean ====
/- The in projection: the launch and its idealization share one text; the frames, and the equality with the
   reference. -/
module

public import proofs.«01_k».proof.Defs
public import proofs.«01_k».proof.Proof.Gen.Kernel7
public import proofs.«01_k».proof.Proof.Gen.Reference7Ideal
public import proofs.«01_k».proof.Proof.InProj
public import Idealize.ShloMosaic.Lib.Quiescent

@[expose] public section

noncomputable section

namespace Cert.Proof.InProj

open Idealize.ShloMosaic Idealize.ShloMosaic.StableHlo Idealize.SL.Sem

section
variable {F : FTy → Type} [FloatOps F]

theorem body_same : @Cert.Kernel7.cc0_in_proj F _ Cert.Kernel7.Gen.facts = @Cert.Kernel7Ideal.cc0_in_proj F _ Cert.Kernel7Ideal.Gen.facts := rfl

theorem table_same : @Cert.Kernel7.defs₀ F _ Cert.Kernel7.Gen.facts = @Cert.Kernel7Ideal.defs₀ F _ Cert.Kernel7Ideal.Gen.facts := by
  unfold Cert.Kernel7.defs₀ Cert.Kernel7Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel7.defs F _ Cert.Kernel7.Gen.facts = @Cert.Kernel7Ideal.defs F _ Cert.Kernel7Ideal.Gen.facts :=
  congrArg (Pipeline.defs Cert.Kernel7Ideal.pcfgs) table_same

set_option maxRecDepth 8192 in
theorem main_same : @Cert.Kernel7.main F _ Cert.Kernel7.Gen.facts = @Cert.Kernel7Ideal.main F _ Cert.Kernel7Ideal.Gen.facts := rfl

end

/-- The idealized kernel runs, for any arguments. -/
theorem frame_ideal : Cert.quiescent_Kernel7Ideal (hKernel7Ideal := Cert.Kernel7Ideal.Gen.facts) :=
  fun m ρ _ => Cert.Kernel7Ideal.Gen.frame m ρ

/-- The kernel runs, for any arguments: its program has the same text, and the run is over any float values. -/
theorem frame_kernel : Cert.quiescent_Kernel7 (hKernel7 := Cert.Kernel7.Gen.facts) := by
  intro m ρ _
  rw [defs_same, main_same]
  exact Cert.Kernel7Ideal.Gen.frame (F := Bits) m ρ

/-- The reference runs, for any arguments. -/
theorem frame_reference : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run m ρ)

/-- The kernel's results are the reference's. -/
theorem equal : Cert.algebraic_Kernel7Ideal_Reference7Ideal (hKernel7Ideal := Cert.Kernel7Ideal.Gen.facts)
    (hReference7Ideal := Cert.Reference7Ideal.Gen.facts) := by
  intro m g m' g' _ ha
  refine ⟨fun c => Cert.Kernel7Ideal.Proj.proj (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
    fun c => Cert.Kernel7Ideal.Proj.norm (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    Cert.Kernel7Ideal.Proj.run m g, ?_⟩
  refine (θ_run Cert.Reference7Ideal.defs _ _).mono (fun r h c => ⟨(h c).1.trans ?_, (h c).2.1.trans ?_, (h c).2.2⟩)
    (Cert.Reference7Ideal.Value.run m' g')
  · refine (funext fun i => Cert.Reference7Ideal.Proj.value0 _ _ _ _ i).trans ?_
    obtain ⟨e0, e1, e2, e3, _⟩ := ha c
    simp only [e0, e1, e2, e3]
  · refine (funext fun i => Cert.Reference7Ideal.Proj.value1 _ _ i).trans ?_
    obtain ⟨e0, e1, _⟩ := ha c
    simp only [e0, e1]

end Cert.Proof.InProj

end
-- ==== Proof.RmsBack.lean ====
/- The gradient of a row scaled by the reciprocal of its root mean square, written two ways, over the extended reals. -/
module

public import proofs.«01_k».proof.Proof.RowNorm
public import Idealize.ShloMosaic.Lib.Pointwise

@[expose] public section

noncomputable section

namespace Cert.RowNorm

open Idealize.ShloMosaic

/-- A row's mean square with the small constant added. -/
def ms (x : Fin 1024 → EReal) : EReal :=
  Ideal.div (∑ k, x k * x k) (Ideal.ofBits FTy.f32 0x44800000#32) + Ideal.ofBits FTy.f32 0x358637BD#32

/-- The gradient at one entry of a row, as the normalised row gives it: the row's part of the product is taken off
    before the scale. -/
def back (x d g : Fin 1024 → EReal) (z : EReal) (k : Fin 1024) : EReal :=
  z + rms x * (d k * g k - x k * rms x * Ideal.div (∑ j, d j * g j * (x j * rms x)) (Ideal.ofBits FTy.f32 0x44800000#32))

/-- The gradient that reaches the sum of squares. -/
def sq (x d g : Fin 1024 → EReal) : EReal :=
  Ideal.div ((∑ j, x j * (d j * g j)) * (Ideal.ofBits FTy.f32 0xBF000000#32 * Ideal.div (rms x) (ms x)))
    (Ideal.ofBits FTy.f32 0x44800000#32)

/-- The gradient at one entry of a row, one term for each use of the row. -/
def pull (x d g : Fin 1024 → EReal) (z : EReal) (k : Fin 1024) : EReal :=
  z + d k * g k * rms x + x k * sq x d g + sq x d g * x k

theorem n_eq : Ideal.ofBits FTy.f32 0x44800000#32 = ((1024 : ℝ) : EReal) := by
  simp [Ideal.ofBits, Ideal.ieee, -EReal.coe_mul]; norm_num
theorem h_eq : Ideal.ofBits FTy.f32 0xBF000000#32 = ((-(1 / 2) : ℝ) : EReal) := by
  simp [Ideal.ofBits, Ideal.ieee, -EReal.coe_mul]; norm_num
theorem e_pos : ∃ e : ℝ, 0 < e ∧ Ideal.ofBits FTy.f32 0x358637BD#32 = (e : EReal) := by
  refine ⟨(8796093 : ℝ) * (2 : ℝ) ^ (-43 : ℤ), by positivity, ?_⟩
  simp [Ideal.ofBits, Ideal.ieee, -EReal.coe_mul]

theorem sq_nonneg (a : EReal) : 0 ≤ a * a := by
  induction a using EReal.rec with
  | bot => simp
  | coe r => rw [← EReal.coe_mul]; exact_mod_cast mul_self_nonneg r
  | top => simp

theorem mul_sum (r : EReal) (h : 0 ≤ r) (ht : r ≠ ⊤) {ι : Type} (s : Finset ι) (f : ι → EReal) :
    ∑ i ∈ s, f i * r = (∑ i ∈ s, f i) * r := by
  classical
  induction s using Finset.induction_on with
  | empty => simp
  | insert a s ha ih => rw [Finset.sum_insert ha, Finset.sum_insert ha, ih, EReal.right_distrib_of_nonneg_of_ne_top h ht]

theorem twice (z : EReal) : z + z = z * ((2 : ℝ) : EReal) := by
  have e : ((2 : ℝ) : EReal) = 1 + 1 := by norm_cast
  rw [e, EReal.left_distrib_of_nonneg zero_le_one zero_le_one, mul_one]

/-- The mean square is the top element, or a positive real and then every entry is real. -/
theorem ms_cases (x : Fin 1024 → EReal) : ms x = ⊤ ∨ ∃ v : ℝ, 0 < v ∧ ms x = (v : EReal) ∧ ∀ k, ∃ a : ℝ, x k = (a : EReal) := by
  obtain ⟨e, he, ee⟩ := e_pos
  have hs : 0 ≤ ∑ k, x k * x k := Finset.sum_nonneg fun k _ => sq_nonneg (x k)
  have le : ∀ k, x k * x k ≤ ∑ k, x k * x k := fun k => Finset.single_le_sum (fun k _ => sq_nonneg (x k)) (Finset.mem_univ k)
  unfold ms
  rw [ee, n_eq, Ideal.div_coe (by norm_num)]
  generalize ∑ k, x k * x k = s at *
  induction s using EReal.rec with
  | bot => simp at hs
  | top =>
    left
    rw [EReal.top_mul_coe_of_pos (by norm_num), EReal.top_add_coe]
  | coe r =>
    right
    have hr : 0 ≤ r := by exact_mod_cast hs
    refine ⟨r * (1 / 1024) + e, by positivity, by norm_cast, fun k => ?_⟩
    have := le k
    generalize x k = a at *
    induction a using EReal.rec with
    | bot => simp at this
    | top => simp at this
    | coe a => exact ⟨a, rfl⟩

/-- The two ways of writing the gradient agree at every extended real. -/
theorem back_eq (x d g : Fin 1024 → EReal) (z : EReal) (k : Fin 1024) : back x d g z k = pull x d g z k := by
  have hr : rms x = Ideal.rsqrt (ms x) := rfl
  unfold back pull sq
  rw [n_eq, h_eq, Ideal.div_coe (by norm_num), Ideal.div_coe (by norm_num), hr]
  rcases ms_cases x with h | ⟨v, hv, h, hx⟩
  · rw [h]
    simp [Ideal.div]
  · obtain ⟨a, ha⟩ := hx k
    have hs : 0 < Real.sqrt v := Real.sqrt_pos.mpr hv
    have h1 : Ideal.rsqrt (v : EReal) = (((Real.sqrt v)⁻¹ : ℝ) : EReal) := by
      rw [Ideal.rsqrt_coe, if_neg (not_lt.mpr hv.le), if_neg hv.ne']
    have h2 : ∑ j, x j * (d j * g j) = ∑ j, d j * g j * x j := Finset.sum_congr rfl fun j _ => mul_comm _ _
    rw [h, h1, h2, ha, Ideal.div_coe hv.ne']
    have h3 : ∑ j, d j * g j * (x j * (((Real.sqrt v)⁻¹ : ℝ) : EReal)) = (∑ j, d j * g j * x j) * (((Real.sqrt v)⁻¹ : ℝ) : EReal) := by
      rw [← mul_sum _ (by exact_mod_cast (inv_pos.mpr hs).le) (EReal.coe_ne_top _)]
      exact Finset.sum_congr rfl fun j _ => (mul_assoc _ _ _).symm
    rw [h3]
    have hvv : v = Real.sqrt v * Real.sqrt v := (Real.mul_self_sqrt hv.le).symm
    have hq : 1 / v = (Real.sqrt v)⁻¹ * (Real.sqrt v)⁻¹ := by
      conv_lhs => rw [hvv]
      field_simp
    rw [hq]
    have hi : 0 < (Real.sqrt v)⁻¹ := inv_pos.mpr hs
    generalize (Real.sqrt v)⁻¹ = r at *
    generalize (∑ j, d j * g j * x j) = S
    generalize d k * g k = n
    have e1 : (a : EReal) * (S * (((-(1 / 2) : ℝ) : EReal) * ((r : EReal) * ((r * r : ℝ) : EReal))) * ((1 / 1024 : ℝ) : EReal))
        = S * ((a * (-(1 / 2) * (r * (r * r))) * (1 / 1024) : ℝ) : EReal) := by
      push_cast
      ac_rfl
    have e2 : (r : EReal) * -((a : EReal) * (r : EReal) * (S * (r : EReal) * ((1 / 1024 : ℝ) : EReal)))
        = S * ((-(a * (r * (r * r)) * (1 / 1024)) : ℝ) : EReal) := by
      rw [EReal.coe_neg, mul_neg, mul_neg]
      push_cast
      refine congrArg Neg.neg ?_
      ac_rfl
    have e3 : S * ((a * (-(1 / 2) * (r * (r * r))) * (1 / 1024) : ℝ) : EReal) * ((2 : ℝ) : EReal)
        = S * ((-(a * (r * (r * r)) * (1 / 1024)) : ℝ) : EReal) := by
      rw [mul_assoc, ← EReal.coe_mul]
      congr 2
      ring
    rw [mul_comm _ (a : EReal), e1, add_assoc, twice, e3, sub_eq_add_neg,
      EReal.left_distrib_of_nonneg_of_ne_top (by exact_mod_cast hi.le) (EReal.coe_ne_top _), e2, add_assoc z, mul_comm n]

/-- A sum of 64 terms, sixteen at a time, and the same added to a value. -/
theorem chainA (f : ℕ → EReal) : ∑ q ∈ Finset.range 64, f q =
    (f 0 + f 1 + f 2 + f 3 + f 4 + f 5 + f 6 + f 7 + f 8 + f 9 + f 10 + f 11 + f 12 + f 13 + f 14 + f 15)
      + (f 16 + f 17 + f 18 + f 19 + f 20 + f 21 + f 22 + f 23 + f 24 + f 25 + f 26 + f 27 + f 28 + f 29 + f 30 + f 31)
      + (f 32 + f 33 + f 34 + f 35 + f 36 + f 37 + f 38 + f 39 + f 40 + f 41 + f 42 + f 43 + f 44 + f 45 + f 46 + f 47)
      + (f 48 + f 49 + f 50 + f 51 + f 52 + f 53 + f 54 + f 55 + f 56 + f 57 + f 58 + f 59 + f 60 + f 61 + f 62 + f 63) := by
  simp only [Finset.sum_range_succ, Finset.sum_range_zero, zero_add]
  simp only [add_assoc]

theorem chainB (p : EReal) (f : ℕ → EReal) : p + ∑ q ∈ Finset.range 64, f q =
    p + (f 0 + f 1 + f 2 + f 3 + f 4 + f 5 + f 6 + f 7 + f 8 + f 9 + f 10 + f 11 + f 12 + f 13 + f 14 + f 15)
      + (f 16 + f 17 + f 18 + f 19 + f 20 + f 21 + f 22 + f 23 + f 24 + f 25 + f 26 + f 27 + f 28 + f 29 + f 30 + f 31)
      + (f 32 + f 33 + f 34 + f 35 + f 36 + f 37 + f 38 + f 39 + f 40 + f 41 + f 42 + f 43 + f 44 + f 45 + f 46 + f 47)
      + (f 48 + f 49 + f 50 + f 51 + f 52 + f 53 + f 54 + f 55 + f 56 + f 57 + f 58 + f 59 + f 60 + f 61 + f 62 + f 63) := by
  simp only [Finset.sum_range_succ, Finset.sum_range_zero, zero_add]
  simp only [add_assoc]

/-- A sum over `a` runs of `b` terms. -/
theorem sum_runs (a b : ℕ) (f : ℕ → EReal) : ∑ i ∈ Finset.range (a * b), f i
    = ∑ j ∈ Finset.range a, ∑ k ∈ Finset.range b, f (b * j + k) := by
  induction a with
  | zero => simp
  | succ a ih => rw [Nat.succ_mul, Finset.sum_range_add, Finset.sum_range_succ, ih, Nat.mul_comm a b]

/-- The sums over every eighth row, over the eight of them, are the sum over all rows. -/
theorem rows8 (f : ℕ → EReal) : ∑ a ∈ Finset.range 8, ∑ j ∈ Finset.range 8, ∑ q ∈ Finset.range 64, f (512 * j + (8 * q + a))
    = ∑ i ∈ Finset.range 4096, f i := by
  rw [show 4096 = 8 * 512 from rfl, sum_runs, Finset.sum_comm]
  refine Finset.sum_congr rfl fun j _ => ?_
  rw [show 512 = 64 * 8 from rfl, sum_runs, Finset.sum_comm]

theorem rows_all (f : Fin 4096 → EReal) :
    ∑ a : Fin 8, ∑ j ∈ Finset.range 8, ∑ q ∈ Finset.range 64, f (Fin.ofNat 4096 (512 * j + (8 * q + a.val))) = ∑ s, f s := by
  have h := rows8 fun n => f (Fin.ofNat 4096 n)
  rw [Finset.sum_range, Finset.sum_range (n := 4096)] at h
  refine h.trans (Finset.sum_congr rfl fun s _ => congrArg f ?_)
  exact Fin.ext (Nat.mod_eq_of_lt s.isLt)

end Cert.RowNorm

end
-- ==== Proof.DhFfn.lean ====
/- The gradient through the up projection and the normalisation before it. -/
module

public import proofs.«01_k».proof.Proof.Gen.Kernel8Ideal.Frame
public import proofs.«01_k».proof.Proof.Gen.Reference8Ideal.Run
public import proofs.«01_k».proof.Proof.RmsBack
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

noncomputable section

namespace Cert.Kernel8Ideal.Back

open Idealize.ShloMosaic Idealize.ShloMosaic.TcCoe Idealize.SL.Sem
open Cert.Kernel8Ideal Cert.Kernel8Ideal.Gen

variable (m : (ℓ : Loc nD τ sig) → Buf (Elt Ideal) ℓ) (ρ : Dev nD → PrngReg)

/-- The block of the product of the incoming gradient's rows with the transposed weight: the sum over the first half of the
    columns plus the sum over the second. -/
def db (x0 x1 : Vec Ideal S1x512x2816 .bf16) (w0 w1 : Vec Ideal S2816x1024 .bf16) : Vec Ideal S512x1024 .f32 := fun y =>
  (∑ k : Fin 2816, (x0 (ix3 0 (y 0) k) : EReal) * w0 (ix2 k (y 1))) + ∑ k : Fin 2816, (x1 (ix3 0 (y 0) k) : EReal) * w1 (ix2 k (y 1))

/-- The product's first 256 rows as the launch stores them, and all the rows. -/
abbrev half (x0 x1 : Vec Ideal S1x512x2816 .bf16) (w0 w1 : Vec Ideal S2816x1024 .bf16) : List (View.Piece (Elt Ideal) S512x1024 .f32) :=
  [⟨Rect.unit ![0, 0] ![256, 1024] inb_S512x1024_S256x1024_0_0,
    k0_pay3 (View.ld x0 (Rect.unit ![0, 0, 0] ![1, 256, 2816] inb_S1x512x2816_S1x256x2816_0_0_0)) w0
      (View.ld x1 (Rect.unit ![0, 0, 0] ![1, 256, 2816] inb_S1x512x2816_S1x256x2816_0_0_0)) w1⟩]
abbrev both (x0 x1 : Vec Ideal S1x512x2816 .bf16) (w0 w1 : Vec Ideal S2816x1024 .bf16) : List (View.Piece (Elt Ideal) S512x1024 .f32) :=
  ⟨Rect.unit ![256, 0] ![256, 1024] inb_S512x1024_S256x1024_256_0,
    k0_pay21 (k0_pay19 (View.ld x0 (Rect.unit ![0, 256, 0] ![1, 256, 2816] inb_S1x512x2816_S1x256x2816_0_256_0)) w0)
      (k0_pay20 (View.ld x1 (Rect.unit ![0, 256, 0] ![1, 256, 2816] inb_S1x512x2816_S1x256x2816_0_256_0)) w1)⟩ :: half x0 x1 w0 w1

theorem both_db (x0 x1 : Vec Ideal S1x512x2816 .bf16) (w0 w1 : Vec Ideal S2816x1024 .bf16) (y : S512x1024.Idx) :
    View.canon (both x0 x1 w0 w1) y = db x0 x1 w0 w1 y := by
  refine View.canon_apply_of_pieces (db x0 x1 w0 w1) (both x0 x1 w0 w1) ?_ y (View.cover_of_tiled_head _ _ _ (by rfl) y)
  intro p hp x
  simp only [both, half, List.mem_cons, List.not_mem_nil, or_false] at hp
  rcases hp with rfl | rfl
  all_goals
    unfold db
    pointwise [k0_pay3, k0_pay19, k0_pay20, k0_pay21]
    blk_point []

theorem half_db (x0 x1 : Vec Ideal S1x512x2816 .bf16) (w0 w1 : Vec Ideal S2816x1024 .bf16) (y : S512x1024.Idx) (hy : (y 0).val < 256) :
    View.canon (half x0 x1 w0 w1) y = db x0 x1 w0 w1 y := by
  refine View.canon_apply_of_pieces (db x0 x1 w0 w1) (half x0 x1 w0 w1) ?_ y
    ⟨_, List.mem_cons_self, (Rect.mem_set_unit (inb := inb_S512x1024_S256x1024_0_0)).mpr ?_⟩
  · intro p hp x
    simp only [half, List.mem_cons, List.not_mem_nil, or_false] at hp
    subst hp
    unfold db
    pointwise [k0_pay3]
    blk_point []
  · intro a
    have h1 := (y 1).isLt
    fin_cases a
    · exact ⟨Nat.zero_le _, by simpa using hy⟩
    · exact ⟨Nat.zero_le _, by simpa using h1⟩

section Reads
variable (x0 x1 : Vec Ideal S1x512x2816 .bf16) (w0 w1 : Vec Ideal S2816x1024 .bf16) {sig : RefSig} {κ : Kind} {sp : Space}
  (v : View sig κ sp S512x1024 .f32)

theorem read_0 : v.readCov (half x0 x1 w0 w1) (Rect.unit ![0, 0] ![128, 1024] inb_S512x1024_S128x1024_0_0).toLoadRect
    = View.ld (db x0 x1 w0 w1) (Rect.unit ![0, 0] ![128, 1024] inb_S512x1024_S128x1024_0_0) := by
  rw [View.readCov_eq_canon']
  funext y
  refine half_db x0 x1 w0 w1 _ ?_
  have h := (y 0).isLt
  show 0 + 1 * (y 0).val < 256
  have : (y 0).val < 128 := h
  omega

theorem read_128 : v.readCov (half x0 x1 w0 w1) (Rect.unit ![128, 0] ![128, 1024] inb_S512x1024_S128x1024_128_0).toLoadRect
    = View.ld (db x0 x1 w0 w1) (Rect.unit ![128, 0] ![128, 1024] inb_S512x1024_S128x1024_128_0) := by
  rw [View.readCov_eq_canon']
  funext y
  refine half_db x0 x1 w0 w1 _ ?_
  have h := (y 0).isLt
  show 128 + 1 * (y 0).val < 256
  have : (y 0).val < 128 := h
  omega

theorem read_256 : v.readCov (both x0 x1 w0 w1) (Rect.unit ![256, 0] ![128, 1024] inb_S512x1024_S128x1024_256_0).toLoadRect
    = View.ld (db x0 x1 w0 w1) (Rect.unit ![256, 0] ![128, 1024] inb_S512x1024_S128x1024_256_0) := by
  rw [View.readCov_eq_canon']
  funext y
  exact both_db x0 x1 w0 w1 _

theorem read_384 : v.readCov (both x0 x1 w0 w1) (Rect.unit ![384, 0] ![128, 1024] inb_S512x1024_S128x1024_384_0).toLoadRect
    = View.ld (db x0 x1 w0 w1) (Rect.unit ![384, 0] ![128, 1024] inb_S512x1024_S128x1024_384_0) := by
  rw [View.readCov_eq_canon']
  funext y
  exact both_db x0 x1 w0 w1 _

end Reads

/-- The block of the gradient. -/
def bb (d : Vec Ideal S512x1024 .f32) (x : Vec Ideal S512x1024 .f32) (g : Vec Ideal S1x1024 .f32) (z : Vec Ideal S512x1024 .f32) :
    Vec Ideal S512x1024 .f32 := fun y =>
  Cert.RowNorm.back (fun k => x (ix2 (y 0) k)) (fun k => d (ix2 (y 0) k)) (fun k => g (ix2 0 k)) (z y) (y 1)

/-- The gradient as the launch stores it, 128 rows at a time, and as it stores it rounded. -/
abbrev strips (d : Vec Ideal S512x1024 .f32) (x : Vec Ideal S512x1024 .f32) (g : Vec Ideal S1x1024 .f32) (z : Vec Ideal S512x1024 .f32) :
    List (View.Piece (Elt Ideal) S512x1024 .f32) :=
  [⟨Rect.unit ![384, 0] ![128, 1024] inb_S512x1024_S128x1024_384_0,
      k0_pay33 (k0_pay30 (View.ld x (Rect.unit ![384, 0] ![128, 1024] inb_S512x1024_S128x1024_384_0))) (k0_pay31 (View.ld x (Rect.unit ![384, 0] ![128, 1024] inb_S512x1024_S128x1024_384_0))) (View.ld d (Rect.unit ![384, 0] ![128, 1024] inb_S512x1024_S128x1024_384_0)) g (View.ld z (Rect.unit ![384, 0] ![128, 1024] inb_S512x1024_S128x1024_384_0))⟩,
    ⟨Rect.unit ![256, 0] ![128, 1024] inb_S512x1024_S128x1024_256_0,
      k0_pay28 (k0_pay22 (View.ld x (Rect.unit ![256, 0] ![128, 1024] inb_S512x1024_S128x1024_256_0))) (k0_pay23 (View.ld x (Rect.unit ![256, 0] ![128, 1024] inb_S512x1024_S128x1024_256_0))) (View.ld d (Rect.unit ![256, 0] ![128, 1024] inb_S512x1024_S128x1024_256_0)) g (View.ld z (Rect.unit ![256, 0] ![128, 1024] inb_S512x1024_S128x1024_256_0))⟩,
    ⟨Rect.unit ![128, 0] ![128, 1024] inb_S512x1024_S128x1024_128_0,
      k0_pay17 (k0_pay11 (View.ld x (Rect.unit ![128, 0] ![128, 1024] inb_S512x1024_S128x1024_128_0))) (k0_pay12 (View.ld x (Rect.unit ![128, 0] ![128, 1024] inb_S512x1024_S128x1024_128_0))) (View.ld d (Rect.unit ![128, 0] ![128, 1024] inb_S512x1024_S128x1024_128_0)) g (View.ld z (Rect.unit ![128, 0] ![128, 1024] inb_S512x1024_S128x1024_128_0))⟩,
    ⟨Rect.unit ![0, 0] ![128, 1024] inb_S512x1024_S128x1024_0_0,
      k0_pay9 (k0_pay4 (View.ld x (Rect.unit ![0, 0] ![128, 1024] inb_S512x1024_S128x1024_0_0))) (k0_pay5 (View.ld x (Rect.unit ![0, 0] ![128, 1024] inb_S512x1024_S128x1024_0_0))) (View.ld d (Rect.unit ![0, 0] ![128, 1024] inb_S512x1024_S128x1024_0_0)) g (View.ld z (Rect.unit ![0, 0] ![128, 1024] inb_S512x1024_S128x1024_0_0))⟩]
abbrev stripsb (d : Vec Ideal S512x1024 .f32) (x : Vec Ideal S512x1024 .f32) (g : Vec Ideal S1x1024 .f32) (z : Vec Ideal S512x1024 .f32) :
    List (View.Piece (Elt Ideal) S512x1024 .bf16) :=
  [⟨Rect.unit ![384, 0] ![128, 1024] inb_S512x1024_S128x1024_384_0,
      k0_pay1 (k0_pay33 (k0_pay30 (View.ld x (Rect.unit ![384, 0] ![128, 1024] inb_S512x1024_S128x1024_384_0))) (k0_pay31 (View.ld x (Rect.unit ![384, 0] ![128, 1024] inb_S512x1024_S128x1024_384_0))) (View.ld d (Rect.unit ![384, 0] ![128, 1024] inb_S512x1024_S128x1024_384_0)) g (View.ld z (Rect.unit ![384, 0] ![128, 1024] inb_S512x1024_S128x1024_384_0)))⟩,
    ⟨Rect.unit ![256, 0] ![128, 1024] inb_S512x1024_S128x1024_256_0,
      k0_pay29 (k0_pay22 (View.ld x (Rect.unit ![256, 0] ![128, 1024] inb_S512x1024_S128x1024_256_0))) (k0_pay23 (View.ld x (Rect.unit ![256, 0] ![128, 1024] inb_S512x1024_S128x1024_256_0))) (View.ld d (Rect.unit ![256, 0] ![128, 1024] inb_S512x1024_S128x1024_256_0)) g (View.ld z (Rect.unit ![256, 0] ![128, 1024] inb_S512x1024_S128x1024_256_0))⟩,
    ⟨Rect.unit ![128, 0] ![128, 1024] inb_S512x1024_S128x1024_128_0,
      k0_pay18 (k0_pay11 (View.ld x (Rect.unit ![128, 0] ![128, 1024] inb_S512x1024_S128x1024_128_0))) (k0_pay12 (View.ld x (Rect.unit ![128, 0] ![128, 1024] inb_S512x1024_S128x1024_128_0))) (View.ld d (Rect.unit ![128, 0] ![128, 1024] inb_S512x1024_S128x1024_128_0)) g (View.ld z (Rect.unit ![128, 0] ![128, 1024] inb_S512x1024_S128x1024_128_0))⟩,
    ⟨Rect.unit ![0, 0] ![128, 1024] inb_S512x1024_S128x1024_0_0,
      k0_pay10 (k0_pay9 (k0_pay4 (View.ld x (Rect.unit ![0, 0] ![128, 1024] inb_S512x1024_S128x1024_0_0))) (k0_pay5 (View.ld x (Rect.unit ![0, 0] ![128, 1024] inb_S512x1024_S128x1024_0_0))) (View.ld d (Rect.unit ![0, 0] ![128, 1024] inb_S512x1024_S128x1024_0_0)) g (View.ld z (Rect.unit ![0, 0] ![128, 1024] inb_S512x1024_S128x1024_0_0)))⟩]

theorem strips_bb (d : Vec Ideal S512x1024 .f32) (x : Vec Ideal S512x1024 .f32) (g : Vec Ideal S1x1024 .f32) (z : Vec Ideal S512x1024 .f32)
    (y : S512x1024.Idx) : View.canon (strips d x g z) y = bb d x g z y := by
  refine View.canon_apply_of_pieces (bb d x g z) (strips d x g z) ?_ y (View.cover_of_tiled_head _ _ _ (by rfl) y)
  intro p hp x
  simp only [strips, List.mem_cons, List.not_mem_nil, or_false] at hp
  rcases hp with rfl | rfl | rfl | rfl
  all_goals
    unfold bb Cert.RowNorm.back Cert.RowNorm.rms
    pointwise [k0_pay2, k0_pay4, k0_pay5, k0_pay6, k0_pay7, k0_pay8, k0_pay11, k0_pay12, k0_pay13, k0_pay14, k0_pay15, k0_pay16, k0_pay22, k0_pay23, k0_pay24, k0_pay25, k0_pay26, k0_pay27, k0_pay30, k0_pay31, k0_pay32]
    blk_point []

theorem stripsb_bb (d : Vec Ideal S512x1024 .f32) (x : Vec Ideal S512x1024 .f32) (g : Vec Ideal S1x1024 .f32) (z : Vec Ideal S512x1024 .f32)
    (y : S512x1024.Idx) : View.canon (stripsb d x g z) y = bb d x g z y := by
  refine View.canon_apply_of_pieces (bb d x g z) (stripsb d x g z) ?_ y (View.cover_of_tiled_head _ _ _ (by rfl) y)
  intro p hp x
  simp only [stripsb, List.mem_cons, List.not_mem_nil, or_false] at hp
  rcases hp with rfl | rfl | rfl | rfl
  all_goals
    unfold bb Cert.RowNorm.back Cert.RowNorm.rms
    pointwise [k0_pay2, k0_pay4, k0_pay5, k0_pay6, k0_pay7, k0_pay8, k0_pay11, k0_pay12, k0_pay13, k0_pay14, k0_pay15, k0_pay16, k0_pay22, k0_pay23, k0_pay24, k0_pay25, k0_pay26, k0_pay27, k0_pay30, k0_pay31, k0_pay32]
    blk_point []

theorem after7 (c : Dev nD) (t : Fin cfg0.N) (y : S512x1024.Idx) :
    (dats m 0 c).after 7 t y = bb (db (iblk m c 0 t) (iblk m c 1 t) (iblk m c 2 t) (iblk m c 3 t)) (iblk m c 4 t) (iblk m c 5 t) (iblk m c 6 t) y := by
  have e0 := read_0 (iblk m c 0 t) (iblk m c 1 t) (iblk m c 2 t) (iblk m c 3 t) (View.whole cc0_scratch0)
  have e1 := read_128 (iblk m c 0 t) (iblk m c 1 t) (iblk m c 2 t) (iblk m c 3 t) (View.whole cc0_scratch0)
  have e2 := read_256 (iblk m c 0 t) (iblk m c 1 t) (iblk m c 2 t) (iblk m c 3 t) (View.whole cc0_scratch0)
  have e3 := read_384 (iblk m c 0 t) (iblk m c 1 t) (iblk m c 2 t) (iblk m c 3 t) (View.whole cc0_scratch0)
  unfold both half at e2 e3
  unfold half at e0 e1
  by_cases h0 : t.val % 8 = 0
  · rw [after0_7, outsAt0_A m c t h0]
    frame_out
    rw [e0, e1, e2, e3]
    exact strips_bb _ _ _ _ y
  · rw [after0_7, outsAt0_B m c t h0]
    frame_out
    rw [e0, e1, e2, e3]
    exact strips_bb _ _ _ _ y

theorem after8 (c : Dev nD) (t : Fin cfg0.N) (y : S512x1024.Idx) :
    (dats m 0 c).after 8 t y = bb (db (iblk m c 0 t) (iblk m c 1 t) (iblk m c 2 t) (iblk m c 3 t)) (iblk m c 4 t) (iblk m c 5 t) (iblk m c 6 t) y := by
  have e0 := read_0 (iblk m c 0 t) (iblk m c 1 t) (iblk m c 2 t) (iblk m c 3 t) (View.whole cc0_scratch0)
  have e1 := read_128 (iblk m c 0 t) (iblk m c 1 t) (iblk m c 2 t) (iblk m c 3 t) (View.whole cc0_scratch0)
  have e2 := read_256 (iblk m c 0 t) (iblk m c 1 t) (iblk m c 2 t) (iblk m c 3 t) (View.whole cc0_scratch0)
  have e3 := read_384 (iblk m c 0 t) (iblk m c 1 t) (iblk m c 2 t) (iblk m c 3 t) (View.whole cc0_scratch0)
  unfold both half at e2 e3
  unfold half at e0 e1
  by_cases h0 : t.val % 8 = 0
  · rw [after0_8, outsAt0_A m c t h0]
    frame_out
    rw [e0, e1, e2, e3]
    exact stripsb_bb _ _ _ _ y
  · rw [after0_8, outsAt0_B m c t h0]
    frame_out
    rw [e0, e1, e2, e3]
    exact stripsb_bb _ _ _ _ y

/-- What one row of the point's block adds to the gain's gradient, at one column. -/
def gp (d x : Vec Ideal S512x1024 .f32) (k : Fin 1024) (s : Fin 512) : EReal :=
  d (ix2 s k) * (x (ix2 s k) * Cert.RowNorm.rms (fun j => x (ix2 s j)))

/-- What the block adds to the gain's gradient: every eighth row into one of eight rows of sums. -/
def gb (d x : Vec Ideal S512x1024 .f32) : Vec Ideal S8x1024 .f32 := fun y =>
  ∑ q ∈ Finset.range 64, gp d x (y 1) (Fin.ofNat 512 (8 * q + (y 0).val))

theorem gp_at (d x : Vec Ideal S512x1024 .f32) (k : Fin 1024) (n : ℕ) (h : n < 512) :
    (d (ix2 ⟨n, h⟩ k) : EReal) * (x (ix2 ⟨n, h⟩ k) * Ideal.rsqrt (Ideal.div (∑ j, x (ix2 ⟨n, h⟩ j) * x (ix2 ⟨n, h⟩ j))
      (Ideal.ofBits FTy.f32 0x44800000#32) + Ideal.ofBits FTy.f32 0x358637BD#32)) = gp d x k (Fin.ofNat 512 n) := by
  have e : Fin.ofNat 512 n = ⟨n, h⟩ := Fin.ext (Nat.mod_eq_of_lt h)
  rw [e]
  rfl

theorem after9A (c : Dev nD) (t : Fin cfg0.N) (h0 : t.val % 8 = 0) (y : S8x1024.Idx) :
    (dats m 0 c).after 9 t y = gb (db (iblk m c 0 t) (iblk m c 1 t) (iblk m c 2 t) (iblk m c 3 t)) (iblk m c 4 t) y := by
  have e0 := read_0 (iblk m c 0 t) (iblk m c 1 t) (iblk m c 2 t) (iblk m c 3 t) (View.whole cc0_scratch0)
  have e1 := read_128 (iblk m c 0 t) (iblk m c 1 t) (iblk m c 2 t) (iblk m c 3 t) (View.whole cc0_scratch0)
  have e2 := read_256 (iblk m c 0 t) (iblk m c 1 t) (iblk m c 2 t) (iblk m c 3 t) (View.whole cc0_scratch0)
  have e3 := read_384 (iblk m c 0 t) (iblk m c 1 t) (iblk m c 2 t) (iblk m c 3 t) (View.whole cc0_scratch0)
  unfold both half at e2 e3
  unfold half at e0 e1
  rw [after0_9, outsAt0_A m c t h0]
  frame_out
  rw [e0, e1, e2, e3]
  generalize db (iblk m c 0 t) (iblk m c 1 t) (iblk m c 2 t) (iblk m c 3 t) = d
  generalize hx2 : (iblk m c 4 t : Vec Ideal S512x1024 .f32) = x
  obtain ⟨a, k, rfl⟩ : ∃ (a : Fin 8) (k : Fin 1024), y = ix2 a k := ⟨y 0, y 1, eq_ix2 y⟩
  unfold gb
  pointwise [k0_pay2, k0_pay4, k0_pay5, k0_pay6, k0_pay7, k0_pay8, k0_pay11, k0_pay12, k0_pay13, k0_pay14, k0_pay15, k0_pay16, k0_pay22, k0_pay23, k0_pay24, k0_pay25, k0_pay26, k0_pay27, k0_pay30, k0_pay31, k0_pay32]
  refine Eq.trans ?_ (Cert.RowNorm.chainA _).symm
  repeat' refine congrArg₂ (α := EReal) (β := EReal) (γ := EReal) (· + ·) ?_ ?_
  all_goals first
    | exact (gp_at d x k _ _).trans (congrArg (fun n => gp d x k (Fin.ofNat 512 n)) (by simp <;> omega))
    | rfl

theorem after9B (c : Dev nD) (t : Fin cfg0.N) (h0 : ¬t.val % 8 = 0) (y : S8x1024.Idx) :
    (dats m 0 c).after 9 t y = ((outsAt0 m c (t.val - 1) (Nat.lt_of_le_of_lt (Nat.sub_le _ _) t.isLt)).2.2 y : EReal) + gb (db (iblk m c 0 t) (iblk m c 1 t) (iblk m c 2 t) (iblk m c 3 t)) (iblk m c 4 t) y := by
  have e0 := read_0 (iblk m c 0 t) (iblk m c 1 t) (iblk m c 2 t) (iblk m c 3 t) (View.whole cc0_scratch0)
  have e1 := read_128 (iblk m c 0 t) (iblk m c 1 t) (iblk m c 2 t) (iblk m c 3 t) (View.whole cc0_scratch0)
  have e2 := read_256 (iblk m c 0 t) (iblk m c 1 t) (iblk m c 2 t) (iblk m c 3 t) (View.whole cc0_scratch0)
  have e3 := read_384 (iblk m c 0 t) (iblk m c 1 t) (iblk m c 2 t) (iblk m c 3 t) (View.whole cc0_scratch0)
  unfold both half at e2 e3
  unfold half at e0 e1
  rw [after0_9, outsAt0_B m c t h0]
  frame_out
  rw [e0, e1, e2, e3]
  generalize db (iblk m c 0 t) (iblk m c 1 t) (iblk m c 2 t) (iblk m c 3 t) = d
  generalize hx2 : (iblk m c 4 t : Vec Ideal S512x1024 .f32) = x
  generalize (outsAt0 m c (t.val - 1) (Nat.lt_of_le_of_lt (Nat.sub_le _ _) t.isLt)).2.2 = p
  obtain ⟨a, k, rfl⟩ : ∃ (a : Fin 8) (k : Fin 1024), y = ix2 a k := ⟨y 0, y 1, eq_ix2 y⟩
  unfold gb
  pointwise [k0_pay2, k0_pay4, k0_pay5, k0_pay6, k0_pay7, k0_pay8, k0_pay11, k0_pay12, k0_pay13, k0_pay14, k0_pay15, k0_pay16, k0_pay22, k0_pay23, k0_pay24, k0_pay25, k0_pay26, k0_pay27, k0_pay30, k0_pay31, k0_pay32]
  refine Eq.trans ?_ (Cert.RowNorm.chainB _ _).symm
  repeat' refine congrArg₂ (α := EReal) (β := EReal) (γ := EReal) (· + ·) ?_ ?_
  all_goals first
    | exact (gp_at d x k _ _).trans (congrArg (fun n => gp d x k (Fin.ofNat 512 n)) (by simp <;> omega))
    | rfl

/-- The product of the incoming gradient, its two halves side by side, with the transposed weight. -/
def prod (D : Vec Ideal S2x4096x2816 .f32) (W : Vec Ideal S1024x5632 .f32) : Vec Ideal S4096x1024 .f32 := fun i =>
  (∑ k : Fin 2816, (D (ix3 0 (i 0) k) : EReal) * W (ix2 (i 1) ⟨k.val, by have := k.isLt; omega⟩))
    + ∑ k : Fin 2816, (D (ix3 1 (i 0) k) : EReal) * W (ix2 (i 1) ⟨2816 + k.val, by have := k.isLt; omega⟩)

/-- The gradient with respect to the rows. -/
def grad (D : Vec Ideal S2x4096x2816 .f32) (W : Vec Ideal S1024x5632 .f32) (X : Vec Ideal S4096x1024 .f32) (g : Vec Ideal S1024 .f32)
    (Z : Vec Ideal S4096x1024 .f32) : Vec Ideal S4096x1024 .f32 := fun i =>
  Cert.RowNorm.back (fun k => X (ix2 (i 0) k)) (fun k => prod D W (ix2 (i 0) k)) (fun k => g (ix1 k)) (Z i) (i 1)

/-- What one row adds to the gain's gradient, at one column. -/
def gain1 (D : Vec Ideal S2x4096x2816 .f32) (W : Vec Ideal S1024x5632 .f32) (X : Vec Ideal S4096x1024 .f32) (k : Fin 1024)
    (s : Fin 4096) : EReal :=
  prod D W (ix2 s k) * (X (ix2 s k) * Cert.RowNorm.rms (fun j => X (ix2 s j)))

/-- The gradient with respect to the gains. -/
def gain (D : Vec Ideal S2x4096x2816 .f32) (W : Vec Ideal S1024x5632 .f32) (X : Vec Ideal S4096x1024 .f32) : Vec Ideal S1024 .f32 := fun i =>
  ∑ s : Fin 4096, gain1 D W X (i 0) s

/-- Where each window's block sits at each point: the rows of the point; the weight, the gains and the sums whole. -/
theorem idx : ∀ t : Fin cfg0.N, win0_0.index t = ![0, t.val, 0] ∧ win0_1.index t = ![1, t.val, 0] ∧ win0_2.index t = ![0, 0]
    ∧ win0_3.index t = ![1, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

theorem read0 (c : Dev nD) (t : Fin cfg0.N) (s : Fin 512) (k : Fin 2816) (r : Fin 4096) (hr : r.val = 512 * t.val + s.val) :
    (iblk m c 0 t : Vec Ideal S1x512x2816 .bf16) (ix3 0 s k) = (m ((c : Thread nD τ).loc main_arg0) : Vec Ideal S2x4096x2816 .f32) (ix3 0 r k) := by
  unfold iblk
  entry_read
  blk_simp
  simp only [hostOps0, List.flatten_cons, List.flatten_nil, List.append_nil]
  after_results_simp
  pointwise
  blk_ext [idx t]

theorem read1 (c : Dev nD) (t : Fin cfg0.N) (s : Fin 512) (k : Fin 2816) (r : Fin 4096) (hr : r.val = 512 * t.val + s.val) :
    (iblk m c 1 t : Vec Ideal S1x512x2816 .bf16) (ix3 0 s k) = (m ((c : Thread nD τ).loc main_arg0) : Vec Ideal S2x4096x2816 .f32) (ix3 1 r k) := by
  unfold iblk
  entry_read
  blk_simp
  simp only [hostOps0, List.flatten_cons, List.flatten_nil, List.append_nil]
  after_results_simp
  pointwise
  blk_ext [idx t]

theorem read2 (c : Dev nD) (t : Fin cfg0.N) (k : Fin 2816) (j : Fin 1024) :
    (iblk m c 2 t : Vec Ideal S2816x1024 .bf16) (ix2 k j)
      = (m ((c : Thread nD τ).loc main_arg1) : Vec Ideal S1024x5632 .f32) (ix2 j ⟨k.val, by have := k.isLt; omega⟩) := by
  unfold iblk
  entry_read
  blk_simp
  simp only [hostOps0, List.flatten_cons, List.flatten_nil, List.append_nil]
  after_results_simp
  pointwise
  blk_ext [idx t]

theorem read3 (c : Dev nD) (t : Fin cfg0.N) (k : Fin 2816) (j : Fin 1024) :
    (iblk m c 3 t : Vec Ideal S2816x1024 .bf16) (ix2 k j)
      = (m ((c : Thread nD τ).loc main_arg1) : Vec Ideal S1024x5632 .f32) (ix2 j ⟨2816 + k.val, by have := k.isLt; omega⟩) := by
  unfold iblk
  entry_read
  blk_simp
  simp only [hostOps0, List.flatten_cons, List.flatten_nil, List.append_nil]
  after_results_simp
  pointwise
  blk_ext [idx t]

theorem read4 (c : Dev nD) (t : Fin cfg0.N) (s : Fin 512) (k : Fin 1024) (r : Fin 4096) (hr : r.val = 512 * t.val + s.val) :
    (iblk m c 4 t : Vec Ideal S512x1024 .f32) (ix2 s k) = (m ((c : Thread nD τ).loc main_arg2) : Vec Ideal S4096x1024 .f32) (ix2 r k) := by
  unfold iblk
  entry_read
  blk_simp
  blk_ext [idx t]

theorem read5 (c : Dev nD) (t : Fin cfg0.N) (k : Fin 1024) :
    (iblk m c 5 t : Vec Ideal S1x1024 .f32) (ix2 0 k) = (m ((c : Thread nD τ).loc main_arg3) : Vec Ideal S1024 .f32) (ix1 k) := by
  unfold iblk
  entry_read
  blk_simp
  simp only [hostOps0, List.flatten_cons, List.flatten_nil, List.append_nil]
  after_results_simp
  pointwise
  blk_ext [idx t]

theorem read6 (c : Dev nD) (t : Fin cfg0.N) (s : Fin 512) (k : Fin 1024) (r : Fin 4096) (hr : r.val = 512 * t.val + s.val) :
    (iblk m c 6 t : Vec Ideal S512x1024 .f32) (ix2 s k) = (m ((c : Thread nD τ).loc main_arg4) : Vec Ideal S4096x1024 .f32) (ix2 r k) := by
  unfold iblk
  entry_read
  blk_simp
  blk_ext [idx t]

/-- The product's block is its rows of the whole. -/
theorem db_eq (c : Dev nD) (t : Fin cfg0.N) (s : Fin 512) (k : Fin 1024) (r : Fin 4096) (hr : r.val = 512 * t.val + s.val) :
    db (iblk m c 0 t) (iblk m c 1 t) (iblk m c 2 t) (iblk m c 3 t) (ix2 s k)
      = prod (m ((c : Thread nD τ).loc main_arg0)) (m ((c : Thread nD τ).loc main_arg1)) (ix2 r k) := by
  unfold db prod
  exact congrArg₂ (α := EReal) (β := EReal) (γ := EReal) (· + ·)
    (Finset.sum_congr (M := EReal) rfl fun l _ => congrArg₂ (· * ·) (read0 m c t s l r hr) (read2 m c t l k))
    (Finset.sum_congr (M := EReal) rfl fun l _ => congrArg₂ (· * ·) (read1 m c t s l r hr) (read3 m c t l k))

/-- The gradient's block is its rows of the whole. -/
theorem bb_eq (c : Dev nD) (t : Fin cfg0.N) (s : Fin 512) (k : Fin 1024) (r : Fin 4096) (hr : r.val = 512 * t.val + s.val) :
    bb (db (iblk m c 0 t) (iblk m c 1 t) (iblk m c 2 t) (iblk m c 3 t)) (iblk m c 4 t) (iblk m c 5 t) (iblk m c 6 t) (ix2 s k)
      = grad (m ((c : Thread nD τ).loc main_arg0)) (m ((c : Thread nD τ).loc main_arg1)) (m ((c : Thread nD τ).loc main_arg2))
          (m ((c : Thread nD τ).loc main_arg3)) (m ((c : Thread nD τ).loc main_arg4)) (ix2 r k) := by
  have h0 : (fun j => (iblk m c 4 t : Vec Ideal S512x1024 .f32) (ix2 s j))
      = fun j => (m ((c : Thread nD τ).loc main_arg2) : Vec Ideal S4096x1024 .f32) (ix2 r j) := funext fun j => read4 m c t s j r hr
  have h1 : (fun j => db (iblk m c 0 t) (iblk m c 1 t) (iblk m c 2 t) (iblk m c 3 t) (ix2 s j))
      = fun j => prod (m ((c : Thread nD τ).loc main_arg0)) (m ((c : Thread nD τ).loc main_arg1)) (ix2 r j) :=
    funext fun j => db_eq m c t s j r hr
  have h2 : (fun j => (iblk m c 5 t : Vec Ideal S1x1024 .f32) (ix2 0 j))
      = fun j => (m ((c : Thread nD τ).loc main_arg3) : Vec Ideal S1024 .f32) (ix1 j) := funext fun j => read5 m c t j
  show Cert.RowNorm.back (fun j => (iblk m c 4 t : Vec Ideal S512x1024 .f32) (ix2 s j))
    (fun j => db (iblk m c 0 t) (iblk m c 1 t) (iblk m c 2 t) (iblk m c 3 t) (ix2 s j)) (fun j => (iblk m c 5 t : Vec Ideal S1x1024 .f32) (ix2 0 j))
    ((iblk m c 6 t : Vec Ideal S512x1024 .f32) (ix2 s k)) k = _
  rw [h0, h1, h2, read6 m c t s k r hr]
  rfl

/-- The row of the whole array a row of a point's block stands for. -/
def row (t : Fin cfg0.N) (s : Fin 512) : Fin 4096 :=
  ⟨512 * t.val + s.val, by have ht : t.val < 8 := lt_of_lt_of_eq t.isLt N_0; have := s.isLt; omega⟩

theorem final7 (c : Dev nD) : (dats m 0 c).arrAt 7 cfg0.N
    = grad (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 7 _ (by decide +kernel) (fun t _ y => ?_)
  have e : ((cfg0.win 7).blk t).view.emb y = ix2 (row t (y 0)) (y 1) := by
    unfold row
    blk_ext [idx t]
  blk_simp
  rw [e]
  refine (after7 m c t y).trans (Eq.trans ?_ (bb_eq m c t (y 0) (y 1) (row t (y 0)) rfl))
  exact congrArg _ (eq_ix2 y)

theorem final8 (c : Dev nD) : (dats m 0 c).arrAt 8 cfg0.N
    = grad (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 8 _ (by decide +kernel) (fun t _ y => ?_)
  have e : ((cfg0.win 8).blk t).view.emb y = ix2 (row t (y 0)) (y 1) := by
    unfold row
    blk_ext [idx t]
  blk_simp
  rw [e]
  refine (after8 m c t y).trans (Eq.trans ?_ (bb_eq m c t (y 0) (y 1) (row t (y 0)) rfl))
  exact congrArg _ (eq_ix2 y)

/-- What a point's block adds to the gain's gradient, over the whole arrays. -/
theorem gb_eq (c : Dev nD) (t : Fin cfg0.N) (a : Fin 8) (k : Fin 1024) :
    gb (db (iblk m c 0 t) (iblk m c 1 t) (iblk m c 2 t) (iblk m c 3 t)) (iblk m c 4 t) (ix2 a k)
      = ∑ q ∈ Finset.range 64, gain1 (m ((c : Thread nD τ).loc main_arg0)) (m ((c : Thread nD τ).loc main_arg1))
          (m ((c : Thread nD τ).loc main_arg2)) k (Fin.ofNat 4096 (512 * t.val + (8 * q + a.val))) := by
  unfold gb
  refine Finset.sum_congr (M := EReal) rfl fun q hq => ?_
  have hq : q < 64 := Finset.mem_range.mp hq
  have ha := a.isLt
  have ht : t.val < 8 := lt_of_lt_of_eq t.isLt N_0
  have hr : (Fin.ofNat 4096 (512 * t.val + (8 * q + a.val))).val = 512 * t.val + (Fin.ofNat 512 (8 * q + a.val)).val := by
    show (512 * t.val + (8 * q + a.val)) % 4096 = 512 * t.val + (8 * q + a.val) % 512
    omega
  unfold gp gain1
  refine congrArg₂ (α := EReal) (β := EReal) (γ := EReal) (· * ·) (db_eq m c t _ k _ hr) (congrArg₂ (α := EReal) (β := EReal) (γ := EReal) (· * ·) (read4 m c t _ k _ hr) ?_)
  exact congrArg Cert.RowNorm.rms (funext fun j => read4 m c t _ j _ hr)

/-- What the eight rows of sums hold after each point. -/
theorem acc (c : Dev nD) (a : Fin 8) (k : Fin 1024) : ∀ (n : ℕ) (h : n < cfg0.N), (outsAt0 m c n h).2.2 (ix2 a k)
      = ∑ j ∈ Finset.range (n + 1), ∑ q ∈ Finset.range 64, gain1 (m ((c : Thread nD τ).loc main_arg0))
          (m ((c : Thread nD τ).loc main_arg1)) (m ((c : Thread nD τ).loc main_arg2)) k (Fin.ofNat 4096 (512 * j + (8 * q + a.val))) := by
  intro n
  induction n with
  | zero =>
    intro h
    have e := (after9A m c ⟨0, h⟩ rfl (ix2 a k)).trans (gb_eq m c ⟨0, h⟩ a k)
    rw [after0_9] at e
    rw [Finset.sum_range_one]
    exact e
  | succ n ih =>
    intro h
    have hn : n + 1 < 8 := lt_of_lt_of_eq h N_0
    have e := after9B m c ⟨n + 1, h⟩ (by show ¬(n + 1) % 8 = 0; omega) (ix2 a k)
    rw [after0_9, gb_eq] at e
    rw [Finset.sum_range_succ]
    exact e.trans (congrArg (fun z : EReal => z + _) (ih (Nat.lt_of_succ_lt h)))

/-- The rows of sums, in all. -/
def sums (D : Vec Ideal S2x4096x2816 .f32) (W : Vec Ideal S1024x5632 .f32) (X : Vec Ideal S4096x1024 .f32) : Vec Ideal S8x1024 .f32 := fun y =>
  ∑ j ∈ Finset.range 8, ∑ q ∈ Finset.range 64, gain1 D W X (y 1) (Fin.ofNat 4096 (512 * j + (8 * q + (y 0).val)))

theorem final9 (c : Dev nD) : (dats m 0 c).arrAt 9 cfg0.N
    = sums (m ((c : Thread nD τ).loc main_arg0)) (m ((c : Thread nD τ).loc main_arg1)) (m ((c : Thread nD τ).loc main_arg2)) := by
  refine (dats m 0 c).arrAt_eq_of_covers 9 _ (by decide +kernel) (fun t hf y => ?_)
  have ht : t.val = 7 := by
    have := (flush0_9 t).mp hf
    have ht : t.val < 8 := lt_of_lt_of_eq t.isLt N_0
    omega
  have e : ((cfg0.win 9).blk t).view.emb y = ix2 (y 0) (y 1) := by
    blk_ext [idx t]
  blk_simp
  rw [e, after0_9]
  have h := acc m c (y 0) (y 1) t.val t.isLt
  rw [← eq_ix2 y] at h
  rw [show Finset.range (t.val + 1) = Finset.range 8 by rw [ht]] at h
  exact h

/-- The tail sums the eight rows. -/
theorem tail_gain (D : Vec Ideal S2x4096x2816 .f32) (W : Vec Ideal S1024x5632 .f32) (X : Vec Ideal S4096x1024 .f32) (i : S1024.Idx) :
    Host.reduceAdd (F := Ideal) (sums D W X) (constant S_ .f32 0x00000000#32) reducesTo_S8x1024_S1024_d0 h_S_ i = gain D W X i := by
  unfold sums gain
  pointwise
  exact Cert.RowNorm.rows_all _

theorem tail (c : Dev nD) : Pipeline.afterTail₀ cfgs (dats m) 0 (V0 m) [hostOps1] c main_v5
    = gain (m ((c : Thread nD τ).loc main_arg0)) (m ((c : Thread nD τ).loc main_arg1)) (m ((c : Thread nD τ).loc main_arg2)) := by
  unfold Pipeline.afterTail₀
  simp only [hostOps1, List.flatten_cons, List.flatten_nil, List.append_nil]
  after_results_simp
  refine (congrArg (fun A => Host.reduceAdd (F := Ideal) A (constant S_ .f32 0x00000000#32) reducesTo_S8x1024_S1024_d0 h_S_)
    ((Pipeline.withArrays_arr_shared spec0 c (V0 m c) _ ((dats m 0 c).arrAt_sharedIn sharedIn0 (V0 m c) (A_eq m c) cfg0.N) 9).trans (final9 m c))).trans ?_
  exact funext fun i => tail_gain _ _ _ i

/-- The run leaves the two gradients in the results, and the arguments as they were. -/
theorem run : θ_run defs (onTc (τ := τ) (main (F := Ideal))) ⟨m, fun _ => 0, ρ⟩ fun r => ∀ c : Dev nD,
      r.2.mem ((c : Thread nD τ).loc main_v4_0) = grad (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_v4_1) = grad (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_v5) = gain (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 7).trans (final7 m c), ((h c).1 8).trans (final8 m c),
      ((h c).2 main_v5 (Pipeline.mem_restRefs_of main_v5 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 4).trans (((dats m 0 c).arrAt_in 4 rfl _).trans (V_main_arg2 m c)),
      ((h c).2 main_arg3 (Pipeline.mem_restRefs_of main_arg3 (by decide) (by decide))).trans (W_main_arg3 m (dats m) c),
      ((h c).1 6).trans (((dats m 0 c).arrAt_in 6 rfl _).trans (V_main_arg4 m c)),
      ((h c).2 main_arg5 (Pipeline.mem_restRefs_of main_arg5 (by decide) (by decide))).trans (W_main_arg5 m (dats m) c)⟩)
    (run_main m ρ)

end Cert.Kernel8Ideal.Back

namespace Cert.Reference8Ideal.Back

open Idealize.ShloMosaic Idealize.ShloMosaic.TcCoe Idealize.SL.Sem
open Cert.Reference8Ideal Cert.Reference8Ideal.Gen Cert.Reference8Ideal.Facts

/-- The reference's product, over the two halves laid side by side. -/
theorem dot_prod (D : Vec Ideal S2x4096x2816 .f32) (W : Vec Ideal S1024x5632 .f32) :
    Host.dotGeneral (F := Ideal) (φ₁ := .f32) (φ₂ := .f32) dot_S4096x5632_S1024x5632_S4096x1024_1_1_0_0_n_n none (concatenate S4096x5632 1 [⟨S4096x2816, (shapeCast S4096x2816 (extractStridedSlice S1x4096x2816 ![0, 0, 0] D slices_S2x4096x2816_S1x4096x2816_0_0_0) shapeCasts_S1x4096x2816_S4096x2816)⟩, ⟨S4096x2816, (shapeCast S4096x2816 (extractStridedSlice S1x4096x2816 ![1, 0, 0] D slices_S2x4096x2816_S1x4096x2816_1_0_0) shapeCasts_S1x4096x2816_S4096x2816)⟩] concatenates_S4096x2816_S4096x2816_S4096x5632_d1) W
      = Cert.Kernel8Ideal.Back.prod D W := by
  funext i
  unfold Cert.Kernel8Ideal.Back.prod
  pointwise

theorem value0 (D : Vec Ideal S2x4096x2816 .f32) (W : Vec Ideal S1024x5632 .f32) (X : Vec Ideal S4096x1024 .f32) (g : Vec Ideal S1024 .f32)
    (Z : Vec Ideal S4096x1024 .f32) (i : S4096x1024.Idx) :
   addf (F := Ideal) (addf (addf Z (mulf (mulf (Host.dotGeneral (F := Ideal) (φ₁ := .f32) (φ₂ := .f32) dot_S4096x5632_S1024x5632_S4096x1024_1_1_0_0_n_n none (concatenate S4096x5632 1 [⟨S4096x2816, (shapeCast S4096x2816 (extractStridedSlice S1x4096x2816 ![0, 0, 0] D slices_S2x4096x2816_S1x4096x2816_0_0_0) shapeCasts_S1x4096x2816_S4096x2816)⟩, ⟨S4096x2816, (shapeCast S4096x2816 (extractStridedSlice S1x4096x2816 ![1, 0, 0] D slices_S2x4096x2816_S1x4096x2816_1_0_0) shapeCasts_S1x4096x2816_S4096x2816)⟩] concatenates_S4096x2816_S4096x2816_S4096x5632_d1) W) (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf X (broadcastInDim S4096x1024 ![0] bcast_S4096_S4096x1024_0 (Host.reduceAdd (Host.divf (mulf (shapeCast _ (Host.reduceAdd (mulf X (mulf (Host.dotGeneral (F := Ideal) (φ₁ := .f32) (φ₂ := .f32) dot_S4096x5632_S1024x5632_S4096x1024_1_1_0_0_n_n none (concatenate S4096x5632 1 [⟨S4096x2816, (shapeCast S4096x2816 (extractStridedSlice S1x4096x2816 ![0, 0, 0] D slices_S2x4096x2816_S1x4096x2816_0_0_0) shapeCasts_S1x4096x2816_S4096x2816)⟩, ⟨S4096x2816, (shapeCast S4096x2816 (extractStridedSlice S1x4096x2816 ![1, 0, 0] D slices_S2x4096x2816_S1x4096x2816_1_0_0) shapeCasts_S1x4096x2816_S4096x2816)⟩] concatenates_S4096x2816_S4096x2816_S4096x5632_d1) W) (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf X (mulf (Host.dotGeneral (F := Ideal) (φ₁ := .f32) (φ₂ := .f32) dot_S4096x5632_S1024x5632_S4096x1024_1_1_0_0_n_n none (concatenate S4096x5632 1 [⟨S4096x2816, (shapeCast S4096x2816 (extractStridedSlice S1x4096x2816 ![0, 0, 0] D slices_S2x4096x2816_S1x4096x2816_0_0_0) shapeCasts_S1x4096x2816_S4096x2816)⟩, ⟨S4096x2816, (shapeCast S4096x2816 (extractStridedSlice S1x4096x2816 ![1, 0, 0] D slices_S2x4096x2816_S1x4096x2816_1_0_0) shapeCasts_S1x4096x2816_S4096x2816)⟩] concatenates_S4096x2816_S4096x2816_S4096x5632_d1) W) (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) X) i
      = Cert.Kernel8Ideal.Back.grad D W X g Z i := by
  rw [dot_prod]
  unfold Cert.Kernel8Ideal.Back.grad
  refine Eq.trans ?_ (Cert.RowNorm.back_eq _ _ _ _ _).symm
  unfold Cert.RowNorm.pull Cert.RowNorm.sq Cert.RowNorm.ms Cert.RowNorm.rms
  pointwise
  simp only [Fin.sum_univ_one]

theorem value1 (D : Vec Ideal S2x4096x2816 .f32) (W : Vec Ideal S1024x5632 .f32) (X : Vec Ideal S4096x1024 .f32) (g : Vec Ideal S1024 .f32)
    (Z : Vec Ideal S4096x1024 .f32) (i : S4096x1024.Idx) :
   truncf (F := Ideal) .bf16 (addf (addf (addf Z (mulf (mulf (Host.dotGeneral (F := Ideal) (φ₁ := .f32) (φ₂ := .f32) dot_S4096x5632_S1024x5632_S4096x1024_1_1_0_0_n_n none (concatenate S4096x5632 1 [⟨S4096x2816, (shapeCast S4096x2816 (extractStridedSlice S1x4096x2816 ![0, 0, 0] D slices_S2x4096x2816_S1x4096x2816_0_0_0) shapeCasts_S1x4096x2816_S4096x2816)⟩, ⟨S4096x2816, (shapeCast S4096x2816 (extractStridedSlice S1x4096x2816 ![1, 0, 0] D slices_S2x4096x2816_S1x4096x2816_1_0_0) shapeCasts_S1x4096x2816_S4096x2816)⟩] concatenates_S4096x2816_S4096x2816_S4096x5632_d1) W) (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf X (broadcastInDim S4096x1024 ![0] bcast_S4096_S4096x1024_0 (Host.reduceAdd (Host.divf (mulf (shapeCast _ (Host.reduceAdd (mulf X (mulf (Host.dotGeneral (F := Ideal) (φ₁ := .f32) (φ₂ := .f32) dot_S4096x5632_S1024x5632_S4096x1024_1_1_0_0_n_n none (concatenate S4096x5632 1 [⟨S4096x2816, (shapeCast S4096x2816 (extractStridedSlice S1x4096x2816 ![0, 0, 0] D slices_S2x4096x2816_S1x4096x2816_0_0_0) shapeCasts_S1x4096x2816_S4096x2816)⟩, ⟨S4096x2816, (shapeCast S4096x2816 (extractStridedSlice S1x4096x2816 ![1, 0, 0] D slices_S2x4096x2816_S1x4096x2816_1_0_0) shapeCasts_S1x4096x2816_S4096x2816)⟩] concatenates_S4096x2816_S4096x2816_S4096x5632_d1) W) (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf X (mulf (Host.dotGeneral (F := Ideal) (φ₁ := .f32) (φ₂ := .f32) dot_S4096x5632_S1024x5632_S4096x1024_1_1_0_0_n_n none (concatenate S4096x5632 1 [⟨S4096x2816, (shapeCast S4096x2816 (extractStridedSlice S1x4096x2816 ![0, 0, 0] D slices_S2x4096x2816_S1x4096x2816_0_0_0) shapeCasts_S1x4096x2816_S4096x2816)⟩, ⟨S4096x2816, (shapeCast S4096x2816 (extractStridedSlice S1x4096x2816 ![1, 0, 0] D slices_S2x4096x2816_S1x4096x2816_1_0_0) shapeCasts_S1x4096x2816_S4096x2816)⟩] concatenates_S4096x2816_S4096x2816_S4096x5632_d1) W) (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) X)) bitsLt_bf16_f32 i
      = Cert.Kernel8Ideal.Back.grad D W X g Z i := by
  rw [dot_prod]
  unfold Cert.Kernel8Ideal.Back.grad
  refine Eq.trans ?_ (Cert.RowNorm.back_eq _ _ _ _ _).symm
  unfold Cert.RowNorm.pull Cert.RowNorm.sq Cert.RowNorm.ms Cert.RowNorm.rms
  pointwise
  simp only [Fin.sum_univ_one]

theorem value2 (D : Vec Ideal S2x4096x2816 .f32) (W : Vec Ideal S1024x5632 .f32) (X : Vec Ideal S4096x1024 .f32) (i : S1024.Idx) :
   Host.reduceAdd (F := Ideal) (shapeCast S1x1024 (Host.reduceAdd (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral (F := Ideal) (φ₁ := .f32) (φ₂ := .f32) dot_S4096x5632_S1024x5632_S4096x1024_1_1_0_0_n_n none (concatenate S4096x5632 1 [⟨S4096x2816, (shapeCast S4096x2816 (extractStridedSlice S1x4096x2816 ![0, 0, 0] D slices_S2x4096x2816_S1x4096x2816_0_0_0) shapeCasts_S1x4096x2816_S4096x2816)⟩, ⟨S4096x2816, (shapeCast S4096x2816 (extractStridedSlice S1x4096x2816 ![1, 0, 0] D slices_S2x4096x2816_S1x4096x2816_1_0_0) shapeCasts_S1x4096x2816_S4096x2816)⟩] concatenates_S4096x2816_S4096x2816_S4096x5632_d1) W)) (constant S_ .f32 0x00000000#32) reducesTo_S4096x1024_S1024_d0 h_S_) shapeCasts_S1024_S1x1024) (constant S_ .f32 0x00000000#32) reducesTo_S1x1024_S1024_d0 h_S_ i
      = Cert.Kernel8Ideal.Back.gain D W X i := by
  rw [dot_prod]
  unfold Cert.Kernel8Ideal.Back.gain Cert.Kernel8Ideal.Back.gain1 Cert.RowNorm.rms
  pointwise
  simp only [Fin.sum_univ_one]
  exact Finset.sum_congr (M := EReal) rfl fun s _ => mul_comm _ _

end Cert.Reference8Ideal.Back

end
-- ==== Proof.DhFfnClaim.lean ====
/- The gradient through the up projection and the normalisation before it: the launch and its idealization share one text; the frames, and the equality with the
   reference. -/
module

public import proofs.«01_k».proof.Defs
public import proofs.«01_k».proof.Proof.Gen.Kernel8
public import proofs.«01_k».proof.Proof.Gen.Reference8Ideal
public import proofs.«01_k».proof.Proof.DhFfn
public import Idealize.ShloMosaic.Lib.Quiescent

@[expose] public section

noncomputable section

namespace Cert.Proof.DhFfn

open Idealize.ShloMosaic Idealize.ShloMosaic.StableHlo Idealize.SL.Sem

section
variable {F : FTy → Type} [FloatOps F]

theorem body_same : @Cert.Kernel8.cc0_dh_ffn F _ Cert.Kernel8.Gen.facts = @Cert.Kernel8Ideal.cc0_dh_ffn F _ Cert.Kernel8Ideal.Gen.facts := rfl

theorem table_same : @Cert.Kernel8.defs₀ F _ Cert.Kernel8.Gen.facts = @Cert.Kernel8Ideal.defs₀ F _ Cert.Kernel8Ideal.Gen.facts := by
  unfold Cert.Kernel8.defs₀ Cert.Kernel8Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel8.defs F _ Cert.Kernel8.Gen.facts = @Cert.Kernel8Ideal.defs F _ Cert.Kernel8Ideal.Gen.facts :=
  congrArg (Pipeline.defs Cert.Kernel8Ideal.pcfgs) table_same

set_option maxRecDepth 8192 in
theorem main_same : @Cert.Kernel8.main F _ Cert.Kernel8.Gen.facts = @Cert.Kernel8Ideal.main F _ Cert.Kernel8Ideal.Gen.facts := rfl

end

/-- The idealized kernel runs, for any arguments. -/
theorem frame_ideal : Cert.quiescent_Kernel8Ideal (hKernel8Ideal := Cert.Kernel8Ideal.Gen.facts) :=
  fun m ρ _ => Cert.Kernel8Ideal.Gen.frame m ρ

/-- The kernel runs, for any arguments: its program has the same text, and the run is over any float values. -/
theorem frame_kernel : Cert.quiescent_Kernel8 (hKernel8 := Cert.Kernel8.Gen.facts) := by
  intro m ρ _
  rw [defs_same, main_same]
  exact Cert.Kernel8Ideal.Gen.frame (F := Bits) m ρ

/-- The reference runs, for any arguments. -/
theorem frame_reference : Cert.quiescent_Reference8Ideal (hReference8Ideal := Cert.Reference8Ideal.Gen.facts) := fun m ρ _ =>
  (θ_run Cert.Reference8Ideal.defs _ _).mono (fun r h => ⟨fun c => (h c).2.2.2, sem_eq_zero_of_no_sems (by decide) r.2⟩)
    (Cert.Reference8Ideal.Value.run m ρ)

/-- The kernel's results are the reference's. -/
theorem equal : Cert.algebraic_Kernel8Ideal_Reference8Ideal (hKernel8Ideal := Cert.Kernel8Ideal.Gen.facts)
    (hReference8Ideal := Cert.Reference8Ideal.Gen.facts) := by
  intro m g m' g' _ ha
  refine ⟨fun c => Cert.Kernel8Ideal.Back.grad (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)),
    fun c => Cert.Kernel8Ideal.Back.grad (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)),
    fun c => Cert.Kernel8Ideal.Back.gain (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    Cert.Kernel8Ideal.Back.run m g, ?_⟩
  refine (θ_run Cert.Reference8Ideal.defs _ _).mono (fun r h c => ⟨(h c).1.trans ?_, (h c).2.1.trans ?_, (h c).2.2.1.trans ?_, (h c).2.2.2⟩)
    (Cert.Reference8Ideal.Value.run m' g')
  · obtain ⟨e0, e1, e2, e3, e4, _⟩ := ha c
    refine (funext fun i => Cert.Reference8Ideal.Back.value0 _ _ _ _ _ i).trans ?_
    simp only [e0, e1, e2, e3, e4]
  · obtain ⟨e0, e1, e2, e3, e4, _⟩ := ha c
    refine (funext fun i => Cert.Reference8Ideal.Back.value1 _ _ _ _ _ i).trans ?_
    simp only [e0, e1, e2, e3, e4]
  · obtain ⟨e0, e1, e2, _⟩ := ha c
    refine (funext fun i => Cert.Reference8Ideal.Back.value2 _ _ _ i).trans ?_
    simp only [e0, e1, e2]

end Cert.Proof.DhFfn

end
-- ==== Proof.DhMix.lean ====
/- The gradient through the in projection and the normalisation before it. -/
module

public import proofs.«01_k».proof.Proof.Gen.Kernel9Ideal.Frame
public import proofs.«01_k».proof.Proof.Gen.Reference9Ideal.Run
public import proofs.«01_k».proof.Proof.RmsBack
public import Idealize.ShloMosaic.Lib.Pointwise
public import Idealize.ShloMosaic.Lib.Pipeline.ValueKit
public import Idealize.ShloMosaic.Lib.Pipeline.ReadBack
public import Idealize.ShloMosaic.Lib.Tactic
public import Idealize.ShloMosaic.Lib.Claim

@[expose] public section

set_option maxRecDepth 16384

noncomputable section

namespace Cert.Kernel9Ideal.Back

open Idealize.ShloMosaic Idealize.ShloMosaic.TcCoe Idealize.SL.Sem
open Cert.Kernel9Ideal Cert.Kernel9Ideal.Gen

variable (m : (ℓ : Loc nD τ sig) → Buf (Elt Ideal) ℓ) (ρ : Dev nD → PrngReg)

/-- The block of the product of the incoming gradient's rows with the transposed weight. -/
def db (x0 : Vec Ideal S1x512x2560 .bf16) (w : Vec Ideal S2560x1024 .bf16) : Vec Ideal S512x1024 .f32 := fun y =>
  ∑ k : Fin 2560, (x0 (ix3 0 (y 0) k) : EReal) * w (ix2 k (y 1))

/-- The product's first half as the launch stores it, and both halves. -/
abbrev half (x0 : Vec Ideal S1x512x2560 .bf16) (w : Vec Ideal S2560x1024 .bf16) : List (View.Piece (Elt Ideal) S512x1024 .f32) :=
  [⟨Rect.unit ![0, 0] ![256, 1024] inb_S512x1024_S256x1024_0_0,
    k0_pay5 (View.ld x0 (Rect.unit ![0, 0, 0] ![1, 256, 2560] inb_S1x512x2560_S1x256x2560_0_0_0)) w⟩]
abbrev both (x0 : Vec Ideal S1x512x2560 .bf16) (w : Vec Ideal S2560x1024 .bf16) : List (View.Piece (Elt Ideal) S512x1024 .f32) :=
  ⟨Rect.unit ![256, 0] ![256, 1024] inb_S512x1024_S256x1024_256_0,
    k0_pay22 (View.ld x0 (Rect.unit ![0, 256, 0] ![1, 256, 2560] inb_S1x512x2560_S1x256x2560_0_256_0)) w⟩ :: half x0 w

theorem both_db (x0 : Vec Ideal S1x512x2560 .bf16) (w : Vec Ideal S2560x1024 .bf16) (y : S512x1024.Idx) :
    View.canon (both x0 w) y = db x0 w y := by
  refine View.canon_apply_of_pieces (db x0 w) (both x0 w) ?_ y (View.cover_of_tiled_head _ _ _ (by rfl) y)
  intro p hp x
  simp only [both, half, List.mem_cons, List.not_mem_nil, or_false] at hp
  rcases hp with rfl | rfl
  all_goals
    unfold db
    pointwise [k0_pay5, k0_pay22]
    blk_point []

theorem half_db (x0 : Vec Ideal S1x512x2560 .bf16) (w : Vec Ideal S2560x1024 .bf16) (y : S512x1024.Idx) (hy : (y 0).val < 256) :
    View.canon (half x0 w) y = db x0 w y := by
  refine View.canon_apply_of_pieces (db x0 w) (half x0 w) ?_ y
    ⟨_, List.mem_cons_self, (Rect.mem_set_unit (inb := inb_S512x1024_S256x1024_0_0)).mpr ?_⟩
  · intro p hp x
    simp only [half, List.mem_cons, List.not_mem_nil, or_false] at hp
    subst hp
    unfold db
    pointwise [k0_pay5]
    blk_point []
  · intro a
    have h1 := (y 1).isLt
    fin_cases a
    · exact ⟨Nat.zero_le _, by simpa using hy⟩
    · exact ⟨Nat.zero_le _, by simpa using h1⟩

section Reads
variable (x0 : Vec Ideal S1x512x2560 .bf16) (w : Vec Ideal S2560x1024 .bf16) {sig : RefSig} {κ : Kind} {sp : Space}
  (v : View sig κ sp S512x1024 .f32)

theorem read_0 : v.readCov (half x0 w) (Rect.unit ![0, 0] ![128, 1024] inb_S512x1024_S128x1024_0_0).toLoadRect
    = View.ld (db x0 w) (Rect.unit ![0, 0] ![128, 1024] inb_S512x1024_S128x1024_0_0) := by
  rw [View.readCov_eq_canon']
  funext y
  refine half_db x0 w _ ?_
  have h := (y 0).isLt
  show 0 + 1 * (y 0).val < 256
  have : (y 0).val < 128 := h
  omega

theorem read_128 : v.readCov (half x0 w) (Rect.unit ![128, 0] ![128, 1024] inb_S512x1024_S128x1024_128_0).toLoadRect
    = View.ld (db x0 w) (Rect.unit ![128, 0] ![128, 1024] inb_S512x1024_S128x1024_128_0) := by
  rw [View.readCov_eq_canon']
  funext y
  refine half_db x0 w _ ?_
  have h := (y 0).isLt
  show 128 + 1 * (y 0).val < 256
  have : (y 0).val < 128 := h
  omega

theorem read_256 : v.readCov (both x0 w) (Rect.unit ![256, 0] ![128, 1024] inb_S512x1024_S128x1024_256_0).toLoadRect
    = View.ld (db x0 w) (Rect.unit ![256, 0] ![128, 1024] inb_S512x1024_S128x1024_256_0) := by
  rw [View.readCov_eq_canon']
  funext y
  exact both_db x0 w _

theorem read_384 : v.readCov (both x0 w) (Rect.unit ![384, 0] ![128, 1024] inb_S512x1024_S128x1024_384_0).toLoadRect
    = View.ld (db x0 w) (Rect.unit ![384, 0] ![128, 1024] inb_S512x1024_S128x1024_384_0) := by
  rw [View.readCov_eq_canon']
  funext y
  exact both_db x0 w _

end Reads

/-- The block of the gradient. -/
def bb (d : Vec Ideal S512x1024 .f32) (x : Vec Ideal S512x1024 .f32) (g : Vec Ideal S1x1024 .f32) (z : Vec Ideal S512x1024 .f32) :
    Vec Ideal S512x1024 .f32 := fun y =>
  Cert.RowNorm.back (fun k => x (ix2 (y 0) k)) (fun k => d (ix2 (y 0) k)) (fun k => g (ix2 0 k)) (z y) (y 1)

/-- The gradient as the launch stores it, 128 rows at a time, and as it stores it rounded. -/
abbrev strips (d : Vec Ideal S512x1024 .f32) (x : Vec Ideal S512x1024 .f32) (g : Vec Ideal S1x1024 .f32) (z : Vec Ideal S512x1024 .f32) :
    List (View.Piece (Elt Ideal) S512x1024 .f32) :=
  [⟨Rect.unit ![384, 0] ![128, 1024] inb_S512x1024_S128x1024_384_0,
      k0_pay2 (k0_pay30 (View.ld x (Rect.unit ![384, 0] ![128, 1024] inb_S512x1024_S128x1024_384_0))) (k0_pay31 (View.ld x (Rect.unit ![384, 0] ![128, 1024] inb_S512x1024_S128x1024_384_0))) (View.ld d (Rect.unit ![384, 0] ![128, 1024] inb_S512x1024_S128x1024_384_0)) g (View.ld z (Rect.unit ![384, 0] ![128, 1024] inb_S512x1024_S128x1024_384_0))⟩,
    ⟨Rect.unit ![256, 0] ![128, 1024] inb_S512x1024_S128x1024_256_0,
      k0_pay28 (k0_pay23 (View.ld x (Rect.unit ![256, 0] ![128, 1024] inb_S512x1024_S128x1024_256_0))) (k0_pay24 (View.ld x (Rect.unit ![256, 0] ![128, 1024] inb_S512x1024_S128x1024_256_0))) (k0_pay26 (View.ld d (Rect.unit ![256, 0] ![128, 1024] inb_S512x1024_S128x1024_256_0)) g) (View.ld z (Rect.unit ![256, 0] ![128, 1024] inb_S512x1024_S128x1024_256_0))
        (k0_pay27 (k0_pay24 (View.ld x (Rect.unit ![256, 0] ![128, 1024] inb_S512x1024_S128x1024_256_0))) (View.ld d (Rect.unit ![256, 0] ![128, 1024] inb_S512x1024_S128x1024_256_0)) g)⟩,
    ⟨Rect.unit ![128, 0] ![128, 1024] inb_S512x1024_S128x1024_128_0,
      k0_pay20 (k0_pay16 (k0_pay15 (View.ld x (Rect.unit ![128, 0] ![128, 1024] inb_S512x1024_S128x1024_128_0)))) (k0_pay17 (View.ld x (Rect.unit ![128, 0] ![128, 1024] inb_S512x1024_S128x1024_128_0)) (k0_pay15 (View.ld x (Rect.unit ![128, 0] ![128, 1024] inb_S512x1024_S128x1024_128_0)))) (View.ld d (Rect.unit ![128, 0] ![128, 1024] inb_S512x1024_S128x1024_128_0)) (k0_pay19 g) (View.ld z (Rect.unit ![128, 0] ![128, 1024] inb_S512x1024_S128x1024_128_0))⟩,
    ⟨Rect.unit ![0, 0] ![128, 1024] inb_S512x1024_S128x1024_0_0,
      k0_pay13 (k0_pay6 (View.ld x (Rect.unit ![0, 0] ![128, 1024] inb_S512x1024_S128x1024_0_0))) (k0_pay7 (View.ld x (Rect.unit ![0, 0] ![128, 1024] inb_S512x1024_S128x1024_0_0))) (View.ld d (Rect.unit ![0, 0] ![128, 1024] inb_S512x1024_S128x1024_0_0)) g (View.ld z (Rect.unit ![0, 0] ![128, 1024] inb_S512x1024_S128x1024_0_0))⟩]
abbrev stripsb (d : Vec Ideal S512x1024 .f32) (x : Vec Ideal S512x1024 .f32) (g : Vec Ideal S1x1024 .f32) (z : Vec Ideal S512x1024 .f32) :
    List (View.Piece (Elt Ideal) S512x1024 .bf16) :=
  [⟨Rect.unit ![384, 0] ![128, 1024] inb_S512x1024_S128x1024_384_0,
      k0_pay3 (k0_pay30 (View.ld x (Rect.unit ![384, 0] ![128, 1024] inb_S512x1024_S128x1024_384_0))) (k0_pay31 (View.ld x (Rect.unit ![384, 0] ![128, 1024] inb_S512x1024_S128x1024_384_0))) (View.ld d (Rect.unit ![384, 0] ![128, 1024] inb_S512x1024_S128x1024_384_0)) g (View.ld z (Rect.unit ![384, 0] ![128, 1024] inb_S512x1024_S128x1024_384_0))⟩,
    ⟨Rect.unit ![256, 0] ![128, 1024] inb_S512x1024_S128x1024_256_0,
      k0_pay29 (k0_pay23 (View.ld x (Rect.unit ![256, 0] ![128, 1024] inb_S512x1024_S128x1024_256_0))) (k0_pay24 (View.ld x (Rect.unit ![256, 0] ![128, 1024] inb_S512x1024_S128x1024_256_0))) (k0_pay26 (View.ld d (Rect.unit ![256, 0] ![128, 1024] inb_S512x1024_S128x1024_256_0)) g) (View.ld z (Rect.unit ![256, 0] ![128, 1024] inb_S512x1024_S128x1024_256_0))
        (k0_pay27 (k0_pay24 (View.ld x (Rect.unit ![256, 0] ![128, 1024] inb_S512x1024_S128x1024_256_0))) (View.ld d (Rect.unit ![256, 0] ![128, 1024] inb_S512x1024_S128x1024_256_0)) g)⟩,
    ⟨Rect.unit ![128, 0] ![128, 1024] inb_S512x1024_S128x1024_128_0,
      k0_pay21 (k0_pay16 (k0_pay15 (View.ld x (Rect.unit ![128, 0] ![128, 1024] inb_S512x1024_S128x1024_128_0)))) (k0_pay17 (View.ld x (Rect.unit ![128, 0] ![128, 1024] inb_S512x1024_S128x1024_128_0)) (k0_pay15 (View.ld x (Rect.unit ![128, 0] ![128, 1024] inb_S512x1024_S128x1024_128_0)))) (View.ld d (Rect.unit ![128, 0] ![128, 1024] inb_S512x1024_S128x1024_128_0)) (k0_pay19 g) (View.ld z (Rect.unit ![128, 0] ![128, 1024] inb_S512x1024_S128x1024_128_0))⟩,
    ⟨Rect.unit ![0, 0] ![128, 1024] inb_S512x1024_S128x1024_0_0,
      k0_pay14 (k0_pay6 (View.ld x (Rect.unit ![0, 0] ![128, 1024] inb_S512x1024_S128x1024_0_0))) (k0_pay7 (View.ld x (Rect.unit ![0, 0] ![128, 1024] inb_S512x1024_S128x1024_0_0))) (View.ld d (Rect.unit ![0, 0] ![128, 1024] inb_S512x1024_S128x1024_0_0)) g (View.ld z (Rect.unit ![0, 0] ![128, 1024] inb_S512x1024_S128x1024_0_0))⟩]

theorem strips_bb (d : Vec Ideal S512x1024 .f32) (x : Vec Ideal S512x1024 .f32) (g : Vec Ideal S1x1024 .f32) (z : Vec Ideal S512x1024 .f32)
    (y : S512x1024.Idx) : View.canon (strips d x g z) y = bb d x g z y := by
  refine View.canon_apply_of_pieces (bb d x g z) (strips d x g z) ?_ y (View.cover_of_tiled_head _ _ _ (by rfl) y)
  intro p hp x
  simp only [strips, List.mem_cons, List.not_mem_nil, or_false] at hp
  rcases hp with rfl | rfl | rfl | rfl
  all_goals
    unfold bb Cert.RowNorm.back Cert.RowNorm.rms
    pointwise [k0_pay2, k0_pay3, k0_pay6, k0_pay7, k0_pay13, k0_pay14, k0_pay15, k0_pay16, k0_pay17, k0_pay19, k0_pay20, k0_pay21, k0_pay23, k0_pay24, k0_pay26, k0_pay27, k0_pay28, k0_pay29, k0_pay30, k0_pay31]
    blk_point []

theorem stripsb_bb (d : Vec Ideal S512x1024 .f32) (x : Vec Ideal S512x1024 .f32) (g : Vec Ideal S1x1024 .f32) (z : Vec Ideal S512x1024 .f32)
    (y : S512x1024.Idx) : View.canon (stripsb d x g z) y = bb d x g z y := by
  refine View.canon_apply_of_pieces (bb d x g z) (stripsb d x g z) ?_ y (View.cover_of_tiled_head _ _ _ (by rfl) y)
  intro p hp x
  simp only [stripsb, List.mem_cons, List.not_mem_nil, or_false] at hp
  rcases hp with rfl | rfl | rfl | rfl
  all_goals
    unfold bb Cert.RowNorm.back Cert.RowNorm.rms
    pointwise [k0_pay2, k0_pay3, k0_pay6, k0_pay7, k0_pay13, k0_pay14, k0_pay15, k0_pay16, k0_pay17, k0_pay19, k0_pay20, k0_pay21, k0_pay23, k0_pay24, k0_pay26, k0_pay27, k0_pay28, k0_pay29, k0_pay30, k0_pay31]
    blk_point []

theorem after5 (c : Dev nD) (t : Fin cfg0.N) (y : S512x1024.Idx) :
    (dats m 0 c).after 5 t y = bb (db (iblk m c 0 t) (iblk m c 1 t)) (iblk m c 2 t) (iblk m c 3 t) (iblk m c 4 t) y := by
  have e0 := read_0 (iblk m c 0 t) (iblk m c 1 t) (View.whole cc0_scratch0)
  have e1 := read_128 (iblk m c 0 t) (iblk m c 1 t) (View.whole cc0_scratch0)
  have e2 := read_256 (iblk m c 0 t) (iblk m c 1 t) (View.whole cc0_scratch0)
  have e3 := read_384 (iblk m c 0 t) (iblk m c 1 t) (View.whole cc0_scratch0)
  unfold both half at e2 e3
  unfold half at e0 e1
  by_cases h0 : t.val % 8 = 0
  · rw [after0_5, outsAt0_A m c t h0]
    frame_out
    rw [e0, e1, e2, e3]
    exact strips_bb _ _ _ _ y
  · rw [after0_5, outsAt0_B m c t h0]
    frame_out
    rw [e0, e1, e2, e3]
    exact strips_bb _ _ _ _ y

theorem after6 (c : Dev nD) (t : Fin cfg0.N) (y : S512x1024.Idx) :
    (dats m 0 c).after 6 t y = bb (db (iblk m c 0 t) (iblk m c 1 t)) (iblk m c 2 t) (iblk m c 3 t) (iblk m c 4 t) y := by
  have e0 := read_0 (iblk m c 0 t) (iblk m c 1 t) (View.whole cc0_scratch0)
  have e1 := read_128 (iblk m c 0 t) (iblk m c 1 t) (View.whole cc0_scratch0)
  have e2 := read_256 (iblk m c 0 t) (iblk m c 1 t) (View.whole cc0_scratch0)
  have e3 := read_384 (iblk m c 0 t) (iblk m c 1 t) (View.whole cc0_scratch0)
  unfold both half at e2 e3
  unfold half at e0 e1
  by_cases h0 : t.val % 8 = 0
  · rw [after0_6, outsAt0_A m c t h0]
    frame_out
    rw [e0, e1, e2, e3]
    exact stripsb_bb _ _ _ _ y
  · rw [after0_6, outsAt0_B m c t h0]
    frame_out
    rw [e0, e1, e2, e3]
    exact stripsb_bb _ _ _ _ y

/-- What one row of the point's block adds to the gain's gradient, at one column. -/
def gp (d x : Vec Ideal S512x1024 .f32) (k : Fin 1024) (s : Fin 512) : EReal :=
  d (ix2 s k) * (x (ix2 s k) * Cert.RowNorm.rms (fun j => x (ix2 s j)))

/-- What the block adds to the gain's gradient: every eighth row into one of eight rows of sums. -/
def gb (d x : Vec Ideal S512x1024 .f32) : Vec Ideal S8x1024 .f32 := fun y =>
  ∑ q ∈ Finset.range 64, gp d x (y 1) (Fin.ofNat 512 (8 * q + (y 0).val))

theorem gp_at (d x : Vec Ideal S512x1024 .f32) (k : Fin 1024) (n : ℕ) (h : n < 512) :
    (d (ix2 ⟨n, h⟩ k) : EReal) * (x (ix2 ⟨n, h⟩ k) * Ideal.rsqrt (Ideal.div (∑ j, x (ix2 ⟨n, h⟩ j) * x (ix2 ⟨n, h⟩ j))
      (Ideal.ofBits FTy.f32 0x44800000#32) + Ideal.ofBits FTy.f32 0x358637BD#32)) = gp d x k (Fin.ofNat 512 n) := by
  have e : Fin.ofNat 512 n = ⟨n, h⟩ := Fin.ext (Nat.mod_eq_of_lt h)
  rw [e]
  rfl

theorem after7A (c : Dev nD) (t : Fin cfg0.N) (h0 : t.val % 8 = 0) (y : S8x1024.Idx) :
    (dats m 0 c).after 7 t y = gb (db (iblk m c 0 t) (iblk m c 1 t)) (iblk m c 2 t) y := by
  have e0 := read_0 (iblk m c 0 t) (iblk m c 1 t) (View.whole cc0_scratch0)
  have e1 := read_128 (iblk m c 0 t) (iblk m c 1 t) (View.whole cc0_scratch0)
  have e2 := read_256 (iblk m c 0 t) (iblk m c 1 t) (View.whole cc0_scratch0)
  have e3 := read_384 (iblk m c 0 t) (iblk m c 1 t) (View.whole cc0_scratch0)
  unfold both half at e2 e3
  unfold half at e0 e1
  rw [after0_7, outsAt0_A m c t h0]
  frame_out
  rw [e0, e1, e2, e3]
  generalize db (iblk m c 0 t) (iblk m c 1 t) = d
  generalize hx2 : (iblk m c 2 t : Vec Ideal S512x1024 .f32) = x
  obtain ⟨a, k, rfl⟩ : ∃ (a : Fin 8) (k : Fin 1024), y = ix2 a k := ⟨y 0, y 1, eq_ix2 y⟩
  unfold gb
  pointwise [k0_pay1, k0_pay4, k0_pay6, k0_pay7, k0_pay8, k0_pay9, k0_pay10, k0_pay11, k0_pay12, k0_pay15, k0_pay16, k0_pay17, k0_pay18, k0_pay23, k0_pay24, k0_pay25, k0_pay30, k0_pay31, k0_pay32, k0_pay33, k0_pay34, k0_pay35]
  refine Eq.trans ?_ (Cert.RowNorm.chainA _).symm
  repeat' refine congrArg₂ (α := EReal) (β := EReal) (γ := EReal) (· + ·) ?_ ?_
  all_goals first
    | exact (gp_at d x k _ _).trans (congrArg (fun n => gp d x k (Fin.ofNat 512 n)) (by simp <;> omega))
    | rfl

theorem after7B (c : Dev nD) (t : Fin cfg0.N) (h0 : ¬t.val % 8 = 0) (y : S8x1024.Idx) :
    (dats m 0 c).after 7 t y = ((outsAt0 m c (t.val - 1) (Nat.lt_of_le_of_lt (Nat.sub_le _ _) t.isLt)).2.2 y : EReal) + gb (db (iblk m c 0 t) (iblk m c 1 t)) (iblk m c 2 t) y := by
  have e0 := read_0 (iblk m c 0 t) (iblk m c 1 t) (View.whole cc0_scratch0)
  have e1 := read_128 (iblk m c 0 t) (iblk m c 1 t) (View.whole cc0_scratch0)
  have e2 := read_256 (iblk m c 0 t) (iblk m c 1 t) (View.whole cc0_scratch0)
  have e3 := read_384 (iblk m c 0 t) (iblk m c 1 t) (View.whole cc0_scratch0)
  unfold both half at e2 e3
  unfold half at e0 e1
  rw [after0_7, outsAt0_B m c t h0]
  frame_out
  rw [e0, e1, e2, e3]
  generalize db (iblk m c 0 t) (iblk m c 1 t) = d
  generalize hx2 : (iblk m c 2 t : Vec Ideal S512x1024 .f32) = x
  generalize (outsAt0 m c (t.val - 1) (Nat.lt_of_le_of_lt (Nat.sub_le _ _) t.isLt)).2.2 = p
  obtain ⟨a, k, rfl⟩ : ∃ (a : Fin 8) (k : Fin 1024), y = ix2 a k := ⟨y 0, y 1, eq_ix2 y⟩
  unfold gb
  pointwise [k0_pay1, k0_pay4, k0_pay6, k0_pay7, k0_pay8, k0_pay9, k0_pay10, k0_pay11, k0_pay12, k0_pay15, k0_pay16, k0_pay17, k0_pay18, k0_pay23, k0_pay24, k0_pay25, k0_pay30, k0_pay31, k0_pay32, k0_pay33, k0_pay34, k0_pay35]
  refine Eq.trans ?_ (Cert.RowNorm.chainB _ _).symm
  repeat' refine congrArg₂ (α := EReal) (β := EReal) (γ := EReal) (· + ·) ?_ ?_
  all_goals first
    | exact (gp_at d x k _ _).trans (congrArg (fun n => gp d x k (Fin.ofNat 512 n)) (by simp <;> omega))
    | rfl

/-- The product of the incoming gradient with the transposed weight. -/
def prod (D : Vec Ideal S4096x2560 .f32) (W : Vec Ideal S1024x2560 .f32) : Vec Ideal S4096x1024 .f32 := fun i =>
  ∑ k : Fin 2560, (D (ix2 (i 0) k) : EReal) * W (ix2 (i 1) k)

/-- The gradient with respect to the rows. -/
def grad (D : Vec Ideal S4096x2560 .f32) (W : Vec Ideal S1024x2560 .f32) (X : Vec Ideal S4096x1024 .f32) (g : Vec Ideal S1024 .f32)
    (Z : Vec Ideal S4096x1024 .f32) : Vec Ideal S4096x1024 .f32 := fun i =>
  Cert.RowNorm.back (fun k => X (ix2 (i 0) k)) (fun k => prod D W (ix2 (i 0) k)) (fun k => g (ix1 k)) (Z i) (i 1)

/-- What one row adds to the gain's gradient, at one column. -/
def gain1 (D : Vec Ideal S4096x2560 .f32) (W : Vec Ideal S1024x2560 .f32) (X : Vec Ideal S4096x1024 .f32) (k : Fin 1024)
    (s : Fin 4096) : EReal :=
  prod D W (ix2 s k) * (X (ix2 s k) * Cert.RowNorm.rms (fun j => X (ix2 s j)))

/-- The gradient with respect to the gains. -/
def gain (D : Vec Ideal S4096x2560 .f32) (W : Vec Ideal S1024x2560 .f32) (X : Vec Ideal S4096x1024 .f32) : Vec Ideal S1024 .f32 := fun i =>
  ∑ s : Fin 4096, gain1 D W X (i 0) s

/-- Where each window's block sits at each point: the rows of the point; the weight, the gains and the sums whole. -/
theorem idx : ∀ t : Fin cfg0.N, win0_0.index t = ![0, t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

theorem read0 (c : Dev nD) (t : Fin cfg0.N) (s : Fin 512) (k : Fin 2560) (r : Fin 4096) (hr : r.val = 512 * t.val + s.val) :
    (iblk m c 0 t : Vec Ideal S1x512x2560 .bf16) (ix3 0 s k)
      = (m ((c : Thread nD τ).loc main_arg0) : Vec Ideal S4096x2560 .f32) (ix2 r k) := by
  unfold iblk
  entry_read
  blk_simp
  simp only [hostOps0, List.flatten_cons, List.flatten_nil, List.append_nil]
  after_results_simp
  pointwise
  blk_ext [idx t]

theorem read1 (c : Dev nD) (t : Fin cfg0.N) (l : Fin 2560) (k : Fin 1024) :
    (iblk m c 1 t : Vec Ideal S2560x1024 .bf16) (ix2 l k)
      = (m ((c : Thread nD τ).loc main_arg1) : Vec Ideal S1024x2560 .f32) (ix2 k l) := by
  unfold iblk
  entry_read
  blk_simp
  simp only [hostOps0, List.flatten_cons, List.flatten_nil, List.append_nil]
  after_results_simp
  pointwise
  blk_ext [idx t]

theorem read2 (c : Dev nD) (t : Fin cfg0.N) (s : Fin 512) (k : Fin 1024) (r : Fin 4096) (hr : r.val = 512 * t.val + s.val) :
    (iblk m c 2 t : Vec Ideal S512x1024 .f32) (ix2 s k)
      = (m ((c : Thread nD τ).loc main_arg2) : Vec Ideal S4096x1024 .f32) (ix2 r k) := by
  unfold iblk
  entry_read
  blk_simp
  blk_ext [idx t]

theorem read3 (c : Dev nD) (t : Fin cfg0.N) (k : Fin 1024) :
    (iblk m c 3 t : Vec Ideal S1x1024 .f32) (ix2 0 k) = (m ((c : Thread nD τ).loc main_arg3) : Vec Ideal S1024 .f32) (ix1 k) := by
  unfold iblk
  entry_read
  blk_simp
  simp only [hostOps0, List.flatten_cons, List.flatten_nil, List.append_nil]
  after_results_simp
  pointwise
  blk_ext [idx t]

theorem read4 (c : Dev nD) (t : Fin cfg0.N) (s : Fin 512) (k : Fin 1024) (r : Fin 4096) (hr : r.val = 512 * t.val + s.val) :
    (iblk m c 4 t : Vec Ideal S512x1024 .f32) (ix2 s k)
      = (m ((c : Thread nD τ).loc main_arg4) : Vec Ideal S4096x1024 .f32) (ix2 r k) := by
  unfold iblk
  entry_read
  blk_simp
  blk_ext [idx t]

/-- The product's block is its rows of the whole. -/
theorem db_eq (c : Dev nD) (t : Fin cfg0.N) (s : Fin 512) (k : Fin 1024) (r : Fin 4096) (hr : r.val = 512 * t.val + s.val) :
    db (iblk m c 0 t) (iblk m c 1 t) (ix2 s k)
      = prod (m ((c : Thread nD τ).loc main_arg0)) (m ((c : Thread nD τ).loc main_arg1)) (ix2 r k) := by
  unfold db prod
  exact Finset.sum_congr (M := EReal) rfl fun l _ => congrArg₂ (· * ·) (read0 m c t s l r hr) (read1 m c t l k)

/-- The gradient's block is its rows of the whole. -/
theorem bb_eq (c : Dev nD) (t : Fin cfg0.N) (s : Fin 512) (k : Fin 1024) (r : Fin 4096) (hr : r.val = 512 * t.val + s.val) :
    bb (db (iblk m c 0 t) (iblk m c 1 t)) (iblk m c 2 t) (iblk m c 3 t) (iblk m c 4 t) (ix2 s k)
      = grad (m ((c : Thread nD τ).loc main_arg0)) (m ((c : Thread nD τ).loc main_arg1)) (m ((c : Thread nD τ).loc main_arg2))
          (m ((c : Thread nD τ).loc main_arg3)) (m ((c : Thread nD τ).loc main_arg4)) (ix2 r k) := by
  have h0 : (fun j => (iblk m c 2 t : Vec Ideal S512x1024 .f32) (ix2 s j))
      = fun j => (m ((c : Thread nD τ).loc main_arg2) : Vec Ideal S4096x1024 .f32) (ix2 r j) := funext fun j => read2 m c t s j r hr
  have h1 : (fun j => db (iblk m c 0 t) (iblk m c 1 t) (ix2 s j))
      = fun j => prod (m ((c : Thread nD τ).loc main_arg0)) (m ((c : Thread nD τ).loc main_arg1)) (ix2 r j) :=
    funext fun j => db_eq m c t s j r hr
  have h2 : (fun j => (iblk m c 3 t : Vec Ideal S1x1024 .f32) (ix2 0 j))
      = fun j => (m ((c : Thread nD τ).loc main_arg3) : Vec Ideal S1024 .f32) (ix1 j) := funext fun j => read3 m c t j
  show Cert.RowNorm.back (fun j => (iblk m c 2 t : Vec Ideal S512x1024 .f32) (ix2 s j))
    (fun j => db (iblk m c 0 t) (iblk m c 1 t) (ix2 s j)) (fun j => (iblk m c 3 t : Vec Ideal S1x1024 .f32) (ix2 0 j))
    ((iblk m c 4 t : Vec Ideal S512x1024 .f32) (ix2 s k)) k = _
  rw [h0, h1, h2, read4 m c t s k r hr]
  rfl

/-- The row of the whole array a row of a point's block stands for. -/
def row (t : Fin cfg0.N) (s : Fin 512) : Fin 4096 :=
  ⟨512 * t.val + s.val, by have ht : t.val < 8 := lt_of_lt_of_eq t.isLt N_0; have := s.isLt; omega⟩

theorem final5 (c : Dev nD) : (dats m 0 c).arrAt 5 cfg0.N
    = grad (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) (fun t _ y => ?_)
  have e : ((cfg0.win 5).blk t).view.emb y = ix2 (row t (y 0)) (y 1) := by
    unfold row
    blk_ext [idx t]
  blk_simp
  rw [e]
  refine (after5 m c t y).trans (Eq.trans ?_ (bb_eq m c t (y 0) (y 1) (row t (y 0)) rfl))
  exact congrArg _ (eq_ix2 y)

theorem final6 (c : Dev nD) : (dats m 0 c).arrAt 6 cfg0.N
    = grad (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) (fun t _ y => ?_)
  have e : ((cfg0.win 6).blk t).view.emb y = ix2 (row t (y 0)) (y 1) := by
    unfold row
    blk_ext [idx t]
  blk_simp
  rw [e]
  refine (after6 m c t y).trans (Eq.trans ?_ (bb_eq m c t (y 0) (y 1) (row t (y 0)) rfl))
  exact congrArg _ (eq_ix2 y)

/-- What a point's block adds to the gain's gradient, over the whole arrays. -/
theorem gb_eq (c : Dev nD) (t : Fin cfg0.N) (a : Fin 8) (k : Fin 1024) :
    gb (db (iblk m c 0 t) (iblk m c 1 t)) (iblk m c 2 t) (ix2 a k)
      = ∑ q ∈ Finset.range 64, gain1 (m ((c : Thread nD τ).loc main_arg0)) (m ((c : Thread nD τ).loc main_arg1))
          (m ((c : Thread nD τ).loc main_arg2)) k (Fin.ofNat 4096 (512 * t.val + (8 * q + a.val))) := by
  unfold gb
  refine Finset.sum_congr (M := EReal) rfl fun q hq => ?_
  have hq : q < 64 := Finset.mem_range.mp hq
  have ha := a.isLt
  have ht : t.val < 8 := lt_of_lt_of_eq t.isLt N_0
  have hr : (Fin.ofNat 4096 (512 * t.val + (8 * q + a.val))).val = 512 * t.val + (Fin.ofNat 512 (8 * q + a.val)).val := by
    show (512 * t.val + (8 * q + a.val)) % 4096 = 512 * t.val + (8 * q + a.val) % 512
    omega
  unfold gp gain1
  refine congrArg₂ (α := EReal) (β := EReal) (γ := EReal) (· * ·) (db_eq m c t _ k _ hr) (congrArg₂ (α := EReal) (β := EReal) (γ := EReal) (· * ·) (read2 m c t _ k _ hr) ?_)
  exact congrArg Cert.RowNorm.rms (funext fun j => read2 m c t _ j _ hr)

/-- What the eight rows of sums hold after each point. -/
theorem acc (c : Dev nD) (a : Fin 8) (k : Fin 1024) : ∀ (n : ℕ) (h : n < cfg0.N), (outsAt0 m c n h).2.2 (ix2 a k)
      = ∑ j ∈ Finset.range (n + 1), ∑ q ∈ Finset.range 64, gain1 (m ((c : Thread nD τ).loc main_arg0))
          (m ((c : Thread nD τ).loc main_arg1)) (m ((c : Thread nD τ).loc main_arg2)) k (Fin.ofNat 4096 (512 * j + (8 * q + a.val))) := by
  intro n
  induction n with
  | zero =>
    intro h
    have e := (after7A m c ⟨0, h⟩ rfl (ix2 a k)).trans (gb_eq m c ⟨0, h⟩ a k)
    rw [after0_7] at e
    rw [Finset.sum_range_one]
    exact e
  | succ n ih =>
    intro h
    have hn : n + 1 < 8 := lt_of_lt_of_eq h N_0
    have e := after7B m c ⟨n + 1, h⟩ (by show ¬(n + 1) % 8 = 0; omega) (ix2 a k)
    rw [after0_7, gb_eq] at e
    rw [Finset.sum_range_succ]
    exact e.trans (congrArg (fun z : EReal => z + _) (ih (Nat.lt_of_succ_lt h)))

/-- The rows of sums, in all. -/
def sums (D : Vec Ideal S4096x2560 .f32) (W : Vec Ideal S1024x2560 .f32) (X : Vec Ideal S4096x1024 .f32) : Vec Ideal S8x1024 .f32 := fun y =>
  ∑ j ∈ Finset.range 8, ∑ q ∈ Finset.range 64, gain1 D W X (y 1) (Fin.ofNat 4096 (512 * j + (8 * q + (y 0).val)))

theorem final7 (c : Dev nD) : (dats m 0 c).arrAt 7 cfg0.N
    = sums (m ((c : Thread nD τ).loc main_arg0)) (m ((c : Thread nD τ).loc main_arg1)) (m ((c : Thread nD τ).loc main_arg2)) := by
  refine (dats m 0 c).arrAt_eq_of_covers 7 _ (by decide +kernel) (fun t hf y => ?_)
  have ht : t.val = 7 := by
    have := (flush0_7 t).mp hf
    have ht : t.val < 8 := lt_of_lt_of_eq t.isLt N_0
    omega
  have e : ((cfg0.win 7).blk t).view.emb y = ix2 (y 0) (y 1) := by
    blk_ext [idx t]
  blk_simp
  rw [e, after0_7]
  have h := acc m c (y 0) (y 1) t.val t.isLt
  rw [← eq_ix2 y] at h
  rw [show Finset.range (t.val + 1) = Finset.range 8 by rw [ht]] at h
  exact h

/-- The tail sums the eight rows. -/
theorem tail_gain (D : Vec Ideal S4096x2560 .f32) (W : Vec Ideal S1024x2560 .f32) (X : Vec Ideal S4096x1024 .f32) (i : S1024.Idx) :
    Host.reduceAdd (F := Ideal) (sums D W X) (constant S_ .f32 0x00000000#32) reducesTo_S8x1024_S1024_d0 h_S_ i = gain D W X i := by
  unfold sums gain
  pointwise
  exact Cert.RowNorm.rows_all _

theorem tail (c : Dev nD) : Pipeline.afterTail₀ cfgs (dats m) 0 (V0 m) [hostOps1] c main_v6
    = gain (m ((c : Thread nD τ).loc main_arg0)) (m ((c : Thread nD τ).loc main_arg1)) (m ((c : Thread nD τ).loc main_arg2)) := by
  unfold Pipeline.afterTail₀
  simp only [hostOps1, List.flatten_cons, List.flatten_nil, List.append_nil]
  after_results_simp
  refine (congrArg (fun A => Host.reduceAdd (F := Ideal) A (constant S_ .f32 0x00000000#32) reducesTo_S8x1024_S1024_d0 h_S_)
    ((Pipeline.withArrays_arr spec0 (by decide) c (V0 m c) _ 7).trans (final7 m c))).trans ?_
  exact funext fun i => tail_gain _ _ _ i

/-- The run leaves the two gradients in the results, and the arguments as they were. -/
theorem run : θ_run defs (onTc (τ := τ) (main (F := Ideal))) ⟨m, fun _ => 0, ρ⟩ fun r => ∀ c : Dev nD,
      r.2.mem ((c : Thread nD τ).loc main_v5_0) = grad (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_v5_1) = grad (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_v6) = gain (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (final5 m c), ((h c).1 6).trans (final6 m c),
      ((h c).2 main_v6 (Pipeline.mem_restRefs_of main_v6 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans (V_main_arg2 m c)),
      ((h c).2 main_arg3 (Pipeline.mem_restRefs_of main_arg3 (by decide) (by decide))).trans (W_main_arg3 m (dats m) c),
      ((h c).1 4).trans (((dats m 0 c).arrAt_in 4 rfl _).trans (V_main_arg4 m c)),
      ((h c).2 main_arg5 (Pipeline.mem_restRefs_of main_arg5 (by decide) (by decide))).trans (W_main_arg5 m (dats m) c)⟩)
    (run_main m ρ)

end Cert.Kernel9Ideal.Back

namespace Cert.Reference9Ideal.Back

open Idealize.ShloMosaic Idealize.ShloMosaic.TcCoe Idealize.SL.Sem
open Cert.Reference9Ideal Cert.Reference9Ideal.Gen Cert.Reference9Ideal.Facts

theorem value0 (D : Vec Ideal S4096x2560 .f32) (W : Vec Ideal S1024x2560 .f32) (X : Vec Ideal S4096x1024 .f32) (g : Vec Ideal S1024 .f32)
    (Z : Vec Ideal S4096x1024 .f32) (i : S4096x1024.Idx) :
   addf (F := Ideal) (addf (addf Z (mulf (mulf (Host.dotGeneral (φ₁ := .f32) (φ₂ := .f32) dot_S4096x2560_S1024x2560_S4096x1024_1_1_0_0_n_n none D W) (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf X (broadcastInDim S4096x1024 ![0] bcast_S4096_S4096x1024_0 (Host.reduceAdd (Host.divf (mulf (shapeCast _ (Host.reduceAdd (mulf X (mulf (Host.dotGeneral (φ₁ := .f32) (φ₂ := .f32) dot_S4096x2560_S1024x2560_S4096x1024_1_1_0_0_n_n none D W) (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf X (mulf (Host.dotGeneral (φ₁ := .f32) (φ₂ := .f32) dot_S4096x2560_S1024x2560_S4096x1024_1_1_0_0_n_n none D W) (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) X) i
      = Cert.Kernel9Ideal.Back.grad D W X g Z i := by
  unfold Cert.Kernel9Ideal.Back.grad
  refine Eq.trans ?_ (Cert.RowNorm.back_eq _ _ _ _ _).symm
  unfold Cert.RowNorm.pull Cert.RowNorm.sq Cert.RowNorm.ms Cert.RowNorm.rms Cert.Kernel9Ideal.Back.prod
  pointwise
  simp only [Fin.sum_univ_one]

theorem value1 (D : Vec Ideal S4096x2560 .f32) (W : Vec Ideal S1024x2560 .f32) (X : Vec Ideal S4096x1024 .f32) (g : Vec Ideal S1024 .f32)
    (Z : Vec Ideal S4096x1024 .f32) (i : S4096x1024.Idx) :
   truncf (F := Ideal) .bf16 (addf (addf (addf Z (mulf (mulf (Host.dotGeneral (φ₁ := .f32) (φ₂ := .f32) dot_S4096x2560_S1024x2560_S4096x1024_1_1_0_0_n_n none D W) (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))) (mulf X (broadcastInDim S4096x1024 ![0] bcast_S4096_S4096x1024_0 (Host.reduceAdd (Host.divf (mulf (shapeCast _ (Host.reduceAdd (mulf X (mulf (Host.dotGeneral (φ₁ := .f32) (φ₂ := .f32) dot_S4096x2560_S1024x2560_S4096x1024_1_1_0_0_n_n none D W) (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf X (mulf (Host.dotGeneral (φ₁ := .f32) (φ₂ := .f32) dot_S4096x2560_S1024x2560_S4096x1024_1_1_0_0_n_n none D W) (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) X)) bitsLt_bf16_f32 i
      = Cert.Kernel9Ideal.Back.grad D W X g Z i := by
  unfold Cert.Kernel9Ideal.Back.grad
  refine Eq.trans ?_ (Cert.RowNorm.back_eq _ _ _ _ _).symm
  unfold Cert.RowNorm.pull Cert.RowNorm.sq Cert.RowNorm.ms Cert.RowNorm.rms Cert.Kernel9Ideal.Back.prod
  pointwise
  simp only [Fin.sum_univ_one]

theorem value2 (D : Vec Ideal S4096x2560 .f32) (W : Vec Ideal S1024x2560 .f32) (X : Vec Ideal S4096x1024 .f32) (i : S1024.Idx) :
   Host.reduceAdd (F := Ideal) (shapeCast S1x1024 (Host.reduceAdd (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral (φ₁ := .f32) (φ₂ := .f32) dot_S4096x2560_S1024x2560_S4096x1024_1_1_0_0_n_n none D W)) (constant S_ .f32 0x00000000#32) reducesTo_S4096x1024_S1024_d0 h_S_) shapeCasts_S1024_S1x1024) (constant S_ .f32 0x00000000#32) reducesTo_S1x1024_S1024_d0 h_S_ i
      = Cert.Kernel9Ideal.Back.gain D W X i := by
  unfold Cert.Kernel9Ideal.Back.gain Cert.Kernel9Ideal.Back.gain1 Cert.RowNorm.rms Cert.Kernel9Ideal.Back.prod
  pointwise
  simp only [Fin.sum_univ_one]
  exact Finset.sum_congr (M := EReal) rfl fun s _ => mul_comm _ _

end Cert.Reference9Ideal.Back

end
-- ==== Proof.DhMixClaim.lean ====
/- The gradient through the in projection and the normalisation before it: the launch and its idealization share one text; the frames, and the equality with the
   reference. -/
module

public import proofs.«01_k».proof.Defs
public import proofs.«01_k».proof.Proof.Gen.Kernel9
public import proofs.«01_k».proof.Proof.Gen.Reference9Ideal
public import proofs.«01_k».proof.Proof.DhMix
public import Idealize.ShloMosaic.Lib.Quiescent

@[expose] public section

noncomputable section

namespace Cert.Proof.DhMix

open Idealize.ShloMosaic Idealize.ShloMosaic.StableHlo Idealize.SL.Sem

section
variable {F : FTy → Type} [FloatOps F]

theorem body_same : @Cert.Kernel9.cc0_dh_mix F _ Cert.Kernel9.Gen.facts = @Cert.Kernel9Ideal.cc0_dh_mix F _ Cert.Kernel9Ideal.Gen.facts := rfl

theorem table_same : @Cert.Kernel9.defs₀ F _ Cert.Kernel9.Gen.facts = @Cert.Kernel9Ideal.defs₀ F _ Cert.Kernel9Ideal.Gen.facts := by
  unfold Cert.Kernel9.defs₀ Cert.Kernel9Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel9.defs F _ Cert.Kernel9.Gen.facts = @Cert.Kernel9Ideal.defs F _ Cert.Kernel9Ideal.Gen.facts :=
  congrArg (Pipeline.defs Cert.Kernel9Ideal.pcfgs) table_same

set_option maxRecDepth 8192 in
theorem main_same : @Cert.Kernel9.main F _ Cert.Kernel9.Gen.facts = @Cert.Kernel9Ideal.main F _ Cert.Kernel9Ideal.Gen.facts := rfl

end

/-- The idealized kernel runs, for any arguments. -/
theorem frame_ideal : Cert.quiescent_Kernel9Ideal (hKernel9Ideal := Cert.Kernel9Ideal.Gen.facts) :=
  fun m ρ _ => Cert.Kernel9Ideal.Gen.frame m ρ

/-- The kernel runs, for any arguments: its program has the same text, and the run is over any float values. -/
theorem frame_kernel : Cert.quiescent_Kernel9 (hKernel9 := Cert.Kernel9.Gen.facts) := by
  intro m ρ _
  rw [defs_same, main_same]
  exact Cert.Kernel9Ideal.Gen.frame (F := Bits) m ρ

/-- The reference runs, for any arguments. -/
theorem frame_reference : Cert.quiescent_Reference9Ideal (hReference9Ideal := Cert.Reference9Ideal.Gen.facts) := fun m ρ _ =>
  (θ_run Cert.Reference9Ideal.defs _ _).mono (fun r h => ⟨fun c => (h c).2.2.2, sem_eq_zero_of_no_sems (by decide) r.2⟩)
    (Cert.Reference9Ideal.Value.run m ρ)

/-- The kernel's results are the reference's. -/
theorem equal : Cert.algebraic_Kernel9Ideal_Reference9Ideal (hKernel9Ideal := Cert.Kernel9Ideal.Gen.facts)
    (hReference9Ideal := Cert.Reference9Ideal.Gen.facts) := by
  intro m g m' g' _ ha
  refine ⟨fun c => Cert.Kernel9Ideal.Back.grad (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)),
    fun c => Cert.Kernel9Ideal.Back.grad (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)),
    fun c => Cert.Kernel9Ideal.Back.gain (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)),
    Cert.Kernel9Ideal.Back.run m g, ?_⟩
  refine (θ_run Cert.Reference9Ideal.defs _ _).mono (fun r h c => ⟨(h c).1.trans ?_, (h c).2.1.trans ?_, (h c).2.2.1.trans ?_, (h c).2.2.2⟩)
    (Cert.Reference9Ideal.Value.run m' g')
  · obtain ⟨e0, e1, e2, e3, e4, _⟩ := ha c
    refine (funext fun i => Cert.Reference9Ideal.Back.value0 _ _ _ _ _ i).trans ?_
    simp only [e0, e1, e2, e3, e4]
  · obtain ⟨e0, e1, e2, e3, e4, _⟩ := ha c
    refine (funext fun i => Cert.Reference9Ideal.Back.value1 _ _ _ _ _ i).trans ?_
    simp only [e0, e1, e2, e3, e4]
  · obtain ⟨e0, e1, e2, _⟩ := ha c
    refine (funext fun i => Cert.Reference9Ideal.Back.value2 _ _ _ i).trans ?_
    simp only [e0, e1, e2]

end Cert.Proof.DhMix

end
-- ==== Proof.AdamUp.lean ====
/- The update of the up projection's weight: what the launch leaves in its four results, and the reference's. -/
module

public import proofs.«01_k».proof.Proof.Gen.Kernel10Ideal.Value
public import proofs.«01_k».proof.Proof.Gen.Reference10Ideal.Run
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel10Ideal.Up

open Idealize.ShloMosaic Idealize.ShloMosaic.TcCoe Idealize.SL.Sem
open Cert.Kernel10Ideal Cert.Kernel10Ideal.Gen

variable (m : (ℓ : Loc nD τ sig) → Buf (Elt Ideal) ℓ) (ρ : Dev nD → PrngReg)

/-- Where each window's block sits at each point: two blocks of rows for each of the two layers. -/
theorem idx : ∀ t : Fin cfg0.N, (t.val < 2 → win0_0.index t = ![0, t.val, 0]) ∧ (2 ≤ t.val → win0_1.index t = ![0, t.val - 2, 0])
    ∧ win0_2.index t = ![t.val / 2, t.val % 2, 0] ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0] ∧ win0_7.index t = ![t.val / 2, t.val % 2, 0]
    ∧ win0_8.index t = ![t.val / 2, t.val % 2, 0] :=
  (by decide +kernel : ∀ t : Fin grid0.N, _)

/-- One layer's gradient: the sum of the four chips' parts. -/
def part (P : Vec Ideal S4x704x1024 .f32) (a : Fin 704) (b : Fin 1024) : EReal :=
  ((P (ix3 0 a b) : EReal) + P (ix3 1 a b) + P (ix3 2 a b)) + P (ix3 3 a b)

/-- Both layers' gradients. -/
def grad (P0 P1 : Vec Ideal S4x704x1024 .f32) : Vec Ideal S2x704x1024 .f32 := fun i =>
  if (i 0).val = 0 then part P0 (i 1) (i 2) else part P1 (i 1) (i 2)

/-- The number a pattern of bits stands for. -/
def lit (b : BitVec 32) : EReal := (Scalar.ofBits .f32 b : Ideal .f32)

/-- The first moment after the step. -/
def mom (g m : EReal) : EReal := lit 0x3F666666#32 * m + lit 0x3DCCCCCD#32 * g

/-- The second moment after the step. -/
def var (g v : EReal) : EReal := lit 0x3F7FBE77#32 * v + lit 0x3A83126F#32 * (g * g)

/-- The change of the weight. -/
def step (g w m v : EReal) : EReal :=
  lit 0xBA83126F#32 * (Ideal.div (Ideal.div (mom g m) (lit 0x3F26BD02#32))
    (Ideal.sqrt (Ideal.div (var g v) (lit 0x3C231ACC#32)) + lit 0x322BCC77#32) + lit 0x3C23D70A#32 * w)

abbrev Arr : Type := Vec Ideal S2x704x1024 .f32

def moms (G M : Arr) : Arr := fun i => mom (G i) (M i)
def vars (G V : Arr) : Arr := fun i => var (G i) (V i)
def steps (G W M V : Arr) : Arr := fun i => step (G i) (W i) (M i) (V i)

/-- The parts of the layer a point works on, at one element of its block. -/
theorem readA (c : Dev nD) (t : Fin cfg0.N) (h : t.val < 2) (q : Fin 4) (y : S1x352x1024.Idx) :
    (iblk m c 0 t : Vec Ideal S4x352x1024 .bf16) (ix3 q (y 1) (y 2))
      = (m ((c : Thread nD τ).loc main_arg0) : Vec Ideal S4x704x1024 .f32)
          (ix3 q (((cfg0.win 5).blk t).view.emb y 1) (((cfg0.win 5).blk t).view.emb y 2)) := by
  unfold iblk
  entry_read
  blk_simp
  pointwise
  have hl := t.isLt
  blk_ext [(idx t).1 h, (idx t).2.2.2.2.2.1]

/-- The parts of the layer a point works on, at one element of its block. -/
theorem readB (c : Dev nD) (t : Fin cfg0.N) (h : 2 ≤ t.val) (q : Fin 4) (y : S1x352x1024.Idx) :
    (iblk m c 1 t : Vec Ideal S4x352x1024 .bf16) (ix3 q (y 1) (y 2))
      = (m ((c : Thread nD τ).loc main_arg1) : Vec Ideal S4x704x1024 .f32)
          (ix3 q (((cfg0.win 5).blk t).view.emb y 1) (((cfg0.win 5).blk t).view.emb y 2)) := by
  unfold iblk
  entry_read
  blk_simp
  pointwise
  have hl := t.isLt
  blk_ext [(idx t).2.1 h, (idx t).2.2.2.2.2.1]

/-- One element of a point's block of an argument. -/
theorem readW (c : Dev nD) (t : Fin cfg0.N) (y : S1x352x1024.Idx) :
    (iblk m c 2 t : Vec Ideal S1x352x1024 .f32) (ix3 0 (y 1) (y 2))
      = (m ((c : Thread nD τ).loc main_arg2) : Vec Ideal S2x704x1024 .f32) (((cfg0.win 5).blk t).view.emb y) := by
  unfold iblk
  entry_read
  blk_simp
  have h0 : (y 0).val < 1 := (y 0).isLt
  blk_ext [(idx t).2.2.1, (idx t).2.2.2.2.2.1]

/-- One element of a point's block of an argument. -/
theorem readM (c : Dev nD) (t : Fin cfg0.N) (y : S1x352x1024.Idx) :
    (iblk m c 3 t : Vec Ideal S1x352x1024 .f32) (ix3 0 (y 1) (y 2))
      = (m ((c : Thread nD τ).loc main_arg3) : Vec Ideal S2x704x1024 .f32) (((cfg0.win 5).blk t).view.emb y) := by
  unfold iblk
  entry_read
  blk_simp
  have h0 : (y 0).val < 1 := (y 0).isLt
  blk_ext [(idx t).2.2.2.1, (idx t).2.2.2.2.2.1]

/-- One element of a point's block of an argument. -/
theorem readV (c : Dev nD) (t : Fin cfg0.N) (y : S1x352x1024.Idx) :
    (iblk m c 4 t : Vec Ideal S1x352x1024 .f32) (ix3 0 (y 1) (y 2))
      = (m ((c : Thread nD τ).loc main_arg4) : Vec Ideal S2x704x1024 .f32) (((cfg0.win 5).blk t).view.emb y) := by
  unfold iblk
  entry_read
  blk_simp
  have h0 : (y 0).val < 1 := (y 0).isLt
  blk_ext [(idx t).2.2.2.2.1, (idx t).2.2.2.2.2.1]

/-- The four outputs' blocks sit alike. -/
theorem emb6 (t : Fin cfg0.N) (y : S1x352x1024.Idx) : (((cfg0.win 6).blk t).view.emb y : S2x704x1024.Idx) = ((cfg0.win 5).blk t).view.emb y := by
  blk_simp
  blk_ext [(idx t).2.2.2.2.2.1, (idx t).2.2.2.2.2.2.1]
theorem emb7 (t : Fin cfg0.N) (y : S1x352x1024.Idx) : (((cfg0.win 7).blk t).view.emb y : S2x704x1024.Idx) = ((cfg0.win 5).blk t).view.emb y := by
  blk_simp
  blk_ext [(idx t).2.2.2.2.2.1, (idx t).2.2.2.2.2.2.2.1]
theorem emb8 (t : Fin cfg0.N) (y : S1x352x1024.Idx) : (((cfg0.win 8).blk t).view.emb y : S2x704x1024.Idx) = ((cfg0.win 5).blk t).view.emb y := by
  blk_simp
  blk_ext [(idx t).2.2.2.2.2.1, (idx t).2.2.2.2.2.2.2.2]

/-- The layer of a block's element. -/
theorem layer (t : Fin cfg0.N) (y : S1x352x1024.Idx) : (((cfg0.win 5).blk t).view.emb y 0).val = t.val / 2 := by
  have h0 : (y 0).val < 1 := (y 0).isLt
  blk_simp
  have h := (idx t).2.2.2.2.2.1
  rw [h]
  rfl

/-- The one row of a block's first axis. -/
theorem row (y : S1x352x1024.Idx) : (ix3 (0 : Fin 1) (y 1) (y 2) : S1x352x1024.Idx) = y := by
  funext a
  fin_cases a
  · exact (Fin.fin_one_eq_zero _).symm
  · rfl
  · rfl

/-- The gradient's array after the run. -/
theorem fin5 (c : Dev nD) : (dats m 0 c).arrAt 5 cfg0.N
    = grad (m ((c : Thread nD τ).loc main_arg0)) (m ((c : Thread nD τ).loc main_arg1)) := by
  refine (dats m 0 c).arrAt_eq_of_covers 5 _ (by decide +kernel) (fun t _ y => ?_)
  have hl : t.val < 4 := t.isLt
  by_cases h : t.val < 2
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h]
    blk_simp
    rw [after0_5, outsAt0_A m c t (by omega) (by omega)]
    frame_out
    pointwise [k0_pay1, k0_pay9, k0_pay10, k0_pay11, k0_pay12, k0_pay13]
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega)]
    blk_simp
    rw [after0_5, outsAt0_B m c t (by omega) (by omega)]
    frame_out
    pointwise [k0_pay5, k0_pay14, k0_pay15, k0_pay16, k0_pay17, k0_pay18]

/-- The change of the weight after the run. -/
theorem fin6 (c : Dev nD) : (dats m 0 c).arrAt 6 cfg0.N
    = steps (grad (m ((c : Thread nD τ).loc main_arg0)) (m ((c : Thread nD τ).loc main_arg1)))
        (m ((c : Thread nD τ).loc main_arg2)) (m ((c : Thread nD τ).loc main_arg3)) (m ((c : Thread nD τ).loc main_arg4)) := by
  refine (dats m 0 c).arrAt_eq_of_covers 6 _ (by decide +kernel) (fun t _ y => ?_)
  have hl : t.val < 4 := t.isLt
  rw [emb6 t y]
  unfold steps step mom var lit
  by_cases h : t.val < 2
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h, ← readW m c t, ← readM m c t, ← readV m c t]
    blk_simp
    rw [after0_6, outsAt0_A m c t (by omega) (by omega)]
    frame_out
    pointwise [k0_pay2, k0_pay9, k0_pay10, k0_pay11, k0_pay12, k0_pay13]
    simp only [row] <;> rfl
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega), ← readW m c t, ← readM m c t, ← readV m c t]
    blk_simp
    rw [after0_6, outsAt0_B m c t (by omega) (by omega)]
    frame_out
    pointwise [k0_pay6, k0_pay14, k0_pay15, k0_pay16, k0_pay17, k0_pay18]
    simp only [row] <;> rfl

/-- The first moment after the run. -/
theorem fin7 (c : Dev nD) : (dats m 0 c).arrAt 7 cfg0.N
    = moms (grad (m ((c : Thread nD τ).loc main_arg0)) (m ((c : Thread nD τ).loc main_arg1))) (m ((c : Thread nD τ).loc main_arg3)) := by
  refine (dats m 0 c).arrAt_eq_of_covers 7 _ (by decide +kernel) (fun t _ y => ?_)
  have hl : t.val < 4 := t.isLt
  rw [emb7 t y]
  unfold moms mom lit
  by_cases h : t.val < 2
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h, ← readM m c t]
    blk_simp
    rw [after0_7, outsAt0_A m c t (by omega) (by omega)]
    frame_out
    pointwise [k0_pay3, k0_pay9, k0_pay10, k0_pay11, k0_pay12, k0_pay13]
    simp only [row] <;> rfl
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega), ← readM m c t]
    blk_simp
    rw [after0_7, outsAt0_B m c t (by omega) (by omega)]
    frame_out
    pointwise [k0_pay7, k0_pay14, k0_pay15, k0_pay16, k0_pay17, k0_pay18]
    simp only [row] <;> rfl

/-- The second moment after the run. -/
theorem fin8 (c : Dev nD) : (dats m 0 c).arrAt 8 cfg0.N
    = vars (grad (m ((c : Thread nD τ).loc main_arg0)) (m ((c : Thread nD τ).loc main_arg1))) (m ((c : Thread nD τ).loc main_arg4)) := by
  refine (dats m 0 c).arrAt_eq_of_covers 8 _ (by decide +kernel) (fun t _ y => ?_)
  have hl : t.val < 4 := t.isLt
  rw [emb8 t y]
  unfold vars var lit
  by_cases h : t.val < 2
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h, ← readV m c t]
    blk_simp
    rw [after0_8, outsAt0_A m c t (by omega) (by omega)]
    frame_out
    pointwise [k0_pay4, k0_pay9, k0_pay10, k0_pay11, k0_pay12, k0_pay13]
    simp only [row] <;> rfl
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega), ← readV m c t]
    blk_simp
    rw [after0_8, outsAt0_B m c t (by omega) (by omega)]
    frame_out
    pointwise [k0_pay8, k0_pay14, k0_pay15, k0_pay16, k0_pay17, k0_pay18]
    simp only [row] <;> rfl

/-- The run leaves the gradient, the change of the weight and the two moments, and the arguments as they were. -/
theorem run : θ_run defs (onTc (τ := τ) (main (F := Ideal))) ⟨m, fun _ => 0, ρ⟩ fun r => ∀ c : Dev nD,
      r.2.mem ((c : Thread nD τ).loc main_v2_0) = grad (m ((c : Thread nD τ).loc main_arg0)) (m ((c : Thread nD τ).loc main_arg1))
      ∧ r.2.mem ((c : Thread nD τ).loc main_v2_1) = steps (grad (m ((c : Thread nD τ).loc main_arg0)) (m ((c : Thread nD τ).loc main_arg1)))
        (m ((c : Thread nD τ).loc main_arg2)) (m ((c : Thread nD τ).loc main_arg3)) (m ((c : Thread nD τ).loc main_arg4))
      ∧ r.2.mem ((c : Thread nD τ).loc main_v2_2) = moms (grad (m ((c : Thread nD τ).loc main_arg0)) (m ((c : Thread nD τ).loc main_arg1))) (m ((c : Thread nD τ).loc main_arg3))
      ∧ r.2.mem ((c : Thread nD τ).loc main_v2_3) = vars (grad (m ((c : Thread nD τ).loc main_arg0)) (m ((c : Thread nD τ).loc main_arg1))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (fin5 m c), (h c).2.1.trans (fin6 m c), (h c).2.2.1.trans (fin7 m c),
    (h c).2.2.2.1.trans (fin8 m c), (h c).2.2.2.2⟩) (Cert.Kernel10Ideal.Value.run_blocks m ρ)

end Cert.Kernel10Ideal.Up

namespace Cert.Reference10Ideal.Up

open Idealize.ShloMosaic Idealize.ShloMosaic.TcCoe Idealize.SL.Sem
open Cert.Reference10Ideal Cert.Reference10Ideal.Gen

/-- The reference's gradient: each layer's parts summed, and the layers stacked. -/
def stack (P0 P1 : Vec Ideal S4x704x1024 .f32) : Vec Ideal S2x704x1024 .f32 :=
  concatenate S2x704x1024 0 [⟨S1x704x1024, (broadcastInDim S1x704x1024 ![1, 2] bcast_S704x1024_S1x704x1024_1_2 (Host.reduceAdd (F := Ideal) (φ := .f32) P0 (constant S_ .f32 0x00000000#32) reducesTo_S4x704x1024_S704x1024_d0 h_S_))⟩, ⟨S1x704x1024, (broadcastInDim S1x704x1024 ![1, 2] bcast_S704x1024_S1x704x1024_1_2 (Host.reduceAdd (F := Ideal) (φ := .f32) P1 (constant S_ .f32 0x00000000#32) reducesTo_S4x704x1024_S704x1024_d0 h_S_))⟩] concatenates_S1x704x1024_S1x704x1024_S2x704x1024_d0

theorem stack_eq (P0 P1 : Vec Ideal S4x704x1024 .f32) : stack P0 P1 = Cert.Kernel10Ideal.Up.grad P0 P1 := by
  funext i
  unfold Cert.Kernel10Ideal.Up.grad stack
  pointwise
  by_cases h : (i 0).val < 1
  · rw [dif_pos h, if_pos (by omega)]
    exact Fin.sum_univ_four _
  · rw [dif_neg h, if_neg (by omega)]
    exact Fin.sum_univ_four _

theorem step_eq (P0 P1 : Vec Ideal S4x704x1024 .f32) (W M V : Vec Ideal S2x704x1024 .f32) :
    (mulf (F := Ideal) (φ := .f32) (broadcastInDim S2x704x1024 ![] bcast_S_S2x704x1024 (constant S_ .f32 0xBA83126F#32)) (addf (Host.divf (Host.divf (addf (mulf (broadcastInDim S2x704x1024 ![] bcast_S_S2x704x1024 (constant S_ .f32 0x3F666666#32)) M) (mulf (broadcastInDim S2x704x1024 ![] bcast_S_S2x704x1024 (constant S_ .f32 0x3DCCCCCD#32)) (stack P0 P1))) (broadcastInDim S2x704x1024 ![] bcast_S_S2x704x1024 (constant S_ .f32 0x3F26BD02#32))) (addf (Host.sqrt (Host.divf (addf (mulf (broadcastInDim S2x704x1024 ![] bcast_S_S2x704x1024 (constant S_ .f32 0x3F7FBE77#32)) V) (mulf (broadcastInDim S2x704x1024 ![] bcast_S_S2x704x1024 (constant S_ .f32 0x3A83126F#32)) (mulf (stack P0 P1) (stack P0 P1)))) (broadcastInDim S2x704x1024 ![] bcast_S_S2x704x1024 (constant S_ .f32 0x3C231ACC#32)))) (broadcastInDim S2x704x1024 ![] bcast_S_S2x704x1024 (constant S_ .f32 0x322BCC77#32)))) (mulf (broadcastInDim S2x704x1024 ![] bcast_S_S2x704x1024 (constant S_ .f32 0x3C23D70A#32)) W)) : Vec Ideal S2x704x1024 .f32)
      = Cert.Kernel10Ideal.Up.steps (stack P0 P1) W M V := by
  funext i
  rfl

theorem mom_eq (P0 P1 : Vec Ideal S4x704x1024 .f32) (M : Vec Ideal S2x704x1024 .f32) :
    (addf (F := Ideal) (φ := .f32) (mulf (broadcastInDim S2x704x1024 ![] bcast_S_S2x704x1024 (constant S_ .f32 0x3F666666#32)) M) (mulf (broadcastInDim S2x704x1024 ![] bcast_S_S2x704x1024 (constant S_ .f32 0x3DCCCCCD#32)) (stack P0 P1)) : Vec Ideal S2x704x1024 .f32)
      = Cert.Kernel10Ideal.Up.moms (stack P0 P1) M := by
  funext i
  rfl

theorem var_eq (P0 P1 : Vec Ideal S4x704x1024 .f32) (V : Vec Ideal S2x704x1024 .f32) :
    (addf (F := Ideal) (φ := .f32) (mulf (broadcastInDim S2x704x1024 ![] bcast_S_S2x704x1024 (constant S_ .f32 0x3F7FBE77#32)) V) (mulf (broadcastInDim S2x704x1024 ![] bcast_S_S2x704x1024 (constant S_ .f32 0x3A83126F#32)) (mulf (stack P0 P1) (stack P0 P1))) : Vec Ideal S2x704x1024 .f32)
      = Cert.Kernel10Ideal.Up.vars (stack P0 P1) V := by
  funext i
  rfl

end Cert.Reference10Ideal.Up

end
-- ==== Proof.AdamUpClaim.lean ====
/- The update of the up projection's weight: the launch and its idealization share one text; the frames, and the equality with the
   reference. -/
module

public import proofs.«01_k».proof.Defs
public import proofs.«01_k».proof.Proof.Gen.Kernel10
public import proofs.«01_k».proof.Proof.Gen.Reference10Ideal
public import proofs.«01_k».proof.Proof.AdamUp
public import Idealize.ShloMosaic.Lib.Quiescent

@[expose] public section

noncomputable section

namespace Cert.Proof.AdamUp

open Idealize.ShloMosaic Idealize.ShloMosaic.StableHlo Idealize.SL.Sem

section
variable {F : FTy → Type} [FloatOps F]

theorem body_same : @Cert.Kernel10.cc0_adamw_w_up F _ Cert.Kernel10.Gen.facts = @Cert.Kernel10Ideal.cc0_adamw_w_up F _ Cert.Kernel10Ideal.Gen.facts := rfl

theorem table_same : @Cert.Kernel10.defs₀ F _ Cert.Kernel10.Gen.facts = @Cert.Kernel10Ideal.defs₀ F _ Cert.Kernel10Ideal.Gen.facts := by
  unfold Cert.Kernel10.defs₀ Cert.Kernel10Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel10.defs F _ Cert.Kernel10.Gen.facts = @Cert.Kernel10Ideal.defs F _ Cert.Kernel10Ideal.Gen.facts :=
  congrArg (Pipeline.defs Cert.Kernel10Ideal.pcfgs) table_same

set_option maxRecDepth 8192 in
theorem main_same : @Cert.Kernel10.main F _ Cert.Kernel10.Gen.facts = @Cert.Kernel10Ideal.main F _ Cert.Kernel10Ideal.Gen.facts := rfl

end

/-- The idealized kernel runs, for any arguments. -/
theorem frame_ideal : Cert.quiescent_Kernel10Ideal (hKernel10Ideal := Cert.Kernel10Ideal.Gen.facts) :=
  fun m ρ _ => Cert.Kernel10Ideal.Gen.frame m ρ

/-- The kernel runs, for any arguments: its program has the same text, and the run is over any float values. -/
theorem frame_kernel : Cert.quiescent_Kernel10 (hKernel10 := Cert.Kernel10.Gen.facts) := by
  intro m ρ _
  rw [defs_same, main_same]
  exact Cert.Kernel10Ideal.Gen.frame (F := Bits) m ρ

/-- The reference runs, for any arguments. -/
theorem frame_reference : Cert.quiescent_Reference10Ideal (hReference10Ideal := Cert.Reference10Ideal.Gen.facts) := fun m ρ _ =>
  (θ_run Cert.Reference10Ideal.defs _ _).mono (fun r h => ⟨fun c => (h c).2.2.2.2, sem_eq_zero_of_no_sems (by decide) r.2⟩)
    (Cert.Reference10Ideal.Value.run m ρ)

/-- The kernel's results are the reference's. -/
theorem equal : Cert.algebraic_Kernel10Ideal_Reference10Ideal (hKernel10Ideal := Cert.Kernel10Ideal.Gen.facts)
    (hReference10Ideal := Cert.Reference10Ideal.Gen.facts) := by
  intro m g m' g' _ ha
  refine ⟨fun c => (Cert.Kernel10Ideal.Up.grad (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))),
    fun c => Cert.Kernel10Ideal.Up.steps (Cert.Kernel10Ideal.Up.grad (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1)))
      (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))
      (m ((c.tc : Thread Cert.Kernel10Ideal.nD Cert.Kernel10Ideal.τ).loc Cert.Kernel10Ideal.main_arg4)),
    fun c => Cert.Kernel10Ideal.Up.moms (Cert.Kernel10Ideal.Up.grad (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))) (m ((c.tc : Thread Cert.Kernel10Ideal.nD Cert.Kernel10Ideal.τ).loc Cert.Kernel10Ideal.main_arg3)),
    fun c => Cert.Kernel10Ideal.Up.vars (Cert.Kernel10Ideal.Up.grad (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))) (m ((c.tc : Thread Cert.Kernel10Ideal.nD Cert.Kernel10Ideal.τ).loc Cert.Kernel10Ideal.main_arg4)),
    Cert.Kernel10Ideal.Up.run m g, ?_⟩
  refine (θ_run Cert.Reference10Ideal.defs _ _).mono (fun r h c => ?_) (Cert.Reference10Ideal.Value.run m' g')
  obtain ⟨a0, a1, a2, a3, a4, a5⟩ := ha c
  have hG := Cert.Reference10Ideal.Up.stack_eq (m' ((c.tc : Thread Cert.Reference10Ideal.nD Cert.Reference10Ideal.τ).loc Cert.Reference10Ideal.main_arg0))
    (m' ((c.tc : Thread Cert.Reference10Ideal.nD Cert.Reference10Ideal.τ).loc Cert.Reference10Ideal.main_arg1))
  have hP := hG.trans (congrArg₂ Cert.Kernel10Ideal.Up.grad a0 a1)
  refine ⟨(h c).1.trans hP, (h c).2.1.trans ((Cert.Reference10Ideal.Up.step_eq _ _ _ _ _).trans ?_),
    (h c).2.2.1.trans ((Cert.Reference10Ideal.Up.mom_eq _ _ _).trans (congrArg₂ Cert.Kernel10Ideal.Up.moms hP a3)),
    (h c).2.2.2.1.trans ((Cert.Reference10Ideal.Up.var_eq _ _ _).trans (congrArg₂ Cert.Kernel10Ideal.Up.vars hP a4)), (h c).2.2.2.2⟩
  rw [hP, a2, a3, a4]

end Cert.Proof.AdamUp

end
-- ==== Proof.AdamDown.lean ====
/- The update of the down projection's weight: what the launch leaves in its four results, and the reference's. -/
module

public import proofs.«01_k».proof.Proof.Gen.Kernel11Ideal.Value
public import proofs.«01_k».proof.Proof.Gen.Reference11Ideal.Run
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel11Ideal.Down

open Idealize.ShloMosaic Idealize.ShloMosaic.TcCoe Idealize.SL.Sem
open Cert.Kernel11Ideal Cert.Kernel11Ideal.Gen

variable (m : (ℓ : Loc nD τ sig) → Buf (Elt Ideal) ℓ) (ρ : Dev nD → PrngReg)

/-- Where each window's block sits at each point: one block of rows for each of the two layers. -/
theorem idx : ∀ t : Fin cfg0.N, (t.val < 1 → win0_0.index t = ![0, t.val, 0]) ∧ (1 ≤ t.val → win0_1.index t = ![0, t.val - 1, 0])
    ∧ win0_2.index t = ![t.val / 1, t.val % 1, 0] ∧ win0_3.index t = ![t.val / 1, t.val % 1, 0] ∧ win0_4.index t = ![t.val / 1, t.val % 1, 0]
    ∧ win0_5.index t = ![t.val / 1, t.val % 1, 0] ∧ win0_6.index t = ![t.val / 1, t.val % 1, 0] ∧ win0_7.index t = ![t.val / 1, t.val % 1, 0]
    ∧ win0_8.index t = ![t.val / 1, t.val % 1, 0] :=
  (by decide +kernel : ∀ t : Fin grid0.N, _)

/-- One layer's gradient: the sum of the four chips' parts. -/
def part (P : Vec Ideal S4x352x1024 .f32) (a : Fin 352) (b : Fin 1024) : EReal :=
  ((P (ix3 0 a b) : EReal) + P (ix3 1 a b) + P (ix3 2 a b)) + P (ix3 3 a b)

/-- Both layers' gradients. -/
def grad (P0 P1 : Vec Ideal S4x352x1024 .f32) : Vec Ideal S2x352x1024 .f32 := fun i =>
  if (i 0).val = 0 then part P0 (i 1) (i 2) else part P1 (i 1) (i 2)

/-- The number a pattern of bits stands for. -/
def lit (b : BitVec 32) : EReal := (Scalar.ofBits .f32 b : Ideal .f32)

/-- The first moment after the step. -/
def mom (g m : EReal) : EReal := lit 0x3F666666#32 * m + lit 0x3DCCCCCD#32 * g

/-- The second moment after the step. -/
def var (g v : EReal) : EReal := lit 0x3F7FBE77#32 * v + lit 0x3A83126F#32 * (g * g)

/-- The change of the weight. -/
def step (g w m v : EReal) : EReal :=
  lit 0xBA83126F#32 * (Ideal.div (Ideal.div (mom g m) (lit 0x3F26BD02#32))
    (Ideal.sqrt (Ideal.div (var g v) (lit 0x3C231ACC#32)) + lit 0x322BCC77#32) + lit 0x3C23D70A#32 * w)

abbrev Arr : Type := Vec Ideal S2x352x1024 .f32

def moms (G M : Arr) : Arr := fun i => mom (G i) (M i)
def vars (G V : Arr) : Arr := fun i => var (G i) (V i)
def steps (G W M V : Arr) : Arr := fun i => step (G i) (W i) (M i) (V i)

/-- The parts of the layer a point works on, at one element of its block. -/
theorem readA (c : Dev nD) (t : Fin cfg0.N) (h : t.val < 1) (q : Fin 4) (y : S1x352x1024.Idx) :
    (iblk m c 0 t : Vec Ideal S4x352x1024 .bf16) (ix3 q (y 1) (y 2))
      = (m ((c : Thread nD τ).loc main_arg0) : Vec Ideal S4x352x1024 .f32)
          (ix3 q (((cfg0.win 5).blk t).view.emb y 1) (((cfg0.win 5).blk t).view.emb y 2)) := by
  unfold iblk
  entry_read
  blk_simp
  pointwise
  have hl := t.isLt
  blk_ext [(idx t).1 h, (idx t).2.2.2.2.2.1]

/-- The parts of the layer a point works on, at one element of its block. -/
theorem readB (c : Dev nD) (t : Fin cfg0.N) (h : 1 ≤ t.val) (q : Fin 4) (y : S1x352x1024.Idx) :
    (iblk m c 1 t : Vec Ideal S4x352x1024 .bf16) (ix3 q (y 1) (y 2))
      = (m ((c : Thread nD τ).loc main_arg1) : Vec Ideal S4x352x1024 .f32)
          (ix3 q (((cfg0.win 5).blk t).view.emb y 1) (((cfg0.win 5).blk t).view.emb y 2)) := by
  unfold iblk
  entry_read
  blk_simp
  pointwise
  have hl := t.isLt
  blk_ext [(idx t).2.1 h, (idx t).2.2.2.2.2.1]

/-- One element of a point's block of an argument. -/
theorem readW (c : Dev nD) (t : Fin cfg0.N) (y : S1x352x1024.Idx) :
    (iblk m c 2 t : Vec Ideal S1x352x1024 .f32) (ix3 0 (y 1) (y 2))
      = (m ((c : Thread nD τ).loc main_arg2) : Vec Ideal S2x352x1024 .f32) (((cfg0.win 5).blk t).view.emb y) := by
  unfold iblk
  entry_read
  blk_simp
  have h0 : (y 0).val < 1 := (y 0).isLt
  blk_ext [(idx t).2.2.1, (idx t).2.2.2.2.2.1]

/-- One element of a point's block of an argument. -/
theorem readM (c : Dev nD) (t : Fin cfg0.N) (y : S1x352x1024.Idx) :
    (iblk m c 3 t : Vec Ideal S1x352x1024 .f32) (ix3 0 (y 1) (y 2))
      = (m ((c : Thread nD τ).loc main_arg3) : Vec Ideal S2x352x1024 .f32) (((cfg0.win 5).blk t).view.emb y) := by
  unfold iblk
  entry_read
  blk_simp
  have h0 : (y 0).val < 1 := (y 0).isLt
  blk_ext [(idx t).2.2.2.1, (idx t).2.2.2.2.2.1]

/-- One element of a point's block of an argument. -/
theorem readV (c : Dev nD) (t : Fin cfg0.N) (y : S1x352x1024.Idx) :
    (iblk m c 4 t : Vec Ideal S1x352x1024 .f32) (ix3 0 (y 1) (y 2))
      = (m ((c : Thread nD τ).loc main_arg4) : Vec Ideal S2x352x1024 .f32) (((cfg0.win 5).blk t).view.emb y) := by
  unfold iblk
  entry_read
  blk_simp
  have h0 : (y 0).val < 1 := (y 0).isLt
  blk_ext [(idx t).2.2.2.2.1, (idx t).2.2.2.2.2.1]

/-- The four outputs' blocks sit alike. -/
theorem emb6 (t : Fin cfg0.N) (y : S1x352x1024.Idx) : (((cfg0.win 6).blk t).view.emb y : S2x352x1024.Idx) = ((cfg0.win 5).blk t).view.emb y := by
  blk_simp
  blk_ext [(idx t).2.2.2.2.2.1, (idx t).2.2.2.2.2.2.1]
theorem emb7 (t : Fin cfg0.N) (y : S1x352x1024.Idx) : (((cfg0.win 7).blk t).view.emb y : S2x352x1024.Idx) = ((cfg0.win 5).blk t).view.emb y := by
  blk_simp
  blk_ext [(idx t).2.2.2.2.2.1, (idx t).2.2.2.2.2.2.2.1]
theorem emb8 (t : Fin cfg0.N) (y : S1x352x1024.Idx) : (((cfg0.win 8).blk t).view.emb y : S2x352x1024.Idx) = ((cfg0.win 5).blk t).view.emb y := by
  blk_simp
  blk_ext [(idx t).2.2.2.2.2.1, (idx t).2.2.2.2.2.2.2.2]

/-- The layer of a block's element. -/
theorem layer (t : Fin cfg0.N) (y : S1x352x1024.Idx) : (((cfg0.win 5).blk t).view.emb y 0).val = t.val / 1 := by
  have h0 : (y 0).val < 1 := (y 0).isLt
  blk_simp
  have h := (idx t).2.2.2.2.2.1
  rw [h]
  rfl

/-- The one row of a block's first axis. -/
theorem row (y : S1x352x1024.Idx) : (ix3 (0 : Fin 1) (y 1) (y 2) : S1x352x1024.Idx) = y := by
  funext a
  fin_cases a
  · exact (Fin.fin_one_eq_zero _).symm
  · rfl
  · rfl

/-- The gradient's array after the run. -/
theorem fin5 (c : Dev nD) : (dats m 0 c).arrAt 5 cfg0.N
    = grad (m ((c : Thread nD τ).loc main_arg0)) (m ((c : Thread nD τ).loc main_arg1)) := by
  refine (dats m 0 c).arrAt_eq_of_covers 5 _ (by decide +kernel) (fun t _ y => ?_)
  have hl : t.val < 2 := t.isLt
  by_cases h : t.val < 1
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h]
    blk_simp
    rw [after0_5, outsAt0_A m c t (by omega) (by omega)]
    frame_out
    pointwise [k0_pay1, k0_pay9, k0_pay10, k0_pay11, k0_pay12, k0_pay13]
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega)]
    blk_simp
    rw [after0_5, outsAt0_B m c t (by omega) (by omega)]
    frame_out
    pointwise [k0_pay5, k0_pay14, k0_pay15, k0_pay16, k0_pay17, k0_pay18]

/-- The change of the weight after the run. -/
theorem fin6 (c : Dev nD) : (dats m 0 c).arrAt 6 cfg0.N
    = steps (grad (m ((c : Thread nD τ).loc main_arg0)) (m ((c : Thread nD τ).loc main_arg1)))
        (m ((c : Thread nD τ).loc main_arg2)) (m ((c : Thread nD τ).loc main_arg3)) (m ((c : Thread nD τ).loc main_arg4)) := by
  refine (dats m 0 c).arrAt_eq_of_covers 6 _ (by decide +kernel) (fun t _ y => ?_)
  have hl : t.val < 2 := t.isLt
  rw [emb6 t y]
  unfold steps step mom var lit
  by_cases h : t.val < 1
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h, ← readW m c t, ← readM m c t, ← readV m c t]
    blk_simp
    rw [after0_6, outsAt0_A m c t (by omega) (by omega)]
    frame_out
    pointwise [k0_pay2, k0_pay9, k0_pay10, k0_pay11, k0_pay12, k0_pay13]
    simp only [row] <;> rfl
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega), ← readW m c t, ← readM m c t, ← readV m c t]
    blk_simp
    rw [after0_6, outsAt0_B m c t (by omega) (by omega)]
    frame_out
    pointwise [k0_pay6, k0_pay14, k0_pay15, k0_pay16, k0_pay17, k0_pay18]
    simp only [row] <;> rfl

/-- The first moment after the run. -/
theorem fin7 (c : Dev nD) : (dats m 0 c).arrAt 7 cfg0.N
    = moms (grad (m ((c : Thread nD τ).loc main_arg0)) (m ((c : Thread nD τ).loc main_arg1))) (m ((c : Thread nD τ).loc main_arg3)) := by
  refine (dats m 0 c).arrAt_eq_of_covers 7 _ (by decide +kernel) (fun t _ y => ?_)
  have hl : t.val < 2 := t.isLt
  rw [emb7 t y]
  unfold moms mom lit
  by_cases h : t.val < 1
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h, ← readM m c t]
    blk_simp
    rw [after0_7, outsAt0_A m c t (by omega) (by omega)]
    frame_out
    pointwise [k0_pay3, k0_pay9, k0_pay10, k0_pay11, k0_pay12, k0_pay13]
    simp only [row] <;> rfl
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega), ← readM m c t]
    blk_simp
    rw [after0_7, outsAt0_B m c t (by omega) (by omega)]
    frame_out
    pointwise [k0_pay7, k0_pay14, k0_pay15, k0_pay16, k0_pay17, k0_pay18]
    simp only [row] <;> rfl

/-- The second moment after the run. -/
theorem fin8 (c : Dev nD) : (dats m 0 c).arrAt 8 cfg0.N
    = vars (grad (m ((c : Thread nD τ).loc main_arg0)) (m ((c : Thread nD τ).loc main_arg1))) (m ((c : Thread nD τ).loc main_arg4)) := by
  refine (dats m 0 c).arrAt_eq_of_covers 8 _ (by decide +kernel) (fun t _ y => ?_)
  have hl : t.val < 2 := t.isLt
  rw [emb8 t y]
  unfold vars var lit
  by_cases h : t.val < 1
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h, ← readV m c t]
    blk_simp
    rw [after0_8, outsAt0_A m c t (by omega) (by omega)]
    frame_out
    pointwise [k0_pay4, k0_pay9, k0_pay10, k0_pay11, k0_pay12, k0_pay13]
    simp only [row] <;> rfl
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega), ← readV m c t]
    blk_simp
    rw [after0_8, outsAt0_B m c t (by omega) (by omega)]
    frame_out
    pointwise [k0_pay8, k0_pay14, k0_pay15, k0_pay16, k0_pay17, k0_pay18]
    simp only [row] <;> rfl

/-- The run leaves the gradient, the change of the weight and the two moments, and the arguments as they were. -/
theorem run : θ_run defs (onTc (τ := τ) (main (F := Ideal))) ⟨m, fun _ => 0, ρ⟩ fun r => ∀ c : Dev nD,
      r.2.mem ((c : Thread nD τ).loc main_v2_0) = grad (m ((c : Thread nD τ).loc main_arg0)) (m ((c : Thread nD τ).loc main_arg1))
      ∧ r.2.mem ((c : Thread nD τ).loc main_v2_1) = steps (grad (m ((c : Thread nD τ).loc main_arg0)) (m ((c : Thread nD τ).loc main_arg1)))
        (m ((c : Thread nD τ).loc main_arg2)) (m ((c : Thread nD τ).loc main_arg3)) (m ((c : Thread nD τ).loc main_arg4))
      ∧ r.2.mem ((c : Thread nD τ).loc main_v2_2) = moms (grad (m ((c : Thread nD τ).loc main_arg0)) (m ((c : Thread nD τ).loc main_arg1))) (m ((c : Thread nD τ).loc main_arg3))
      ∧ r.2.mem ((c : Thread nD τ).loc main_v2_3) = vars (grad (m ((c : Thread nD τ).loc main_arg0)) (m ((c : Thread nD τ).loc main_arg1))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (fin5 m c), (h c).2.1.trans (fin6 m c), (h c).2.2.1.trans (fin7 m c),
    (h c).2.2.2.1.trans (fin8 m c), (h c).2.2.2.2⟩) (Cert.Kernel11Ideal.Value.run_blocks m ρ)

end Cert.Kernel11Ideal.Down

namespace Cert.Reference11Ideal.Down

open Idealize.ShloMosaic Idealize.ShloMosaic.TcCoe Idealize.SL.Sem
open Cert.Reference11Ideal Cert.Reference11Ideal.Gen

/-- The reference's gradient: each layer's parts summed, and the layers stacked. -/
def stack (P0 P1 : Vec Ideal S4x352x1024 .f32) : Vec Ideal S2x352x1024 .f32 :=
  concatenate S2x352x1024 0 [⟨S1x352x1024, (broadcastInDim S1x352x1024 ![1, 2] bcast_S352x1024_S1x352x1024_1_2 (Host.reduceAdd (F := Ideal) (φ := .f32) P0 (constant S_ .f32 0x00000000#32) reducesTo_S4x352x1024_S352x1024_d0 h_S_))⟩, ⟨S1x352x1024, (broadcastInDim S1x352x1024 ![1, 2] bcast_S352x1024_S1x352x1024_1_2 (Host.reduceAdd (F := Ideal) (φ := .f32) P1 (constant S_ .f32 0x00000000#32) reducesTo_S4x352x1024_S352x1024_d0 h_S_))⟩] concatenates_S1x352x1024_S1x352x1024_S2x352x1024_d0

theorem stack_eq (P0 P1 : Vec Ideal S4x352x1024 .f32) : stack P0 P1 = Cert.Kernel11Ideal.Down.grad P0 P1 := by
  funext i
  unfold Cert.Kernel11Ideal.Down.grad stack
  pointwise
  by_cases h : (i 0).val < 1
  · rw [dif_pos h, if_pos (by omega)]
    exact Fin.sum_univ_four _
  · rw [dif_neg h, if_neg (by omega)]
    exact Fin.sum_univ_four _

theorem step_eq (P0 P1 : Vec Ideal S4x352x1024 .f32) (W M V : Vec Ideal S2x352x1024 .f32) :
    (mulf (F := Ideal) (φ := .f32) (broadcastInDim S2x352x1024 ![] bcast_S_S2x352x1024 (constant S_ .f32 0xBA83126F#32)) (addf (Host.divf (Host.divf (addf (mulf (broadcastInDim S2x352x1024 ![] bcast_S_S2x352x1024 (constant S_ .f32 0x3F666666#32)) M) (mulf (broadcastInDim S2x352x1024 ![] bcast_S_S2x352x1024 (constant S_ .f32 0x3DCCCCCD#32)) (stack P0 P1))) (broadcastInDim S2x352x1024 ![] bcast_S_S2x352x1024 (constant S_ .f32 0x3F26BD02#32))) (addf (Host.sqrt (Host.divf (addf (mulf (broadcastInDim S2x352x1024 ![] bcast_S_S2x352x1024 (constant S_ .f32 0x3F7FBE77#32)) V) (mulf (broadcastInDim S2x352x1024 ![] bcast_S_S2x352x1024 (constant S_ .f32 0x3A83126F#32)) (mulf (stack P0 P1) (stack P0 P1)))) (broadcastInDim S2x352x1024 ![] bcast_S_S2x352x1024 (constant S_ .f32 0x3C231ACC#32)))) (broadcastInDim S2x352x1024 ![] bcast_S_S2x352x1024 (constant S_ .f32 0x322BCC77#32)))) (mulf (broadcastInDim S2x352x1024 ![] bcast_S_S2x352x1024 (constant S_ .f32 0x3C23D70A#32)) W)) : Vec Ideal S2x352x1024 .f32)
      = Cert.Kernel11Ideal.Down.steps (stack P0 P1) W M V := by
  funext i
  rfl

theorem mom_eq (P0 P1 : Vec Ideal S4x352x1024 .f32) (M : Vec Ideal S2x352x1024 .f32) :
    (addf (F := Ideal) (φ := .f32) (mulf (broadcastInDim S2x352x1024 ![] bcast_S_S2x352x1024 (constant S_ .f32 0x3F666666#32)) M) (mulf (broadcastInDim S2x352x1024 ![] bcast_S_S2x352x1024 (constant S_ .f32 0x3DCCCCCD#32)) (stack P0 P1)) : Vec Ideal S2x352x1024 .f32)
      = Cert.Kernel11Ideal.Down.moms (stack P0 P1) M := by
  funext i
  rfl

theorem var_eq (P0 P1 : Vec Ideal S4x352x1024 .f32) (V : Vec Ideal S2x352x1024 .f32) :
    (addf (F := Ideal) (φ := .f32) (mulf (broadcastInDim S2x352x1024 ![] bcast_S_S2x352x1024 (constant S_ .f32 0x3F7FBE77#32)) V) (mulf (broadcastInDim S2x352x1024 ![] bcast_S_S2x352x1024 (constant S_ .f32 0x3A83126F#32)) (mulf (stack P0 P1) (stack P0 P1))) : Vec Ideal S2x352x1024 .f32)
      = Cert.Kernel11Ideal.Down.vars (stack P0 P1) V := by
  funext i
  rfl

end Cert.Reference11Ideal.Down

end
-- ==== Proof.AdamDownClaim.lean ====
/- The update of the down projection's weight: the launch and its idealization share one text; the frames, and the equality with the
   reference. -/
module

public import proofs.«01_k».proof.Defs
public import proofs.«01_k».proof.Proof.Gen.Kernel11
public import proofs.«01_k».proof.Proof.Gen.Reference11Ideal
public import proofs.«01_k».proof.Proof.AdamDown
public import Idealize.ShloMosaic.Lib.Quiescent

@[expose] public section

noncomputable section

namespace Cert.Proof.AdamDown

open Idealize.ShloMosaic Idealize.ShloMosaic.StableHlo Idealize.SL.Sem

section
variable {F : FTy → Type} [FloatOps F]

theorem body_same : @Cert.Kernel11.cc0_adamw_w_down F _ Cert.Kernel11.Gen.facts = @Cert.Kernel11Ideal.cc0_adamw_w_down F _ Cert.Kernel11Ideal.Gen.facts := rfl

theorem table_same : @Cert.Kernel11.defs₀ F _ Cert.Kernel11.Gen.facts = @Cert.Kernel11Ideal.defs₀ F _ Cert.Kernel11Ideal.Gen.facts := by
  unfold Cert.Kernel11.defs₀ Cert.Kernel11Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel11.defs F _ Cert.Kernel11.Gen.facts = @Cert.Kernel11Ideal.defs F _ Cert.Kernel11Ideal.Gen.facts :=
  congrArg (Pipeline.defs Cert.Kernel11Ideal.pcfgs) table_same

set_option maxRecDepth 8192 in
theorem main_same : @Cert.Kernel11.main F _ Cert.Kernel11.Gen.facts = @Cert.Kernel11Ideal.main F _ Cert.Kernel11Ideal.Gen.facts := rfl

end

/-- The idealized kernel runs, for any arguments. -/
theorem frame_ideal : Cert.quiescent_Kernel11Ideal (hKernel11Ideal := Cert.Kernel11Ideal.Gen.facts) :=
  fun m ρ _ => Cert.Kernel11Ideal.Gen.frame m ρ

/-- The kernel runs, for any arguments: its program has the same text, and the run is over any float values. -/
theorem frame_kernel : Cert.quiescent_Kernel11 (hKernel11 := Cert.Kernel11.Gen.facts) := by
  intro m ρ _
  rw [defs_same, main_same]
  exact Cert.Kernel11Ideal.Gen.frame (F := Bits) m ρ

/-- The reference runs, for any arguments. -/
theorem frame_reference : Cert.quiescent_Reference11Ideal (hReference11Ideal := Cert.Reference11Ideal.Gen.facts) := fun m ρ _ =>
  (θ_run Cert.Reference11Ideal.defs _ _).mono (fun r h => ⟨fun c => (h c).2.2.2.2, sem_eq_zero_of_no_sems (by decide) r.2⟩)
    (Cert.Reference11Ideal.Value.run m ρ)

/-- The kernel's results are the reference's. -/
theorem equal : Cert.algebraic_Kernel11Ideal_Reference11Ideal (hKernel11Ideal := Cert.Kernel11Ideal.Gen.facts)
    (hReference11Ideal := Cert.Reference11Ideal.Gen.facts) := by
  intro m g m' g' _ ha
  refine ⟨fun c => (Cert.Kernel11Ideal.Down.grad (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))),
    fun c => Cert.Kernel11Ideal.Down.steps (Cert.Kernel11Ideal.Down.grad (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1)))
      (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))
      (m ((c.tc : Thread Cert.Kernel11Ideal.nD Cert.Kernel11Ideal.τ).loc Cert.Kernel11Ideal.main_arg4)),
    fun c => Cert.Kernel11Ideal.Down.moms (Cert.Kernel11Ideal.Down.grad (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))) (m ((c.tc : Thread Cert.Kernel11Ideal.nD Cert.Kernel11Ideal.τ).loc Cert.Kernel11Ideal.main_arg3)),
    fun c => Cert.Kernel11Ideal.Down.vars (Cert.Kernel11Ideal.Down.grad (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))) (m ((c.tc : Thread Cert.Kernel11Ideal.nD Cert.Kernel11Ideal.τ).loc Cert.Kernel11Ideal.main_arg4)),
    Cert.Kernel11Ideal.Down.run m g, ?_⟩
  refine (θ_run Cert.Reference11Ideal.defs _ _).mono (fun r h c => ?_) (Cert.Reference11Ideal.Value.run m' g')
  obtain ⟨a0, a1, a2, a3, a4, a5⟩ := ha c
  have hG := Cert.Reference11Ideal.Down.stack_eq (m' ((c.tc : Thread Cert.Reference11Ideal.nD Cert.Reference11Ideal.τ).loc Cert.Reference11Ideal.main_arg0))
    (m' ((c.tc : Thread Cert.Reference11Ideal.nD Cert.Reference11Ideal.τ).loc Cert.Reference11Ideal.main_arg1))
  have hP := hG.trans (congrArg₂ Cert.Kernel11Ideal.Down.grad a0 a1)
  refine ⟨(h c).1.trans hP, (h c).2.1.trans ((Cert.Reference11Ideal.Down.step_eq _ _ _ _ _).trans ?_),
    (h c).2.2.1.trans ((Cert.Reference11Ideal.Down.mom_eq _ _ _).trans (congrArg₂ Cert.Kernel11Ideal.Down.moms hP a3)),
    (h c).2.2.2.1.trans ((Cert.Reference11Ideal.Down.var_eq _ _ _).trans (congrArg₂ Cert.Kernel11Ideal.Down.vars hP a4)), (h c).2.2.2.2⟩
  rw [hP, a2, a3, a4]

end Cert.Proof.AdamDown

end
-- ==== Proof.AdamIn.lean ====
/- The update of the in projection's weight: what the launch leaves in its four results, and the reference's. -/
module

public import proofs.«01_k».proof.Proof.Gen.Kernel12Ideal.Value
public import proofs.«01_k».proof.Proof.Gen.Reference12Ideal.Run
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel12Ideal.In

open Idealize.ShloMosaic Idealize.ShloMosaic.TcCoe Idealize.SL.Sem
open Cert.Kernel12Ideal Cert.Kernel12Ideal.Gen

variable (m : (ℓ : Loc nD τ sig) → Buf (Elt Ideal) ℓ) (ρ : Dev nD → PrngReg)

/-- Where each window's block sits at each point: one block of rows for each of the two layers. -/
theorem idx : ∀ t : Fin cfg0.N, (t.val < 1 → win0_0.index t = ![0, t.val, 0]) ∧ (1 ≤ t.val → win0_1.index t = ![0, t.val - 1, 0])
    ∧ win0_2.index t = ![t.val / 1, t.val % 1, 0] ∧ win0_3.index t = ![t.val / 1, t.val % 1, 0] ∧ win0_4.index t = ![t.val / 1, t.val % 1, 0]
    ∧ win0_5.index t = ![t.val / 1, t.val % 1, 0] ∧ win0_6.index t = ![t.val / 1, t.val % 1, 0] ∧ win0_7.index t = ![t.val / 1, t.val % 1, 0]
    ∧ win0_8.index t = ![t.val / 1, t.val % 1, 0] :=
  (by decide +kernel : ∀ t : Fin grid0.N, _)

/-- One layer's gradient: the sum of the four chips' parts. -/
def part (P : Vec Ideal S4x320x1024 .f32) (a : Fin 320) (b : Fin 1024) : EReal :=
  ((P (ix3 0 a b) : EReal) + P (ix3 1 a b) + P (ix3 2 a b)) + P (ix3 3 a b)

/-- Both layers' gradients. -/
def grad (P0 P1 : Vec Ideal S4x320x1024 .f32) : Vec Ideal S2x320x1024 .f32 := fun i =>
  if (i 0).val = 0 then part P0 (i 1) (i 2) else part P1 (i 1) (i 2)

/-- The number a pattern of bits stands for. -/
def lit (b : BitVec 32) : EReal := (Scalar.ofBits .f32 b : Ideal .f32)

/-- The first moment after the step. -/
def mom (g m : EReal) : EReal := lit 0x3F666666#32 * m + lit 0x3DCCCCCD#32 * g

/-- The second moment after the step. -/
def var (g v : EReal) : EReal := lit 0x3F7FBE77#32 * v + lit 0x3A83126F#32 * (g * g)

/-- The change of the weight. -/
def step (g w m v : EReal) : EReal :=
  lit 0xBA83126F#32 * (Ideal.div (Ideal.div (mom g m) (lit 0x3F26BD02#32))
    (Ideal.sqrt (Ideal.div (var g v) (lit 0x3C231ACC#32)) + lit 0x322BCC77#32) + lit 0x3C23D70A#32 * w)

abbrev Arr : Type := Vec Ideal S2x320x1024 .f32

def moms (G M : Arr) : Arr := fun i => mom (G i) (M i)
def vars (G V : Arr) : Arr := fun i => var (G i) (V i)
def steps (G W M V : Arr) : Arr := fun i => step (G i) (W i) (M i) (V i)

/-- The parts of the layer a point works on, at one element of its block. -/
theorem readA (c : Dev nD) (t : Fin cfg0.N) (h : t.val < 1) (q : Fin 4) (y : S1x320x1024.Idx) :
    (iblk m c 0 t : Vec Ideal S4x320x1024 .bf16) (ix3 q (y 1) (y 2))
      = (m ((c : Thread nD τ).loc main_arg0) : Vec Ideal S4x320x1024 .f32)
          (ix3 q (((cfg0.win 5).blk t).view.emb y 1) (((cfg0.win 5).blk t).view.emb y 2)) := by
  unfold iblk
  entry_read
  blk_simp
  pointwise
  have hl := t.isLt
  blk_ext [(idx t).1 h, (idx t).2.2.2.2.2.1]

/-- The parts of the layer a point works on, at one element of its block. -/
theorem readB (c : Dev nD) (t : Fin cfg0.N) (h : 1 ≤ t.val) (q : Fin 4) (y : S1x320x1024.Idx) :
    (iblk m c 1 t : Vec Ideal S4x320x1024 .bf16) (ix3 q (y 1) (y 2))
      = (m ((c : Thread nD τ).loc main_arg1) : Vec Ideal S4x320x1024 .f32)
          (ix3 q (((cfg0.win 5).blk t).view.emb y 1) (((cfg0.win 5).blk t).view.emb y 2)) := by
  unfold iblk
  entry_read
  blk_simp
  pointwise
  have hl := t.isLt
  blk_ext [(idx t).2.1 h, (idx t).2.2.2.2.2.1]

/-- One element of a point's block of an argument. -/
theorem readW (c : Dev nD) (t : Fin cfg0.N) (y : S1x320x1024.Idx) :
    (iblk m c 2 t : Vec Ideal S1x320x1024 .f32) (ix3 0 (y 1) (y 2))
      = (m ((c : Thread nD τ).loc main_arg2) : Vec Ideal S2x320x1024 .f32) (((cfg0.win 5).blk t).view.emb y) := by
  unfold iblk
  entry_read
  blk_simp
  have h0 : (y 0).val < 1 := (y 0).isLt
  blk_ext [(idx t).2.2.1, (idx t).2.2.2.2.2.1]

/-- One element of a point's block of an argument. -/
theorem readM (c : Dev nD) (t : Fin cfg0.N) (y : S1x320x1024.Idx) :
    (iblk m c 3 t : Vec Ideal S1x320x1024 .f32) (ix3 0 (y 1) (y 2))
      = (m ((c : Thread nD τ).loc main_arg3) : Vec Ideal S2x320x1024 .f32) (((cfg0.win 5).blk t).view.emb y) := by
  unfold iblk
  entry_read
  blk_simp
  have h0 : (y 0).val < 1 := (y 0).isLt
  blk_ext [(idx t).2.2.2.1, (idx t).2.2.2.2.2.1]

/-- One element of a point's block of an argument. -/
theorem readV (c : Dev nD) (t : Fin cfg0.N) (y : S1x320x1024.Idx) :
    (iblk m c 4 t : Vec Ideal S1x320x1024 .f32) (ix3 0 (y 1) (y 2))
      = (m ((c : Thread nD τ).loc main_arg4) : Vec Ideal S2x320x1024 .f32) (((cfg0.win 5).blk t).view.emb y) := by
  unfold iblk
  entry_read
  blk_simp
  have h0 : (y 0).val < 1 := (y 0).isLt
  blk_ext [(idx t).2.2.2.2.1, (idx t).2.2.2.2.2.1]

/-- The four outputs' blocks sit alike. -/
theorem emb6 (t : Fin cfg0.N) (y : S1x320x1024.Idx) : (((cfg0.win 6).blk t).view.emb y : S2x320x1024.Idx) = ((cfg0.win 5).blk t).view.emb y := by
  blk_simp
  blk_ext [(idx t).2.2.2.2.2.1, (idx t).2.2.2.2.2.2.1]
theorem emb7 (t : Fin cfg0.N) (y : S1x320x1024.Idx) : (((cfg0.win 7).blk t).view.emb y : S2x320x1024.Idx) = ((cfg0.win 5).blk t).view.emb y := by
  blk_simp
  blk_ext [(idx t).2.2.2.2.2.1, (idx t).2.2.2.2.2.2.2.1]
theorem emb8 (t : Fin cfg0.N) (y : S1x320x1024.Idx) : (((cfg0.win 8).blk t).view.emb y : S2x320x1024.Idx) = ((cfg0.win 5).blk t).view.emb y := by
  blk_simp
  blk_ext [(idx t).2.2.2.2.2.1, (idx t).2.2.2.2.2.2.2.2]

/-- The layer of a block's element. -/
theorem layer (t : Fin cfg0.N) (y : S1x320x1024.Idx) : (((cfg0.win 5).blk t).view.emb y 0).val = t.val / 1 := by
  have h0 : (y 0).val < 1 := (y 0).isLt
  blk_simp
  have h := (idx t).2.2.2.2.2.1
  rw [h]
  rfl

/-- The one row of a block's first axis. -/
theorem row (y : S1x320x1024.Idx) : (ix3 (0 : Fin 1) (y 1) (y 2) : S1x320x1024.Idx) = y := by
  funext a
  fin_cases a
  · exact (Fin.fin_one_eq_zero _).symm
  · rfl
  · rfl

/-- The gradient's array after the run. -/
theorem fin5 (c : Dev nD) : (dats m 0 c).arrAt 5 cfg0.N
    = grad (m ((c : Thread nD τ).loc main_arg0)) (m ((c : Thread nD τ).loc main_arg1)) := by
  refine (dats m 0 c).arrAt_eq_of_covers 5 _ (by decide +kernel) (fun t _ y => ?_)
  have hl : t.val < 2 := t.isLt
  by_cases h : t.val < 1
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h]
    blk_simp
    rw [after0_5, outsAt0_A m c t (by omega) (by omega)]
    frame_out
    pointwise [k0_pay1, k0_pay9, k0_pay10, k0_pay11, k0_pay12, k0_pay13]
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega)]
    blk_simp
    rw [after0_5, outsAt0_B m c t (by omega) (by omega)]
    frame_out
    pointwise [k0_pay5, k0_pay14, k0_pay15, k0_pay16, k0_pay17, k0_pay18]

/-- The change of the weight after the run. -/
theorem fin6 (c : Dev nD) : (dats m 0 c).arrAt 6 cfg0.N
    = steps (grad (m ((c : Thread nD τ).loc main_arg0)) (m ((c : Thread nD τ).loc main_arg1)))
        (m ((c : Thread nD τ).loc main_arg2)) (m ((c : Thread nD τ).loc main_arg3)) (m ((c : Thread nD τ).loc main_arg4)) := by
  refine (dats m 0 c).arrAt_eq_of_covers 6 _ (by decide +kernel) (fun t _ y => ?_)
  have hl : t.val < 2 := t.isLt
  rw [emb6 t y]
  unfold steps step mom var lit
  by_cases h : t.val < 1
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h, ← readW m c t, ← readM m c t, ← readV m c t]
    blk_simp
    rw [after0_6, outsAt0_A m c t (by omega) (by omega)]
    frame_out
    pointwise [k0_pay2, k0_pay9, k0_pay10, k0_pay11, k0_pay12, k0_pay13]
    simp only [row] <;> rfl
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega), ← readW m c t, ← readM m c t, ← readV m c t]
    blk_simp
    rw [after0_6, outsAt0_B m c t (by omega) (by omega)]
    frame_out
    pointwise [k0_pay6, k0_pay14, k0_pay15, k0_pay16, k0_pay17, k0_pay18]
    simp only [row] <;> rfl

/-- The first moment after the run. -/
theorem fin7 (c : Dev nD) : (dats m 0 c).arrAt 7 cfg0.N
    = moms (grad (m ((c : Thread nD τ).loc main_arg0)) (m ((c : Thread nD τ).loc main_arg1))) (m ((c : Thread nD τ).loc main_arg3)) := by
  refine (dats m 0 c).arrAt_eq_of_covers 7 _ (by decide +kernel) (fun t _ y => ?_)
  have hl : t.val < 2 := t.isLt
  rw [emb7 t y]
  unfold moms mom lit
  by_cases h : t.val < 1
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h, ← readM m c t]
    blk_simp
    rw [after0_7, outsAt0_A m c t (by omega) (by omega)]
    frame_out
    pointwise [k0_pay3, k0_pay9, k0_pay10, k0_pay11, k0_pay12, k0_pay13]
    simp only [row] <;> rfl
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega), ← readM m c t]
    blk_simp
    rw [after0_7, outsAt0_B m c t (by omega) (by omega)]
    frame_out
    pointwise [k0_pay7, k0_pay14, k0_pay15, k0_pay16, k0_pay17, k0_pay18]
    simp only [row] <;> rfl

/-- The second moment after the run. -/
theorem fin8 (c : Dev nD) : (dats m 0 c).arrAt 8 cfg0.N
    = vars (grad (m ((c : Thread nD τ).loc main_arg0)) (m ((c : Thread nD τ).loc main_arg1))) (m ((c : Thread nD τ).loc main_arg4)) := by
  refine (dats m 0 c).arrAt_eq_of_covers 8 _ (by decide +kernel) (fun t _ y => ?_)
  have hl : t.val < 2 := t.isLt
  rw [emb8 t y]
  unfold vars var lit
  by_cases h : t.val < 1
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h, ← readV m c t]
    blk_simp
    rw [after0_8, outsAt0_A m c t (by omega) (by omega)]
    frame_out
    pointwise [k0_pay4, k0_pay9, k0_pay10, k0_pay11, k0_pay12, k0_pay13]
    simp only [row] <;> rfl
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega), ← readV m c t]
    blk_simp
    rw [after0_8, outsAt0_B m c t (by omega) (by omega)]
    frame_out
    pointwise [k0_pay8, k0_pay14, k0_pay15, k0_pay16, k0_pay17, k0_pay18]
    simp only [row] <;> rfl

/-- The run leaves the gradient, the change of the weight and the two moments, and the arguments as they were. -/
theorem run : θ_run defs (onTc (τ := τ) (main (F := Ideal))) ⟨m, fun _ => 0, ρ⟩ fun r => ∀ c : Dev nD,
      r.2.mem ((c : Thread nD τ).loc main_v2_0) = grad (m ((c : Thread nD τ).loc main_arg0)) (m ((c : Thread nD τ).loc main_arg1))
      ∧ r.2.mem ((c : Thread nD τ).loc main_v2_1) = steps (grad (m ((c : Thread nD τ).loc main_arg0)) (m ((c : Thread nD τ).loc main_arg1)))
        (m ((c : Thread nD τ).loc main_arg2)) (m ((c : Thread nD τ).loc main_arg3)) (m ((c : Thread nD τ).loc main_arg4))
      ∧ r.2.mem ((c : Thread nD τ).loc main_v2_2) = moms (grad (m ((c : Thread nD τ).loc main_arg0)) (m ((c : Thread nD τ).loc main_arg1))) (m ((c : Thread nD τ).loc main_arg3))
      ∧ r.2.mem ((c : Thread nD τ).loc main_v2_3) = vars (grad (m ((c : Thread nD τ).loc main_arg0)) (m ((c : Thread nD τ).loc main_arg1))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (fin5 m c), (h c).2.1.trans (fin6 m c), (h c).2.2.1.trans (fin7 m c),
    (h c).2.2.2.1.trans (fin8 m c), (h c).2.2.2.2⟩) (Cert.Kernel12Ideal.Value.run_blocks m ρ)

end Cert.Kernel12Ideal.In

namespace Cert.Reference12Ideal.In

open Idealize.ShloMosaic Idealize.ShloMosaic.TcCoe Idealize.SL.Sem
open Cert.Reference12Ideal Cert.Reference12Ideal.Gen

/-- The reference's gradient: each layer's parts summed, and the layers stacked. -/
def stack (P0 P1 : Vec Ideal S4x320x1024 .f32) : Vec Ideal S2x320x1024 .f32 :=
  concatenate S2x320x1024 0 [⟨S1x320x1024, (broadcastInDim S1x320x1024 ![1, 2] bcast_S320x1024_S1x320x1024_1_2 (Host.reduceAdd (F := Ideal) (φ := .f32) P0 (constant S_ .f32 0x00000000#32) reducesTo_S4x320x1024_S320x1024_d0 h_S_))⟩, ⟨S1x320x1024, (broadcastInDim S1x320x1024 ![1, 2] bcast_S320x1024_S1x320x1024_1_2 (Host.reduceAdd (F := Ideal) (φ := .f32) P1 (constant S_ .f32 0x00000000#32) reducesTo_S4x320x1024_S320x1024_d0 h_S_))⟩] concatenates_S1x320x1024_S1x320x1024_S2x320x1024_d0

theorem stack_eq (P0 P1 : Vec Ideal S4x320x1024 .f32) : stack P0 P1 = Cert.Kernel12Ideal.In.grad P0 P1 := by
  funext i
  unfold Cert.Kernel12Ideal.In.grad stack
  pointwise
  by_cases h : (i 0).val < 1
  · rw [dif_pos h, if_pos (by omega)]
    exact Fin.sum_univ_four _
  · rw [dif_neg h, if_neg (by omega)]
    exact Fin.sum_univ_four _

theorem step_eq (P0 P1 : Vec Ideal S4x320x1024 .f32) (W M V : Vec Ideal S2x320x1024 .f32) :
    (mulf (F := Ideal) (φ := .f32) (broadcastInDim S2x320x1024 ![] bcast_S_S2x320x1024 (constant S_ .f32 0xBA83126F#32)) (addf (Host.divf (Host.divf (addf (mulf (broadcastInDim S2x320x1024 ![] bcast_S_S2x320x1024 (constant S_ .f32 0x3F666666#32)) M) (mulf (broadcastInDim S2x320x1024 ![] bcast_S_S2x320x1024 (constant S_ .f32 0x3DCCCCCD#32)) (stack P0 P1))) (broadcastInDim S2x320x1024 ![] bcast_S_S2x320x1024 (constant S_ .f32 0x3F26BD02#32))) (addf (Host.sqrt (Host.divf (addf (mulf (broadcastInDim S2x320x1024 ![] bcast_S_S2x320x1024 (constant S_ .f32 0x3F7FBE77#32)) V) (mulf (broadcastInDim S2x320x1024 ![] bcast_S_S2x320x1024 (constant S_ .f32 0x3A83126F#32)) (mulf (stack P0 P1) (stack P0 P1)))) (broadcastInDim S2x320x1024 ![] bcast_S_S2x320x1024 (constant S_ .f32 0x3C231ACC#32)))) (broadcastInDim S2x320x1024 ![] bcast_S_S2x320x1024 (constant S_ .f32 0x322BCC77#32)))) (mulf (broadcastInDim S2x320x1024 ![] bcast_S_S2x320x1024 (constant S_ .f32 0x3C23D70A#32)) W)) : Vec Ideal S2x320x1024 .f32)
      = Cert.Kernel12Ideal.In.steps (stack P0 P1) W M V := by
  funext i
  rfl

theorem mom_eq (P0 P1 : Vec Ideal S4x320x1024 .f32) (M : Vec Ideal S2x320x1024 .f32) :
    (addf (F := Ideal) (φ := .f32) (mulf (broadcastInDim S2x320x1024 ![] bcast_S_S2x320x1024 (constant S_ .f32 0x3F666666#32)) M) (mulf (broadcastInDim S2x320x1024 ![] bcast_S_S2x320x1024 (constant S_ .f32 0x3DCCCCCD#32)) (stack P0 P1)) : Vec Ideal S2x320x1024 .f32)
      = Cert.Kernel12Ideal.In.moms (stack P0 P1) M := by
  funext i
  rfl

theorem var_eq (P0 P1 : Vec Ideal S4x320x1024 .f32) (V : Vec Ideal S2x320x1024 .f32) :
    (addf (F := Ideal) (φ := .f32) (mulf (broadcastInDim S2x320x1024 ![] bcast_S_S2x320x1024 (constant S_ .f32 0x3F7FBE77#32)) V) (mulf (broadcastInDim S2x320x1024 ![] bcast_S_S2x320x1024 (constant S_ .f32 0x3A83126F#32)) (mulf (stack P0 P1) (stack P0 P1))) : Vec Ideal S2x320x1024 .f32)
      = Cert.Kernel12Ideal.In.vars (stack P0 P1) V := by
  funext i
  rfl

end Cert.Reference12Ideal.In

end
-- ==== Proof.AdamInClaim.lean ====
/- The update of the in projection's weight: the launch and its idealization share one text; the frames, and the equality with the
   reference. -/
module

public import proofs.«01_k».proof.Defs
public import proofs.«01_k».proof.Proof.Gen.Kernel12
public import proofs.«01_k».proof.Proof.Gen.Reference12Ideal
public import proofs.«01_k».proof.Proof.AdamIn
public import Idealize.ShloMosaic.Lib.Quiescent

@[expose] public section

noncomputable section

namespace Cert.Proof.AdamIn

open Idealize.ShloMosaic Idealize.ShloMosaic.StableHlo Idealize.SL.Sem

section
variable {F : FTy → Type} [FloatOps F]

theorem body_same : @Cert.Kernel12.cc0_adamw_w_in F _ Cert.Kernel12.Gen.facts = @Cert.Kernel12Ideal.cc0_adamw_w_in F _ Cert.Kernel12Ideal.Gen.facts := rfl

theorem table_same : @Cert.Kernel12.defs₀ F _ Cert.Kernel12.Gen.facts = @Cert.Kernel12Ideal.defs₀ F _ Cert.Kernel12Ideal.Gen.facts := by
  unfold Cert.Kernel12.defs₀ Cert.Kernel12Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel12.defs F _ Cert.Kernel12.Gen.facts = @Cert.Kernel12Ideal.defs F _ Cert.Kernel12Ideal.Gen.facts :=
  congrArg (Pipeline.defs Cert.Kernel12Ideal.pcfgs) table_same

set_option maxRecDepth 8192 in
theorem main_same : @Cert.Kernel12.main F _ Cert.Kernel12.Gen.facts = @Cert.Kernel12Ideal.main F _ Cert.Kernel12Ideal.Gen.facts := rfl

end

/-- The idealized kernel runs, for any arguments. -/
theorem frame_ideal : Cert.quiescent_Kernel12Ideal (hKernel12Ideal := Cert.Kernel12Ideal.Gen.facts) :=
  fun m ρ _ => Cert.Kernel12Ideal.Gen.frame m ρ

/-- The kernel runs, for any arguments: its program has the same text, and the run is over any float values. -/
theorem frame_kernel : Cert.quiescent_Kernel12 (hKernel12 := Cert.Kernel12.Gen.facts) := by
  intro m ρ _
  rw [defs_same, main_same]
  exact Cert.Kernel12Ideal.Gen.frame (F := Bits) m ρ

/-- The reference runs, for any arguments. -/
theorem frame_reference : Cert.quiescent_Reference12Ideal (hReference12Ideal := Cert.Reference12Ideal.Gen.facts) := fun m ρ _ =>
  (θ_run Cert.Reference12Ideal.defs _ _).mono (fun r h => ⟨fun c => (h c).2.2.2.2, sem_eq_zero_of_no_sems (by decide) r.2⟩)
    (Cert.Reference12Ideal.Value.run m ρ)

/-- The kernel's results are the reference's. -/
theorem equal : Cert.algebraic_Kernel12Ideal_Reference12Ideal (hKernel12Ideal := Cert.Kernel12Ideal.Gen.facts)
    (hReference12Ideal := Cert.Reference12Ideal.Gen.facts) := by
  intro m g m' g' _ ha
  refine ⟨fun c => (Cert.Kernel12Ideal.In.grad (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1))),
    fun c => Cert.Kernel12Ideal.In.steps (Cert.Kernel12Ideal.In.grad (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1)))
      (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))
      (m ((c.tc : Thread Cert.Kernel12Ideal.nD Cert.Kernel12Ideal.τ).loc Cert.Kernel12Ideal.main_arg4)),
    fun c => Cert.Kernel12Ideal.In.moms (Cert.Kernel12Ideal.In.grad (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1))) (m ((c.tc : Thread Cert.Kernel12Ideal.nD Cert.Kernel12Ideal.τ).loc Cert.Kernel12Ideal.main_arg3)),
    fun c => Cert.Kernel12Ideal.In.vars (Cert.Kernel12Ideal.In.grad (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1))) (m ((c.tc : Thread Cert.Kernel12Ideal.nD Cert.Kernel12Ideal.τ).loc Cert.Kernel12Ideal.main_arg4)),
    Cert.Kernel12Ideal.In.run m g, ?_⟩
  refine (θ_run Cert.Reference12Ideal.defs _ _).mono (fun r h c => ?_) (Cert.Reference12Ideal.Value.run m' g')
  obtain ⟨a0, a1, a2, a3, a4, a5⟩ := ha c
  have hG := Cert.Reference12Ideal.In.stack_eq (m' ((c.tc : Thread Cert.Reference12Ideal.nD Cert.Reference12Ideal.τ).loc Cert.Reference12Ideal.main_arg0))
    (m' ((c.tc : Thread Cert.Reference12Ideal.nD Cert.Reference12Ideal.τ).loc Cert.Reference12Ideal.main_arg1))
  have hP := hG.trans (congrArg₂ Cert.Kernel12Ideal.In.grad a0 a1)
  refine ⟨(h c).1.trans hP, (h c).2.1.trans ((Cert.Reference12Ideal.In.step_eq _ _ _ _ _).trans ?_),
    (h c).2.2.1.trans ((Cert.Reference12Ideal.In.mom_eq _ _ _).trans (congrArg₂ Cert.Kernel12Ideal.In.moms hP a3)),
    (h c).2.2.2.1.trans ((Cert.Reference12Ideal.In.var_eq _ _ _).trans (congrArg₂ Cert.Kernel12Ideal.In.vars hP a4)), (h c).2.2.2.2⟩
  rw [hP, a2, a3, a4]

end Cert.Proof.AdamIn

end
-- ==== Proof.AdamOut.lean ====
/- The update of the out projection's weight: what the launch leaves in its four results, and the reference's. -/
module

public import proofs.«01_k».proof.Proof.Gen.Kernel13Ideal.Value
public import proofs.«01_k».proof.Proof.Gen.Reference13Ideal.Run
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel13Ideal.Out

open Idealize.ShloMosaic Idealize.ShloMosaic.TcCoe Idealize.SL.Sem
open Cert.Kernel13Ideal Cert.Kernel13Ideal.Gen

variable (m : (ℓ : Loc nD τ sig) → Buf (Elt Ideal) ℓ) (ρ : Dev nD → PrngReg)

/-- Where each window's block sits at each point: one block of rows for each of the two layers. -/
theorem idx : ∀ t : Fin cfg0.N, (t.val < 1 → win0_0.index t = ![0, t.val, 0]) ∧ (1 ≤ t.val → win0_1.index t = ![0, t.val - 1, 0])
    ∧ win0_2.index t = ![t.val / 1, t.val % 1, 0] ∧ win0_3.index t = ![t.val / 1, t.val % 1, 0] ∧ win0_4.index t = ![t.val / 1, t.val % 1, 0]
    ∧ win0_5.index t = ![t.val / 1, t.val % 1, 0] ∧ win0_6.index t = ![t.val / 1, t.val % 1, 0] ∧ win0_7.index t = ![t.val / 1, t.val % 1, 0]
    ∧ win0_8.index t = ![t.val / 1, t.val % 1, 0] :=
  (by decide +kernel : ∀ t : Fin grid0.N, _)

/-- One layer's gradient: the sum of the four chips' parts. -/
def part (P : Vec Ideal S4x128x1024 .f32) (a : Fin 128) (b : Fin 1024) : EReal :=
  ((P (ix3 0 a b) : EReal) + P (ix3 1 a b) + P (ix3 2 a b)) + P (ix3 3 a b)

/-- Both layers' gradients. -/
def grad (P0 P1 : Vec Ideal S4x128x1024 .f32) : Vec Ideal S2x128x1024 .f32 := fun i =>
  if (i 0).val = 0 then part P0 (i 1) (i 2) else part P1 (i 1) (i 2)

/-- The number a pattern of bits stands for. -/
def lit (b : BitVec 32) : EReal := (Scalar.ofBits .f32 b : Ideal .f32)

/-- The first moment after the step. -/
def mom (g m : EReal) : EReal := lit 0x3F666666#32 * m + lit 0x3DCCCCCD#32 * g

/-- The second moment after the step. -/
def var (g v : EReal) : EReal := lit 0x3F7FBE77#32 * v + lit 0x3A83126F#32 * (g * g)

/-- The change of the weight. -/
def step (g w m v : EReal) : EReal :=
  lit 0xBA83126F#32 * (Ideal.div (Ideal.div (mom g m) (lit 0x3F26BD02#32))
    (Ideal.sqrt (Ideal.div (var g v) (lit 0x3C231ACC#32)) + lit 0x322BCC77#32) + lit 0x3C23D70A#32 * w)

abbrev Arr : Type := Vec Ideal S2x128x1024 .f32

def moms (G M : Arr) : Arr := fun i => mom (G i) (M i)
def vars (G V : Arr) : Arr := fun i => var (G i) (V i)
def steps (G W M V : Arr) : Arr := fun i => step (G i) (W i) (M i) (V i)

/-- The parts of the layer a point works on, at one element of its block. -/
theorem readA (c : Dev nD) (t : Fin cfg0.N) (h : t.val < 1) (q : Fin 4) (y : S1x128x1024.Idx) :
    (iblk m c 0 t : Vec Ideal S4x128x1024 .bf16) (ix3 q (y 1) (y 2))
      = (m ((c : Thread nD τ).loc main_arg0) : Vec Ideal S4x128x1024 .f32)
          (ix3 q (((cfg0.win 5).blk t).view.emb y 1) (((cfg0.win 5).blk t).view.emb y 2)) := by
  unfold iblk
  entry_read
  blk_simp
  pointwise
  have hl := t.isLt
  blk_ext [(idx t).1 h, (idx t).2.2.2.2.2.1]

/-- The parts of the layer a point works on, at one element of its block. -/
theorem readB (c : Dev nD) (t : Fin cfg0.N) (h : 1 ≤ t.val) (q : Fin 4) (y : S1x128x1024.Idx) :
    (iblk m c 1 t : Vec Ideal S4x128x1024 .bf16) (ix3 q (y 1) (y 2))
      = (m ((c : Thread nD τ).loc main_arg1) : Vec Ideal S4x128x1024 .f32)
          (ix3 q (((cfg0.win 5).blk t).view.emb y 1) (((cfg0.win 5).blk t).view.emb y 2)) := by
  unfold iblk
  entry_read
  blk_simp
  pointwise
  have hl := t.isLt
  blk_ext [(idx t).2.1 h, (idx t).2.2.2.2.2.1]

/-- One element of a point's block of an argument. -/
theorem readW (c : Dev nD) (t : Fin cfg0.N) (y : S1x128x1024.Idx) :
    (iblk m c 2 t : Vec Ideal S1x128x1024 .f32) (ix3 0 (y 1) (y 2))
      = (m ((c : Thread nD τ).loc main_arg2) : Vec Ideal S2x128x1024 .f32) (((cfg0.win 5).blk t).view.emb y) := by
  unfold iblk
  entry_read
  blk_simp
  have h0 : (y 0).val < 1 := (y 0).isLt
  blk_ext [(idx t).2.2.1, (idx t).2.2.2.2.2.1]

/-- One element of a point's block of an argument. -/
theorem readM (c : Dev nD) (t : Fin cfg0.N) (y : S1x128x1024.Idx) :
    (iblk m c 3 t : Vec Ideal S1x128x1024 .f32) (ix3 0 (y 1) (y 2))
      = (m ((c : Thread nD τ).loc main_arg3) : Vec Ideal S2x128x1024 .f32) (((cfg0.win 5).blk t).view.emb y) := by
  unfold iblk
  entry_read
  blk_simp
  have h0 : (y 0).val < 1 := (y 0).isLt
  blk_ext [(idx t).2.2.2.1, (idx t).2.2.2.2.2.1]

/-- One element of a point's block of an argument. -/
theorem readV (c : Dev nD) (t : Fin cfg0.N) (y : S1x128x1024.Idx) :
    (iblk m c 4 t : Vec Ideal S1x128x1024 .f32) (ix3 0 (y 1) (y 2))
      = (m ((c : Thread nD τ).loc main_arg4) : Vec Ideal S2x128x1024 .f32) (((cfg0.win 5).blk t).view.emb y) := by
  unfold iblk
  entry_read
  blk_simp
  have h0 : (y 0).val < 1 := (y 0).isLt
  blk_ext [(idx t).2.2.2.2.1, (idx t).2.2.2.2.2.1]

/-- The four outputs' blocks sit alike. -/
theorem emb6 (t : Fin cfg0.N) (y : S1x128x1024.Idx) : (((cfg0.win 6).blk t).view.emb y : S2x128x1024.Idx) = ((cfg0.win 5).blk t).view.emb y := by
  blk_simp
  blk_ext [(idx t).2.2.2.2.2.1, (idx t).2.2.2.2.2.2.1]
theorem emb7 (t : Fin cfg0.N) (y : S1x128x1024.Idx) : (((cfg0.win 7).blk t).view.emb y : S2x128x1024.Idx) = ((cfg0.win 5).blk t).view.emb y := by
  blk_simp
  blk_ext [(idx t).2.2.2.2.2.1, (idx t).2.2.2.2.2.2.2.1]
theorem emb8 (t : Fin cfg0.N) (y : S1x128x1024.Idx) : (((cfg0.win 8).blk t).view.emb y : S2x128x1024.Idx) = ((cfg0.win 5).blk t).view.emb y := by
  blk_simp
  blk_ext [(idx t).2.2.2.2.2.1, (idx t).2.2.2.2.2.2.2.2]

/-- The layer of a block's element. -/
theorem layer (t : Fin cfg0.N) (y : S1x128x1024.Idx) : (((cfg0.win 5).blk t).view.emb y 0).val = t.val / 1 := by
  have h0 : (y 0).val < 1 := (y 0).isLt
  blk_simp
  have h := (idx t).2.2.2.2.2.1
  rw [h]
  rfl

/-- The one row of a block's first axis. -/
theorem row (y : S1x128x1024.Idx) : (ix3 (0 : Fin 1) (y 1) (y 2) : S1x128x1024.Idx) = y := by
  funext a
  fin_cases a
  · exact (Fin.fin_one_eq_zero _).symm
  · rfl
  · rfl

/-- The gradient's array after the run. -/
theorem fin5 (c : Dev nD) : (dats m 0 c).arrAt 5 cfg0.N
    = grad (m ((c : Thread nD τ).loc main_arg0)) (m ((c : Thread nD τ).loc main_arg1)) := by
  refine (dats m 0 c).arrAt_eq_of_covers 5 _ (by decide +kernel) (fun t _ y => ?_)
  have hl : t.val < 2 := t.isLt
  by_cases h : t.val < 1
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h]
    blk_simp
    rw [after0_5, outsAt0_A m c t (by omega) (by omega)]
    frame_out
    pointwise [k0_pay1, k0_pay9, k0_pay10, k0_pay11, k0_pay12, k0_pay13]
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega)]
    blk_simp
    rw [after0_5, outsAt0_B m c t (by omega) (by omega)]
    frame_out
    pointwise [k0_pay5, k0_pay14, k0_pay15, k0_pay16, k0_pay17, k0_pay18]

/-- The change of the weight after the run. -/
theorem fin6 (c : Dev nD) : (dats m 0 c).arrAt 6 cfg0.N
    = steps (grad (m ((c : Thread nD τ).loc main_arg0)) (m ((c : Thread nD τ).loc main_arg1)))
        (m ((c : Thread nD τ).loc main_arg2)) (m ((c : Thread nD τ).loc main_arg3)) (m ((c : Thread nD τ).loc main_arg4)) := by
  refine (dats m 0 c).arrAt_eq_of_covers 6 _ (by decide +kernel) (fun t _ y => ?_)
  have hl : t.val < 2 := t.isLt
  rw [emb6 t y]
  unfold steps step mom var lit
  by_cases h : t.val < 1
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h, ← readW m c t, ← readM m c t, ← readV m c t]
    blk_simp
    rw [after0_6, outsAt0_A m c t (by omega) (by omega)]
    frame_out
    pointwise [k0_pay2, k0_pay9, k0_pay10, k0_pay11, k0_pay12, k0_pay13]
    simp only [row] <;> rfl
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega), ← readW m c t, ← readM m c t, ← readV m c t]
    blk_simp
    rw [after0_6, outsAt0_B m c t (by omega) (by omega)]
    frame_out
    pointwise [k0_pay6, k0_pay14, k0_pay15, k0_pay16, k0_pay17, k0_pay18]
    simp only [row] <;> rfl

/-- The first moment after the run. -/
theorem fin7 (c : Dev nD) : (dats m 0 c).arrAt 7 cfg0.N
    = moms (grad (m ((c : Thread nD τ).loc main_arg0)) (m ((c : Thread nD τ).loc main_arg1))) (m ((c : Thread nD τ).loc main_arg3)) := by
  refine (dats m 0 c).arrAt_eq_of_covers 7 _ (by decide +kernel) (fun t _ y => ?_)
  have hl : t.val < 2 := t.isLt
  rw [emb7 t y]
  unfold moms mom lit
  by_cases h : t.val < 1
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h, ← readM m c t]
    blk_simp
    rw [after0_7, outsAt0_A m c t (by omega) (by omega)]
    frame_out
    pointwise [k0_pay3, k0_pay9, k0_pay10, k0_pay11, k0_pay12, k0_pay13]
    simp only [row] <;> rfl
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega), ← readM m c t]
    blk_simp
    rw [after0_7, outsAt0_B m c t (by omega) (by omega)]
    frame_out
    pointwise [k0_pay7, k0_pay14, k0_pay15, k0_pay16, k0_pay17, k0_pay18]
    simp only [row] <;> rfl

/-- The second moment after the run. -/
theorem fin8 (c : Dev nD) : (dats m 0 c).arrAt 8 cfg0.N
    = vars (grad (m ((c : Thread nD τ).loc main_arg0)) (m ((c : Thread nD τ).loc main_arg1))) (m ((c : Thread nD τ).loc main_arg4)) := by
  refine (dats m 0 c).arrAt_eq_of_covers 8 _ (by decide +kernel) (fun t _ y => ?_)
  have hl : t.val < 2 := t.isLt
  rw [emb8 t y]
  unfold vars var lit
  by_cases h : t.val < 1
  · rw [show grad (m ((c : Thread nD τ).loc main_arg0)) (m ((c : Thread nD τ).loc main_arg1)) (((cfg0.win 5).blk t).view.emb y) = _ from if_pos ((layer t y).trans (by omega))]
    unfold part
    rw [← readA m c t h, ← readA m c t h, ← readA m c t h, ← readA m c t h, ← readV m c t]
    blk_simp
    rw [after0_8, outsAt0_A m c t (by omega) (by omega)]
    frame_out
    pointwise [k0_pay4, k0_pay9, k0_pay10, k0_pay11, k0_pay12, k0_pay13]
    simp only [row] <;> rfl
  · rw [show grad (m ((c : Thread nD τ).loc main_arg0)) (m ((c : Thread nD τ).loc main_arg1)) (((cfg0.win 5).blk t).view.emb y) = _ from if_neg (by rw [layer t y]; omega)]
    unfold part
    rw [← readB m c t (by omega), ← readB m c t (by omega), ← readB m c t (by omega), ← readB m c t (by omega), ← readV m c t]
    blk_simp
    rw [after0_8, outsAt0_B m c t (by omega) (by omega)]
    frame_out
    pointwise [k0_pay8, k0_pay14, k0_pay15, k0_pay16, k0_pay17, k0_pay18]
    simp only [row] <;> rfl

/-- The run leaves the gradient, the change of the weight and the two moments, and the arguments as they were. -/
theorem run : θ_run defs (onTc (τ := τ) (main (F := Ideal))) ⟨m, fun _ => 0, ρ⟩ fun r => ∀ c : Dev nD,
      r.2.mem ((c : Thread nD τ).loc main_v2_0) = grad (m ((c : Thread nD τ).loc main_arg0)) (m ((c : Thread nD τ).loc main_arg1))
      ∧ r.2.mem ((c : Thread nD τ).loc main_v2_1) = steps (grad (m ((c : Thread nD τ).loc main_arg0)) (m ((c : Thread nD τ).loc main_arg1)))
        (m ((c : Thread nD τ).loc main_arg2)) (m ((c : Thread nD τ).loc main_arg3)) (m ((c : Thread nD τ).loc main_arg4))
      ∧ r.2.mem ((c : Thread nD τ).loc main_v2_2) = moms (grad (m ((c : Thread nD τ).loc main_arg0)) (m ((c : Thread nD τ).loc main_arg1))) (m ((c : Thread nD τ).loc main_arg3))
      ∧ r.2.mem ((c : Thread nD τ).loc main_v2_3) = vars (grad (m ((c : Thread nD τ).loc main_arg0)) (m ((c : Thread nD τ).loc main_arg1))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (fin5 m c), (h c).2.1.trans (fin6 m c), (h c).2.2.1.trans (fin7 m c),
    (h c).2.2.2.1.trans (fin8 m c), (h c).2.2.2.2⟩) (Cert.Kernel13Ideal.Value.run_blocks m ρ)

end Cert.Kernel13Ideal.Out

namespace Cert.Reference13Ideal.Out

open Idealize.ShloMosaic Idealize.ShloMosaic.TcCoe Idealize.SL.Sem
open Cert.Reference13Ideal Cert.Reference13Ideal.Gen

/-- The reference's gradient: each layer's parts summed, and the layers stacked. -/
def stack (P0 P1 : Vec Ideal S4x128x1024 .f32) : Vec Ideal S2x128x1024 .f32 :=
  concatenate S2x128x1024 0 [⟨S1x128x1024, (broadcastInDim S1x128x1024 ![1, 2] bcast_S128x1024_S1x128x1024_1_2 (Host.reduceAdd (F := Ideal) (φ := .f32) P0 (constant S_ .f32 0x00000000#32) reducesTo_S4x128x1024_S128x1024_d0 h_S_))⟩, ⟨S1x128x1024, (broadcastInDim S1x128x1024 ![1, 2] bcast_S128x1024_S1x128x1024_1_2 (Host.reduceAdd (F := Ideal) (φ := .f32) P1 (constant S_ .f32 0x00000000#32) reducesTo_S4x128x1024_S128x1024_d0 h_S_))⟩] concatenates_S1x128x1024_S1x128x1024_S2x128x1024_d0

theorem stack_eq (P0 P1 : Vec Ideal S4x128x1024 .f32) : stack P0 P1 = Cert.Kernel13Ideal.Out.grad P0 P1 := by
  funext i
  unfold Cert.Kernel13Ideal.Out.grad stack
  pointwise
  by_cases h : (i 0).val < 1
  · rw [dif_pos h, if_pos (by omega)]
    exact Fin.sum_univ_four _
  · rw [dif_neg h, if_neg (by omega)]
    exact Fin.sum_univ_four _

theorem step_eq (P0 P1 : Vec Ideal S4x128x1024 .f32) (W M V : Vec Ideal S2x128x1024 .f32) :
    (mulf (F := Ideal) (φ := .f32) (broadcastInDim S2x128x1024 ![] bcast_S_S2x128x1024 (constant S_ .f32 0xBA83126F#32)) (addf (Host.divf (Host.divf (addf (mulf (broadcastInDim S2x128x1024 ![] bcast_S_S2x128x1024 (constant S_ .f32 0x3F666666#32)) M) (mulf (broadcastInDim S2x128x1024 ![] bcast_S_S2x128x1024 (constant S_ .f32 0x3DCCCCCD#32)) (stack P0 P1))) (broadcastInDim S2x128x1024 ![] bcast_S_S2x128x1024 (constant S_ .f32 0x3F26BD02#32))) (addf (Host.sqrt (Host.divf (addf (mulf (broadcastInDim S2x128x1024 ![] bcast_S_S2x128x1024 (constant S_ .f32 0x3F7FBE77#32)) V) (mulf (broadcastInDim S2x128x1024 ![] bcast_S_S2x128x1024 (constant S_ .f32 0x3A83126F#32)) (mulf (stack P0 P1) (stack P0 P1)))) (broadcastInDim S2x128x1024 ![] bcast_S_S2x128x1024 (constant S_ .f32 0x3C231ACC#32)))) (broadcastInDim S2x128x1024 ![] bcast_S_S2x128x1024 (constant S_ .f32 0x322BCC77#32)))) (mulf (broadcastInDim S2x128x1024 ![] bcast_S_S2x128x1024 (constant S_ .f32 0x3C23D70A#32)) W)) : Vec Ideal S2x128x1024 .f32)
      = Cert.Kernel13Ideal.Out.steps (stack P0 P1) W M V := by
  funext i
  rfl

theorem mom_eq (P0 P1 : Vec Ideal S4x128x1024 .f32) (M : Vec Ideal S2x128x1024 .f32) :
    (addf (F := Ideal) (φ := .f32) (mulf (broadcastInDim S2x128x1024 ![] bcast_S_S2x128x1024 (constant S_ .f32 0x3F666666#32)) M) (mulf (broadcastInDim S2x128x1024 ![] bcast_S_S2x128x1024 (constant S_ .f32 0x3DCCCCCD#32)) (stack P0 P1)) : Vec Ideal S2x128x1024 .f32)
      = Cert.Kernel13Ideal.Out.moms (stack P0 P1) M := by
  funext i
  rfl

theorem var_eq (P0 P1 : Vec Ideal S4x128x1024 .f32) (V : Vec Ideal S2x128x1024 .f32) :
    (addf (F := Ideal) (φ := .f32) (mulf (broadcastInDim S2x128x1024 ![] bcast_S_S2x128x1024 (constant S_ .f32 0x3F7FBE77#32)) V) (mulf (broadcastInDim S2x128x1024 ![] bcast_S_S2x128x1024 (constant S_ .f32 0x3A83126F#32)) (mulf (stack P0 P1) (stack P0 P1))) : Vec Ideal S2x128x1024 .f32)
      = Cert.Kernel13Ideal.Out.vars (stack P0 P1) V := by
  funext i
  rfl

end Cert.Reference13Ideal.Out

end
-- ==== Proof.AdamOutClaim.lean ====
/- The update of the out projection's weight: the launch and its idealization share one text; the frames, and the equality with the
   reference. -/
module

public import proofs.«01_k».proof.Defs
public import proofs.«01_k».proof.Proof.Gen.Kernel13
public import proofs.«01_k».proof.Proof.Gen.Reference13Ideal
public import proofs.«01_k».proof.Proof.AdamOut
public import Idealize.ShloMosaic.Lib.Quiescent

@[expose] public section

noncomputable section

namespace Cert.Proof.AdamOut

open Idealize.ShloMosaic Idealize.ShloMosaic.StableHlo Idealize.SL.Sem

section
variable {F : FTy → Type} [FloatOps F]

theorem body_same : @Cert.Kernel13.cc0_adamw_w_out F _ Cert.Kernel13.Gen.facts = @Cert.Kernel13Ideal.cc0_adamw_w_out F _ Cert.Kernel13Ideal.Gen.facts := rfl

theorem table_same : @Cert.Kernel13.defs₀ F _ Cert.Kernel13.Gen.facts = @Cert.Kernel13Ideal.defs₀ F _ Cert.Kernel13Ideal.Gen.facts := by
  unfold Cert.Kernel13.defs₀ Cert.Kernel13Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel13.defs F _ Cert.Kernel13.Gen.facts = @Cert.Kernel13Ideal.defs F _ Cert.Kernel13Ideal.Gen.facts :=
  congrArg (Pipeline.defs Cert.Kernel13Ideal.pcfgs) table_same

set_option maxRecDepth 8192 in
theorem main_same : @Cert.Kernel13.main F _ Cert.Kernel13.Gen.facts = @Cert.Kernel13Ideal.main F _ Cert.Kernel13Ideal.Gen.facts := rfl

end

/-- The idealized kernel runs, for any arguments. -/
theorem frame_ideal : Cert.quiescent_Kernel13Ideal (hKernel13Ideal := Cert.Kernel13Ideal.Gen.facts) :=
  fun m ρ _ => Cert.Kernel13Ideal.Gen.frame m ρ

/-- The kernel runs, for any arguments: its program has the same text, and the run is over any float values. -/
theorem frame_kernel : Cert.quiescent_Kernel13 (hKernel13 := Cert.Kernel13.Gen.facts) := by
  intro m ρ _
  rw [defs_same, main_same]
  exact Cert.Kernel13Ideal.Gen.frame (F := Bits) m ρ

/-- The reference runs, for any arguments. -/
theorem frame_reference : Cert.quiescent_Reference13Ideal (hReference13Ideal := Cert.Reference13Ideal.Gen.facts) := fun m ρ _ =>
  (θ_run Cert.Reference13Ideal.defs _ _).mono (fun r h => ⟨fun c => (h c).2.2.2.2, sem_eq_zero_of_no_sems (by decide) r.2⟩)
    (Cert.Reference13Ideal.Value.run m ρ)

/-- The kernel's results are the reference's. -/
theorem equal : Cert.algebraic_Kernel13Ideal_Reference13Ideal (hKernel13Ideal := Cert.Kernel13Ideal.Gen.facts)
    (hReference13Ideal := Cert.Reference13Ideal.Gen.facts) := by
  intro m g m' g' _ ha
  refine ⟨fun c => (Cert.Kernel13Ideal.Out.grad (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1))),
    fun c => Cert.Kernel13Ideal.Out.steps (Cert.Kernel13Ideal.Out.grad (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1)))
      (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))
      (m ((c.tc : Thread Cert.Kernel13Ideal.nD Cert.Kernel13Ideal.τ).loc Cert.Kernel13Ideal.main_arg4)),
    fun c => Cert.Kernel13Ideal.Out.moms (Cert.Kernel13Ideal.Out.grad (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1))) (m ((c.tc : Thread Cert.Kernel13Ideal.nD Cert.Kernel13Ideal.τ).loc Cert.Kernel13Ideal.main_arg3)),
    fun c => Cert.Kernel13Ideal.Out.vars (Cert.Kernel13Ideal.Out.grad (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1))) (m ((c.tc : Thread Cert.Kernel13Ideal.nD Cert.Kernel13Ideal.τ).loc Cert.Kernel13Ideal.main_arg4)),
    Cert.Kernel13Ideal.Out.run m g, ?_⟩
  refine (θ_run Cert.Reference13Ideal.defs _ _).mono (fun r h c => ?_) (Cert.Reference13Ideal.Value.run m' g')
  obtain ⟨a0, a1, a2, a3, a4, a5⟩ := ha c
  have hG := Cert.Reference13Ideal.Out.stack_eq (m' ((c.tc : Thread Cert.Reference13Ideal.nD Cert.Reference13Ideal.τ).loc Cert.Reference13Ideal.main_arg0))
    (m' ((c.tc : Thread Cert.Reference13Ideal.nD Cert.Reference13Ideal.τ).loc Cert.Reference13Ideal.main_arg1))
  have hP := hG.trans (congrArg₂ Cert.Kernel13Ideal.Out.grad a0 a1)
  refine ⟨(h c).1.trans hP, (h c).2.1.trans ((Cert.Reference13Ideal.Out.step_eq _ _ _ _ _).trans ?_),
    (h c).2.2.1.trans ((Cert.Reference13Ideal.Out.mom_eq _ _ _).trans (congrArg₂ Cert.Kernel13Ideal.Out.moms hP a3)),
    (h c).2.2.2.1.trans ((Cert.Reference13Ideal.Out.var_eq _ _ _).trans (congrArg₂ Cert.Kernel13Ideal.Out.vars hP a4)), (h c).2.2.2.2⟩
  rw [hP, a2, a3, a4]

end Cert.Proof.AdamOut

end
-- ==== Proof.AdamConvA.lean ====
/- The update of the first convolution's taps: what the launch leaves in its four results, and the reference's. -/
module

public import proofs.«01_k».proof.Proof.Gen.Kernel14Ideal.Value
public import proofs.«01_k».proof.Proof.Gen.Reference14Ideal.Run
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel14Ideal.ConvA

open Idealize.ShloMosaic Idealize.ShloMosaic.TcCoe Idealize.SL.Sem
open Cert.Kernel14Ideal Cert.Kernel14Ideal.Gen

variable (m : (ℓ : Loc nD τ sig) → Buf (Elt Ideal) ℓ) (ρ : Dev nD → PrngReg)

/-- Each window's block is the whole array, at the one point. -/
theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-- The gradient: the sum of the four chips' parts. -/
def grad (P : Vec Ideal S4x62x64 .f32) : Vec Ideal S1x62x64 .f32 := fun i =>
  ((P (ix3 0 (i 1) (i 2)) : EReal) + P (ix3 1 (i 1) (i 2)) + P (ix3 2 (i 1) (i 2))) + P (ix3 3 (i 1) (i 2))

/-- The number a pattern of bits stands for. -/
def lit (b : BitVec 32) : EReal := (Scalar.ofBits .f32 b : Ideal .f32)

/-- The first moment after the step. -/
def mom (g m : EReal) : EReal := lit 0x3F666666#32 * m + lit 0x3DCCCCCD#32 * g

/-- The second moment after the step. -/
def var (g v : EReal) : EReal := lit 0x3F7FBE77#32 * v + lit 0x3A83126F#32 * (g * g)

/-- The change of the weight. -/
def step (g w m v : EReal) : EReal :=
  lit 0xBA83126F#32 * (Ideal.div (Ideal.div (mom g m) (lit 0x3F26BD02#32))
    (Ideal.sqrt (Ideal.div (var g v) (lit 0x3C231ACC#32)) + lit 0x322BCC77#32) + lit 0x3C23D70A#32 * w)

abbrev Arr : Type := Vec Ideal S1x62x64 .f32

def moms (G M : Arr) : Arr := fun i => mom (G i) (M i)
def vars (G V : Arr) : Arr := fun i => var (G i) (V i)
def steps (G W M V : Arr) : Arr := fun i => step (G i) (W i) (M i) (V i)

/-- One element of a chip's part. -/
theorem readA (c : Dev nD) (t : Fin cfg0.N) (q : Fin 4) (y : S1x62x64.Idx) :
    (iblk m c 0 t : Vec Ideal S4x62x64 .bf16) (ix3 q (y 1) (y 2))
      = (m ((c : Thread nD τ).loc main_arg0) : Vec Ideal S4x62x64 .f32)
          (ix3 q (((cfg0.win 4).blk t).view.emb y 1) (((cfg0.win 4).blk t).view.emb y 2)) := by
  unfold iblk
  entry_read
  blk_simp
  pointwise
  blk_ext [(idx t).1, (idx t).2.2.2.2.1]

/-- One element of an argument's block. -/
theorem readW (c : Dev nD) (t : Fin cfg0.N) (y : S1x62x64.Idx) :
    (iblk m c 1 t : Vec Ideal S1x62x64 .f32) (ix3 0 (y 1) (y 2))
      = (m ((c : Thread nD τ).loc main_arg1) : Vec Ideal S1x62x64 .f32) (((cfg0.win 4).blk t).view.emb y) := by
  unfold iblk
  entry_read
  blk_simp
  have h0 : (y 0).val < 1 := (y 0).isLt
  blk_ext [(idx t).2.1, (idx t).2.2.2.2.1]

/-- One element of an argument's block. -/
theorem readM (c : Dev nD) (t : Fin cfg0.N) (y : S1x62x64.Idx) :
    (iblk m c 2 t : Vec Ideal S1x62x64 .f32) (ix3 0 (y 1) (y 2))
      = (m ((c : Thread nD τ).loc main_arg2) : Vec Ideal S1x62x64 .f32) (((cfg0.win 4).blk t).view.emb y) := by
  unfold iblk
  entry_read
  blk_simp
  have h0 : (y 0).val < 1 := (y 0).isLt
  blk_ext [(idx t).2.2.1, (idx t).2.2.2.2.1]

/-- One element of an argument's block. -/
theorem readV (c : Dev nD) (t : Fin cfg0.N) (y : S1x62x64.Idx) :
    (iblk m c 3 t : Vec Ideal S1x62x64 .f32) (ix3 0 (y 1) (y 2))
      = (m ((c : Thread nD τ).loc main_arg3) : Vec Ideal S1x62x64 .f32) (((cfg0.win 4).blk t).view.emb y) := by
  unfold iblk
  entry_read
  blk_simp
  have h0 : (y 0).val < 1 := (y 0).isLt
  blk_ext [(idx t).2.2.2.1, (idx t).2.2.2.2.1]

/-- The four outputs' blocks sit alike. -/
theorem emb5 (t : Fin cfg0.N) (y : S1x62x64.Idx) : (((cfg0.win 5).blk t).view.emb y : S1x62x64.Idx) = ((cfg0.win 4).blk t).view.emb y := by
  blk_simp
  blk_ext [(idx t).2.2.2.2.1, (idx t).2.2.2.2.2.1]
theorem emb6 (t : Fin cfg0.N) (y : S1x62x64.Idx) : (((cfg0.win 6).blk t).view.emb y : S1x62x64.Idx) = ((cfg0.win 4).blk t).view.emb y := by
  blk_simp
  blk_ext [(idx t).2.2.2.2.1, (idx t).2.2.2.2.2.2.1]
theorem emb7 (t : Fin cfg0.N) (y : S1x62x64.Idx) : (((cfg0.win 7).blk t).view.emb y : S1x62x64.Idx) = ((cfg0.win 4).blk t).view.emb y := by
  blk_simp
  blk_ext [(idx t).2.2.2.2.1, (idx t).2.2.2.2.2.2.2]

/-- The one row of a block's first axis. -/
theorem row (y : S1x62x64.Idx) : (ix3 (0 : Fin 1) (y 1) (y 2) : S1x62x64.Idx) = y := by
  funext a
  fin_cases a
  · exact (Fin.fin_one_eq_zero _).symm
  · rfl
  · rfl

/-- The gradient's array after the run. -/
theorem fin4 (c : Dev nD) : (dats m 0 c).arrAt 4 cfg0.N
    = grad (m ((c : Thread nD τ).loc main_arg0)) := by
  refine (dats m 0 c).arrAt_eq_of_covers 4 _ (by decide +kernel) (fun t _ y => ?_)
  unfold grad
  rw [← readA m c t, ← readA m c t, ← readA m c t, ← readA m c t]
  blk_simp
  rw [after0_4]
  simp only [outsAt0]
  frame_out
  pointwise [k0_pay1, k0_pay5, k0_pay6, k0_pay7, k0_pay8, k0_pay9]

/-- The change of the taps after the run. -/
theorem fin5 (c : Dev nD) : (dats m 0 c).arrAt 5 cfg0.N
    = steps (grad (m ((c : Thread nD τ).loc main_arg0))) (m ((c : Thread nD τ).loc main_arg1)) (m ((c : Thread nD τ).loc main_arg2)) (m ((c : Thread nD τ).loc main_arg3)) := by
  refine (dats m 0 c).arrAt_eq_of_covers 5 _ (by decide +kernel) (fun t _ y => ?_)
  rw [emb5 t y]
  unfold steps step mom var lit grad
  rw [← readA m c t, ← readA m c t, ← readA m c t, ← readA m c t, ← readW m c t, ← readM m c t, ← readV m c t]
  blk_simp
  rw [after0_5]
  simp only [outsAt0]
  frame_out
  pointwise [k0_pay2, k0_pay5, k0_pay6, k0_pay7, k0_pay8, k0_pay9]
  simp only [row] <;> rfl

/-- The first moment after the run. -/
theorem fin6 (c : Dev nD) : (dats m 0 c).arrAt 6 cfg0.N
    = moms (grad (m ((c : Thread nD τ).loc main_arg0))) (m ((c : Thread nD τ).loc main_arg2)) := by
  refine (dats m 0 c).arrAt_eq_of_covers 6 _ (by decide +kernel) (fun t _ y => ?_)
  rw [emb6 t y]
  unfold moms mom lit grad
  rw [← readA m c t, ← readA m c t, ← readA m c t, ← readA m c t, ← readM m c t]
  blk_simp
  rw [after0_6]
  simp only [outsAt0]
  frame_out
  pointwise [k0_pay3, k0_pay5, k0_pay6, k0_pay7, k0_pay8, k0_pay9]
  simp only [row] <;> rfl

/-- The second moment after the run. -/
theorem fin7 (c : Dev nD) : (dats m 0 c).arrAt 7 cfg0.N
    = vars (grad (m ((c : Thread nD τ).loc main_arg0))) (m ((c : Thread nD τ).loc main_arg3)) := by
  refine (dats m 0 c).arrAt_eq_of_covers 7 _ (by decide +kernel) (fun t _ y => ?_)
  rw [emb7 t y]
  unfold vars var lit grad
  rw [← readA m c t, ← readA m c t, ← readA m c t, ← readA m c t, ← readV m c t]
  blk_simp
  rw [after0_7]
  simp only [outsAt0]
  frame_out
  pointwise [k0_pay4, k0_pay5, k0_pay6, k0_pay7, k0_pay8, k0_pay9]
  simp only [row] <;> rfl

/-- The run leaves the gradient, the change of the taps and the two moments, and the arguments as they were. -/
theorem run : θ_run defs (onTc (τ := τ) (main (F := Ideal))) ⟨m, fun _ => 0, ρ⟩ fun r => ∀ c : Dev nD,
      r.2.mem ((c : Thread nD τ).loc main_v1_0) = grad (m ((c : Thread nD τ).loc main_arg0))
      ∧ r.2.mem ((c : Thread nD τ).loc main_v1_1) = steps (grad (m ((c : Thread nD τ).loc main_arg0))) (m ((c : Thread nD τ).loc main_arg1)) (m ((c : Thread nD τ).loc main_arg2)) (m ((c : Thread nD τ).loc main_arg3))
      ∧ r.2.mem ((c : Thread nD τ).loc main_v1_2) = moms (grad (m ((c : Thread nD τ).loc main_arg0))) (m ((c : Thread nD τ).loc main_arg2))
      ∧ r.2.mem ((c : Thread nD τ).loc main_v1_3) = vars (grad (m ((c : Thread nD τ).loc main_arg0))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (fin4 m c), (h c).2.1.trans (fin5 m c), (h c).2.2.1.trans (fin6 m c),
    (h c).2.2.2.1.trans (fin7 m c), (h c).2.2.2.2⟩) (Cert.Kernel14Ideal.Value.run_blocks m ρ)

end Cert.Kernel14Ideal.ConvA

namespace Cert.Reference14Ideal.ConvA

open Idealize.ShloMosaic Idealize.ShloMosaic.TcCoe Idealize.SL.Sem
open Cert.Reference14Ideal Cert.Reference14Ideal.Gen

/-- The reference's gradient. -/
def total (P : Vec Ideal S4x62x64 .f32) : Vec Ideal S1x62x64 .f32 :=
  broadcastInDim S1x62x64 ![1, 2] bcast_S62x64_S1x62x64_1_2 (Host.reduceAdd (F := Ideal) (φ := .f32) P (constant S_ .f32 0x00000000#32) reducesTo_S4x62x64_S62x64_d0 h_S_)

theorem total_eq (P : Vec Ideal S4x62x64 .f32) : total P = Cert.Kernel14Ideal.ConvA.grad P := by
  funext i
  unfold Cert.Kernel14Ideal.ConvA.grad total
  pointwise
  exact Fin.sum_univ_four _

theorem step_eq (G W M V : Vec Ideal S1x62x64 .f32) :
    ((mulf (F := Ideal) (φ := .f32) (broadcastInDim S1x62x64 ![] bcast_S_S1x62x64 (constant S_ .f32 0xBA83126F#32)) (addf (Host.divf (Host.divf (addf (F := Ideal) (φ := .f32) (mulf (broadcastInDim S1x62x64 ![] bcast_S_S1x62x64 (constant S_ .f32 0x3F666666#32)) M) (mulf (broadcastInDim S1x62x64 ![] bcast_S_S1x62x64 (constant S_ .f32 0x3DCCCCCD#32)) G)) (broadcastInDim S1x62x64 ![] bcast_S_S1x62x64 (constant S_ .f32 0x3F26BD02#32))) (addf (Host.sqrt (Host.divf (addf (F := Ideal) (φ := .f32) (mulf (broadcastInDim S1x62x64 ![] bcast_S_S1x62x64 (constant S_ .f32 0x3F7FBE77#32)) V) (mulf (broadcastInDim S1x62x64 ![] bcast_S_S1x62x64 (constant S_ .f32 0x3A83126F#32)) (mulf G G))) (broadcastInDim S1x62x64 ![] bcast_S_S1x62x64 (constant S_ .f32 0x3C231ACC#32)))) (broadcastInDim S1x62x64 ![] bcast_S_S1x62x64 (constant S_ .f32 0x322BCC77#32)))) (mulf (broadcastInDim S1x62x64 ![] bcast_S_S1x62x64 (constant S_ .f32 0x3C23D70A#32)) W))) : Vec Ideal S1x62x64 .f32)
      = Cert.Kernel14Ideal.ConvA.steps G W M V := by
  funext i
  rfl

theorem mom_eq (G M : Vec Ideal S1x62x64 .f32) :
    ((addf (F := Ideal) (φ := .f32) (mulf (broadcastInDim S1x62x64 ![] bcast_S_S1x62x64 (constant S_ .f32 0x3F666666#32)) M) (mulf (broadcastInDim S1x62x64 ![] bcast_S_S1x62x64 (constant S_ .f32 0x3DCCCCCD#32)) G)) : Vec Ideal S1x62x64 .f32)
      = Cert.Kernel14Ideal.ConvA.moms G M := by
  funext i
  rfl

theorem var_eq (G V : Vec Ideal S1x62x64 .f32) :
    ((addf (F := Ideal) (φ := .f32) (mulf (broadcastInDim S1x62x64 ![] bcast_S_S1x62x64 (constant S_ .f32 0x3F7FBE77#32)) V) (mulf (broadcastInDim S1x62x64 ![] bcast_S_S1x62x64 (constant S_ .f32 0x3A83126F#32)) (mulf G G))) : Vec Ideal S1x62x64 .f32)
      = Cert.Kernel14Ideal.ConvA.vars G V := by
  funext i
  rfl

end Cert.Reference14Ideal.ConvA

end
-- ==== Proof.AdamConvAClaim.lean ====
/- The update of the first convolution's taps: the launch and its idealization share one text; the frames, and the equality with the
   reference. -/
module

public import proofs.«01_k».proof.Defs
public import proofs.«01_k».proof.Proof.Gen.Kernel14
public import proofs.«01_k».proof.Proof.Gen.Reference14Ideal
public import proofs.«01_k».proof.Proof.AdamConvA
public import Idealize.ShloMosaic.Lib.Quiescent

@[expose] public section

noncomputable section

namespace Cert.Proof.AdamConvA

open Idealize.ShloMosaic Idealize.ShloMosaic.StableHlo Idealize.SL.Sem

section
variable {F : FTy → Type} [FloatOps F]

theorem body_same : @Cert.Kernel14.cc0_adamw_conv_a_w F _ Cert.Kernel14.Gen.facts = @Cert.Kernel14Ideal.cc0_adamw_conv_a_w F _ Cert.Kernel14Ideal.Gen.facts := rfl

theorem table_same : @Cert.Kernel14.defs₀ F _ Cert.Kernel14.Gen.facts = @Cert.Kernel14Ideal.defs₀ F _ Cert.Kernel14Ideal.Gen.facts := by
  unfold Cert.Kernel14.defs₀ Cert.Kernel14Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel14.defs F _ Cert.Kernel14.Gen.facts = @Cert.Kernel14Ideal.defs F _ Cert.Kernel14Ideal.Gen.facts :=
  congrArg (Pipeline.defs Cert.Kernel14Ideal.pcfgs) table_same

set_option maxRecDepth 8192 in
theorem main_same : @Cert.Kernel14.main F _ Cert.Kernel14.Gen.facts = @Cert.Kernel14Ideal.main F _ Cert.Kernel14Ideal.Gen.facts := rfl

end

/-- The idealized kernel runs, for any arguments. -/
theorem frame_ideal : Cert.quiescent_Kernel14Ideal (hKernel14Ideal := Cert.Kernel14Ideal.Gen.facts) :=
  fun m ρ _ => Cert.Kernel14Ideal.Gen.frame m ρ

/-- The kernel runs, for any arguments: its program has the same text, and the run is over any float values. -/
theorem frame_kernel : Cert.quiescent_Kernel14 (hKernel14 := Cert.Kernel14.Gen.facts) := by
  intro m ρ _
  rw [defs_same, main_same]
  exact Cert.Kernel14Ideal.Gen.frame (F := Bits) m ρ

/-- The reference runs, for any arguments. -/
theorem frame_reference : Cert.quiescent_Reference14Ideal (hReference14Ideal := Cert.Reference14Ideal.Gen.facts) := fun m ρ _ =>
  (θ_run Cert.Reference14Ideal.defs _ _).mono (fun r h => ⟨fun c => (h c).2.2.2.2, sem_eq_zero_of_no_sems (by decide) r.2⟩)
    (Cert.Reference14Ideal.Value.run m ρ)

/-- The kernel's results are the reference's. -/
theorem equal : Cert.algebraic_Kernel14Ideal_Reference14Ideal (hKernel14Ideal := Cert.Kernel14Ideal.Gen.facts)
    (hReference14Ideal := Cert.Reference14Ideal.Gen.facts) := by
  intro m g m' g' _ ha
  refine ⟨fun c => (Cert.Kernel14Ideal.ConvA.grad (m ((c.tc : Thread Cert.Kernel14Ideal.nD Cert.Kernel14Ideal.τ).loc Cert.Kernel14Ideal.main_arg0))),
    fun c => Cert.Kernel14Ideal.ConvA.steps (Cert.Kernel14Ideal.ConvA.grad (m ((c.tc : Thread Cert.Kernel14Ideal.nD Cert.Kernel14Ideal.τ).loc Cert.Kernel14Ideal.main_arg0))) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)),
    fun c => Cert.Kernel14Ideal.ConvA.moms (Cert.Kernel14Ideal.ConvA.grad (m ((c.tc : Thread Cert.Kernel14Ideal.nD Cert.Kernel14Ideal.τ).loc Cert.Kernel14Ideal.main_arg0))) (m ((c.tc : Thread Cert.Kernel14Ideal.nD Cert.Kernel14Ideal.τ).loc Cert.Kernel14Ideal.main_arg2)),
    fun c => Cert.Kernel14Ideal.ConvA.vars (Cert.Kernel14Ideal.ConvA.grad (m ((c.tc : Thread Cert.Kernel14Ideal.nD Cert.Kernel14Ideal.τ).loc Cert.Kernel14Ideal.main_arg0))) (m ((c.tc : Thread Cert.Kernel14Ideal.nD Cert.Kernel14Ideal.τ).loc Cert.Kernel14Ideal.main_arg3)),
    Cert.Kernel14Ideal.ConvA.run m g, ?_⟩
  refine (θ_run Cert.Reference14Ideal.defs _ _).mono (fun r h c => ?_) (Cert.Reference14Ideal.Value.run m' g')
  obtain ⟨a0, a1, a2, a3, a4⟩ := ha c
  have hP := (Cert.Reference14Ideal.ConvA.total_eq (m' ((c.tc : Thread Cert.Reference14Ideal.nD Cert.Reference14Ideal.τ).loc Cert.Reference14Ideal.main_arg0))).trans (congrArg Cert.Kernel14Ideal.ConvA.grad a0)
  refine ⟨(h c).1.trans hP, (h c).2.1.trans ((Cert.Reference14Ideal.ConvA.step_eq (Cert.Reference14Ideal.ConvA.total (m' ((c.tc : Thread Cert.Reference14Ideal.nD Cert.Reference14Ideal.τ).loc Cert.Reference14Ideal.main_arg0))) _ _ _).trans ?_),
    (h c).2.2.1.trans ((Cert.Reference14Ideal.ConvA.mom_eq (Cert.Reference14Ideal.ConvA.total (m' ((c.tc : Thread Cert.Reference14Ideal.nD Cert.Reference14Ideal.τ).loc Cert.Reference14Ideal.main_arg0))) _).trans (congrArg₂ Cert.Kernel14Ideal.ConvA.moms hP a2)),
    (h c).2.2.2.1.trans ((Cert.Reference14Ideal.ConvA.var_eq (Cert.Reference14Ideal.ConvA.total (m' ((c.tc : Thread Cert.Reference14Ideal.nD Cert.Reference14Ideal.τ).loc Cert.Reference14Ideal.main_arg0))) _).trans (congrArg₂ Cert.Kernel14Ideal.ConvA.vars hP a3)), (h c).2.2.2.2⟩
  rw [hP, a1, a2, a3]

end Cert.Proof.AdamConvA

end
-- ==== Proof.AdamConvB.lean ====
/- The update of the second convolution's taps: what the launch leaves in its four results, and the reference's. -/
module

public import proofs.«01_k».proof.Proof.Gen.Kernel15Ideal.Value
public import proofs.«01_k».proof.Proof.Gen.Reference15Ideal.Run
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel15Ideal.ConvB

open Idealize.ShloMosaic Idealize.ShloMosaic.TcCoe Idealize.SL.Sem
open Cert.Kernel15Ideal Cert.Kernel15Ideal.Gen

variable (m : (ℓ : Loc nD τ sig) → Buf (Elt Ideal) ℓ) (ρ : Dev nD → PrngReg)

/-- Each window's block is the whole array, at the one point. -/
theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-- The gradient: the sum of the four chips' parts. -/
def grad (P : Vec Ideal S4x6x64 .f32) : Vec Ideal S1x6x64 .f32 := fun i =>
  ((P (ix3 0 (i 1) (i 2)) : EReal) + P (ix3 1 (i 1) (i 2)) + P (ix3 2 (i 1) (i 2))) + P (ix3 3 (i 1) (i 2))

/-- The number a pattern of bits stands for. -/
def lit (b : BitVec 32) : EReal := (Scalar.ofBits .f32 b : Ideal .f32)

/-- The first moment after the step. -/
def mom (g m : EReal) : EReal := lit 0x3F666666#32 * m + lit 0x3DCCCCCD#32 * g

/-- The second moment after the step. -/
def var (g v : EReal) : EReal := lit 0x3F7FBE77#32 * v + lit 0x3A83126F#32 * (g * g)

/-- The change of the weight. -/
def step (g w m v : EReal) : EReal :=
  lit 0xBA83126F#32 * (Ideal.div (Ideal.div (mom g m) (lit 0x3F26BD02#32))
    (Ideal.sqrt (Ideal.div (var g v) (lit 0x3C231ACC#32)) + lit 0x322BCC77#32) + lit 0x3C23D70A#32 * w)

abbrev Arr : Type := Vec Ideal S1x6x64 .f32

def moms (G M : Arr) : Arr := fun i => mom (G i) (M i)
def vars (G V : Arr) : Arr := fun i => var (G i) (V i)
def steps (G W M V : Arr) : Arr := fun i => step (G i) (W i) (M i) (V i)

/-- One element of a chip's part. -/
theorem readA (c : Dev nD) (t : Fin cfg0.N) (q : Fin 4) (y : S1x6x64.Idx) :
    (iblk m c 0 t : Vec Ideal S4x6x64 .bf16) (ix3 q (y 1) (y 2))
      = (m ((c : Thread nD τ).loc main_arg0) : Vec Ideal S4x6x64 .f32)
          (ix3 q (((cfg0.win 4).blk t).view.emb y 1) (((cfg0.win 4).blk t).view.emb y 2)) := by
  unfold iblk
  entry_read
  blk_simp
  pointwise
  blk_ext [(idx t).1, (idx t).2.2.2.2.1]

/-- One element of an argument's block. -/
theorem readW (c : Dev nD) (t : Fin cfg0.N) (y : S1x6x64.Idx) :
    (iblk m c 1 t : Vec Ideal S1x6x64 .f32) (ix3 0 (y 1) (y 2))
      = (m ((c : Thread nD τ).loc main_arg1) : Vec Ideal S1x6x64 .f32) (((cfg0.win 4).blk t).view.emb y) := by
  unfold iblk
  entry_read
  blk_simp
  have h0 : (y 0).val < 1 := (y 0).isLt
  blk_ext [(idx t).2.1, (idx t).2.2.2.2.1]

/-- One element of an argument's block. -/
theorem readM (c : Dev nD) (t : Fin cfg0.N) (y : S1x6x64.Idx) :
    (iblk m c 2 t : Vec Ideal S1x6x64 .f32) (ix3 0 (y 1) (y 2))
      = (m ((c : Thread nD τ).loc main_arg2) : Vec Ideal S1x6x64 .f32) (((cfg0.win 4).blk t).view.emb y) := by
  unfold iblk
  entry_read
  blk_simp
  have h0 : (y 0).val < 1 := (y 0).isLt
  blk_ext [(idx t).2.2.1, (idx t).2.2.2.2.1]

/-- One element of an argument's block. -/
theorem readV (c : Dev nD) (t : Fin cfg0.N) (y : S1x6x64.Idx) :
    (iblk m c 3 t : Vec Ideal S1x6x64 .f32) (ix3 0 (y 1) (y 2))
      = (m ((c : Thread nD τ).loc main_arg3) : Vec Ideal S1x6x64 .f32) (((cfg0.win 4).blk t).view.emb y) := by
  unfold iblk
  entry_read
  blk_simp
  have h0 : (y 0).val < 1 := (y 0).isLt
  blk_ext [(idx t).2.2.2.1, (idx t).2.2.2.2.1]

/-- The four outputs' blocks sit alike. -/
theorem emb5 (t : Fin cfg0.N) (y : S1x6x64.Idx) : (((cfg0.win 5).blk t).view.emb y : S1x6x64.Idx) = ((cfg0.win 4).blk t).view.emb y := by
  blk_simp
  blk_ext [(idx t).2.2.2.2.1, (idx t).2.2.2.2.2.1]
theorem emb6 (t : Fin cfg0.N) (y : S1x6x64.Idx) : (((cfg0.win 6).blk t).view.emb y : S1x6x64.Idx) = ((cfg0.win 4).blk t).view.emb y := by
  blk_simp
  blk_ext [(idx t).2.2.2.2.1, (idx t).2.2.2.2.2.2.1]
theorem emb7 (t : Fin cfg0.N) (y : S1x6x64.Idx) : (((cfg0.win 7).blk t).view.emb y : S1x6x64.Idx) = ((cfg0.win 4).blk t).view.emb y := by
  blk_simp
  blk_ext [(idx t).2.2.2.2.1, (idx t).2.2.2.2.2.2.2]

/-- The one row of a block's first axis. -/
theorem row (y : S1x6x64.Idx) : (ix3 (0 : Fin 1) (y 1) (y 2) : S1x6x64.Idx) = y := by
  funext a
  fin_cases a
  · exact (Fin.fin_one_eq_zero _).symm
  · rfl
  · rfl

/-- The gradient's array after the run. -/
theorem fin4 (c : Dev nD) : (dats m 0 c).arrAt 4 cfg0.N
    = grad (m ((c : Thread nD τ).loc main_arg0)) := by
  refine (dats m 0 c).arrAt_eq_of_covers 4 _ (by decide +kernel) (fun t _ y => ?_)
  unfold grad
  rw [← readA m c t, ← readA m c t, ← readA m c t, ← readA m c t]
  blk_simp
  rw [after0_4]
  simp only [outsAt0]
  frame_out
  pointwise [k0_pay1, k0_pay5, k0_pay6, k0_pay7, k0_pay8, k0_pay9]

/-- The change of the taps after the run. -/
theorem fin5 (c : Dev nD) : (dats m 0 c).arrAt 5 cfg0.N
    = steps (grad (m ((c : Thread nD τ).loc main_arg0))) (m ((c : Thread nD τ).loc main_arg1)) (m ((c : Thread nD τ).loc main_arg2)) (m ((c : Thread nD τ).loc main_arg3)) := by
  refine (dats m 0 c).arrAt_eq_of_covers 5 _ (by decide +kernel) (fun t _ y => ?_)
  rw [emb5 t y]
  unfold steps step mom var lit grad
  rw [← readA m c t, ← readA m c t, ← readA m c t, ← readA m c t, ← readW m c t, ← readM m c t, ← readV m c t]
  blk_simp
  rw [after0_5]
  simp only [outsAt0]
  frame_out
  pointwise [k0_pay2, k0_pay5, k0_pay6, k0_pay7, k0_pay8, k0_pay9]
  simp only [row] <;> rfl

/-- The first moment after the run. -/
theorem fin6 (c : Dev nD) : (dats m 0 c).arrAt 6 cfg0.N
    = moms (grad (m ((c : Thread nD τ).loc main_arg0))) (m ((c : Thread nD τ).loc main_arg2)) := by
  refine (dats m 0 c).arrAt_eq_of_covers 6 _ (by decide +kernel) (fun t _ y => ?_)
  rw [emb6 t y]
  unfold moms mom lit grad
  rw [← readA m c t, ← readA m c t, ← readA m c t, ← readA m c t, ← readM m c t]
  blk_simp
  rw [after0_6]
  simp only [outsAt0]
  frame_out
  pointwise [k0_pay3, k0_pay5, k0_pay6, k0_pay7, k0_pay8, k0_pay9]
  simp only [row] <;> rfl

/-- The second moment after the run. -/
theorem fin7 (c : Dev nD) : (dats m 0 c).arrAt 7 cfg0.N
    = vars (grad (m ((c : Thread nD τ).loc main_arg0))) (m ((c : Thread nD τ).loc main_arg3)) := by
  refine (dats m 0 c).arrAt_eq_of_covers 7 _ (by decide +kernel) (fun t _ y => ?_)
  rw [emb7 t y]
  unfold vars var lit grad
  rw [← readA m c t, ← readA m c t, ← readA m c t, ← readA m c t, ← readV m c t]
  blk_simp
  rw [after0_7]
  simp only [outsAt0]
  frame_out
  pointwise [k0_pay4, k0_pay5, k0_pay6, k0_pay7, k0_pay8, k0_pay9]
  simp only [row] <;> rfl

/-- The run leaves the gradient, the change of the taps and the two moments, and the arguments as they were. -/
theorem run : θ_run defs (onTc (τ := τ) (main (F := Ideal))) ⟨m, fun _ => 0, ρ⟩ fun r => ∀ c : Dev nD,
      r.2.mem ((c : Thread nD τ).loc main_v1_0) = grad (m ((c : Thread nD τ).loc main_arg0))
      ∧ r.2.mem ((c : Thread nD τ).loc main_v1_1) = steps (grad (m ((c : Thread nD τ).loc main_arg0))) (m ((c : Thread nD τ).loc main_arg1)) (m ((c : Thread nD τ).loc main_arg2)) (m ((c : Thread nD τ).loc main_arg3))
      ∧ r.2.mem ((c : Thread nD τ).loc main_v1_2) = moms (grad (m ((c : Thread nD τ).loc main_arg0))) (m ((c : Thread nD τ).loc main_arg2))
      ∧ r.2.mem ((c : Thread nD τ).loc main_v1_3) = vars (grad (m ((c : Thread nD τ).loc main_arg0))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (fin4 m c), (h c).2.1.trans (fin5 m c), (h c).2.2.1.trans (fin6 m c),
    (h c).2.2.2.1.trans (fin7 m c), (h c).2.2.2.2⟩) (Cert.Kernel15Ideal.Value.run_blocks m ρ)

end Cert.Kernel15Ideal.ConvB

namespace Cert.Reference15Ideal.ConvB

open Idealize.ShloMosaic Idealize.ShloMosaic.TcCoe Idealize.SL.Sem
open Cert.Reference15Ideal Cert.Reference15Ideal.Gen

/-- The reference's gradient. -/
def total (P : Vec Ideal S4x6x64 .f32) : Vec Ideal S1x6x64 .f32 :=
  broadcastInDim S1x6x64 ![1, 2] bcast_S6x64_S1x6x64_1_2 (Host.reduceAdd (F := Ideal) (φ := .f32) P (constant S_ .f32 0x00000000#32) reducesTo_S4x6x64_S6x64_d0 h_S_)

theorem total_eq (P : Vec Ideal S4x6x64 .f32) : total P = Cert.Kernel15Ideal.ConvB.grad P := by
  funext i
  unfold Cert.Kernel15Ideal.ConvB.grad total
  pointwise
  exact Fin.sum_univ_four _

theorem step_eq (G W M V : Vec Ideal S1x6x64 .f32) :
    ((mulf (F := Ideal) (φ := .f32) (broadcastInDim S1x6x64 ![] bcast_S_S1x6x64 (constant S_ .f32 0xBA83126F#32)) (addf (Host.divf (Host.divf (addf (F := Ideal) (φ := .f32) (mulf (broadcastInDim S1x6x64 ![] bcast_S_S1x6x64 (constant S_ .f32 0x3F666666#32)) M) (mulf (broadcastInDim S1x6x64 ![] bcast_S_S1x6x64 (constant S_ .f32 0x3DCCCCCD#32)) G)) (broadcastInDim S1x6x64 ![] bcast_S_S1x6x64 (constant S_ .f32 0x3F26BD02#32))) (addf (Host.sqrt (Host.divf (addf (F := Ideal) (φ := .f32) (mulf (broadcastInDim S1x6x64 ![] bcast_S_S1x6x64 (constant S_ .f32 0x3F7FBE77#32)) V) (mulf (broadcastInDim S1x6x64 ![] bcast_S_S1x6x64 (constant S_ .f32 0x3A83126F#32)) (mulf G G))) (broadcastInDim S1x6x64 ![] bcast_S_S1x6x64 (constant S_ .f32 0x3C231ACC#32)))) (broadcastInDim S1x6x64 ![] bcast_S_S1x6x64 (constant S_ .f32 0x322BCC77#32)))) (mulf (broadcastInDim S1x6x64 ![] bcast_S_S1x6x64 (constant S_ .f32 0x3C23D70A#32)) W))) : Vec Ideal S1x6x64 .f32)
      = Cert.Kernel15Ideal.ConvB.steps G W M V := by
  funext i
  rfl

theorem mom_eq (G M : Vec Ideal S1x6x64 .f32) :
    ((addf (F := Ideal) (φ := .f32) (mulf (broadcastInDim S1x6x64 ![] bcast_S_S1x6x64 (constant S_ .f32 0x3F666666#32)) M) (mulf (broadcastInDim S1x6x64 ![] bcast_S_S1x6x64 (constant S_ .f32 0x3DCCCCCD#32)) G)) : Vec Ideal S1x6x64 .f32)
      = Cert.Kernel15Ideal.ConvB.moms G M := by
  funext i
  rfl

theorem var_eq (G V : Vec Ideal S1x6x64 .f32) :
    ((addf (F := Ideal) (φ := .f32) (mulf (broadcastInDim S1x6x64 ![] bcast_S_S1x6x64 (constant S_ .f32 0x3F7FBE77#32)) V) (mulf (broadcastInDim S1x6x64 ![] bcast_S_S1x6x64 (constant S_ .f32 0x3A83126F#32)) (mulf G G))) : Vec Ideal S1x6x64 .f32)
      = Cert.Kernel15Ideal.ConvB.vars G V := by
  funext i
  rfl

end Cert.Reference15Ideal.ConvB

end
-- ==== Proof.AdamConvBClaim.lean ====
/- The update of the second convolution's taps: the launch and its idealization share one text; the frames, and the equality with the
   reference. -/
module

public import proofs.«01_k».proof.Defs
public import proofs.«01_k».proof.Proof.Gen.Kernel15
public import proofs.«01_k».proof.Proof.Gen.Reference15Ideal
public import proofs.«01_k».proof.Proof.AdamConvB
public import Idealize.ShloMosaic.Lib.Quiescent

@[expose] public section

noncomputable section

namespace Cert.Proof.AdamConvB

open Idealize.ShloMosaic Idealize.ShloMosaic.StableHlo Idealize.SL.Sem

section
variable {F : FTy → Type} [FloatOps F]

theorem body_same : @Cert.Kernel15.cc0_adamw_conv_b_w F _ Cert.Kernel15.Gen.facts = @Cert.Kernel15Ideal.cc0_adamw_conv_b_w F _ Cert.Kernel15Ideal.Gen.facts := rfl

theorem table_same : @Cert.Kernel15.defs₀ F _ Cert.Kernel15.Gen.facts = @Cert.Kernel15Ideal.defs₀ F _ Cert.Kernel15Ideal.Gen.facts := by
  unfold Cert.Kernel15.defs₀ Cert.Kernel15Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel15.defs F _ Cert.Kernel15.Gen.facts = @Cert.Kernel15Ideal.defs F _ Cert.Kernel15Ideal.Gen.facts :=
  congrArg (Pipeline.defs Cert.Kernel15Ideal.pcfgs) table_same

set_option maxRecDepth 8192 in
theorem main_same : @Cert.Kernel15.main F _ Cert.Kernel15.Gen.facts = @Cert.Kernel15Ideal.main F _ Cert.Kernel15Ideal.Gen.facts := rfl

end

/-- The idealized kernel runs, for any arguments. -/
theorem frame_ideal : Cert.quiescent_Kernel15Ideal (hKernel15Ideal := Cert.Kernel15Ideal.Gen.facts) :=
  fun m ρ _ => Cert.Kernel15Ideal.Gen.frame m ρ

/-- The kernel runs, for any arguments: its program has the same text, and the run is over any float values. -/
theorem frame_kernel : Cert.quiescent_Kernel15 (hKernel15 := Cert.Kernel15.Gen.facts) := by
  intro m ρ _
  rw [defs_same, main_same]
  exact Cert.Kernel15Ideal.Gen.frame (F := Bits) m ρ

/-- The reference runs, for any arguments. -/
theorem frame_reference : Cert.quiescent_Reference15Ideal (hReference15Ideal := Cert.Reference15Ideal.Gen.facts) := fun m ρ _ =>
  (θ_run Cert.Reference15Ideal.defs _ _).mono (fun r h => ⟨fun c => (h c).2.2.2.2, sem_eq_zero_of_no_sems (by decide) r.2⟩)
    (Cert.Reference15Ideal.Value.run m ρ)

/-- The kernel's results are the reference's. -/
theorem equal : Cert.algebraic_Kernel15Ideal_Reference15Ideal (hKernel15Ideal := Cert.Kernel15Ideal.Gen.facts)
    (hReference15Ideal := Cert.Reference15Ideal.Gen.facts) := by
  intro m g m' g' _ ha
  refine ⟨fun c => (Cert.Kernel15Ideal.ConvB.grad (m ((c.tc : Thread Cert.Kernel15Ideal.nD Cert.Kernel15Ideal.τ).loc Cert.Kernel15Ideal.main_arg0))),
    fun c => Cert.Kernel15Ideal.ConvB.steps (Cert.Kernel15Ideal.ConvB.grad (m ((c.tc : Thread Cert.Kernel15Ideal.nD Cert.Kernel15Ideal.τ).loc Cert.Kernel15Ideal.main_arg0))) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)),
    fun c => Cert.Kernel15Ideal.ConvB.moms (Cert.Kernel15Ideal.ConvB.grad (m ((c.tc : Thread Cert.Kernel15Ideal.nD Cert.Kernel15Ideal.τ).loc Cert.Kernel15Ideal.main_arg0))) (m ((c.tc : Thread Cert.Kernel15Ideal.nD Cert.Kernel15Ideal.τ).loc Cert.Kernel15Ideal.main_arg2)),
    fun c => Cert.Kernel15Ideal.ConvB.vars (Cert.Kernel15Ideal.ConvB.grad (m ((c.tc : Thread Cert.Kernel15Ideal.nD Cert.Kernel15Ideal.τ).loc Cert.Kernel15Ideal.main_arg0))) (m ((c.tc : Thread Cert.Kernel15Ideal.nD Cert.Kernel15Ideal.τ).loc Cert.Kernel15Ideal.main_arg3)),
    Cert.Kernel15Ideal.ConvB.run m g, ?_⟩
  refine (θ_run Cert.Reference15Ideal.defs _ _).mono (fun r h c => ?_) (Cert.Reference15Ideal.Value.run m' g')
  obtain ⟨a0, a1, a2, a3, a4⟩ := ha c
  have hP := (Cert.Reference15Ideal.ConvB.total_eq (m' ((c.tc : Thread Cert.Reference15Ideal.nD Cert.Reference15Ideal.τ).loc Cert.Reference15Ideal.main_arg0))).trans (congrArg Cert.Kernel15Ideal.ConvB.grad a0)
  refine ⟨(h c).1.trans hP, (h c).2.1.trans ((Cert.Reference15Ideal.ConvB.step_eq (Cert.Reference15Ideal.ConvB.total (m' ((c.tc : Thread Cert.Reference15Ideal.nD Cert.Reference15Ideal.τ).loc Cert.Reference15Ideal.main_arg0))) _ _ _).trans ?_),
    (h c).2.2.1.trans ((Cert.Reference15Ideal.ConvB.mom_eq (Cert.Reference15Ideal.ConvB.total (m' ((c.tc : Thread Cert.Reference15Ideal.nD Cert.Reference15Ideal.τ).loc Cert.Reference15Ideal.main_arg0))) _).trans (congrArg₂ Cert.Kernel15Ideal.ConvB.moms hP a2)),
    (h c).2.2.2.1.trans ((Cert.Reference15Ideal.ConvB.var_eq (Cert.Reference15Ideal.ConvB.total (m' ((c.tc : Thread Cert.Reference15Ideal.nD Cert.Reference15Ideal.τ).loc Cert.Reference15Ideal.main_arg0))) _).trans (congrArg₂ Cert.Kernel15Ideal.ConvB.vars hP a3)), (h c).2.2.2.2⟩
  rw [hP, a1, a2, a3]

end Cert.Proof.AdamConvB

end
-- ==== Proof.AdamConvF.lean ====
/- The update of the feed-forward convolution's taps: what the launch leaves in its four results, and the reference's. -/
module

public import proofs.«01_k».proof.Proof.Gen.Kernel16Ideal.Value
public import proofs.«01_k».proof.Proof.Gen.Reference16Ideal.Run
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel16Ideal.ConvF

open Idealize.ShloMosaic Idealize.ShloMosaic.TcCoe Idealize.SL.Sem
open Cert.Kernel16Ideal Cert.Kernel16Ideal.Gen

variable (m : (ℓ : Loc nD τ sig) → Buf (Elt Ideal) ℓ) (ρ : Dev nD → PrngReg)

/-- Each window's block is the whole array, at the one point. -/
theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-- The gradient: the sum of the four chips' parts. -/
def grad (P : Vec Ideal S4x6x704 .f32) : Vec Ideal S1x6x704 .f32 := fun i =>
  ((P (ix3 0 (i 1) (i 2)) : EReal) + P (ix3 1 (i 1) (i 2)) + P (ix3 2 (i 1) (i 2))) + P (ix3 3 (i 1) (i 2))

/-- The number a pattern of bits stands for. -/
def lit (b : BitVec 32) : EReal := (Scalar.ofBits .f32 b : Ideal .f32)

/-- The first moment after the step. -/
def mom (g m : EReal) : EReal := lit 0x3F666666#32 * m + lit 0x3DCCCCCD#32 * g

/-- The second moment after the step. -/
def var (g v : EReal) : EReal := lit 0x3F7FBE77#32 * v + lit 0x3A83126F#32 * (g * g)

/-- The change of the weight. -/
def step (g w m v : EReal) : EReal :=
  lit 0xBA83126F#32 * (Ideal.div (Ideal.div (mom g m) (lit 0x3F26BD02#32))
    (Ideal.sqrt (Ideal.div (var g v) (lit 0x3C231ACC#32)) + lit 0x322BCC77#32) + lit 0x3C23D70A#32 * w)

abbrev Arr : Type := Vec Ideal S1x6x704 .f32

def moms (G M : Arr) : Arr := fun i => mom (G i) (M i)
def vars (G V : Arr) : Arr := fun i => var (G i) (V i)
def steps (G W M V : Arr) : Arr := fun i => step (G i) (W i) (M i) (V i)

/-- One element of a chip's part. -/
theorem readA (c : Dev nD) (t : Fin cfg0.N) (q : Fin 4) (y : S1x6x704.Idx) :
    (iblk m c 0 t : Vec Ideal S4x6x704 .bf16) (ix3 q (y 1) (y 2))
      = (m ((c : Thread nD τ).loc main_arg0) : Vec Ideal S4x6x704 .f32)
          (ix3 q (((cfg0.win 4).blk t).view.emb y 1) (((cfg0.win 4).blk t).view.emb y 2)) := by
  unfold iblk
  entry_read
  blk_simp
  pointwise
  blk_ext [(idx t).1, (idx t).2.2.2.2.1]

/-- One element of an argument's block. -/
theorem readW (c : Dev nD) (t : Fin cfg0.N) (y : S1x6x704.Idx) :
    (iblk m c 1 t : Vec Ideal S1x6x704 .f32) (ix3 0 (y 1) (y 2))
      = (m ((c : Thread nD τ).loc main_arg1) : Vec Ideal S1x6x704 .f32) (((cfg0.win 4).blk t).view.emb y) := by
  unfold iblk
  entry_read
  blk_simp
  have h0 : (y 0).val < 1 := (y 0).isLt
  blk_ext [(idx t).2.1, (idx t).2.2.2.2.1]

/-- One element of an argument's block. -/
theorem readM (c : Dev nD) (t : Fin cfg0.N) (y : S1x6x704.Idx) :
    (iblk m c 2 t : Vec Ideal S1x6x704 .f32) (ix3 0 (y 1) (y 2))
      = (m ((c : Thread nD τ).loc main_arg2) : Vec Ideal S1x6x704 .f32) (((cfg0.win 4).blk t).view.emb y) := by
  unfold iblk
  entry_read
  blk_simp
  have h0 : (y 0).val < 1 := (y 0).isLt
  blk_ext [(idx t).2.2.1, (idx t).2.2.2.2.1]

/-- One element of an argument's block. -/
theorem readV (c : Dev nD) (t : Fin cfg0.N) (y : S1x6x704.Idx) :
    (iblk m c 3 t : Vec Ideal S1x6x704 .f32) (ix3 0 (y 1) (y 2))
      = (m ((c : Thread nD τ).loc main_arg3) : Vec Ideal S1x6x704 .f32) (((cfg0.win 4).blk t).view.emb y) := by
  unfold iblk
  entry_read
  blk_simp
  have h0 : (y 0).val < 1 := (y 0).isLt
  blk_ext [(idx t).2.2.2.1, (idx t).2.2.2.2.1]

/-- The four outputs' blocks sit alike. -/
theorem emb5 (t : Fin cfg0.N) (y : S1x6x704.Idx) : (((cfg0.win 5).blk t).view.emb y : S1x6x704.Idx) = ((cfg0.win 4).blk t).view.emb y := by
  blk_simp
  blk_ext [(idx t).2.2.2.2.1, (idx t).2.2.2.2.2.1]
theorem emb6 (t : Fin cfg0.N) (y : S1x6x704.Idx) : (((cfg0.win 6).blk t).view.emb y : S1x6x704.Idx) = ((cfg0.win 4).blk t).view.emb y := by
  blk_simp
  blk_ext [(idx t).2.2.2.2.1, (idx t).2.2.2.2.2.2.1]
theorem emb7 (t : Fin cfg0.N) (y : S1x6x704.Idx) : (((cfg0.win 7).blk t).view.emb y : S1x6x704.Idx) = ((cfg0.win 4).blk t).view.emb y := by
  blk_simp
  blk_ext [(idx t).2.2.2.2.1, (idx t).2.2.2.2.2.2.2]

/-- The one row of a block's first axis. -/
theorem row (y : S1x6x704.Idx) : (ix3 (0 : Fin 1) (y 1) (y 2) : S1x6x704.Idx) = y := by
  funext a
  fin_cases a
  · exact (Fin.fin_one_eq_zero _).symm
  · rfl
  · rfl

/-- The gradient's array after the run. -/
theorem fin4 (c : Dev nD) : (dats m 0 c).arrAt 4 cfg0.N
    = grad (m ((c : Thread nD τ).loc main_arg0)) := by
  refine (dats m 0 c).arrAt_eq_of_covers 4 _ (by decide +kernel) (fun t _ y => ?_)
  unfold grad
  rw [← readA m c t, ← readA m c t, ← readA m c t, ← readA m c t]
  blk_simp
  rw [after0_4]
  simp only [outsAt0]
  frame_out
  pointwise [k0_pay1, k0_pay5, k0_pay6, k0_pay7, k0_pay8, k0_pay9]

/-- The change of the taps after the run. -/
theorem fin5 (c : Dev nD) : (dats m 0 c).arrAt 5 cfg0.N
    = steps (grad (m ((c : Thread nD τ).loc main_arg0))) (m ((c : Thread nD τ).loc main_arg1)) (m ((c : Thread nD τ).loc main_arg2)) (m ((c : Thread nD τ).loc main_arg3)) := by
  refine (dats m 0 c).arrAt_eq_of_covers 5 _ (by decide +kernel) (fun t _ y => ?_)
  rw [emb5 t y]
  unfold steps step mom var lit grad
  rw [← readA m c t, ← readA m c t, ← readA m c t, ← readA m c t, ← readW m c t, ← readM m c t, ← readV m c t]
  blk_simp
  rw [after0_5]
  simp only [outsAt0]
  frame_out
  pointwise [k0_pay2, k0_pay5, k0_pay6, k0_pay7, k0_pay8, k0_pay9]
  simp only [row] <;> rfl

/-- The first moment after the run. -/
theorem fin6 (c : Dev nD) : (dats m 0 c).arrAt 6 cfg0.N
    = moms (grad (m ((c : Thread nD τ).loc main_arg0))) (m ((c : Thread nD τ).loc main_arg2)) := by
  refine (dats m 0 c).arrAt_eq_of_covers 6 _ (by decide +kernel) (fun t _ y => ?_)
  rw [emb6 t y]
  unfold moms mom lit grad
  rw [← readA m c t, ← readA m c t, ← readA m c t, ← readA m c t, ← readM m c t]
  blk_simp
  rw [after0_6]
  simp only [outsAt0]
  frame_out
  pointwise [k0_pay3, k0_pay5, k0_pay6, k0_pay7, k0_pay8, k0_pay9]
  simp only [row] <;> rfl

/-- The second moment after the run. -/
theorem fin7 (c : Dev nD) : (dats m 0 c).arrAt 7 cfg0.N
    = vars (grad (m ((c : Thread nD τ).loc main_arg0))) (m ((c : Thread nD τ).loc main_arg3)) := by
  refine (dats m 0 c).arrAt_eq_of_covers 7 _ (by decide +kernel) (fun t _ y => ?_)
  rw [emb7 t y]
  unfold vars var lit grad
  rw [← readA m c t, ← readA m c t, ← readA m c t, ← readA m c t, ← readV m c t]
  blk_simp
  rw [after0_7]
  simp only [outsAt0]
  frame_out
  pointwise [k0_pay4, k0_pay5, k0_pay6, k0_pay7, k0_pay8, k0_pay9]
  simp only [row] <;> rfl

/-- The run leaves the gradient, the change of the taps and the two moments, and the arguments as they were. -/
theorem run : θ_run defs (onTc (τ := τ) (main (F := Ideal))) ⟨m, fun _ => 0, ρ⟩ fun r => ∀ c : Dev nD,
      r.2.mem ((c : Thread nD τ).loc main_v1_0) = grad (m ((c : Thread nD τ).loc main_arg0))
      ∧ r.2.mem ((c : Thread nD τ).loc main_v1_1) = steps (grad (m ((c : Thread nD τ).loc main_arg0))) (m ((c : Thread nD τ).loc main_arg1)) (m ((c : Thread nD τ).loc main_arg2)) (m ((c : Thread nD τ).loc main_arg3))
      ∧ r.2.mem ((c : Thread nD τ).loc main_v1_2) = moms (grad (m ((c : Thread nD τ).loc main_arg0))) (m ((c : Thread nD τ).loc main_arg2))
      ∧ r.2.mem ((c : Thread nD τ).loc main_v1_3) = vars (grad (m ((c : Thread nD τ).loc main_arg0))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (fin4 m c), (h c).2.1.trans (fin5 m c), (h c).2.2.1.trans (fin6 m c),
    (h c).2.2.2.1.trans (fin7 m c), (h c).2.2.2.2⟩) (Cert.Kernel16Ideal.Value.run_blocks m ρ)

end Cert.Kernel16Ideal.ConvF

namespace Cert.Reference16Ideal.ConvF

open Idealize.ShloMosaic Idealize.ShloMosaic.TcCoe Idealize.SL.Sem
open Cert.Reference16Ideal Cert.Reference16Ideal.Gen

/-- The reference's gradient. -/
def total (P : Vec Ideal S4x6x704 .f32) : Vec Ideal S1x6x704 .f32 :=
  broadcastInDim S1x6x704 ![1, 2] bcast_S6x704_S1x6x704_1_2 (Host.reduceAdd (F := Ideal) (φ := .f32) P (constant S_ .f32 0x00000000#32) reducesTo_S4x6x704_S6x704_d0 h_S_)

theorem total_eq (P : Vec Ideal S4x6x704 .f32) : total P = Cert.Kernel16Ideal.ConvF.grad P := by
  funext i
  unfold Cert.Kernel16Ideal.ConvF.grad total
  pointwise
  exact Fin.sum_univ_four _

theorem step_eq (G W M V : Vec Ideal S1x6x704 .f32) :
    ((mulf (F := Ideal) (φ := .f32) (broadcastInDim S1x6x704 ![] bcast_S_S1x6x704 (constant S_ .f32 0xBA83126F#32)) (addf (Host.divf (Host.divf (addf (F := Ideal) (φ := .f32) (mulf (broadcastInDim S1x6x704 ![] bcast_S_S1x6x704 (constant S_ .f32 0x3F666666#32)) M) (mulf (broadcastInDim S1x6x704 ![] bcast_S_S1x6x704 (constant S_ .f32 0x3DCCCCCD#32)) G)) (broadcastInDim S1x6x704 ![] bcast_S_S1x6x704 (constant S_ .f32 0x3F26BD02#32))) (addf (Host.sqrt (Host.divf (addf (F := Ideal) (φ := .f32) (mulf (broadcastInDim S1x6x704 ![] bcast_S_S1x6x704 (constant S_ .f32 0x3F7FBE77#32)) V) (mulf (broadcastInDim S1x6x704 ![] bcast_S_S1x6x704 (constant S_ .f32 0x3A83126F#32)) (mulf G G))) (broadcastInDim S1x6x704 ![] bcast_S_S1x6x704 (constant S_ .f32 0x3C231ACC#32)))) (broadcastInDim S1x6x704 ![] bcast_S_S1x6x704 (constant S_ .f32 0x322BCC77#32)))) (mulf (broadcastInDim S1x6x704 ![] bcast_S_S1x6x704 (constant S_ .f32 0x3C23D70A#32)) W))) : Vec Ideal S1x6x704 .f32)
      = Cert.Kernel16Ideal.ConvF.steps G W M V := by
  funext i
  rfl

theorem mom_eq (G M : Vec Ideal S1x6x704 .f32) :
    ((addf (F := Ideal) (φ := .f32) (mulf (broadcastInDim S1x6x704 ![] bcast_S_S1x6x704 (constant S_ .f32 0x3F666666#32)) M) (mulf (broadcastInDim S1x6x704 ![] bcast_S_S1x6x704 (constant S_ .f32 0x3DCCCCCD#32)) G)) : Vec Ideal S1x6x704 .f32)
      = Cert.Kernel16Ideal.ConvF.moms G M := by
  funext i
  rfl

theorem var_eq (G V : Vec Ideal S1x6x704 .f32) :
    ((addf (F := Ideal) (φ := .f32) (mulf (broadcastInDim S1x6x704 ![] bcast_S_S1x6x704 (constant S_ .f32 0x3F7FBE77#32)) V) (mulf (broadcastInDim S1x6x704 ![] bcast_S_S1x6x704 (constant S_ .f32 0x3A83126F#32)) (mulf G G))) : Vec Ideal S1x6x704 .f32)
      = Cert.Kernel16Ideal.ConvF.vars G V := by
  funext i
  rfl

end Cert.Reference16Ideal.ConvF

end
-- ==== Proof.AdamConvFClaim.lean ====
/- The update of the feed-forward convolution's taps: the launch and its idealization share one text; the frames, and the equality with the
   reference. -/
module

public import proofs.«01_k».proof.Defs
public import proofs.«01_k».proof.Proof.Gen.Kernel16
public import proofs.«01_k».proof.Proof.Gen.Reference16Ideal
public import proofs.«01_k».proof.Proof.AdamConvF
public import Idealize.ShloMosaic.Lib.Quiescent

@[expose] public section

noncomputable section

namespace Cert.Proof.AdamConvF

open Idealize.ShloMosaic Idealize.ShloMosaic.StableHlo Idealize.SL.Sem

section
variable {F : FTy → Type} [FloatOps F]

theorem body_same : @Cert.Kernel16.cc0_adamw_conv_f_w F _ Cert.Kernel16.Gen.facts = @Cert.Kernel16Ideal.cc0_adamw_conv_f_w F _ Cert.Kernel16Ideal.Gen.facts := rfl

theorem table_same : @Cert.Kernel16.defs₀ F _ Cert.Kernel16.Gen.facts = @Cert.Kernel16Ideal.defs₀ F _ Cert.Kernel16Ideal.Gen.facts := by
  unfold Cert.Kernel16.defs₀ Cert.Kernel16Ideal.defs₀
  refine congrArg Defs.onTc ?_
  funext l a
  match l, a with
  | 0, (t, s) =>
    dsimp only
    rw [body_same]
    rfl
  | ⟨_ + 1, h⟩, _ => exact absurd h (Nat.not_lt.2 (Nat.le_add_left _ _))

theorem defs_same : @Cert.Kernel16.defs F _ Cert.Kernel16.Gen.facts = @Cert.Kernel16Ideal.defs F _ Cert.Kernel16Ideal.Gen.facts :=
  congrArg (Pipeline.defs Cert.Kernel16Ideal.pcfgs) table_same

set_option maxRecDepth 8192 in
theorem main_same : @Cert.Kernel16.main F _ Cert.Kernel16.Gen.facts = @Cert.Kernel16Ideal.main F _ Cert.Kernel16Ideal.Gen.facts := rfl

end

/-- The idealized kernel runs, for any arguments. -/
theorem frame_ideal : Cert.quiescent_Kernel16Ideal (hKernel16Ideal := Cert.Kernel16Ideal.Gen.facts) :=
  fun m ρ _ => Cert.Kernel16Ideal.Gen.frame m ρ

/-- The kernel runs, for any arguments: its program has the same text, and the run is over any float values. -/
theorem frame_kernel : Cert.quiescent_Kernel16 (hKernel16 := Cert.Kernel16.Gen.facts) := by
  intro m ρ _
  rw [defs_same, main_same]
  exact Cert.Kernel16Ideal.Gen.frame (F := Bits) m ρ

/-- The reference runs, for any arguments. -/
theorem frame_reference : Cert.quiescent_Reference16Ideal (hReference16Ideal := Cert.Reference16Ideal.Gen.facts) := fun m ρ _ =>
  (θ_run Cert.Reference16Ideal.defs _ _).mono (fun r h => ⟨fun c => (h c).2.2.2.2, sem_eq_zero_of_no_sems (by decide) r.2⟩)
    (Cert.Reference16Ideal.Value.run m ρ)

/-- The kernel's results are the reference's. -/
theorem equal : Cert.algebraic_Kernel16Ideal_Reference16Ideal (hKernel16Ideal := Cert.Kernel16Ideal.Gen.facts)
    (hReference16Ideal := Cert.Reference16Ideal.Gen.facts) := by
  intro m g m' g' _ ha
  refine ⟨fun c => (Cert.Kernel16Ideal.ConvF.grad (m ((c.tc : Thread Cert.Kernel16Ideal.nD Cert.Kernel16Ideal.τ).loc Cert.Kernel16Ideal.main_arg0))),
    fun c => Cert.Kernel16Ideal.ConvF.steps (Cert.Kernel16Ideal.ConvF.grad (m ((c.tc : Thread Cert.Kernel16Ideal.nD Cert.Kernel16Ideal.τ).loc Cert.Kernel16Ideal.main_arg0))) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)),
    fun c => Cert.Kernel16Ideal.ConvF.moms (Cert.Kernel16Ideal.ConvF.grad (m ((c.tc : Thread Cert.Kernel16Ideal.nD Cert.Kernel16Ideal.τ).loc Cert.Kernel16Ideal.main_arg0))) (m ((c.tc : Thread Cert.Kernel16Ideal.nD Cert.Kernel16Ideal.τ).loc Cert.Kernel16Ideal.main_arg2)),
    fun c => Cert.Kernel16Ideal.ConvF.vars (Cert.Kernel16Ideal.ConvF.grad (m ((c.tc : Thread Cert.Kernel16Ideal.nD Cert.Kernel16Ideal.τ).loc Cert.Kernel16Ideal.main_arg0))) (m ((c.tc : Thread Cert.Kernel16Ideal.nD Cert.Kernel16Ideal.τ).loc Cert.Kernel16Ideal.main_arg3)),
    Cert.Kernel16Ideal.ConvF.run m g, ?_⟩
  refine (θ_run Cert.Reference16Ideal.defs _ _).mono (fun r h c => ?_) (Cert.Reference16Ideal.Value.run m' g')
  obtain ⟨a0, a1, a2, a3, a4⟩ := ha c
  have hP := (Cert.Reference16Ideal.ConvF.total_eq (m' ((c.tc : Thread Cert.Reference16Ideal.nD Cert.Reference16Ideal.τ).loc Cert.Reference16Ideal.main_arg0))).trans (congrArg Cert.Kernel16Ideal.ConvF.grad a0)
  refine ⟨(h c).1.trans hP, (h c).2.1.trans ((Cert.Reference16Ideal.ConvF.step_eq (Cert.Reference16Ideal.ConvF.total (m' ((c.tc : Thread Cert.Reference16Ideal.nD Cert.Reference16Ideal.τ).loc Cert.Reference16Ideal.main_arg0))) _ _ _).trans ?_),
    (h c).2.2.1.trans ((Cert.Reference16Ideal.ConvF.mom_eq (Cert.Reference16Ideal.ConvF.total (m' ((c.tc : Thread Cert.Reference16Ideal.nD Cert.Reference16Ideal.τ).loc Cert.Reference16Ideal.main_arg0))) _).trans (congrArg₂ Cert.Kernel16Ideal.ConvF.moms hP a2)),
    (h c).2.2.2.1.trans ((Cert.Reference16Ideal.ConvF.var_eq (Cert.Reference16Ideal.ConvF.total (m' ((c.tc : Thread Cert.Reference16Ideal.nD Cert.Reference16Ideal.τ).loc Cert.Reference16Ideal.main_arg0))) _).trans (congrArg₂ Cert.Kernel16Ideal.ConvF.vars hP a3)), (h c).2.2.2.2⟩
  rw [hP, a1, a2, a3]

end Cert.Proof.AdamConvF

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Ref
public import proofs.«01_k».proof.Proof.Same
public import proofs.«01_k».proof.Proof.Equal
public import proofs.«01_k».proof.Proof.DwUpClaim
public import proofs.«01_k».proof.Proof.DwDownClaim
public import proofs.«01_k».proof.Proof.DwOutClaim
public import proofs.«01_k».proof.Proof.DwInClaim
public import proofs.«01_k».proof.Proof.UpProjClaim
public import proofs.«01_k».proof.Proof.InProjClaim
public import proofs.«01_k».proof.Proof.DhFfnClaim
public import proofs.«01_k».proof.Proof.DhMixClaim
public import proofs.«01_k».proof.Proof.AdamUpClaim
public import proofs.«01_k».proof.Proof.AdamDownClaim
public import proofs.«01_k».proof.Proof.AdamInClaim
public import proofs.«01_k».proof.Proof.AdamOutClaim
public import proofs.«01_k».proof.Proof.AdamConvAClaim
public import proofs.«01_k».proof.Proof.AdamConvBClaim
public import proofs.«01_k».proof.Proof.AdamConvFClaim

@[expose] public section

noncomputable section

namespace Cert.Proof

open Idealize.ShloMosaic Idealize.ShloMosaic.StableHlo Idealize.SL.Sem

section
open Cert.KernelIdeal

/-- The program runs over any float values, and its argument arrays end as they began. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => Ffn.args_kept m h.1 c, h.2⟩) (Ffn.run_main m ρ)

end

/-- The idealized kernel runs, for any arguments. -/
theorem frame_ideal : Cert.quiescent_KernelIdeal (hKernelIdeal := Cert.KernelIdeal.Gen.facts) := fun m ρ _ => frame_any m ρ

/-- The kernel runs, for any arguments: its program has the same text, and the run is over any float values. -/
theorem frame_kernel : Cert.quiescent_Kernel (hKernel := Cert.Kernel.Gen.facts) := by
  intro m ρ _
  rw [Same.defs_same, Same.main_same]
  exact frame_any (F := Bits) m ρ

/-- The reference runs, for any arguments. -/
theorem frame_reference : Cert.quiescent_ReferenceIdeal (hReferenceIdeal := Cert.ReferenceIdeal.Gen.facts) := fun m ρ _ =>
  (θ_run Cert.ReferenceIdeal.defs _ _).mono (fun r h => ⟨fun c =>
      ⟨(h c _).trans (Cert.ReferenceIdeal.Ref.args_kept m c).1, (h c _).trans (Cert.ReferenceIdeal.Ref.args_kept m c).2.1,
        (h c _).trans (Cert.ReferenceIdeal.Ref.args_kept m c).2.2.1, (h c _).trans (Cert.ReferenceIdeal.Ref.args_kept m c).2.2.2.1,
        (h c _).trans (Cert.ReferenceIdeal.Ref.args_kept m c).2.2.2.2⟩, sem_eq_zero_of_no_sems (by decide) r.2⟩)
    (Cert.ReferenceIdeal.Ref.run m ρ)

/-- The kernel's results are the reference's, at finite arguments. -/
theorem equal : Cert.algebraic_KernelIdeal_ReferenceIdeal_pre_finite (hKernelIdeal := Cert.KernelIdeal.Gen.facts)
    (hReferenceIdeal := Cert.ReferenceIdeal.Gen.facts) (hPre_finite := Finite.facts) := by
  intro m g m' g' hp ha
  have agree (c : Dev Cert.KernelIdeal.nD) : Equal.Agree m (launchContents m' c) c :=
    ⟨congrArg Cert.KernelIdeal.Ffn.rd (ha c).1, congrArg Cert.KernelIdeal.Ffn.rd (ha c).2.1,
      congrArg Cert.KernelIdeal.Ffn.rd (ha c).2.2.1, congrArg Cert.KernelIdeal.Ffn.rd (ha c).2.2.2.1⟩
  have real (c : Dev Cert.KernelIdeal.nD) : Equal.RealArgs m c := @Equal.real_args _ Finite.facts hp c
  refine ⟨Cert.KernelIdeal.Ffn.G8 m, Cert.KernelIdeal.Ffn.G9 m, Cert.KernelIdeal.Ffn.G10 m, ?_, ?_⟩
  · refine (θ_run Cert.KernelIdeal.defs _ _).mono (fun r h c => ?_) (Cert.KernelIdeal.Ffn.run_main m g)
    obtain ⟨h0, h1, h2⟩ := Cert.KernelIdeal.Ffn.results m h.1 c
    exact ⟨h0, h1, h2, Cert.KernelIdeal.Ffn.args_kept m h.1 c⟩
  · refine (θ_run Cert.ReferenceIdeal.defs _ _).mono (fun r h c => ?_) (Cert.ReferenceIdeal.Ref.run m' g')
    have k := Cert.ReferenceIdeal.Ref.args_kept m' c
    exact ⟨(h c _).trans (Equal.res0 (agree c) (real c)), (h c _).trans (Equal.res1 (agree c) (real c)),
      (h c _).trans (Equal.res2 (agree c) (real c)), (h c _).trans k.1, (h c _).trans k.2.1, (h c _).trans k.2.2.1,
      (h c _).trans k.2.2.2.1, (h c _).trans k.2.2.2.2⟩

/-- The idealized kernel runs at finite arguments. -/
theorem frame_ideal_finite : Cert.quiescent_KernelIdeal_pre_finite (hKernelIdeal := Cert.KernelIdeal.Gen.facts)
    (hPre_finite := Finite.facts) := fun m ρ _ => frame_ideal m ρ trivial

/-- The reference runs at finite arguments. -/
theorem frame_reference_finite : Cert.quiescent_ReferenceIdeal_pre_finite (hReferenceIdeal := Cert.ReferenceIdeal.Gen.facts)
    (hPre_finite := Finite.facts) := fun m ρ _ => frame_reference m ρ trivial

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts, Finite.facts,
  frame_kernel, frame_ideal, frame_ideal_finite, frame_reference, frame_reference_finite,
  DwUp.frame_kernel, DwUp.frame_ideal, DwUp.frame_reference,
  DwDown.frame_kernel, DwDown.frame_ideal, DwDown.frame_reference,
  DwOut.frame_kernel, DwOut.frame_ideal, DwOut.frame_reference,
  DwIn.frame_kernel, DwIn.frame_ideal, DwIn.frame_reference,
  UpProj.frame_kernel, UpProj.frame_ideal, UpProj.frame_reference,
  InProj.frame_kernel, InProj.frame_ideal, InProj.frame_reference,
  DhFfn.frame_kernel, DhFfn.frame_ideal, DhFfn.frame_reference,
  DhMix.frame_kernel, DhMix.frame_ideal, DhMix.frame_reference,
  AdamUp.frame_kernel, AdamUp.frame_ideal, AdamUp.frame_reference,
  AdamDown.frame_kernel, AdamDown.frame_ideal, AdamDown.frame_reference,
  AdamIn.frame_kernel, AdamIn.frame_ideal, AdamIn.frame_reference,
  AdamOut.frame_kernel, AdamOut.frame_ideal, AdamOut.frame_reference,
  AdamConvA.frame_kernel, AdamConvA.frame_ideal, AdamConvA.frame_reference,
  AdamConvB.frame_kernel, AdamConvB.frame_ideal, AdamConvB.frame_reference,
  AdamConvF.frame_kernel, AdamConvF.frame_ideal, AdamConvF.frame_reference,
  trivial, equal,
  trivial, DwUp.equal,
  trivial, DwDown.equal,
  trivial, DwOut.equal,
  trivial, DwIn.equal,
  trivial, UpProj.equal,
  trivial, InProj.equal,
  trivial, DhFfn.equal,
  trivial, DhMix.equal,
  trivial, AdamUp.equal,
  trivial, AdamDown.equal,
  trivial, AdamIn.equal,
  trivial, AdamOut.equal,
  trivial, AdamConvA.equal,
  trivial, AdamConvB.equal,
  trivial, AdamConvF.equal⟩

end Cert.Proof

end
